-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores [hPre_finite_scores : Cert.Pre_finite_scores.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))) = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite_scores [hPre_finite_scores : Cert.Pre_finite_scores.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite_scores.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2))) = (fun _ => 1#1)

def Pre_DownSample (m : (ℓ : Loc Cert.DownSample.nD Cert.DownSample.τ Cert.DownSample.sig) → Buf (Elt Bits) ℓ) : Prop :=
  True

def Pre_DownSampleIdeal (m : (ℓ : Loc Cert.DownSampleIdeal.nD Cert.DownSampleIdeal.τ Cert.DownSampleIdeal.sig) → Buf (Elt Ideal) ℓ) : Prop :=
  True

def Pre_DownSampleReferenceIdeal (m : (ℓ : Loc Cert.DownSampleReferenceIdeal.nD Cert.DownSampleReferenceIdeal.τ Cert.DownSampleReferenceIdeal.sig) → Buf (Elt Ideal) ℓ) : Prop :=
  True

def Pre_UpSample (m : (ℓ : Loc Cert.UpSample.nD Cert.UpSample.τ Cert.UpSample.sig) → Buf (Elt Bits) ℓ) : Prop :=
  True

def Pre_UpSampleIdeal (m : (ℓ : Loc Cert.UpSampleIdeal.nD Cert.UpSampleIdeal.τ Cert.UpSampleIdeal.sig) → Buf (Elt Ideal) ℓ) : Prop :=
  True

def Pre_UpSampleReferenceIdeal (m : (ℓ : Loc Cert.UpSampleReferenceIdeal.nD Cert.UpSampleReferenceIdeal.τ Cert.UpSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_finite_scores [hCrossIdeal : Cert.CrossIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2))
      ∧ r.2.sem = fun _ => 0)

def quiescent_CrossReferenceIdeal_pre_finite_scores [hCrossReferenceIdeal : Cert.CrossReferenceIdeal.Facts] [hPre_finite_scores : Cert.Pre_finite_scores.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite_scores m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2))
      ∧ r.2.sem = fun _ => 0)

def quiescent_DownSample [hDownSample : Cert.DownSample.Facts] : Prop :=
  ∀ (m : (ℓ : Loc Cert.DownSample.nD Cert.DownSample.τ Cert.DownSample.sig) → Buf (Elt Bits) ℓ) (g : Dev Cert.DownSample.nD → PrngReg), Pre_DownSample m →
    θ_run (Cert.DownSample.defs (F := Bits)) (onTc (τ := Cert.DownSample.τ) (Cert.DownSample.main (F := Bits))) ⟨m, fun _ => 0, g⟩ (fun r => (∀ c : Dev Cert.DownSample.nD,
      r.2.mem ((c.tc : Thread Cert.DownSample.nD Cert.DownSample.τ).loc Cert.DownSample.main_arg0) = m ((c.tc : Thread Cert.DownSample.nD Cert.DownSample.τ).loc Cert.DownSample.main_arg0)
      ∧ r.2.mem ((c.tc : Thread Cert.DownSample.nD Cert.DownSample.τ).loc Cert.DownSample.main_arg1) = m ((c.tc : Thread Cert.DownSample.nD Cert.DownSample.τ).loc Cert.DownSample.main_arg1)
      ∧ r.2.mem ((c.tc : Thread Cert.DownSample.nD Cert.DownSample.τ).loc Cert.DownSample.main_arg2) = m ((c.tc : Thread Cert.DownSample.nD Cert.DownSample.τ).loc Cert.DownSample.main_arg2))
      ∧ r.2.sem = fun _ => 0)

def quiescent_DownSampleIdeal [hDownSampleIdeal : Cert.DownSampleIdeal.Facts] : Prop :=
  ∀ (m : (ℓ : Loc Cert.DownSampleIdeal.nD Cert.DownSampleIdeal.τ Cert.DownSampleIdeal.sig) → Buf (Elt Ideal) ℓ) (g : Dev Cert.DownSampleIdeal.nD → PrngReg), Pre_DownSampleIdeal m →
    θ_run (Cert.DownSampleIdeal.defs (F := Ideal)) (onTc (τ := Cert.DownSampleIdeal.τ) (Cert.DownSampleIdeal.main (F := Ideal))) ⟨m, fun _ => 0, g⟩ (fun r => (∀ c : Dev Cert.DownSampleIdeal.nD,
      r.2.mem ((c.tc : Thread Cert.DownSampleIdeal.nD Cert.DownSampleIdeal.τ).loc Cert.DownSampleIdeal.main_arg0) = m ((c.tc : Thread Cert.DownSampleIdeal.nD Cert.DownSampleIdeal.τ).loc Cert.DownSampleIdeal.main_arg0)
      ∧ r.2.mem ((c.tc : Thread Cert.DownSampleIdeal.nD Cert.DownSampleIdeal.τ).loc Cert.DownSampleIdeal.main_arg1) = m ((c.tc : Thread Cert.DownSampleIdeal.nD Cert.DownSampleIdeal.τ).loc Cert.DownSampleIdeal.main_arg1)
      ∧ r.2.mem ((c.tc : Thread Cert.DownSampleIdeal.nD Cert.DownSampleIdeal.τ).loc Cert.DownSampleIdeal.main_arg2) = m ((c.tc : Thread Cert.DownSampleIdeal.nD Cert.DownSampleIdeal.τ).loc Cert.DownSampleIdeal.main_arg2))
      ∧ r.2.sem = fun _ => 0)

def quiescent_DownSampleReferenceIdeal [hDownSampleReferenceIdeal : Cert.DownSampleReferenceIdeal.Facts] : Prop :=
  ∀ (m : (ℓ : Loc Cert.DownSampleReferenceIdeal.nD Cert.DownSampleReferenceIdeal.τ Cert.DownSampleReferenceIdeal.sig) → Buf (Elt Ideal) ℓ) (g : Dev Cert.DownSampleReferenceIdeal.nD → PrngReg), Pre_DownSampleReferenceIdeal m →
    θ_run (Cert.DownSampleReferenceIdeal.defs (F := Ideal)) (onTc (τ := Cert.DownSampleReferenceIdeal.τ) (Cert.DownSampleReferenceIdeal.main (F := Ideal))) ⟨m, fun _ => 0, g⟩ (fun r => (∀ c : Dev Cert.DownSampleReferenceIdeal.nD,
      r.2.mem ((c.tc : Thread Cert.DownSampleReferenceIdeal.nD Cert.DownSampleReferenceIdeal.τ).loc Cert.DownSampleReferenceIdeal.main_arg0) = m ((c.tc : Thread Cert.DownSampleReferenceIdeal.nD Cert.DownSampleReferenceIdeal.τ).loc Cert.DownSampleReferenceIdeal.main_arg0)
      ∧ r.2.mem ((c.tc : Thread Cert.DownSampleReferenceIdeal.nD Cert.DownSampleReferenceIdeal.τ).loc Cert.DownSampleReferenceIdeal.main_arg1) = m ((c.tc : Thread Cert.DownSampleReferenceIdeal.nD Cert.DownSampleReferenceIdeal.τ).loc Cert.DownSampleReferenceIdeal.main_arg1)
      ∧ r.2.mem ((c.tc : Thread Cert.DownSampleReferenceIdeal.nD Cert.DownSampleReferenceIdeal.τ).loc Cert.DownSampleReferenceIdeal.main_arg2) = m ((c.tc : Thread Cert.DownSampleReferenceIdeal.nD Cert.DownSampleReferenceIdeal.τ).loc Cert.DownSampleReferenceIdeal.main_arg2))
      ∧ r.2.sem = fun _ => 0)

def quiescent_UpSample [hUpSample : Cert.UpSample.Facts] : Prop :=
  ∀ (m : (ℓ : Loc Cert.UpSample.nD Cert.UpSample.τ Cert.UpSample.sig) → Buf (Elt Bits) ℓ) (g : Dev Cert.UpSample.nD → PrngReg), Pre_UpSample m →
    θ_run (Cert.UpSample.defs (F := Bits)) (onTc (τ := Cert.UpSample.τ) (Cert.UpSample.main (F := Bits))) ⟨m, fun _ => 0, g⟩ (fun r => (∀ c : Dev Cert.UpSample.nD,
      r.2.mem ((c.tc : Thread Cert.UpSample.nD Cert.UpSample.τ).loc Cert.UpSample.main_arg0) = m ((c.tc : Thread Cert.UpSample.nD Cert.UpSample.τ).loc Cert.UpSample.main_arg0)
      ∧ r.2.mem ((c.tc : Thread Cert.UpSample.nD Cert.UpSample.τ).loc Cert.UpSample.main_arg1) = m ((c.tc : Thread Cert.UpSample.nD Cert.UpSample.τ).loc Cert.UpSample.main_arg1)
      ∧ r.2.mem ((c.tc : Thread Cert.UpSample.nD Cert.UpSample.τ).loc Cert.UpSample.main_arg2) = m ((c.tc : Thread Cert.UpSample.nD Cert.UpSample.τ).loc Cert.UpSample.main_arg2)
      ∧ r.2.mem ((c.tc : Thread Cert.UpSample.nD Cert.UpSample.τ).loc Cert.UpSample.main_arg3) = m ((c.tc : Thread Cert.UpSample.nD Cert.UpSample.τ).loc Cert.UpSample.main_arg3)
      ∧ r.2.mem ((c.tc : Thread Cert.UpSample.nD Cert.UpSample.τ).loc Cert.UpSample.main_arg4) = m ((c.tc : Thread Cert.UpSample.nD Cert.UpSample.τ).loc Cert.UpSample.main_arg4))
      ∧ r.2.sem = fun _ => 0)

def quiescent_UpSampleIdeal [hUpSampleIdeal : Cert.UpSampleIdeal.Facts] : Prop :=
  ∀ (m : (ℓ : Loc Cert.UpSampleIdeal.nD Cert.UpSampleIdeal.τ Cert.UpSampleIdeal.sig) → Buf (Elt Ideal) ℓ) (g : Dev Cert.UpSampleIdeal.nD → PrngReg), Pre_UpSampleIdeal m →
    θ_run (Cert.UpSampleIdeal.defs (F := Ideal)) (onTc (τ := Cert.UpSampleIdeal.τ) (Cert.UpSampleIdeal.main (F := Ideal))) ⟨m, fun _ => 0, g⟩ (fun r => (∀ c : Dev Cert.UpSampleIdeal.nD,
      r.2.mem ((c.tc : Thread Cert.UpSampleIdeal.nD Cert.UpSampleIdeal.τ).loc Cert.UpSampleIdeal.main_arg0) = m ((c.tc : Thread Cert.UpSampleIdeal.nD Cert.UpSampleIdeal.τ).loc Cert.UpSampleIdeal.main_arg0)
      ∧ r.2.mem ((c.tc : Thread Cert.UpSampleIdeal.nD Cert.UpSampleIdeal.τ).loc Cert.UpSampleIdeal.main_arg1) = m ((c.tc : Thread Cert.UpSampleIdeal.nD Cert.UpSampleIdeal.τ).loc Cert.UpSampleIdeal.main_arg1)
      ∧ r.2.mem ((c.tc : Thread Cert.UpSampleIdeal.nD Cert.UpSampleIdeal.τ).loc Cert.UpSampleIdeal.main_arg2) = m ((c.tc : Thread Cert.UpSampleIdeal.nD Cert.UpSampleIdeal.τ).loc Cert.UpSampleIdeal.main_arg2)
      ∧ r.2.mem ((c.tc : Thread Cert.UpSampleIdeal.nD Cert.UpSampleIdeal.τ).loc Cert.UpSampleIdeal.main_arg3) = m ((c.tc : Thread Cert.UpSampleIdeal.nD Cert.UpSampleIdeal.τ).loc Cert.UpSampleIdeal.main_arg3)
      ∧ r.2.mem ((c.tc : Thread Cert.UpSampleIdeal.nD Cert.UpSampleIdeal.τ).loc Cert.UpSampleIdeal.main_arg4) = m ((c.tc : Thread Cert.UpSampleIdeal.nD Cert.UpSampleIdeal.τ).loc Cert.UpSampleIdeal.main_arg4))
      ∧ r.2.sem = fun _ => 0)

def quiescent_UpSampleReferenceIdeal [hUpSampleReferenceIdeal : Cert.UpSampleReferenceIdeal.Facts] : Prop :=
  ∀ (m : (ℓ : Loc Cert.UpSampleReferenceIdeal.nD Cert.UpSampleReferenceIdeal.τ Cert.UpSampleReferenceIdeal.sig) → Buf (Elt Ideal) ℓ) (g : Dev Cert.UpSampleReferenceIdeal.nD → PrngReg), Pre_UpSampleReferenceIdeal m →
    θ_run (Cert.UpSampleReferenceIdeal.defs (F := Ideal)) (onTc (τ := Cert.UpSampleReferenceIdeal.τ) (Cert.UpSampleReferenceIdeal.main (F := Ideal))) ⟨m, fun _ => 0, g⟩ (fun r => (∀ c : Dev Cert.UpSampleReferenceIdeal.nD,
      r.2.mem ((c.tc : Thread Cert.UpSampleReferenceIdeal.nD Cert.UpSampleReferenceIdeal.τ).loc Cert.UpSampleReferenceIdeal.main_arg0) = m ((c.tc : Thread Cert.UpSampleReferenceIdeal.nD Cert.UpSampleReferenceIdeal.τ).loc Cert.UpSampleReferenceIdeal.main_arg0)
      ∧ r.2.mem ((c.tc : Thread Cert.UpSampleReferenceIdeal.nD Cert.UpSampleReferenceIdeal.τ).loc Cert.UpSampleReferenceIdeal.main_arg1) = m ((c.tc : Thread Cert.UpSampleReferenceIdeal.nD Cert.UpSampleReferenceIdeal.τ).loc Cert.UpSampleReferenceIdeal.main_arg1)
      ∧ r.2.mem ((c.tc : Thread Cert.UpSampleReferenceIdeal.nD Cert.UpSampleReferenceIdeal.τ).loc Cert.UpSampleReferenceIdeal.main_arg2) = m ((c.tc : Thread Cert.UpSampleReferenceIdeal.nD Cert.UpSampleReferenceIdeal.τ).loc Cert.UpSampleReferenceIdeal.main_arg2)
      ∧ r.2.mem ((c.tc : Thread Cert.UpSampleReferenceIdeal.nD Cert.UpSampleReferenceIdeal.τ).loc Cert.UpSampleReferenceIdeal.main_arg3) = m ((c.tc : Thread Cert.UpSampleReferenceIdeal.nD Cert.UpSampleReferenceIdeal.τ).loc Cert.UpSampleReferenceIdeal.main_arg3)
      ∧ r.2.mem ((c.tc : Thread Cert.UpSampleReferenceIdeal.nD Cert.UpSampleReferenceIdeal.τ).loc Cert.UpSampleReferenceIdeal.main_arg4) = m ((c.tc : Thread Cert.UpSampleReferenceIdeal.nD Cert.UpSampleReferenceIdeal.τ).loc Cert.UpSampleReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v35) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v12)) (v1 : (c : Dev Cert.UpIdeal.nD) → Buf (Elt Ideal) ((c.tc : Thread Cert.UpIdeal.nD Cert.UpIdeal.τ).loc Cert.UpIdeal.main_v15)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v12) = v0 c
          ∧ r.2.mem ((c.tc : Thread Cert.UpIdeal.nD Cert.UpIdeal.τ).loc Cert.UpIdeal.main_v15) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v39) = v0 c
          ∧ r.2.mem ((c.tc : Thread Cert.UpReferenceIdeal.nD Cert.UpReferenceIdeal.τ).loc Cert.UpReferenceIdeal.main_v40) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v15) = v0 c
          ∧ r.2.mem ((c.tc : Thread Cert.OutReferenceIdeal.nD Cert.OutReferenceIdeal.τ).loc Cert.OutReferenceIdeal.main_v17) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)
      ∧ m' ((c.tc : Thread Cert.KeysReferenceIdeal.nD Cert.KeysReferenceIdeal.τ).loc Cert.KeysReferenceIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v4)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v4) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v17) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v3)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v3) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v3) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_Cross_CrossIdeal : Prop :=
  True

def algebraic_CrossIdeal_CrossReferenceIdeal_pre_finite_scores [hCrossIdeal : Cert.CrossIdeal.Facts] [hCrossReferenceIdeal : Cert.CrossReferenceIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite_scores m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v7)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v7) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v17) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2))

def preserves_DownSample_DownSampleIdeal : Prop :=
  True

def algebraic_DownSampleIdeal_DownSampleReferenceIdeal [hDownSampleIdeal : Cert.DownSampleIdeal.Facts] [hDownSampleReferenceIdeal : Cert.DownSampleReferenceIdeal.Facts] : Prop :=
  ∀ (m : (ℓ : Loc Cert.DownSampleIdeal.nD Cert.DownSampleIdeal.τ Cert.DownSampleIdeal.sig) → Buf (Elt Ideal) ℓ) (g : Dev Cert.DownSampleIdeal.nD → PrngReg)
    (m' : (ℓ : Loc Cert.DownSampleReferenceIdeal.nD Cert.DownSampleReferenceIdeal.τ Cert.DownSampleReferenceIdeal.sig) → Buf (Elt Ideal) ℓ) (g' : Dev Cert.DownSampleReferenceIdeal.nD → PrngReg), Pre_DownSampleIdeal m →
    (∀ c : Dev Cert.DownSampleIdeal.nD,
      m' ((c.tc : Thread Cert.DownSampleReferenceIdeal.nD Cert.DownSampleReferenceIdeal.τ).loc Cert.DownSampleReferenceIdeal.main_arg0) = m ((c.tc : Thread Cert.DownSampleIdeal.nD Cert.DownSampleIdeal.τ).loc Cert.DownSampleIdeal.main_arg0)
      ∧ m' ((c.tc : Thread Cert.DownSampleReferenceIdeal.nD Cert.DownSampleReferenceIdeal.τ).loc Cert.DownSampleReferenceIdeal.main_arg1) = m ((c.tc : Thread Cert.DownSampleIdeal.nD Cert.DownSampleIdeal.τ).loc Cert.DownSampleIdeal.main_arg1)
      ∧ m' ((c.tc : Thread Cert.DownSampleReferenceIdeal.nD Cert.DownSampleReferenceIdeal.τ).loc Cert.DownSampleReferenceIdeal.main_arg2) = m ((c.tc : Thread Cert.DownSampleIdeal.nD Cert.DownSampleIdeal.τ).loc Cert.DownSampleIdeal.main_arg2)) →
    ∃ (v0 : (c : Dev Cert.DownSampleIdeal.nD) → Buf (Elt Ideal) ((c.tc : Thread Cert.DownSampleIdeal.nD Cert.DownSampleIdeal.τ).loc Cert.DownSampleIdeal.main_v6)),
      θ_run (Cert.DownSampleIdeal.defs (F := Ideal)) (onTc (τ := Cert.DownSampleIdeal.τ) (Cert.DownSampleIdeal.main (F := Ideal))) ⟨m, fun _ => 0, g⟩ (fun r => ∀ c : Dev Cert.DownSampleIdeal.nD,
          r.2.mem ((c.tc : Thread Cert.DownSampleIdeal.nD Cert.DownSampleIdeal.τ).loc Cert.DownSampleIdeal.main_v6) = v0 c
          ∧ r.2.mem ((c.tc : Thread Cert.DownSampleIdeal.nD Cert.DownSampleIdeal.τ).loc Cert.DownSampleIdeal.main_arg0) = m ((c.tc : Thread Cert.DownSampleIdeal.nD Cert.DownSampleIdeal.τ).loc Cert.DownSampleIdeal.main_arg0)
          ∧ r.2.mem ((c.tc : Thread Cert.DownSampleIdeal.nD Cert.DownSampleIdeal.τ).loc Cert.DownSampleIdeal.main_arg1) = m ((c.tc : Thread Cert.DownSampleIdeal.nD Cert.DownSampleIdeal.τ).loc Cert.DownSampleIdeal.main_arg1)
          ∧ r.2.mem ((c.tc : Thread Cert.DownSampleIdeal.nD Cert.DownSampleIdeal.τ).loc Cert.DownSampleIdeal.main_arg2) = m ((c.tc : Thread Cert.DownSampleIdeal.nD Cert.DownSampleIdeal.τ).loc Cert.DownSampleIdeal.main_arg2))
      ∧ θ_run (Cert.DownSampleReferenceIdeal.defs (F := Ideal)) (onTc (τ := Cert.DownSampleReferenceIdeal.τ) (Cert.DownSampleReferenceIdeal.main (F := Ideal))) ⟨m', fun _ => 0, g'⟩ (fun r => ∀ c : Dev Cert.DownSampleReferenceIdeal.nD,
          r.2.mem ((c.tc : Thread Cert.DownSampleReferenceIdeal.nD Cert.DownSampleReferenceIdeal.τ).loc Cert.DownSampleReferenceIdeal.main_v2) = v0 c
          ∧ r.2.mem ((c.tc : Thread Cert.DownSampleReferenceIdeal.nD Cert.DownSampleReferenceIdeal.τ).loc Cert.DownSampleReferenceIdeal.main_arg0) = m' ((c.tc : Thread Cert.DownSampleReferenceIdeal.nD Cert.DownSampleReferenceIdeal.τ).loc Cert.DownSampleReferenceIdeal.main_arg0)
          ∧ r.2.mem ((c.tc : Thread Cert.DownSampleReferenceIdeal.nD Cert.DownSampleReferenceIdeal.τ).loc Cert.DownSampleReferenceIdeal.main_arg1) = m' ((c.tc : Thread Cert.DownSampleReferenceIdeal.nD Cert.DownSampleReferenceIdeal.τ).loc Cert.DownSampleReferenceIdeal.main_arg1)
          ∧ r.2.mem ((c.tc : Thread Cert.DownSampleReferenceIdeal.nD Cert.DownSampleReferenceIdeal.τ).loc Cert.DownSampleReferenceIdeal.main_arg2) = m' ((c.tc : Thread Cert.DownSampleReferenceIdeal.nD Cert.DownSampleReferenceIdeal.τ).loc Cert.DownSampleReferenceIdeal.main_arg2))

def preserves_UpSample_UpSampleIdeal : Prop :=
  True

def algebraic_UpSampleIdeal_UpSampleReferenceIdeal [hUpSampleIdeal : Cert.UpSampleIdeal.Facts] [hUpSampleReferenceIdeal : Cert.UpSampleReferenceIdeal.Facts] : Prop :=
  ∀ (m : (ℓ : Loc Cert.UpSampleIdeal.nD Cert.UpSampleIdeal.τ Cert.UpSampleIdeal.sig) → Buf (Elt Ideal) ℓ) (g : Dev Cert.UpSampleIdeal.nD → PrngReg)
    (m' : (ℓ : Loc Cert.UpSampleReferenceIdeal.nD Cert.UpSampleReferenceIdeal.τ Cert.UpSampleReferenceIdeal.sig) → Buf (Elt Ideal) ℓ) (g' : Dev Cert.UpSampleReferenceIdeal.nD → PrngReg), Pre_UpSampleIdeal m →
    (∀ c : Dev Cert.UpSampleIdeal.nD,
      m' ((c.tc : Thread Cert.UpSampleReferenceIdeal.nD Cert.UpSampleReferenceIdeal.τ).loc Cert.UpSampleReferenceIdeal.main_arg0) = m ((c.tc : Thread Cert.UpSampleIdeal.nD Cert.UpSampleIdeal.τ).loc Cert.UpSampleIdeal.main_arg0)
      ∧ m' ((c.tc : Thread Cert.UpSampleReferenceIdeal.nD Cert.UpSampleReferenceIdeal.τ).loc Cert.UpSampleReferenceIdeal.main_arg1) = m ((c.tc : Thread Cert.UpSampleIdeal.nD Cert.UpSampleIdeal.τ).loc Cert.UpSampleIdeal.main_arg1)
      ∧ m' ((c.tc : Thread Cert.UpSampleReferenceIdeal.nD Cert.UpSampleReferenceIdeal.τ).loc Cert.UpSampleReferenceIdeal.main_arg2) = m ((c.tc : Thread Cert.UpSampleIdeal.nD Cert.UpSampleIdeal.τ).loc Cert.UpSampleIdeal.main_arg2)
      ∧ m' ((c.tc : Thread Cert.UpSampleReferenceIdeal.nD Cert.UpSampleReferenceIdeal.τ).loc Cert.UpSampleReferenceIdeal.main_arg3) = m ((c.tc : Thread Cert.UpSampleIdeal.nD Cert.UpSampleIdeal.τ).loc Cert.UpSampleIdeal.main_arg3)
      ∧ m' ((c.tc : Thread Cert.UpSampleReferenceIdeal.nD Cert.UpSampleReferenceIdeal.τ).loc Cert.UpSampleReferenceIdeal.main_arg4) = m ((c.tc : Thread Cert.UpSampleIdeal.nD Cert.UpSampleIdeal.τ).loc Cert.UpSampleIdeal.main_arg4)) →
    ∃ (v0 : (c : Dev Cert.UpSampleIdeal.nD) → Buf (Elt Ideal) ((c.tc : Thread Cert.UpSampleIdeal.nD Cert.UpSampleIdeal.τ).loc Cert.UpSampleIdeal.main_v12)) (v1 : (c : Dev Cert.UpSampleIdeal.nD) → Buf (Elt Ideal) ((c.tc : Thread Cert.UpSampleIdeal.nD Cert.UpSampleIdeal.τ).loc Cert.UpSampleIdeal.main_v13)),
      θ_run (Cert.UpSampleIdeal.defs (F := Ideal)) (onTc (τ := Cert.UpSampleIdeal.τ) (Cert.UpSampleIdeal.main (F := Ideal))) ⟨m, fun _ => 0, g⟩ (fun r => ∀ c : Dev Cert.UpSampleIdeal.nD,
          r.2.mem ((c.tc : Thread Cert.UpSampleIdeal.nD Cert.UpSampleIdeal.τ).loc Cert.UpSampleIdeal.main_v12) = v0 c
          ∧ r.2.mem ((c.tc : Thread Cert.UpSampleIdeal.nD Cert.UpSampleIdeal.τ).loc Cert.UpSampleIdeal.main_v13) = v1 c
          ∧ r.2.mem ((c.tc : Thread Cert.UpSampleIdeal.nD Cert.UpSampleIdeal.τ).loc Cert.UpSampleIdeal.main_arg0) = m ((c.tc : Thread Cert.UpSampleIdeal.nD Cert.UpSampleIdeal.τ).loc Cert.UpSampleIdeal.main_arg0)
          ∧ r.2.mem ((c.tc : Thread Cert.UpSampleIdeal.nD Cert.UpSampleIdeal.τ).loc Cert.UpSampleIdeal.main_arg1) = m ((c.tc : Thread Cert.UpSampleIdeal.nD Cert.UpSampleIdeal.τ).loc Cert.UpSampleIdeal.main_arg1)
          ∧ r.2.mem ((c.tc : Thread Cert.UpSampleIdeal.nD Cert.UpSampleIdeal.τ).loc Cert.UpSampleIdeal.main_arg2) = m ((c.tc : Thread Cert.UpSampleIdeal.nD Cert.UpSampleIdeal.τ).loc Cert.UpSampleIdeal.main_arg2)
          ∧ r.2.mem ((c.tc : Thread Cert.UpSampleIdeal.nD Cert.UpSampleIdeal.τ).loc Cert.UpSampleIdeal.main_arg3) = m ((c.tc : Thread Cert.UpSampleIdeal.nD Cert.UpSampleIdeal.τ).loc Cert.UpSampleIdeal.main_arg3)
          ∧ r.2.mem ((c.tc : Thread Cert.UpSampleIdeal.nD Cert.UpSampleIdeal.τ).loc Cert.UpSampleIdeal.main_arg4) = m ((c.tc : Thread Cert.UpSampleIdeal.nD Cert.UpSampleIdeal.τ).loc Cert.UpSampleIdeal.main_arg4))
      ∧ θ_run (Cert.UpSampleReferenceIdeal.defs (F := Ideal)) (onTc (τ := Cert.UpSampleReferenceIdeal.τ) (Cert.UpSampleReferenceIdeal.main (F := Ideal))) ⟨m', fun _ => 0, g'⟩ (fun r => ∀ c : Dev Cert.UpSampleReferenceIdeal.nD,
          r.2.mem ((c.tc : Thread Cert.UpSampleReferenceIdeal.nD Cert.UpSampleReferenceIdeal.τ).loc Cert.UpSampleReferenceIdeal.main_v39) = v0 c
          ∧ r.2.mem ((c.tc : Thread Cert.UpSampleReferenceIdeal.nD Cert.UpSampleReferenceIdeal.τ).loc Cert.UpSampleReferenceIdeal.main_v40) = v1 c
          ∧ r.2.mem ((c.tc : Thread Cert.UpSampleReferenceIdeal.nD Cert.UpSampleReferenceIdeal.τ).loc Cert.UpSampleReferenceIdeal.main_arg0) = m' ((c.tc : Thread Cert.UpSampleReferenceIdeal.nD Cert.UpSampleReferenceIdeal.τ).loc Cert.UpSampleReferenceIdeal.main_arg0)
          ∧ r.2.mem ((c.tc : Thread Cert.UpSampleReferenceIdeal.nD Cert.UpSampleReferenceIdeal.τ).loc Cert.UpSampleReferenceIdeal.main_arg1) = m' ((c.tc : Thread Cert.UpSampleReferenceIdeal.nD Cert.UpSampleReferenceIdeal.τ).loc Cert.UpSampleReferenceIdeal.main_arg1)
          ∧ r.2.mem ((c.tc : Thread Cert.UpSampleReferenceIdeal.nD Cert.UpSampleReferenceIdeal.τ).loc Cert.UpSampleReferenceIdeal.main_arg2) = m' ((c.tc : Thread Cert.UpSampleReferenceIdeal.nD Cert.UpSampleReferenceIdeal.τ).loc Cert.UpSampleReferenceIdeal.main_arg2)
          ∧ r.2.mem ((c.tc : Thread Cert.UpSampleReferenceIdeal.nD Cert.UpSampleReferenceIdeal.τ).loc Cert.UpSampleReferenceIdeal.main_arg3) = m' ((c.tc : Thread Cert.UpSampleReferenceIdeal.nD Cert.UpSampleReferenceIdeal.τ).loc Cert.UpSampleReferenceIdeal.main_arg3)
          ∧ r.2.mem ((c.tc : Thread Cert.UpSampleReferenceIdeal.nD Cert.UpSampleReferenceIdeal.τ).loc Cert.UpSampleReferenceIdeal.main_arg4) = m' ((c.tc : Thread Cert.UpSampleReferenceIdeal.nD Cert.UpSampleReferenceIdeal.τ).loc Cert.UpSampleReferenceIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hOut : Cert.Out.Facts) (hOutIdeal : Cert.OutIdeal.Facts) (hOutReferenceIdeal : Cert.OutReferenceIdeal.Facts) (hKeys : Cert.Keys.Facts) (hKeysIdeal : Cert.KeysIdeal.Facts) (hKeysReferenceIdeal : Cert.KeysReferenceIdeal.Facts) (hValues : Cert.Values.Facts) (hValuesIdeal : Cert.ValuesIdeal.Facts) (hValuesReferenceIdeal : Cert.ValuesReferenceIdeal.Facts) (hCross : Cert.Cross.Facts) (hCrossIdeal : Cert.CrossIdeal.Facts) (hCrossReferenceIdeal : Cert.CrossReferenceIdeal.Facts) (hDownSample : Cert.DownSample.Facts) (hDownSampleIdeal : Cert.DownSampleIdeal.Facts) (hDownSampleReferenceIdeal : Cert.DownSampleReferenceIdeal.Facts) (hUpSample : Cert.UpSample.Facts) (hUpSampleIdeal : Cert.UpSampleIdeal.Facts) (hUpSampleReferenceIdeal : Cert.UpSampleReferenceIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ quiescent_Out (hOut := hOut)
    ∧ quiescent_OutIdeal (hOutIdeal := hOutIdeal)
    ∧ quiescent_OutReferenceIdeal (hOutReferenceIdeal := hOutReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Cross (hCross := hCross)
    ∧ quiescent_CrossIdeal (hCrossIdeal := hCrossIdeal)
    ∧ quiescent_CrossIdeal_pre_finite_scores (hCrossIdeal := hCrossIdeal) (hPre_finite_scores := hPre_finite_scores)
    ∧ quiescent_CrossReferenceIdeal (hCrossReferenceIdeal := hCrossReferenceIdeal)
    ∧ quiescent_CrossReferenceIdeal_pre_finite_scores (hCrossReferenceIdeal := hCrossReferenceIdeal) (hPre_finite_scores := hPre_finite_scores)
    ∧ quiescent_DownSample (hDownSample := hDownSample)
    ∧ quiescent_DownSampleIdeal (hDownSampleIdeal := hDownSampleIdeal)
    ∧ quiescent_DownSampleReferenceIdeal (hDownSampleReferenceIdeal := hDownSampleReferenceIdeal)
    ∧ quiescent_UpSample (hUpSample := hUpSample)
    ∧ quiescent_UpSampleIdeal (hUpSampleIdeal := hUpSampleIdeal)
    ∧ quiescent_UpSampleReferenceIdeal (hUpSampleReferenceIdeal := hUpSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Out_OutIdeal
    ∧ algebraic_OutIdeal_OutReferenceIdeal (hOutIdeal := hOutIdeal) (hOutReferenceIdeal := hOutReferenceIdeal)
    ∧ preserves_Keys_KeysIdeal
    ∧ algebraic_KeysIdeal_KeysReferenceIdeal (hKeysIdeal := hKeysIdeal) (hKeysReferenceIdeal := hKeysReferenceIdeal)
    ∧ preserves_Values_ValuesIdeal
    ∧ algebraic_ValuesIdeal_ValuesReferenceIdeal (hValuesIdeal := hValuesIdeal) (hValuesReferenceIdeal := hValuesReferenceIdeal)
    ∧ preserves_Cross_CrossIdeal
    ∧ algebraic_CrossIdeal_CrossReferenceIdeal_pre_finite_scores (hCrossIdeal := hCrossIdeal) (hCrossReferenceIdeal := hCrossReferenceIdeal) (hPre_finite_scores := hPre_finite_scores)
    ∧ preserves_DownSample_DownSampleIdeal
    ∧ algebraic_DownSampleIdeal_DownSampleReferenceIdeal (hDownSampleIdeal := hDownSampleIdeal) (hDownSampleReferenceIdeal := hDownSampleReferenceIdeal)
    ∧ preserves_UpSample_UpSampleIdeal
    ∧ algebraic_UpSampleIdeal_UpSampleReferenceIdeal (hUpSampleIdeal := hUpSampleIdeal) (hUpSampleReferenceIdeal := hUpSampleReferenceIdeal)
-- ==== Pre_finite.lean ====
abbrev S8x2048x8x2x64 : Shape := ⟨5, ![8, 2048, 8, 2, 64]⟩
abbrev S8x2048x8x128 : Shape := ⟨4, ![8, 2048, 8, 128]⟩
abbrev S64 : Shape := ⟨1, ![64]⟩
abbrev S128 : Shape := ⟨1, ![128]⟩
abbrev S_ : Shape := ⟨0, ![]⟩

class Facts : Prop where
  bcast_S_S8x2048x8x2x64 : S_.BroadcastsInDim S8x2048x8x2x64 (![] : Fin 0 → Fin S8x2048x8x2x64.rank)
  reducesTo_S8x2048x8x2x64_S_d0_1_2_3_4 : S8x2048x8x2x64.ReducesTo [0, 1, 2, 3, 4] S_
  h_S_ : 0 < S_.numel
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x2048x8x2x64 .f32) (main_arg1 : FVec F S8x2048x8x128 .f32) (main_arg2 : FVec F S8x2048x8x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S8x2048x8x2x64 .f32 := Host.absf main_arg0
  let main_cst : FVec F S_ .f32 := constant S_ .f32 0x7F800000#32
  let main_v1 : FVec F S8x2048x8x2x64 .f32 := broadcastInDim S8x2048x8x2x64 ![] bcast_S_S8x2048x8x2x64 main_cst
  let main_v2 : IVec S8x2048x8x2x64 1 := cmpf .olt main_v0 main_v1
  let main_c : IVec S_ 1 := constantI S_ 1 1#1
  let main_v3 : IVec S_ 1 := (fun x v => Host.reduce IntOp.andi x v reducesTo_S8x2048x8x2x64_S_d0_1_2_3_4 h_S_) main_v2 main_c
  let main_v4 : FVec F S8x2048x8x128 .f32 := Host.absf main_arg1
  let main_cst_0 : FVec F S_ .f32 := constant S_ .f32 0x7F800000#32
  let main_v5 : FVec F S8x2048x8x128 .f32 := broadcastInDim S8x2048x8x128 ![] bcast_S_S8x2048x8x128 main_cst_0
  let main_v6 : IVec S8x2048x8x128 1 := cmpf .olt main_v4 main_v5
  let main_c_1 : IVec S_ 1 := constantI S_ 1 1#1
  let main_v7 : IVec S_ 1 := (fun x v => Host.reduce IntOp.andi x v reducesTo_S8x2048x8x128_S_d0_1_2_3 h_S_) main_v6 main_c_1
  let main_v8 : IVec S_ 1 := andi main_v3 main_v7
  let main_v9 : FVec F S8x2048x8x128 .f32 := Host.absf main_arg2
  let main_cst_2 : FVec F S_ .f32 := constant S_ .f32 0x7F800000#32
  let main_v10 : FVec F S8x2048x8x128 .f32 := broadcastInDim S8x2048x8x128 ![] bcast_S_S8x2048x8x128 main_cst_2
  let main_v11 : IVec S8x2048x8x128 1 := cmpf .olt main_v9 main_v10
  let main_c_3 : IVec S_ 1 := constantI S_ 1 1#1
  let main_v12 : IVec S_ 1 := (fun x v => Host.reduce IntOp.andi x v reducesTo_S8x2048x8x128_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Pre_finite_scores.lean ====
abbrev S8x2048x4x256 : Shape := ⟨4, ![8, 2048, 4, 256]⟩
abbrev S8x256x4x256 : Shape := ⟨4, ![8, 256, 4, 256]⟩
abbrev S_ : Shape := ⟨0, ![]⟩

class Facts : Prop where
  bcast_S_S8x2048x4x256 : S_.BroadcastsInDim S8x2048x4x256 (![] : Fin 0 → Fin S8x2048x4x256.rank)
  reducesTo_S8x2048x4x256_S_d0_1_2_3 : S8x2048x4x256.ReducesTo [0, 1, 2, 3] S_
  h_S_ : 0 < S_.numel
  bcast_S_S8x256x4x256 : S_.BroadcastsInDim S8x256x4x256 (![] : Fin 0 → Fin S8x256x4x256.rank)
  reducesTo_S8x256x4x256_S_d0_1_2_3 : S8x256x4x256.ReducesTo [0, 1, 2, 3] S_

variable [Facts]

def fn {F : FTy → Type} [FloatOps F] (main_arg0 : FVec F S8x2048x4x256 .f32) (main_arg1 : FVec F S8x256x4x256 .f32) (main_arg2 : FVec F S8x256x4x256 .f32) : IVec S_ 1 :=
  let main_v0 : FVec F S8x2048x4x256 .f32 := Host.absf main_arg0
  let main_cst : FVec F S_ .f32 := constant S_ .f32 0x7F800000#32
  let main_v1 : FVec F S8x2048x4x256 .f32 := broadcastInDim S8x2048x4x256 ![] bcast_S_S8x2048x4x256 main_cst
  let main_v2 : IVec S8x2048x4x256 1 := cmpf .olt main_v0 main_v1
  let main_c : IVec S_ 1 := constantI S_ 1 1#1
  let main_v3 : IVec S_ 1 := (fun x v => Host.reduce IntOp.andi x v reducesTo_S8x2048x4x256_S_d0_1_2_3 h_S_) main_v2 main_c
  let main_v4 : FVec F S8x256x4x256 .f32 := Host.absf main_arg1
  let main_cst_0 : FVec F S_ .f32 := constant S_ .f32 0x7F800000#32
  let main_v5 : FVec F S8x256x4x256 .f32 := broadcastInDim S8x256x4x256 ![] bcast_S_S8x256x4x256 main_cst_0
  let main_v6 : IVec S8x256x4x256 1 := cmpf .olt main_v4 main_v5
  let main_c_1 : IVec S_ 1 := constantI S_ 1 1#1
  let main_v7 : IVec S_ 1 := (fun x v => Host.reduce IntOp.andi x v reducesTo_S8x256x4x256_S_d0_1_2_3 h_S_) main_v6 main_c_1
  let main_v8 : IVec S_ 1 := andi main_v3 main_v7
  main_v8
-- ==== Kernel.lean ====
abbrev S8x2048x8x2x64 : Shape := ⟨5, ![8, 2048, 8, 2, 64]⟩
abbrev S8x2048x8x128 : Shape := ⟨4, ![8, 2048, 8, 128]⟩
abbrev S64 : Shape := ⟨1, ![64]⟩
abbrev S128 : Shape := ⟨1, ![128]⟩
abbrev S16384x1024 : Shape := ⟨2, ![16384, 1024]⟩
abbrev S1x64 : Shape := ⟨2, ![1, 64]⟩
abbrev S4x64 : Shape := ⟨2, ![4, 64]⟩
abbrev S8x2048x1024 : Shape := ⟨3, ![8, 2048, 1024]⟩
abbrev S1x128 : Shape := ⟨2, ![1, 128]⟩
abbrev S1x2048x128 : Shape := ⟨3, ![1, 2048, 128]⟩
abbrev S2048x128 : Shape := ⟨2, ![2048, 128]⟩
abbrev S2048x256 : Shape := ⟨2, ![2048, 256]⟩
abbrev S1 : Shape := ⟨1, ![1]⟩
abbrev S1x1 : Shape := ⟨2, ![1, 1]⟩
abbrev S512x512 : Shape := ⟨2, ![512, 512]⟩
abbrev S1x512x128 : Shape := ⟨3, ![1, 512, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S1024x128 : Shape := ⟨2, ![1024, 128]⟩
abbrev S512x1024 : Shape := ⟨2, ![512, 1024]⟩
abbrev S1024x256 : Shape := ⟨2, ![1024, 256]⟩
abbrev S1536x128 : Shape := ⟨2, ![1536, 128]⟩
abbrev S512x1536 : Shape := ⟨2, ![512, 1536]⟩
abbrev S1536x256 : Shape := ⟨2, ![1536, 256]⟩

abbrev nBuf : Space → Nat
  | .hbm => 22
  | .vmem => 12
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x128, .f32⟩
  | .hbm, ⟨2, _⟩ => ⟨S8x2048x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S8x2048x1024, .bf16⟩
  | .hbm, ⟨18, _⟩ => ⟨S8x2048x1024, .f32⟩
  | .hbm, ⟨19, _⟩ => ⟨S8x2048x1024, .f32⟩
  | .hbm, ⟨20, _⟩ => ⟨S1x128, .f32⟩
  | .hbm, ⟨21, _⟩ => ⟨S8x2048x1024, .bf16⟩
  | .local _ .vmem, ⟨0, _⟩ => ⟨S4x64, .f32⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x128, .f32⟩
  | .local _ .vmem, ⟨8, _⟩ => ⟨S1x2048x128, .bf16⟩
  | .local _ .vmem, ⟨9, _⟩ => ⟨S1x2048x128, .bf16⟩
  | .local _ .vmem, ⟨10, _⟩ => ⟨S2048x128, .bf16⟩
  | .local _ .vmem, ⟨11, _⟩ => ⟨S2048x256, .bf16⟩
  | _, _ => ⟨S8x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x8x2x64 : Shape := ⟨5, ![8, 2048, 8, 2, 64]⟩
abbrev S8x2048x8x128 : Shape := ⟨4, ![8, 2048, 8, 128]⟩
abbrev S64 : Shape := ⟨1, ![64]⟩
abbrev S128 : Shape := ⟨1, ![128]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2x2048x2048 : Shape := ⟨5, ![8, 8, 2, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x1024 : Shape := ⟨3, ![8, 2048, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x128, .f32⟩
  | .hbm, ⟨2, _⟩ => ⟨S8x2048x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x2048x8x2x64, .f32⟩
  | .hbm, ⟨20, _⟩ => ⟨S2048, .i32⟩
  | .hbm, ⟨21, _⟩ => ⟨S_, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S1x2048, .i32⟩
  | .hbm, ⟨40, _⟩ => ⟨S_, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S8x8x2x2048x2048, .f32⟩
  | .hbm, ⟨63, _⟩ => ⟨S_, .f32⟩
  | .hbm, ⟨64, _⟩ => ⟨S8x8x2x2048x2048, .f32⟩
  | .hbm, ⟨65, _⟩ => ⟨S8x8x2x2048x2048, .f32⟩
  | .hbm, ⟨66, _⟩ => ⟨S_, .f32⟩
  | .hbm, ⟨67, _⟩ => ⟨S_, .f32⟩
  | .hbm, ⟨68, _⟩ => ⟨S8x8x2x2048x2048, .i1⟩
  | .hbm, ⟨69, _⟩ => ⟨S8x8x2x2048x2048, .f32⟩
  | .hbm, ⟨70, _⟩ => ⟨S8x8x2x2048x2048, .f32⟩
  | .hbm, ⟨71, _⟩ => ⟨S_, .f32⟩
  | .hbm, ⟨72, _⟩ => ⟨S8x8x2x2048, .f32⟩
  | .hbm, ⟨73, _⟩ => ⟨S_, .f32⟩
  | .hbm, ⟨74, _⟩ => ⟨S8x8x2x2048, .f32⟩
  | .hbm, ⟨75, _⟩ => ⟨S8x8x2x2048, .f32⟩
  | .hbm, ⟨76, _⟩ => ⟨S8x8x2x2048x1, .f32⟩
  | .hbm, ⟨77, _⟩ => ⟨S8x8x2x2048x2048, .f32⟩
  | .hbm, ⟨78, _⟩ => ⟨S8x8x2x2048x2048, .f32⟩
  | .hbm, ⟨79, _⟩ => ⟨S8x8x2x2048x2048, .f32⟩
  | .hbm, ⟨80, _⟩ => ⟨S_, .f32⟩
  | .hbm, ⟨81, _⟩ => ⟨S8x8x2x2048, .f32⟩
  | .hbm, ⟨82, _⟩ => ⟨S8x8x2x2048x1, .f32⟩
  | .hbm, ⟨83, _⟩ => ⟨S8x8x2x2048x2048, .f32⟩
  | .hbm, ⟨84, _⟩ => ⟨S8x8x2x2048x2048, .f32⟩
  | .hbm, ⟨85, _⟩ => ⟨S8x8x1x2048x2048, .f32⟩
  | .hbm, ⟨86, _⟩ => ⟨S8x8x2048x2048, .f32⟩
  | .hbm, ⟨87, _⟩ => ⟨S8x8x1x2048x2048, .f32⟩
  | .hbm, ⟨88, _⟩ => ⟨S8x8x2048x2048, .f32⟩
  | .hbm, ⟨89, _⟩ => ⟨S8x8x2048x2048, .f32⟩
  | .hbm, ⟨90, _⟩ => ⟨S8x8x2048x2048, .f32⟩
  | .hbm, ⟨91, _⟩ => ⟨S8x8x2048x2048, .f32⟩
  | .hbm, ⟨92, _⟩ => ⟨S8x8x128x2048, .f32⟩
  | .hbm, ⟨93, _⟩ => ⟨S8x2048x8x128, .f32⟩
  | .hbm, ⟨94, _⟩ => ⟨S8x2048x8x128, .f32⟩
  | .hbm, ⟨95, _⟩ => ⟨S_, .f32⟩
  | .hbm, ⟨96, _⟩ => ⟨S8x2048x8, .f32⟩
  | .hbm, ⟨97, _⟩ => ⟨S8x2048x8x1, .f32⟩
  | .hbm, ⟨98, _⟩ => ⟨S_, .f32⟩
  | .hbm, ⟨99, _⟩ => ⟨S8x2048x8x1, .f32⟩
  | .hbm, ⟨100, _⟩ => ⟨S8x2048x8x1, .f32⟩
  | .hbm, ⟨101, _⟩ => ⟨S_, .f32⟩
  | .hbm, ⟨102, _⟩ => ⟨S8x2048x8x1, .f32⟩
  | .hbm, ⟨103, _⟩ => ⟨S8x2048x8x1, .f32⟩
  | .hbm, ⟨104, _⟩ => ⟨S8x2048x8x1, .f32⟩
  | .hbm, ⟨105, _⟩ => ⟨S8x2048x8x128, .f32⟩
  | .hbm, ⟨106, _⟩ => ⟨S8x2048x8x128, .f32⟩
  | .hbm, ⟨107, _⟩ => ⟨S1x1x1x128, .f32⟩
  | .hbm, ⟨108, _⟩ => ⟨S8x2048x8x128, .f32⟩
  | .hbm, ⟨109, _⟩ => ⟨S8x2048x8x128, .f32⟩
  | .hbm, ⟨110, _⟩ => ⟨S_, .f32⟩
  | .hbm, ⟨111, _⟩ => ⟨S8x2048x8x128, .f32⟩
  | .hbm, ⟨112, _⟩ => ⟨S8x2048x8x128, .f32⟩
  | .hbm, ⟨113, _⟩ => ⟨S8x2048x1024, .f32⟩
  | .hbm, ⟨114, _⟩ => ⟨S8x2048x1024, .bf16⟩
  | _, _ => ⟨S8x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_3 : Ref sig .tc := ⟨.hbm, 63, rfl⟩
abbrev main_v18 : Ref sig .tc := ⟨.hbm, 64, rfl⟩
abbrev main_v19 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v20 : Ref sig .tc := ⟨.hbm, 70, rfl⟩
abbrev main_cst_5 : Ref sig .tc := ⟨.hbm, 71, rfl⟩
abbrev main_v21 : Ref sig .tc := ⟨.hbm, 72, rfl⟩
abbrev main_cst_6 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_7 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_8 : Ref sig .tc := ⟨.hbm, 95, rfl⟩
abbrev main_v42 : Ref sig .tc := ⟨.hbm, 96, rfl⟩
abbrev main_v43 : Ref sig .tc := ⟨.hbm, 97, rfl⟩
abbrev main_cst_9 : Ref sig .tc := ⟨.hbm, 98, rfl⟩
abbrev main_v44 : Ref sig .tc := ⟨.hbm, 99, rfl⟩
abbrev main_v45 : Ref sig .tc := ⟨.hbm, 100, rfl⟩
abbrev main_cst_10 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_11 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩

abbrev nD : Nat := 1
abbrev τ : Topo := Topo.v7x

variable {F : FTy → Type} [FloatOps F]
-- ==== Merge.lean ====
abbrev S8x2048x2048 : Shape := ⟨3, ![8, 2048, 2048]⟩
abbrev S8x2048x1024 : Shape := ⟨3, ![8, 2048, 1024]⟩
abbrev S2048x13312 : Shape := ⟨2, ![2048, 13312]⟩
abbrev S3x2048 : Shape := ⟨2, ![3, 2048]⟩
abbrev S3x1024x2048 : Shape := ⟨3, ![3, 1024, 2048]⟩
abbrev S16384x2048 : Shape := ⟨2, ![16384, 2048]⟩
abbrev S16384x1024 : Shape := ⟨2, ![16384, 1024]⟩
abbrev S3x1x2048 : Shape := ⟨3, ![3, 1, 2048]⟩
abbrev S1024x2048 : Shape := ⟨2, ![1024, 2048]⟩
abbrev S1024x1024 : Shape := ⟨2, ![1024, 1024]⟩
abbrev S2048x512 : Shape := ⟨2, ![2048, 512]⟩
abbrev S3x1x512 : Shape := ⟨3, ![3, 1, 512]⟩
abbrev S3x1024x512 : Shape := ⟨3, ![3, 1024, 512]⟩
abbrev S1024x512 : Shape := ⟨2, ![1024, 512]⟩
abbrev S1x1x512 : Shape := ⟨3, ![1, 1, 512]⟩
abbrev S1x512 : Shape := ⟨2, ![1, 512]⟩
abbrev S1x1024x512 : Shape := ⟨3, ![1, 1024, 512]⟩

abbrev nBuf : Space → Nat
  | .hbm => 19
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S2048x13312, .f32⟩
  | .hbm, ⟨5, _⟩ => ⟨S3x2048, .f32⟩
  | .hbm, ⟨6, _⟩ => ⟨S3x1024x2048, .f32⟩
  | .hbm, ⟨7, _⟩ => ⟨S16384x2048, .f32⟩
  | .hbm, ⟨8, _⟩ => ⟨S16384x2048, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x1024, .bf16⟩
  | .hbm, ⟨15, _⟩ => ⟨S2048x13312, .bf16⟩
  | .hbm, ⟨16, _⟩ => ⟨S3x1x2048, .f32⟩
  | .hbm, ⟨17, _⟩ => ⟨S3x1024x2048, .bf16⟩
  | .hbm, ⟨18, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x1x512, .f32⟩
  | .local _ .vmem, ⟨15, _⟩ => ⟨S3x1x512, .f32⟩
  | .local _ .vmem, ⟨16, _⟩ => ⟨S3x1024x512, .bf16⟩
  | .local _ .vmem, ⟨17, _⟩ => ⟨S3x1024x512, .bf16⟩
  | .local _ .vmem, ⟨18, _⟩ => ⟨S1024x512, .bf16⟩
  | .local _ .vmem, ⟨19, _⟩ => ⟨S1024x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S8x2048x2048 : Shape := ⟨3, ![8, 2048, 2048]⟩
abbrev S8x2048x1024 : Shape := ⟨3, ![8, 2048, 1024]⟩
abbrev S2048x13312 : Shape := ⟨2, ![2048, 13312]⟩
abbrev S3x2048 : Shape := ⟨2, ![3, 2048]⟩
abbrev S3x1024x2048 : Shape := ⟨3, ![3, 1024, 2048]⟩
abbrev S8x2048x13312 : Shape := ⟨3, ![8, 2048, 13312]⟩
abbrev S8x2048x6144 : Shape := ⟨3, ![8, 2048, 6144]⟩
abbrev S8x2048x3x2048 : Shape := ⟨4, ![8, 2048, 3, 2048]⟩
abbrev S1x1x3x2048 : Shape := ⟨4, ![1, 1, 3, 2048]⟩
abbrev S_ : Shape := ⟨0, ![]⟩
abbrev S8x2048x1x2048 : Shape := ⟨4, ![8, 2048, 1, 2048]⟩
abbrev S1x1024x2048 : Shape := ⟨3, ![1, 1024, 2048]⟩
abbrev S1024x2048 : Shape := ⟨2, ![1024, 2048]⟩
abbrev S16384x2048 : Shape := ⟨2, ![16384, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S2048x13312, .f32⟩
  | .hbm, ⟨5, _⟩ => ⟨S3x2048, .f32⟩
  | .hbm, ⟨6, _⟩ => ⟨S3x1024x2048, .f32⟩
  | .hbm, ⟨7, _⟩ => ⟨S8x2048x13312, .f32⟩
  | .hbm, ⟨8, _⟩ => ⟨S8x2048x6144, .f32⟩
  | .hbm, ⟨9, _⟩ => ⟨S8x2048x3x2048, .f32⟩
  | .hbm, ⟨10, _⟩ => ⟨S1x1x3x2048, .f32⟩
  | .hbm, ⟨11, _⟩ => ⟨S8x2048x3x2048, .f32⟩
  | .hbm, ⟨12, _⟩ => ⟨S8x2048x3x2048, .f32⟩
  | .hbm, ⟨13, _⟩ => ⟨S8x2048x3x2048, .f32⟩
  | .hbm, ⟨14, _⟩ => ⟨S8x2048x3x2048, .f32⟩
  | .hbm, ⟨15, _⟩ => ⟨S_, .f32⟩
  | .hbm, ⟨16, _⟩ => ⟨S8x2048x3x2048, .f32⟩
  | .hbm, ⟨17, _⟩ => ⟨S8x2048x3x2048, .f32⟩
  | .hbm, ⟨18, _⟩ => ⟨S_, .f32⟩
  | .hbm, ⟨19, _⟩ => ⟨S8x2048x3x2048, .f32⟩
  | .hbm, ⟨20, _⟩ => ⟨S8x2048x3x2048, .f32⟩
  | .hbm, ⟨21, _⟩ => ⟨S8x2048x1x2048, .f32⟩
  | .hbm, ⟨22, _⟩ => ⟨S8x2048x2048, .f32⟩
  | .hbm, ⟨23, _⟩ => ⟨S1x1024x2048, .f32⟩
  | .hbm, ⟨24, _⟩ => ⟨S1024x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x1x2048, .f32⟩
  | .hbm, ⟨31, _⟩ => ⟨S8x2048x2048, .f32⟩
  | .hbm, ⟨32, _⟩ => ⟨S1x1024x2048, .f32⟩
  | .hbm, ⟨33, _⟩ => ⟨S1024x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x1x2048, .f32⟩
  | .hbm, ⟨38, _⟩ => ⟨S8x2048x2048, .f32⟩
  | .hbm, ⟨39, _⟩ => ⟨S1x1024x2048, .f32⟩
  | .hbm, ⟨40, _⟩ => ⟨S1024x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .bf16⟩
  | .hbm, ⟨45, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Down.lean ====
abbrev S8x2048x2048 : Shape := ⟨3, ![8, 2048, 2048]⟩
abbrev S8x2048x5504 : Shape := ⟨3, ![8, 2048, 5504]⟩
abbrev S5504x2048 : Shape := ⟨2, ![5504, 2048]⟩
abbrev S16384x5504 : Shape := ⟨2, ![16384, 5504]⟩
abbrev S_ : Shape := ⟨0, ![]⟩
abbrev S16384x5632 : Shape := ⟨2, ![16384, 5632]⟩
abbrev S5632x2048 : Shape := ⟨2, ![5632, 2048]⟩
abbrev S16384x2048 : Shape := ⟨2, ![16384, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x2048x5504, .f32⟩
  | .hbm, ⟨2, _⟩ => ⟨S5504x2048, .f32⟩
  | .hbm, ⟨3, _⟩ => ⟨S16384x5504, .f32⟩
  | .hbm, ⟨4, _⟩ => ⟨S16384x5504, .bf16⟩
  | .hbm, ⟨5, _⟩ => ⟨S_, .bf16⟩
  | .hbm, ⟨6, _⟩ => ⟨S16384x5632, .bf16⟩
  | .hbm, ⟨7, _⟩ => ⟨S5504x2048, .bf16⟩
  | .hbm, ⟨8, _⟩ => ⟨S_, .bf16⟩
  | .hbm, ⟨9, _⟩ => ⟨S5632x2048, .bf16⟩
  | .hbm, ⟨10, _⟩ => ⟨S16384x2048, .f32⟩
  | .hbm, ⟨11, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S8x2048x2048 : Shape := ⟨3, ![8, 2048, 2048]⟩
abbrev S8x2048x5504 : Shape := ⟨3, ![8, 2048, 5504]⟩
abbrev S5504x2048 : Shape := ⟨2, ![5504, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x5504, .f32⟩
  | .hbm, ⟨2, _⟩ => ⟨S5504x2048, .f32⟩
  | .hbm, ⟨3, _⟩ => ⟨S8x2048x2048, .f32⟩
  | .hbm, ⟨4, _⟩ => ⟨S8x2048x2048, .f32⟩
  | .hbm, ⟨5, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Up.lean ====
abbrev S8x2048x2048 : Shape := ⟨3, ![8, 2048, 2048]⟩
abbrev S8x2x5504 : Shape := ⟨3, ![8, 2, 5504]⟩
abbrev S2048x11008 : Shape := ⟨2, ![2048, 11008]⟩
abbrev S3x5504 : Shape := ⟨2, ![3, 5504]⟩
abbrev S5504 : Shape := ⟨1, ![5504]⟩
abbrev S16384x2048 : Shape := ⟨2, ![16384, 2048]⟩
abbrev S2048x5504 : Shape := ⟨2, ![2048, 5504]⟩
abbrev S_ : Shape := ⟨0, ![]⟩
abbrev S2048x5632 : Shape := ⟨2, ![2048, 5632]⟩
abbrev S3x5632 : Shape := ⟨2, ![3, 5632]⟩
abbrev S1x5504 : Shape := ⟨2, ![1, 5504]⟩
abbrev S1x5632 : Shape := ⟨2, ![1, 5632]⟩
abbrev S8x2x5632 : Shape := ⟨3, ![8, 2, 5632]⟩
abbrev S16384x5632 : Shape := ⟨2, ![16384, 5632]⟩
abbrev S16x2x5632 : Shape := ⟨3, ![16, 2, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1x2x512 : Shape := ⟨3, ![1, 2, 512]⟩
abbrev S1024x512 : Shape := ⟨2, ![1024, 512]⟩
abbrev S11x2x512 : Shape := ⟨3, ![11, 2, 512]⟩
abbrev S2x512 : Shape := ⟨2, ![2, 512]⟩
abbrev S8x256 : Shape := ⟨2, ![8, 256]⟩
abbrev S256x2048 : Shape := ⟨2, ![256, 2048]⟩
abbrev S2048x256 : Shape := ⟨2, ![2048, 256]⟩
abbrev S256x256 : Shape := ⟨2, ![256, 256]⟩
abbrev S3x256 : Shape := ⟨2, ![3, 256]⟩
abbrev S1x256 : Shape := ⟨2, ![1, 256]⟩
abbrev S1x2x256 : Shape := ⟨3, ![1, 2, 256]⟩
abbrev S2x256 : Shape := ⟨2, ![2, 256]⟩
abbrev S16384x5504 : Shape := ⟨2, ![16384, 5504]⟩
abbrev S8x2x2x5632 : Shape := ⟨4, ![8, 2, 2, 5632]⟩
abbrev S8x1x2x5504 : Shape := ⟨4, ![8, 1, 2, 5504]⟩

abbrev nBuf : Space → Nat
  | .hbm => 27
  | .vmem => 17
  | .smem => 0
  | _ => 0

abbrev bufTy : (tb : Table) → Fin (tcTables nBuf tb) → BufTy
  | .hbm, ⟨0, _⟩ => ⟨S8x2048x2048, .f32⟩
  | .hbm, ⟨1, _⟩ => ⟨S8x2x5504, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S2048x11008, .bf16⟩
  | .hbm, ⟨6, _⟩ => ⟨S16384x2048, .f32⟩
  | .hbm, ⟨7, _⟩ => ⟨S16384x2048, .bf16⟩
  | .hbm, ⟨8, _⟩ => ⟨S2048x5504, .bf16⟩
  | .hbm, ⟨9, _⟩ => ⟨S_, .bf16⟩
  | .hbm, ⟨10, _⟩ => ⟨S2048x5632, .bf16⟩
  | .hbm, ⟨11, _⟩ => ⟨S2048x5504, .bf16⟩
  | .hbm, ⟨12, _⟩ => ⟨S_, .bf16⟩
  | .hbm, ⟨13, _⟩ => ⟨S2048x5632, .bf16⟩
  | .hbm, ⟨14, _⟩ => ⟨S_, .f32⟩
  | .hbm, ⟨15, _⟩ => ⟨S3x5632, .f32⟩
  | .hbm, ⟨16, _⟩ => ⟨S1x5504, .f32⟩
  | .hbm, ⟨17, _⟩ => ⟨S_, .f32⟩
  | .hbm, ⟨18, _⟩ => ⟨S1x5632, .f32⟩
  | .hbm, ⟨19, _⟩ => ⟨S_, .f32⟩
  | .hbm, ⟨20, _⟩ => ⟨S8x2x5632, .f32⟩
  | .hbm, ⟨21, _⟩ => ⟨S16384x5632, .bf16⟩
  | .hbm, ⟨22, _⟩ => ⟨S16x2x5632, .f32⟩
  | .hbm, ⟨23, _⟩ => ⟨S16384x5504, .bf16⟩
  | .hbm, ⟨24, _⟩ => ⟨S8x2x2x5632, .f32⟩
  | .hbm, ⟨25, _⟩ => ⟨S8x1x2x5504, .f32⟩
  | .hbm, ⟨26, _⟩ => ⟨S8x2x5504, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x2x512, .f32⟩
  | .local _ .vmem, ⟨11, _⟩ => ⟨S1x2x512, .f32⟩
  | .local _ .vmem, ⟨12, _⟩ => ⟨S1024x512, .bf16⟩
  | .local _ .vmem, ⟨13, _⟩ => ⟨S1024x512, .bf16⟩
  | .local _ .vmem, ⟨14, _⟩ => ⟨S1x2x512, .f32⟩
  | .local _ .vmem, ⟨15, _⟩ => ⟨S1x2x512, .f32⟩
  | .local _ .vmem, ⟨16, _⟩ => ⟨S11x2x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v742 : Index := Scalar.indexCast arg1
  let c0_297 : Index := 0#32
  let c0_298 : Index := 0#32
  ![v742.toNat, 0, 0]
def k0_off2 (i : grid0.Coords) : Fin 3 → Nat :=
  let arg1 : BitVec 32 := BitVec.ofNat 32 (i 1).val
  let v124 : Index := Scalar.indexCast arg1
  let c0_91 : Index := 0#32
  let c0_92 : Index := 0#32
  ![v124.toNat, 0, 0]
def k0_off3 (i : grid0.Coords) : Fin 3 → Nat :=
  let arg1 : BitVec 32 := BitVec.ofNat 32 (i 1).val
  let v447 : Index := Scalar.indexCast arg1
  let c0_198 : Index := 0#32
  let c256_199 : Index := 256#32
  ![v447.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpReferenceIdeal.lean ====
abbrev S8x2048x2048 : Shape := ⟨3, ![8, 2048, 2048]⟩
abbrev S8x2x5504 : Shape := ⟨3, ![8, 2, 5504]⟩
abbrev S2048x11008 : Shape := ⟨2, ![2048, 11008]⟩
abbrev S3x5504 : Shape := ⟨2, ![3, 5504]⟩
abbrev S5504 : Shape := ⟨1, ![5504]⟩
abbrev S8x2048x11008 : Shape := ⟨3, ![8, 2048, 11008]⟩
abbrev S8x2048x5504 : Shape := ⟨3, ![8, 2048, 5504]⟩
abbrev S8x2050x5504 : Shape := ⟨3, ![8, 2050, 5504]⟩
abbrev S1x5504 : Shape := ⟨2, ![1, 5504]⟩
abbrev S1x1x5504 : Shape := ⟨3, ![1, 1, 5504]⟩
abbrev S_ : Shape := ⟨0, ![]⟩
abbrev S16384x5504 : Shape := ⟨2, ![16384, 5504]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2x5504, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S8x2048x11008, .f32⟩
  | .hbm, ⟨6, _⟩ => ⟨S8x2048x5504, .f32⟩
  | .hbm, ⟨7, _⟩ => ⟨S8x2048x5504, .f32⟩
  | .hbm, ⟨8, _⟩ => ⟨S8x2050x5504, .f32⟩
  | .hbm, ⟨9, _⟩ => ⟨S8x2048x5504, .f32⟩
  | .hbm, ⟨10, _⟩ => ⟨S1x5504, .f32⟩
  | .hbm, ⟨11, _⟩ => ⟨S5504, .f32⟩
  | .hbm, ⟨12, _⟩ => ⟨S1x1x5504, .f32⟩
  | .hbm, ⟨13, _⟩ => ⟨S8x2048x5504, .f32⟩
  | .hbm, ⟨14, _⟩ => ⟨S8x2048x5504, .f32⟩
  | .hbm, ⟨15, _⟩ => ⟨S_, .f32⟩
  | .hbm, ⟨16, _⟩ => ⟨S8x2048x5504, .f32⟩
  | .hbm, ⟨17, _⟩ => ⟨S8x2048x5504, .f32⟩
  | .hbm, ⟨18, _⟩ => ⟨S8x2048x5504, .f32⟩
  | .hbm, ⟨19, _⟩ => ⟨S1x5504, .f32⟩
  | .hbm, ⟨20, _⟩ => ⟨S5504, .f32⟩
  | .hbm, ⟨21, _⟩ => ⟨S1x1x5504, .f32⟩
  | .hbm, ⟨22, _⟩ => ⟨S8x2048x5504, .f32⟩
  | .hbm, ⟨23, _⟩ => ⟨S8x2048x5504, .f32⟩
  | .hbm, ⟨24, _⟩ => ⟨S8x2048x5504, .f32⟩
  | .hbm, ⟨25, _⟩ => ⟨S8x2048x5504, .f32⟩
  | .hbm, ⟨26, _⟩ => ⟨S1x5504, .f32⟩
  | .hbm, ⟨27, _⟩ => ⟨S5504, .f32⟩
  | .hbm, ⟨28, _⟩ => ⟨S1x1x5504, .f32⟩
  | .hbm, ⟨29, _⟩ => ⟨S8x2048x5504, .f32⟩
  | .hbm, ⟨30, _⟩ => ⟨S8x2048x5504, .f32⟩
  | .hbm, ⟨31, _⟩ => ⟨S8x2048x5504, .f32⟩
  | .hbm, ⟨32, _⟩ => ⟨S1x1x5504, .f32⟩
  | .hbm, ⟨33, _⟩ => ⟨S8x2048x5504, .f32⟩
  | .hbm, ⟨34, _⟩ => ⟨S8x2048x5504, .f32⟩
  | .hbm, ⟨35, _⟩ => ⟨S_, .f32⟩
  | .hbm, ⟨36, _⟩ => ⟨S8x2048x5504, .f32⟩
  | .hbm, ⟨37, _⟩ => ⟨S8x2048x5504, .f32⟩
  | .hbm, ⟨38, _⟩ => ⟨S_, .f32⟩
  | .hbm, ⟨39, _⟩ => ⟨S8x2048x5504, .f32⟩
  | .hbm, ⟨40, _⟩ => ⟨S8x2048x5504, .f32⟩
  | .hbm, ⟨41, _⟩ => ⟨S8x2048x5504, .f32⟩
  | .hbm, ⟨42, _⟩ => ⟨S_, .f32⟩
  | .hbm, ⟨43, _⟩ => ⟨S8x2048x5504, .f32⟩
  | .hbm, ⟨44, _⟩ => ⟨S8x2048x5504, .f32⟩
  | .hbm, ⟨45, _⟩ => ⟨S8x2048x5504, .f32⟩
  | .hbm, ⟨46, _⟩ => ⟨S8x2048x5504, .f32⟩
  | .hbm, ⟨47, _⟩ => ⟨S8x2048x5504, .bf16⟩
  | .hbm, ⟨48, _⟩ => ⟨S16384x5504, .bf16⟩
  | .hbm, ⟨49, _⟩ => ⟨S8x2x5504, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Out.lean ====
abbrev S32x32x2048 : Shape := ⟨3, ![32, 32, 2048]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S2048x1024 : Shape := ⟨2, ![2048, 1024]⟩
abbrev S1024x1024 : Shape := ⟨2, ![1024, 1024]⟩
abbrev S2x1024x1024 : Shape := ⟨3, ![2, 1024, 1024]⟩
abbrev S1x1024x1024 : Shape := ⟨3, ![1, 1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S32x32x2048, .f32⟩
  | .hbm, ⟨1, _⟩ => ⟨S32x32x2048, .f32⟩
  | .hbm, ⟨2, _⟩ => ⟨S2048x2048, .f32⟩
  | .hbm, ⟨3, _⟩ => ⟨S2048, .f32⟩
  | .hbm, ⟨4, _⟩ => ⟨S1024x2048, .f32⟩
  | .hbm, ⟨5, _⟩ => ⟨S1024x2048, .bf16⟩
  | .hbm, ⟨6, _⟩ => ⟨S2048x2048, .bf16⟩
  | .hbm, ⟨7, _⟩ => ⟨S1024x2048, .f32⟩
  | .hbm, ⟨8, _⟩ => ⟨S1x2048, .f32⟩
  | .hbm, ⟨9, _⟩ => ⟨S1024x2048, .f32⟩
  | .hbm, ⟨10, _⟩ => ⟨S1024x2048, .bf16⟩
  | .local _ .vmem, ⟨0, _⟩ => ⟨S1024x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x2048, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S2x1024x1024, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 2], ![false, false]⟩

def k0_off1 (i : grid0.Coords) : Fin 3 → Nat :=
  let arg1 : BitVec 32 := BitVec.ofNat 32 (i 1).val
  let v9 : Index := Scalar.indexCast arg1
  let c0_7 : Index := 0#32
  let c0_8 : Index := 0#32
  ![v9.toNat, 0, 0]
def k0_cond1 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32 : BitVec 32 := 0#32
  let v15 : BitVec 1 := Scalar.cmpi .ne v14 c0_i32
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== OutReferenceIdeal.lean ====
abbrev S32x32x2048 : Shape := ⟨3, ![32, 32, 2048]⟩
abbrev S2048x2048 : Shape := ⟨2, ![2048, 2048]⟩
abbrev S2048 : Shape := ⟨1, ![2048]⟩
abbrev S_ : Shape := ⟨0, ![]⟩
abbrev S32x32 : Shape := ⟨2, ![32, 32]⟩
abbrev S32x32x1 : Shape := ⟨3, ![32, 32, 1]⟩
abbrev S1x1x2048 : Shape := ⟨3, ![1, 1, 2048]⟩
abbrev S1024x2048 : Shape := ⟨2, ![1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S32x32x2048, .f32⟩
  | .hbm, ⟨2, _⟩ => ⟨S2048x2048, .f32⟩
  | .hbm, ⟨3, _⟩ => ⟨S2048, .f32⟩
  | .hbm, ⟨4, _⟩ => ⟨S32x32x2048, .f32⟩
  | .hbm, ⟨5, _⟩ => ⟨S32x32x2048, .f32⟩
  | .hbm, ⟨6, _⟩ => ⟨S32x32x2048, .f32⟩
  | .hbm, ⟨7, _⟩ => ⟨S_, .f32⟩
  | .hbm, ⟨8, _⟩ => ⟨S32x32, .f32⟩
  | .hbm, ⟨9, _⟩ => ⟨S32x32x1, .f32⟩
  | .hbm, ⟨10, _⟩ => ⟨S_, .f32⟩
  | .hbm, ⟨11, _⟩ => ⟨S32x32x1, .f32⟩
  | .hbm, ⟨12, _⟩ => ⟨S32x32x1, .f32⟩
  | .hbm, ⟨13, _⟩ => ⟨S_, .f32⟩
  | .hbm, ⟨14, _⟩ => ⟨S32x32x1, .f32⟩
  | .hbm, ⟨15, _⟩ => ⟨S32x32x1, .f32⟩
  | .hbm, ⟨16, _⟩ => ⟨S32x32x1, .f32⟩
  | .hbm, ⟨17, _⟩ => ⟨S32x32x2048, .f32⟩
  | .hbm, ⟨18, _⟩ => ⟨S32x32x2048, .f32⟩
  | .hbm, ⟨19, _⟩ => ⟨S1x1x2048, .f32⟩
  | .hbm, ⟨20, _⟩ => ⟨S32x32x2048, .f32⟩
  | .hbm, ⟨21, _⟩ => ⟨S32x32x2048, .f32⟩
  | .hbm, ⟨22, _⟩ => ⟨S1024x2048, .f32⟩
  | .hbm, ⟨23, _⟩ => ⟨S32x32x2048, .bf16⟩
  | .hbm, ⟨24, _⟩ => ⟨S1024x2048, .bf16⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Keys.lean ====
abbrev S8x256x2048 : Shape := ⟨3, ![8, 256, 2048]⟩
abbrev S2048x2048 : Shape := ⟨2, ![2048, 2048]⟩
abbrev S256 : Shape := ⟨1, ![256]⟩
abbrev S1x256 : Shape := ⟨2, ![1, 256]⟩
abbrev S2048x1024 : Shape := ⟨2, ![2048, 1024]⟩
abbrev S1024x2048 : Shape := ⟨2, ![1024, 2048]⟩
abbrev S2048x512 : Shape := ⟨2, ![2048, 512]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S8x256x2048, .f32⟩
  | .hbm, ⟨1, _⟩ => ⟨S2048x2048, .f32⟩
  | .hbm, ⟨2, _⟩ => ⟨S256, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S1x256, .f32⟩
  | .hbm, ⟨7, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x256, .f32⟩
  | .local _ .vmem, ⟨5, _⟩ => ⟨S1024x512, .f32⟩
  | .local _ .vmem, ⟨6, _⟩ => ⟨S1024x512, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KeysReferenceIdeal.lean ====
abbrev S8x256x2048 : Shape := ⟨3, ![8, 256, 2048]⟩
abbrev S2048x2048 : Shape := ⟨2, ![2048, 2048]⟩
abbrev S256 : Shape := ⟨1, ![256]⟩
abbrev S8x256x1024 : Shape := ⟨3, ![8, 256, 1024]⟩
abbrev S8x256x4x256 : Shape := ⟨4, ![8, 256, 4, 256]⟩
abbrev S_ : Shape := ⟨0, ![]⟩
abbrev S8x256x4 : Shape := ⟨3, ![8, 256, 4]⟩
abbrev S8x256x4x1 : Shape := ⟨4, ![8, 256, 4, 1]⟩
abbrev S1x1x1x256 : Shape := ⟨4, ![1, 1, 1, 256]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048x2048, .f32⟩
  | .hbm, ⟨2, _⟩ => ⟨S256, .f32⟩
  | .hbm, ⟨3, _⟩ => ⟨S8x256x2048, .f32⟩
  | .hbm, ⟨4, _⟩ => ⟨S8x256x1024, .f32⟩
  | .hbm, ⟨5, _⟩ => ⟨S8x256x1024, .f32⟩
  | .hbm, ⟨6, _⟩ => ⟨S8x256x4x256, .f32⟩
  | .hbm, ⟨7, _⟩ => ⟨S8x256x4x256, .f32⟩
  | .hbm, ⟨8, _⟩ => ⟨S_, .f32⟩
  | .hbm, ⟨9, _⟩ => ⟨S8x256x4, .f32⟩
  | .hbm, ⟨10, _⟩ => ⟨S8x256x4x1, .f32⟩
  | .hbm, ⟨11, _⟩ => ⟨S_, .f32⟩
  | .hbm, ⟨12, _⟩ => ⟨S8x256x4x1, .f32⟩
  | .hbm, ⟨13, _⟩ => ⟨S8x256x4x1, .f32⟩
  | .hbm, ⟨14, _⟩ => ⟨S_, .f32⟩
  | .hbm, ⟨15, _⟩ => ⟨S8x256x4x1, .f32⟩
  | .hbm, ⟨16, _⟩ => ⟨S8x256x4x1, .f32⟩
  | .hbm, ⟨17, _⟩ => ⟨S8x256x4x1, .f32⟩
  | .hbm, ⟨18, _⟩ => ⟨S8x256x4x256, .f32⟩
  | .hbm, ⟨19, _⟩ => ⟨S8x256x4x256, .f32⟩
  | .hbm, ⟨20, _⟩ => ⟨S1x1x1x256, .f32⟩
  | .hbm, ⟨21, _⟩ => ⟨S8x256x4x256, .f32⟩
  | .hbm, ⟨22, _⟩ => ⟨S8x256x4x256, .f32⟩
  | .hbm, ⟨23, _⟩ => ⟨S2048x1024, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Values.lean ====
abbrev S8x256x2048 : Shape := ⟨3, ![8, 256, 2048]⟩
abbrev S2048x2048 : Shape := ⟨2, ![2048, 2048]⟩
abbrev S2048x1024 : Shape := ⟨2, ![2048, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8x256x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesReferenceIdeal.lean ====
abbrev S8x256x2048 : Shape := ⟨3, ![8, 256, 2048]⟩
abbrev S2048x2048 : Shape := ⟨2, ![2048, 2048]⟩
abbrev S8x256x1024 : Shape := ⟨3, ![8, 256, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048x2048, .f32⟩
  | .hbm, ⟨2, _⟩ => ⟨S8x256x2048, .f32⟩
  | .hbm, ⟨3, _⟩ => ⟨S8x256x1024, .f32⟩
  | .hbm, ⟨4, _⟩ => ⟨S8x256x1024, .f32⟩
  | .hbm, ⟨5, _⟩ => ⟨S2048x1024, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Cross.lean ====
abbrev S8x2048x4x256 : Shape := ⟨4, ![8, 2048, 4, 256]⟩
abbrev S8x256x4x256 : Shape := ⟨4, ![8, 256, 4, 256]⟩
abbrev S16384x1024 : Shape := ⟨2, ![16384, 1024]⟩
abbrev S2048x1024 : Shape := ⟨2, ![2048, 1024]⟩
abbrev S8x2048x1024 : Shape := ⟨3, ![8, 2048, 1024]⟩
abbrev S8x256x1024 : Shape := ⟨3, ![8, 256, 1024]⟩
abbrev S1x512x1024 : Shape := ⟨3, ![1, 512, 1024]⟩
abbrev S1x256x1024 : Shape := ⟨3, ![1, 256, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x4x256, .f32⟩
  | .hbm, ⟨1, _⟩ => ⟨S8x256x4x256, .f32⟩
  | .hbm, ⟨2, _⟩ => ⟨S8x256x4x256, .f32⟩
  | .hbm, ⟨3, _⟩ => ⟨S16384x1024, .f32⟩
  | .hbm, ⟨4, _⟩ => ⟨S16384x1024, .bf16⟩
  | .hbm, ⟨5, _⟩ => ⟨S2048x1024, .f32⟩
  | .hbm, ⟨6, _⟩ => ⟨S2048x1024, .f32⟩
  | .hbm, ⟨7, _⟩ => ⟨S8x2048x1024, .bf16⟩
  | .hbm, ⟨8, _⟩ => ⟨S8x256x1024, .f32⟩
  | .hbm, ⟨9, _⟩ => ⟨S8x256x1024, .f32⟩
  | .hbm, ⟨10, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x512x1024, .bf16⟩
  | .local _ .vmem, ⟨7, _⟩ => ⟨S1x512x1024, .bf16⟩
  | _, _ => ⟨S8x2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossReferenceIdeal.lean ====
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048x1024 : Shape := ⟨3, ![8, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x4x256, .f32⟩
  | .hbm, ⟨1, _⟩ => ⟨S8x256x4x256, .f32⟩
  | .hbm, ⟨2, _⟩ => ⟨S8x256x4x256, .f32⟩
  | .hbm, ⟨3, _⟩ => ⟨S8x4x2048x256, .f32⟩
  | .hbm, ⟨4, _⟩ => ⟨S_, .f32⟩
  | .hbm, ⟨5, _⟩ => ⟨S8x4x2048x256, .f32⟩
  | .hbm, ⟨6, _⟩ => ⟨S8x4x2048x256, .f32⟩
  | .hbm, ⟨7, _⟩ => ⟨S_, .f32⟩
  | .hbm, ⟨8, _⟩ => ⟨S8x4x2048, .f32⟩
  | .hbm, ⟨9, _⟩ => ⟨S_, .f32⟩
  | .hbm, ⟨10, _⟩ => ⟨S8x4x2048, .f32⟩
  | .hbm, ⟨11, _⟩ => ⟨S8x4x2048, .f32⟩
  | .hbm, ⟨12, _⟩ => ⟨S8x4x2048x1, .f32⟩
  | .hbm, ⟨13, _⟩ => ⟨S8x4x2048x256, .f32⟩
  | .hbm, ⟨14, _⟩ => ⟨S8x4x2048x256, .f32⟩
  | .hbm, ⟨15, _⟩ => ⟨S8x4x2048x256, .f32⟩
  | .hbm, ⟨16, _⟩ => ⟨S_, .f32⟩
  | .hbm, ⟨17, _⟩ => ⟨S8x4x2048, .f32⟩
  | .hbm, ⟨18, _⟩ => ⟨S8x4x2048x1, .f32⟩
  | .hbm, ⟨19, _⟩ => ⟨S8x4x2048x256, .f32⟩
  | .hbm, ⟨20, _⟩ => ⟨S8x4x2048x256, .f32⟩
  | .hbm, ⟨21, _⟩ => ⟨S8x4x256x2048, .f32⟩
  | .hbm, ⟨22, _⟩ => ⟨S8x2048x4x256, .f32⟩
  | .hbm, ⟨23, _⟩ => ⟨S8x2048x1024, .f32⟩
  | .hbm, ⟨24, _⟩ => ⟨S8x2048x1024, .bf16⟩
  | _, _ => ⟨S8x2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DownSample.lean ====
abbrev S32x32x2048 : Shape := ⟨3, ![32, 32, 2048]⟩
abbrev S32x32x5504 : Shape := ⟨3, ![32, 32, 5504]⟩
abbrev S5504x2048 : Shape := ⟨2, ![5504, 2048]⟩
abbrev S1024x5504 : Shape := ⟨2, ![1024, 5504]⟩
abbrev S_ : Shape := ⟨0, ![]⟩
abbrev S1024x5632 : Shape := ⟨2, ![1024, 5632]⟩
abbrev S5632x2048 : Shape := ⟨2, ![5632, 2048]⟩
abbrev S1024x2048 : Shape := ⟨2, ![1024, 2048]⟩
abbrev S5632x512 : Shape := ⟨2, ![5632, 512]⟩
abbrev S1024x512 : Shape := ⟨2, ![1024, 512]⟩

abbrev nBuf : Space → Nat
  | .hbm => 12
  | .vmem => 7
  | .smem => 0
  | _ => 0

abbrev bufTy : (tb : Table) → Fin (tcTables nBuf tb) → BufTy
  | .hbm, ⟨0, _⟩ => ⟨S32x32x2048, .f32⟩
  | .hbm, ⟨1, _⟩ => ⟨S32x32x5504, .f32⟩
  | .hbm, ⟨2, _⟩ => ⟨S5504x2048, .f32⟩
  | .hbm, ⟨3, _⟩ => ⟨S1024x5504, .f32⟩
  | .hbm, ⟨4, _⟩ => ⟨S1024x5504, .bf16⟩
  | .hbm, ⟨5, _⟩ => ⟨S_, .bf16⟩
  | .hbm, ⟨6, _⟩ => ⟨S1024x5632, .bf16⟩
  | .hbm, ⟨7, _⟩ => ⟨S5504x2048, .bf16⟩
  | .hbm, ⟨8, _⟩ => ⟨S_, .bf16⟩
  | .hbm, ⟨9, _⟩ => ⟨S5632x2048, .bf16⟩
  | .hbm, ⟨10, _⟩ => ⟨S1024x2048, .f32⟩
  | .hbm, ⟨11, _⟩ => ⟨S1024x2048, .f32⟩
  | .local _ .vmem, ⟨0, _⟩ => ⟨S1024x5632, .bf16⟩
  | .local _ .vmem, ⟨1, _⟩ => ⟨S5632x512, .bf16⟩
  | .local _ .vmem, ⟨2, _⟩ => ⟨S5632x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownSampleReferenceIdeal.lean ====
abbrev S32x32x2048 : Shape := ⟨3, ![32, 32, 2048]⟩
abbrev S32x32x5504 : Shape := ⟨3, ![32, 32, 5504]⟩
abbrev S5504x2048 : Shape := ⟨2, ![5504, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S32x32x5504, .f32⟩
  | .hbm, ⟨2, _⟩ => ⟨S5504x2048, .f32⟩
  | .hbm, ⟨3, _⟩ => ⟨S32x32x2048, .f32⟩
  | .hbm, ⟨4, _⟩ => ⟨S32x32x2048, .f32⟩
  | .hbm, ⟨5, _⟩ => ⟨S1024x2048, .f32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpSample.lean ====
abbrev S32x32x2048 : Shape := ⟨3, ![32, 32, 2048]⟩
abbrev S32x2x5504 : Shape := ⟨3, ![32, 2, 5504]⟩
abbrev S2048x11008 : Shape := ⟨2, ![2048, 11008]⟩
abbrev S3x5504 : Shape := ⟨2, ![3, 5504]⟩
abbrev S5504 : Shape := ⟨1, ![5504]⟩
abbrev S1024x2048 : Shape := ⟨2, ![1024, 2048]⟩
abbrev S2048x5504 : Shape := ⟨2, ![2048, 5504]⟩
abbrev S_ : Shape := ⟨0, ![]⟩
abbrev S2048x5632 : Shape := ⟨2, ![2048, 5632]⟩
abbrev S3x5632 : Shape := ⟨2, ![3, 5632]⟩
abbrev S1x5504 : Shape := ⟨2, ![1, 5504]⟩
abbrev S1x5632 : Shape := ⟨2, ![1, 5632]⟩
abbrev S32x2x5632 : Shape := ⟨3, ![32, 2, 5632]⟩
abbrev S1024x5632 : Shape := ⟨2, ![1024, 5632]⟩
abbrev S2048x512 : Shape := ⟨2, ![2048, 512]⟩
abbrev S3x512 : Shape := ⟨2, ![3, 512]⟩
abbrev S1x512 : Shape := ⟨2, ![1, 512]⟩
abbrev S32x2x512 : Shape := ⟨3, ![32, 2, 512]⟩
abbrev S1024x512 : Shape := ⟨2, ![1024, 512]⟩
abbrev S11x2x512 : Shape := ⟨3, ![11, 2, 512]⟩
abbrev S32x32x256 : Shape := ⟨3, ![32, 32, 256]⟩
abbrev S1024x256 : Shape := ⟨2, ![1024, 256]⟩
abbrev S2048x256 : Shape := ⟨2, ![2048, 256]⟩
abbrev S32x2x256 : Shape := ⟨3, ![32, 2, 256]⟩
abbrev S32x1x256 : Shape := ⟨3, ![32, 1, 256]⟩
abbrev S3x256 : Shape := ⟨2, ![3, 256]⟩
abbrev S1x256 : Shape := ⟨2, ![1, 256]⟩
abbrev S1024x5504 : Shape := ⟨2, ![1024, 5504]⟩

abbrev nBuf : Space → Nat
  | .hbm => 25
  | .vmem => 16
  | .smem => 0
  | _ => 0

abbrev bufTy : (tb : Table) → Fin (tcTables nBuf tb) → BufTy
  | .hbm, ⟨0, _⟩ => ⟨S32x32x2048, .f32⟩
  | .hbm, ⟨1, _⟩ => ⟨S32x2x5504, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S2048x11008, .bf16⟩
  | .hbm, ⟨6, _⟩ => ⟨S1024x2048, .f32⟩
  | .hbm, ⟨7, _⟩ => ⟨S1024x2048, .bf16⟩
  | .hbm, ⟨8, _⟩ => ⟨S2048x5504, .bf16⟩
  | .hbm, ⟨9, _⟩ => ⟨S_, .bf16⟩
  | .hbm, ⟨10, _⟩ => ⟨S2048x5632, .bf16⟩
  | .hbm, ⟨11, _⟩ => ⟨S2048x5504, .bf16⟩
  | .hbm, ⟨12, _⟩ => ⟨S_, .bf16⟩
  | .hbm, ⟨13, _⟩ => ⟨S2048x5632, .bf16⟩
  | .hbm, ⟨14, _⟩ => ⟨S_, .f32⟩
  | .hbm, ⟨15, _⟩ => ⟨S3x5632, .f32⟩
  | .hbm, ⟨16, _⟩ => ⟨S1x5504, .f32⟩
  | .hbm, ⟨17, _⟩ => ⟨S_, .f32⟩
  | .hbm, ⟨18, _⟩ => ⟨S1x5632, .f32⟩
  | .hbm, ⟨19, _⟩ => ⟨S_, .f32⟩
  | .hbm, ⟨20, _⟩ => ⟨S32x2x5632, .f32⟩
  | .hbm, ⟨21, _⟩ => ⟨S1024x5632, .bf16⟩
  | .hbm, ⟨22, _⟩ => ⟨S32x2x5632, .f32⟩
  | .hbm, ⟨23, _⟩ => ⟨S1024x5504, .bf16⟩
  | .hbm, ⟨24, _⟩ => ⟨S32x2x5504, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x512, .f32⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S32x2x512, .f32⟩
  | .local _ .vmem, ⟨10, _⟩ => ⟨S32x2x512, .f32⟩
  | .local _ .vmem, ⟨11, _⟩ => ⟨S1024x512, .bf16⟩
  | .local _ .vmem, ⟨12, _⟩ => ⟨S1024x512, .bf16⟩
  | .local _ .vmem, ⟨13, _⟩ => ⟨S32x2x512, .f32⟩
  | .local _ .vmem, ⟨14, _⟩ => ⟨S32x2x512, .f32⟩
  | .local _ .vmem, ⟨15, _⟩ => ⟨S11x2x512, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpSampleReferenceIdeal.lean ====
abbrev S32x32x2048 : Shape := ⟨3, ![32, 32, 2048]⟩
abbrev S32x2x5504 : Shape := ⟨3, ![32, 2, 5504]⟩
abbrev S2048x11008 : Shape := ⟨2, ![2048, 11008]⟩
abbrev S3x5504 : Shape := ⟨2, ![3, 5504]⟩
abbrev S5504 : Shape := ⟨1, ![5504]⟩
abbrev S32x32x11008 : Shape := ⟨3, ![32, 32, 11008]⟩
abbrev S32x32x5504 : Shape := ⟨3, ![32, 32, 5504]⟩
abbrev S32x34x5504 : Shape := ⟨3, ![32, 34, 5504]⟩
abbrev S1x5504 : Shape := ⟨2, ![1, 5504]⟩
abbrev S1x1x5504 : Shape := ⟨3, ![1, 1, 5504]⟩
abbrev S_ : Shape := ⟨0, ![]⟩
abbrev S1024x5504 : Shape := ⟨2, ![1024, 5504]⟩

abbrev nBuf : Space → Nat
  | .hbm => 50
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S32x2x5504, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S32x32x11008, .f32⟩
  | .hbm, ⟨6, _⟩ => ⟨S32x32x5504, .f32⟩
  | .hbm, ⟨7, _⟩ => ⟨S32x32x5504, .f32⟩
  | .hbm, ⟨8, _⟩ => ⟨S32x34x5504, .f32⟩
  | .hbm, ⟨9, _⟩ => ⟨S32x32x5504, .f32⟩
  | .hbm, ⟨10, _⟩ => ⟨S1x5504, .f32⟩
  | .hbm, ⟨11, _⟩ => ⟨S5504, .f32⟩
  | .hbm, ⟨12, _⟩ => ⟨S1x1x5504, .f32⟩
  | .hbm, ⟨13, _⟩ => ⟨S32x32x5504, .f32⟩
  | .hbm, ⟨14, _⟩ => ⟨S32x32x5504, .f32⟩
  | .hbm, ⟨15, _⟩ => ⟨S_, .f32⟩
  | .hbm, ⟨16, _⟩ => ⟨S32x32x5504, .f32⟩
  | .hbm, ⟨17, _⟩ => ⟨S32x32x5504, .f32⟩
  | .hbm, ⟨18, _⟩ => ⟨S32x32x5504, .f32⟩
  | .hbm, ⟨19, _⟩ => ⟨S1x5504, .f32⟩
  | .hbm, ⟨20, _⟩ => ⟨S5504, .f32⟩
  | .hbm, ⟨21, _⟩ => ⟨S1x1x5504, .f32⟩
  | .hbm, ⟨22, _⟩ => ⟨S32x32x5504, .f32⟩
  | .hbm, ⟨23, _⟩ => ⟨S32x32x5504, .f32⟩
  | .hbm, ⟨24, _⟩ => ⟨S32x32x5504, .f32⟩
  | .hbm, ⟨25, _⟩ => ⟨S32x32x5504, .f32⟩
  | .hbm, ⟨26, _⟩ => ⟨S1x5504, .f32⟩
  | .hbm, ⟨27, _⟩ => ⟨S5504, .f32⟩
  | .hbm, ⟨28, _⟩ => ⟨S1x1x5504, .f32⟩
  | .hbm, ⟨29, _⟩ => ⟨S32x32x5504, .f32⟩
  | .hbm, ⟨30, _⟩ => ⟨S32x32x5504, .f32⟩
  | .hbm, ⟨31, _⟩ => ⟨S32x32x5504, .f32⟩
  | .hbm, ⟨32, _⟩ => ⟨S1x1x5504, .f32⟩
  | .hbm, ⟨33, _⟩ => ⟨S32x32x5504, .f32⟩
  | .hbm, ⟨34, _⟩ => ⟨S32x32x5504, .f32⟩
  | .hbm, ⟨35, _⟩ => ⟨S_, .f32⟩
  | .hbm, ⟨36, _⟩ => ⟨S32x32x5504, .f32⟩
  | .hbm, ⟨37, _⟩ => ⟨S32x32x5504, .f32⟩
  | .hbm, ⟨38, _⟩ => ⟨S_, .f32⟩
  | .hbm, ⟨39, _⟩ => ⟨S32x32x5504, .f32⟩
  | .hbm, ⟨40, _⟩ => ⟨S32x32x5504, .f32⟩
  | .hbm, ⟨41, _⟩ => ⟨S32x32x5504, .f32⟩
  | .hbm, ⟨42, _⟩ => ⟨S_, .f32⟩
  | .hbm, ⟨43, _⟩ => ⟨S32x32x5504, .f32⟩
  | .hbm, ⟨44, _⟩ => ⟨S32x32x5504, .f32⟩
  | .hbm, ⟨45, _⟩ => ⟨S32x32x5504, .f32⟩
  | .hbm, ⟨46, _⟩ => ⟨S32x32x5504, .f32⟩
  | .hbm, ⟨47, _⟩ => ⟨S32x32x5504, .bf16⟩
  | .hbm, ⟨48, _⟩ => ⟨S1024x5504, .bf16⟩
  | .hbm, ⟨49, _⟩ => ⟨S32x2x5504, .f32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Proof.Softmax.lean ====
/- The mathematics of one attention row over the extended reals: a row of scores that is streamed span by span with
   powers of two gives the same quotient as the exponential softmax of the whole row. No program appears here. -/
module

public import Idealize.ShloMosaic.Lib.Pointwise

@[expose] public section

noncomputable section

namespace Cert.Softmax

open Idealize.ShloMosaic

/-- A finite extended real is the real number it stands for. -/
theorem coe_of_finite {x : EReal} (h₁ : x ≠ ⊥) (h₂ : x ≠ ⊤) : x = ((x.toReal : ℝ) : EReal) :=
  (EReal.coe_toReal h₂ h₁).symm

/-- A finite sum of reals, taken in the extended reals. -/
theorem coe_sum {ι : Type*} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The greatest of finitely many scores, none infinite above and one of them real, is real. -/
theorem fold_max_real {ι : Type*} [Fintype ι] (s : ι → EReal) (hs : ∀ i, s i ≠ ⊤) (i₀ : ι) (h₀ : s i₀ ≠ ⊥) :
    ∃ M : ℝ, Finset.univ.fold max ⊥ s = (M : EReal) := by
  have hle : s i₀ ≤ Finset.univ.fold max ⊥ s :=
    (Finset.le_fold_max (s i₀)).2 (Or.inr ⟨i₀, Finset.mem_univ _, le_rfl⟩)
  have htop : Finset.univ.fold max ⊥ s ≠ ⊤ := by
    have : Finset.univ.fold max ⊥ s < ⊤ :=
      (Finset.fold_max_lt ⊤).2 ⟨bot_lt_top, fun i _ => lt_top_iff_ne_top.2 (hs i)⟩
    exact this.ne
  have hbot : Finset.univ.fold max ⊥ s ≠ ⊥ := fun h => h₀ (le_bot_iff.1 (h ▸ hle))
  exact ⟨_, coe_of_finite hbot htop⟩

/-- The weight of a score: two to that power, and nothing for a masked score. -/
def wt (s : EReal) : ℝ := (Ideal.exp2 s).toReal

@[simp] theorem wt_bot : wt ⊥ = 0 := (EReal.toReal_zero : EReal.toReal 0 = 0)

theorem wt_coe (x : ℝ) : wt (x : EReal) = (2 : ℝ) ^ x := rfl

/-- A power of two of a score shifted by a real number is the score's weight, rescaled. -/
theorem exp2_sub (s : EReal) (hs : s ≠ ⊤) (M : ℝ) :
    Ideal.exp2 (s - (M : EReal)) = ((wt s * (2 : ℝ) ^ (-M) : ℝ) : EReal) := by
  induction s using EReal.rec with
  | bot => rw [EReal.bot_sub, wt_bot, zero_mul]; rfl
  | top => exact absurd rfl hs
  | coe x =>
    rw [← EReal.coe_sub, wt_coe, ← Real.rpow_add (by norm_num)]
    rfl

/-- The first span of a streamed row: the running maximum becomes real, and the accumulator the weighted sum of the
    span's values, rescaled by that maximum. -/
theorem first {ι : Type*} [Fintype ι] (s : ι → EReal) (hs : ∀ i, s i ≠ ⊤) (i₀ : ι) (h₀ : s i₀ ≠ ⊥) :
    ∃ M : ℝ, max ⊥ (Finset.univ.fold max ⊥ s) = (M : EReal) ∧ ∀ (a : EReal) (v : ι → ℝ),
      a = Ideal.exp2 (⊥ - max ⊥ (Finset.univ.fold max ⊥ s)) * 0
        + ∑ i, Ideal.exp2 (s i - max ⊥ (Finset.univ.fold max ⊥ s)) * (v i : EReal) →
      a = (((2 : ℝ) ^ (-M) * ∑ i, wt (s i) * v i : ℝ) : EReal) := by
  obtain ⟨M, hM⟩ := fold_max_real s hs i₀ h₀
  have hM' : max ⊥ (Finset.univ.fold max ⊥ s) = (M : EReal) := by rw [max_eq_right bot_le, hM]
  refine ⟨M, hM', fun a v ha => ?_⟩
  rw [ha, hM', mul_zero, zero_add, Finset.mul_sum, ← coe_sum]
  refine Finset.sum_congr rfl fun i _ => ?_
  rw [exp2_sub _ (hs i), ← EReal.coe_mul]
  congr 1; ring

/-- A later span: the maximum stays real, and the accumulator gains the span's weighted sum. -/
theorem next {ι : Type*} [Fintype ι] (M : ℝ) (s : ι → EReal) (hs : ∀ i, s i ≠ ⊤) (i₀ : ι) (h₀ : s i₀ ≠ ⊥) :
    ∃ M' : ℝ, max (M : EReal) (Finset.univ.fold max ⊥ s) = (M' : EReal) ∧ ∀ (a : EReal) (A : ℝ) (v : ι → ℝ),
      a = Ideal.exp2 ((M : EReal) - max (M : EReal) (Finset.univ.fold max ⊥ s)) * (((2 : ℝ) ^ (-M) * A : ℝ) : EReal)
        + ∑ i, Ideal.exp2 (s i - max (M : EReal) (Finset.univ.fold max ⊥ s)) * (v i : EReal) →
      a = (((2 : ℝ) ^ (-M') * (A + ∑ i, wt (s i) * v i) : ℝ) : EReal) := by
  obtain ⟨N, hN⟩ := fold_max_real s hs i₀ h₀
  have hM' : max (M : EReal) (Finset.univ.fold max ⊥ s) = ((max M N : ℝ) : EReal) := by
    rw [hN]; exact (EReal.coe_strictMono.monotone.map_max).symm
  refine ⟨max M N, hM', fun a A v ha => ?_⟩
  rw [ha, hM', exp2_sub _ (EReal.coe_ne_top M), wt_coe, ← EReal.coe_mul, mul_add, EReal.coe_add]
  refine congrArg₂ (· + ·) ?_ ?_
  · congr 1
    have : (2 : ℝ) ^ M * (2 : ℝ) ^ (-M) = 1 := by rw [← Real.rpow_add (by norm_num)]; simp
    linear_combination (2 : ℝ) ^ (-(max M N)) * A * this
  · rw [Finset.mul_sum, ← coe_sum]
    refine Finset.sum_congr rfl fun i _ => ?_
    rw [exp2_sub _ (hs i), ← EReal.coe_mul]
    congr 1; ring

/-- The quotient of two accumulators with the same scale is the quotient of the weighted sums. -/
theorem quotient (M A B : ℝ) (hB : B ≠ 0) :
    Ideal.div (((2 : ℝ) ^ (-M) * A : ℝ) : EReal) (((2 : ℝ) ^ (-M) * B : ℝ) : EReal) = ((A / B : ℝ) : EReal) := by
  have h2 : (2 : ℝ) ^ (-M) ≠ 0 := (Real.rpow_pos_of_pos (by norm_num) _).ne'
  rw [Ideal.div, if_neg (by exact_mod_cast mul_ne_zero h2 hB), ← EReal.coe_inv, ← EReal.coe_mul]
  congr 1; field_simp

/-- A real quotient in the extended reals. -/
theorem div_coe (A B : ℝ) (hB : B ≠ 0) : Ideal.div (A : EReal) (B : EReal) = ((A / B : ℝ) : EReal) := by
  rw [Ideal.div, if_neg (by exact_mod_cast hB), ← EReal.coe_inv, ← EReal.coe_mul, div_eq_mul_inv]

/-- Exponential weight of a score: nothing for a masked score. -/
def ew (s : EReal) : ℝ := (Ideal.exp s).toReal

@[simp] theorem ew_bot : ew ⊥ = 0 := (EReal.toReal_zero : EReal.toReal 0 = 0)

theorem ew_coe (x : ℝ) : ew (x : EReal) = Real.exp x := rfl

theorem exp_sub (s : EReal) (hs : s ≠ ⊤) (M : ℝ) :
    Ideal.exp (s - (M : EReal)) = ((Real.exp (-M) * ew s : ℝ) : EReal) := by
  induction s using EReal.rec with
  | bot => rw [EReal.bot_sub, ew_bot, mul_zero]; rfl
  | top => exact absurd rfl hs
  | coe x =>
    rw [← EReal.coe_sub, ew_coe, ← Real.exp_add, neg_add_eq_sub]
    rfl

/-- The exponential softmax of a whole row, shifted by its maximum, is the plain quotient of weights. -/
theorem softmax {ι : Type*} [Fintype ι] (s : ι → EReal) (hs : ∀ i, s i ≠ ⊤) (i₀ : ι) (h₀ : s i₀ ≠ ⊥) (i : ι) :
    Ideal.div (Ideal.exp (s i - max ⊥ (Finset.univ.fold max ⊥ s)))
      (0 + ∑ j, Ideal.exp (s j - max ⊥ (Finset.univ.fold max ⊥ s)))
    = ((ew (s i) / ∑ j, ew (s j) : ℝ) : EReal) := by
  obtain ⟨M, hM⟩ := fold_max_real s hs i₀ h₀
  have hM' : max ⊥ (Finset.univ.fold max ⊥ s) = (M : EReal) := by rw [max_eq_right bot_le, hM]
  have hpos : 0 < ∑ j, ew (s j) := by
    refine Finset.sum_pos' (fun j _ => ?_) ⟨i₀, Finset.mem_univ _, ?_⟩
    · rcases eq_or_ne (s j) ⊥ with h | h
      · rw [h, ew_bot]
      · rw [coe_of_finite h (hs j), ew_coe]; positivity
    · rw [coe_of_finite h₀ (hs i₀), ew_coe]; positivity
  have hsum : (0 : EReal) + ∑ j, Ideal.exp (s j - (M : EReal)) = ((Real.exp (-M) * ∑ j, ew (s j) : ℝ) : EReal) := by
    rw [zero_add, Finset.mul_sum, ← coe_sum]
    exact Finset.sum_congr rfl fun j _ => exp_sub _ (hs j) M
  rw [hM', hsum, exp_sub _ (hs i), div_coe _ _ (mul_ne_zero (Real.exp_pos _).ne' hpos.ne')]
  congr 1
  rw [mul_div_mul_left _ _ (Real.exp_pos _).ne']

/-- A sum over a row of `2048` keys whose terms vanish past `q + 512` is the sum over the first `q` keys and the sum
    over the `512` keys of the diagonal block. -/
theorem sum_split (f : Fin 2048 → ℝ) (q : ℕ) (hq : q + 512 ≤ 2048) (hz : ∀ i : Fin 2048, q + 512 ≤ i.val → f i = 0) :
    ∑ i, f i = (∑ i : Fin q, f ⟨i.val, by omega⟩) + ∑ i : Fin 512, f ⟨q + i.val, by omega⟩ := by
  let F : ℕ → ℝ := fun n => if h : n < 2048 then f ⟨n, h⟩ else 0
  have h1 : ∑ i, f i = ∑ n ∈ Finset.range 2048, F n := by
    rw [Finset.sum_range]
    exact Finset.sum_congr rfl fun i _ => by simp [F]
  have h2 : ∑ n ∈ Finset.range 2048, F n = ∑ n ∈ Finset.range (q + 512), F n := by
    symm
    refine Finset.sum_subset (Finset.range_mono hq) fun n hn hn' => ?_
    rw [Finset.mem_range] at hn hn'
    simp only [F, dif_pos hn]
    exact hz _ (by simpa using hn')
  have h3 : (∑ i : Fin q, f ⟨i.val, by omega⟩) = ∑ n ∈ Finset.range q, F n := by
    rw [Finset.sum_range]
    refine Finset.sum_congr rfl fun i _ => ?_
    have : i.val < 2048 := by omega
    simp [F, this]
  have h4 : (∑ i : Fin 512, f ⟨q + i.val, by omega⟩) = ∑ n ∈ Finset.range 512, F (q + n) := by
    rw [Finset.sum_range]
    refine Finset.sum_congr rfl fun i _ => ?_
    have : q + i.val < 2048 := by omega
    simp [F, this]
  rw [h1, h2, h3, h4, Finset.sum_range_add]

end Cert.Softmax

end
-- ==== Proof.Rows.lean ====
/- One query row of block-causal attention in real numbers: its scores, its weights and its average of the values, and
   the two ways in which it is met over the extended reals (a stream of spans with powers of two; a softmax of the
   whole row). No program appears here. -/
module

public import proofs.«01_k».proof.Proof.Softmax

@[expose] public section

noncomputable section

namespace Cert.Rows

open Idealize.ShloMosaic Cert.Softmax

/-- The natural score of query `t` and key `κ` in one half of the lanes: the dot product over the half's `64` lanes,
    over eight. -/
def score (Q K : Fin 2048 → Fin 128 → ℝ) (c : Fin 2) (t κ : Fin 2048) : ℝ :=
  (∑ d : Fin 64, Q t ⟨64 * c.val + d.val, by omega⟩ * K κ ⟨64 * c.val + d.val, by omega⟩) * (1 / 8)

/-- A masked row of scores: keys of a later block of `64` are not seen. -/
def masked (y : Fin 2048 → ℝ) (t κ : Fin 2048) : EReal := if κ.val / 64 ≤ t.val / 64 then ((y κ : ℝ) : EReal) else ⊥

/-- The weight of a key: the exponential of its score, or nothing. -/
def weight (y : Fin 2048 → ℝ) (t κ : Fin 2048) : ℝ := if κ.val / 64 ≤ t.val / 64 then Real.exp (y κ) else 0

/-- The row's average of the values. -/
def att (y : Fin 2048 → ℝ) (V : Fin 2048 → Fin 128 → ℝ) (t : Fin 2048) (e : Fin 128) : ℝ :=
  (∑ κ, weight y t κ * V κ e) / ∑ κ, weight y t κ

/-- The row's score in base two. -/
def base2 (y : Fin 2048 → ℝ) (κ : Fin 2048) : ℝ := y κ * (Real.log 2)⁻¹

theorem masked_ne_top (y : Fin 2048 → ℝ) (t κ : Fin 2048) : masked y t κ ≠ ⊤ := by
  unfold masked; split
  · exact EReal.coe_ne_top _
  · exact bot_ne_top

theorem masked_ne_bot (y : Fin 2048 → ℝ) (t κ : Fin 2048) (h : κ.val / 64 ≤ t.val / 64) : masked y t κ ≠ ⊥ := by
  rw [masked, if_pos h]; exact EReal.coe_ne_bot _

theorem ew_masked (y : Fin 2048 → ℝ) (t κ : Fin 2048) : ew (masked y t κ) = weight y t κ := by
  unfold masked weight; split
  · exact ew_coe _
  · exact ew_bot

theorem wt_masked (y : Fin 2048 → ℝ) (t κ : Fin 2048) : wt (masked (base2 y) t κ) = weight y t κ := by
  unfold masked weight; split
  · rw [wt_coe, base2, Real.rpow_def_of_pos (by norm_num)]
    congr 1
    have : Real.log 2 ≠ 0 := (Real.log_pos (by norm_num)).ne'
    field_simp
  · exact wt_bot

theorem weight_nonneg (y : Fin 2048 → ℝ) (t κ : Fin 2048) : 0 ≤ weight y t κ := by
  unfold weight; split
  · positivity
  · exact le_rfl

theorem weight_pos (y : Fin 2048 → ℝ) (t : Fin 2048) : 0 < ∑ κ, weight y t κ :=
  Finset.sum_pos' (fun κ _ => weight_nonneg y t κ) ⟨t, Finset.mem_univ _, by rw [weight, if_pos le_rfl]; positivity⟩

theorem weight_zero (y : Fin 2048 → ℝ) (q : ℕ) (r : Fin 512) (hq : q + 512 ≤ 2048) (h64 : q % 64 = 0) (κ : Fin 2048)
    (hκ : q + 512 ≤ κ.val) : weight y ⟨q + r.val, by omega⟩ κ = 0 := by
  rw [weight, if_neg]; dsimp only; omega

/-- A row of the first query block, met as one span. -/
theorem stream_one (y : Fin 2048 → ℝ) (V : Fin 2048 → Fin 128 → ℝ) (r : Fin 512) (e : Fin 128) (s : Fin 512 → EReal)
    (v o : Fin 512 → EReal) (hs : ∀ i : Fin 512, s i = masked (base2 y) ⟨0 + r.val, by omega⟩ ⟨0 + i.val, by omega⟩)
    (hv : ∀ i : Fin 512, v i = ((V ⟨0 + i.val, by omega⟩ e : ℝ) : EReal)) (ho : ∀ i, o i = ((1 : ℝ) : EReal)) :
    Ideal.div
      (Ideal.exp2 (⊥ - max ⊥ (Finset.univ.fold max ⊥ s)) * 0
        + ∑ i, Ideal.exp2 (s i - max ⊥ (Finset.univ.fold max ⊥ s)) * v i)
      (Ideal.exp2 (⊥ - max ⊥ (Finset.univ.fold max ⊥ s)) * 0
        + ∑ i, Ideal.exp2 (s i - max ⊥ (Finset.univ.fold max ⊥ s)) * o i)
    = ((att y V ⟨0 + r.val, by omega⟩ e : ℝ) : EReal) := by
  obtain ⟨M, -, h⟩ := first s (fun i => hs i ▸ masked_ne_top _ _ _) 0
    (hs 0 ▸ masked_ne_bot _ _ _ (by simp))
  refine (congrArg₂ Ideal.div (h _ (fun i => V ⟨0 + i.val, by omega⟩ e) (by simp only [hv]))
    (h _ (fun _ => 1) (by simp only [ho]))).trans ?_
  have hw : ∀ i : Fin 512, wt (s i) = weight y ⟨0 + r.val, by omega⟩ ⟨0 + i.val, by omega⟩ := fun i => by
    rw [hs, wt_masked]
  have hN := (sum_split (fun κ => weight y ⟨0 + r.val, by omega⟩ κ * V κ e) 0 (by omega) fun κ hκ => by
    simp only [weight_zero y 0 r (by omega) (by omega) κ hκ, zero_mul]).trans
      ((congrArg (· + _) (Fin.sum_univ_zero _)).trans (zero_add _))
  have hD := (sum_split (fun κ => weight y ⟨0 + r.val, by omega⟩ κ) 0 (by omega) fun κ hκ =>
    weight_zero y 0 r (by omega) (by omega) κ hκ).trans
      ((congrArg (· + _) (Fin.sum_univ_zero _)).trans (zero_add _))
  have hpos := weight_pos y ⟨0 + r.val, by omega⟩
  have hN' : ∑ i, wt (s i) * V ⟨0 + i.val, by omega⟩ e = ∑ κ, weight y ⟨0 + r.val, by omega⟩ κ * V κ e := by
    rw [hN]; exact Finset.sum_congr rfl fun i _ => by rw [hw]
  have hD' : ∑ i, wt (s i) * (fun _ => (1 : ℝ)) i = ∑ κ, weight y ⟨0 + r.val, by omega⟩ κ := by
    rw [hD]; exact Finset.sum_congr rfl fun i _ => by rw [hw, mul_one]
  rw [hN', hD', quotient _ _ _ hpos.ne', att]

/-- A row of a later query block, met as two spans: the `n` keys before the block, then the block's own. -/
theorem stream_two (n : ℕ) (hn : n + 512 ≤ 2048) (h64 : n % 64 = 0) (i₀ : Fin n) (y : Fin 2048 → ℝ)
    (V : Fin 2048 → Fin 128 → ℝ)
    (r : Fin 512) (e : Fin 128) (s₀ : Fin n → EReal) (s : Fin 512 → EReal)
    (v₀ o₀ : Fin n → EReal) (v o : Fin 512 → EReal)
    (hs₀ : ∀ i : Fin n, s₀ i = ((base2 y ⟨i.val, by omega⟩ : ℝ) : EReal))
    (hs : ∀ i : Fin 512, s i = masked (base2 y) ⟨n + r.val, by omega⟩ ⟨n + i.val, by omega⟩)
    (hv₀ : ∀ i : Fin n, v₀ i = ((V ⟨i.val, by omega⟩ e : ℝ) : EReal)) (ho₀ : ∀ i, o₀ i = ((1 : ℝ) : EReal))
    (hv : ∀ i : Fin 512, v i = ((V ⟨n + i.val, by omega⟩ e : ℝ) : EReal)) (ho : ∀ i, o i = ((1 : ℝ) : EReal))
    (m₀ a₀ d₀ : EReal) (hm : m₀ = max ⊥ (Finset.univ.fold max ⊥ s₀))
    (ha : a₀ = Ideal.exp2 (⊥ - max ⊥ (Finset.univ.fold max ⊥ s₀)) * 0
        + ∑ i, Ideal.exp2 (s₀ i - max ⊥ (Finset.univ.fold max ⊥ s₀)) * v₀ i)
    (hd : d₀ = Ideal.exp2 (⊥ - max ⊥ (Finset.univ.fold max ⊥ s₀)) * 0
        + ∑ i, Ideal.exp2 (s₀ i - max ⊥ (Finset.univ.fold max ⊥ s₀)) * o₀ i) :
    Ideal.div
      (Ideal.exp2 (m₀ - max m₀ (Finset.univ.fold max ⊥ s)) * a₀
        + ∑ i, Ideal.exp2 (s i - max m₀ (Finset.univ.fold max ⊥ s)) * v i)
      (Ideal.exp2 (m₀ - max m₀ (Finset.univ.fold max ⊥ s)) * d₀
        + ∑ i, Ideal.exp2 (s i - max m₀ (Finset.univ.fold max ⊥ s)) * o i)
    = ((att y V ⟨n + r.val, by omega⟩ e : ℝ) : EReal) := by
  have hn0 : 0 < n := i₀.pos
  have hseen : ∀ i : Fin n, s₀ i = masked (base2 y) ⟨n + r.val, by omega⟩ ⟨i.val, by omega⟩ := fun i => by
    rw [hs₀, masked, if_pos]; dsimp only; omega
  obtain ⟨M, hM, h₁⟩ := first s₀ (fun i => hs₀ i ▸ EReal.coe_ne_top _) i₀ (hs₀ i₀ ▸ EReal.coe_ne_bot _)
  obtain ⟨M', -, h₂⟩ := next M s (fun i => hs i ▸ masked_ne_top _ _ _) 0
    (hs 0 ▸ masked_ne_bot _ _ _ (by simp; omega))
  rw [hM] at hm
  have ea := h₁ a₀ (fun i => V ⟨i.val, by omega⟩ e) (ha.trans (by simp only [hv₀]))
  have ed := h₁ d₀ (fun _ => 1) (hd.trans (by simp only [ho₀]))
  rw [hm]
  refine (congrArg₂ Ideal.div (h₂ _ (∑ i, wt (s₀ i) * V ⟨i.val, by omega⟩ e)
      (fun i => V ⟨n + i.val, by omega⟩ e) (by rw [ea]; simp only [hv]))
    (h₂ _ (∑ i, wt (s₀ i) * (fun _ => (1 : ℝ)) i) (fun _ => 1) (by rw [ed]; simp only [ho]))).trans ?_
  have hw₀ : ∀ i : Fin n, wt (s₀ i) = weight y ⟨n + r.val, by omega⟩ ⟨i.val, by omega⟩ := fun i => by
    rw [hseen, wt_masked]
  have hw : ∀ i : Fin 512, wt (s i) = weight y ⟨n + r.val, by omega⟩ ⟨n + i.val, by omega⟩ := fun i => by
    rw [hs, wt_masked]
  have hN := sum_split (fun κ => weight y ⟨n + r.val, by omega⟩ κ * V κ e) n hn fun κ hκ => by
    simp only [weight_zero y n r hn h64 κ hκ, zero_mul]
  have hD := sum_split (fun κ => weight y ⟨n + r.val, by omega⟩ κ) n hn fun κ hκ =>
    weight_zero y n r hn h64 κ hκ
  have hpos := weight_pos y ⟨n + r.val, by omega⟩
  have hN' : (∑ i, wt (s₀ i) * V ⟨i.val, by omega⟩ e) + ∑ i, wt (s i) * V ⟨n + i.val, by omega⟩ e
      = ∑ κ, weight y ⟨n + r.val, by omega⟩ κ * V κ e := by
    rw [hN]; simp only [hw₀, hw]
  have hD' : (∑ i, wt (s₀ i) * (fun _ => (1 : ℝ)) i) + ∑ i, wt (s i) * (fun _ => (1 : ℝ)) i
      = ∑ κ, weight y ⟨n + r.val, by omega⟩ κ := by
    rw [hD]; simp only [hw₀, hw, mul_one]
  rw [hN', hD', quotient _ _ _ hpos.ne', att]

/-- The row's score out of a product over all `128` lanes in which only one half of the query is kept, the query having
    been scaled by an eighth and the keys by the base change. -/
theorem lane_score (Q K : Fin 2048 → Fin 128 → ℝ) (c : Fin 2) (t κ : Fin 2048) (q k : Fin 128 → EReal)
    (hq : ∀ d : Fin 128, q d = if d.val / 64 = c.val then ((Q t d : ℝ) : EReal) * (((1 / 8 : ℝ)) : EReal) else 0)
    (hk : ∀ d : Fin 128, k d = ((K κ d : ℝ) : EReal) * (((Real.log 2)⁻¹ : ℝ) : EReal)) :
    (∑ d, q d * k d) = ((base2 (score Q K c t) κ : ℝ) : EReal) := by
  have h : ∀ d : Fin 128, q d * k d
      = (((if d.val / 64 = c.val then Q t d * K κ d else 0) * (1 / 8) * (Real.log 2)⁻¹ : ℝ) : EReal) := fun d => by
    rw [hq, hk]; split
    · rw [← EReal.coe_mul, ← EReal.coe_mul, ← EReal.coe_mul]; congr 1; ring
    · simp
  rw [Finset.sum_congr rfl fun d _ => h d, coe_sum, base2, score, ← Finset.sum_mul, ← Finset.sum_mul]
  congr 3
  rw [Fin.sum_univ_add (a := 64) (b := 64) fun d : Fin 128 => if d.val / 64 = c.val then Q t d * K κ d else 0]
  fin_cases c
  · have z : ∀ d : Fin 64, ¬ (Fin.natAdd 64 d).val / 64 = 0 := fun d => by simp only [Fin.val_natAdd]; omega
    have o : ∀ d : Fin 64, (Fin.castAdd 64 d).val / 64 = 0 := fun d => by simp only [Fin.val_castAdd]; omega
    simp only [z, o, if_true, if_false, Finset.sum_const_zero, add_zero]
    exact Finset.sum_congr rfl fun d _ => by congr 2 <;> exact Fin.ext (by simp)
  · have o : ∀ d : Fin 64, (Fin.natAdd 64 d).val / 64 = 1 := fun d => by simp only [Fin.val_natAdd]; omega
    have z : ∀ d : Fin 64, ¬ (Fin.castAdd 64 d).val / 64 = 1 := fun d => by simp only [Fin.val_castAdd]; omega
    simp only [z, o, if_true, if_false, Finset.sum_const_zero, zero_add]
    exact Finset.sum_congr rfl fun d _ => by congr 2 <;> exact Fin.ext (by simp)

/-- The row's differential attention: the first half's average minus the second's, weighed. -/
def diff (l : EReal) (Q K V : Fin 2048 → Fin 128 → ℝ) (t : Fin 2048) (e : Fin 128) : EReal :=
  ((att (score Q K 0 t) V t e : ℝ) : EReal) - l * ((att (score Q K 1 t) V t e : ℝ) : EReal)

/-- The row's normalisation by its root mean square, with the gains and the closing scale. -/
def post (o g : Fin 128 → EReal) (e : Fin 128) : EReal :=
  o e * Ideal.rsqrt (Ideal.div (∑ x, o x * o x) (Ideal.ofBits .f32 0x43000000#32) + Ideal.ofBits .f32 0x358637BD#32)
    * g e * Ideal.ofBits .f32 0x3F4CCCCD#32

/-- The weight of the second half, out of the four vectors it is made from. -/
def lam (x y z w : Fin 64 → EReal) : EReal :=
  Ideal.exp (∑ d, x d * y d) - Ideal.exp (∑ d, z d * w d) + Ideal.ofBits .f32 0x3E4CCCCD#32

/-- The queries, keys and values of one head of one stream, as real matrices. -/
def headQ (q : Fin 8 → Fin 2048 → Fin 8 → Fin 2 → Fin 64 → EReal) (b h : Fin 8) (t : Fin 2048) (d : Fin 128) : ℝ :=
  (q b t h ⟨d.val / 64, by omega⟩ ⟨d.val % 64, by omega⟩).toReal

def headK (k : Fin 8 → Fin 2048 → Fin 8 → Fin 128 → EReal) (b h : Fin 8) (t : Fin 2048) (d : Fin 128) : ℝ :=
  (k b t h d).toReal

/-- The layer's result: the normalised differential attention of one head. -/
def spec (q : Fin 8 → Fin 2048 → Fin 8 → Fin 2 → Fin 64 → EReal) (k v : Fin 8 → Fin 2048 → Fin 8 → Fin 128 → EReal)
    (l : EReal) (g : Fin 128 → EReal) (b : Fin 8) (t : Fin 2048) (h : Fin 8) (e : Fin 128) : EReal :=
  post (diff l (headQ q b h) (headK k b h) (headK v b h) t) g e

end Cert.Rows

end
-- ==== Proof.Stream.lean ====
/- What one query block of the kernel computes, at one element: the tile operations of the streamed attention of a
   block of `512` queries, met in the four widths of the span before the block, and their value as the row's average in
   real numbers. -/
module

public import proofs.«01_k».proof.Proof.Gen.KernelIdeal.Value
public import Idealize.ShloMosaic.Lib.Pipeline.ValueKit
public import proofs.«01_k».proof.Proof.Rows

@[expose] public section

set_option maxRecDepth 16384

noncomputable section

namespace Cert.KernelIdeal.Attn

open Cert.KernelIdeal Cert.KernelIdeal.Gen Idealize.ShloMosaic Idealize.ShloMosaic.TcCoe Idealize.SL.Sem
open Cert.Rows

/-- The mask's fill value is minus infinity. -/
theorem named_mask : Named.named (F := Ideal) (φ := .f32) κ "mask" 0xF149F2CA#32 = (⊥ : EReal) :=
  IdealRules.named_const.ideal_named_scalar _ _ _ _ rfl

/-- The change of base is the reciprocal of the logarithm of two. -/
theorem named_log2e : Named.named (F := Ideal) (φ := .f32) κ "log2e" 0x3FB8AA3B#32 = (((Real.log 2)⁻¹ : ℝ) : EReal) :=
  IdealRules.named_const.ideal_named_scalar _ _ _ _ rfl

/-- The scale of the queries is an eighth. -/
theorem eighth : Ideal.ofBits .bf16 0x3E00#16 = (((1 / 8 : ℝ)) : EReal) := by
  simp [Ideal.ofBits, Ideal.ieee, -EReal.coe_mul]; norm_num

/-- A dividend below `2048`, divided downwards by `64`, as the kernel spells it. -/
theorem floor64 : ∀ i : Fin 512,
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by
  decide +kernel

/-- The comparison of two block numbers. -/
theorem sle_blocks : ∀ a b : Fin 8, IntOp.cmpi CmpIPredicate.sle (BitVec.ofNat 32 a.val) (BitVec.ofNat 32 b.val)
    = if a.val ≤ b.val then 1#1 else 0#1 := by decide +kernel

/-- The two comparisons of a lane with `64`. -/
theorem slt_lane : ∀ d : Fin 128, IntOp.cmpi CmpIPredicate.slt (BitVec.ofNat 32 d.val) 64#32
    = if d.val / 64 = 0 then 1#1 else 0#1 := by decide +kernel

theorem sge_lane : ∀ d : Fin 128, IntOp.cmpi CmpIPredicate.sge (BitVec.ofNat 32 d.val) 64#32
    = if d.val / 64 = 1 then 1#1 else 0#1 := by decide +kernel

/-- The mask of a diagonal tile: the key's block of `64` is not after the query's. -/
def mask : IVec S512x512 1 :=
  k0_pay9 k0_pay6 (k0_pay7 (iota .tc S512x512 32 [0] iota_S512x512_d0_w32))
    (k0_pay8 (iota .tc S512x512 32 [0] iota_S512x512_d0_w32)) 1#32

theorem mask_apply (r i : Fin 512) : mask (ix2 r i) = if i.val / 64 ≤ r.val / 64 then 1#1 else 0#1 := by
  have h6 : k0_pay6 (ix2 r i) = BitVec.ofNat 32 (i.val / 64) := by
    pointwise [k0_pay6]
    exact floor64 i
  pointwise [mask, k0_pay9, k0_pay7, k0_pay8]
  rw [h6, floor64 r]
  exact sle_blocks ⟨i.val / 64, by omega⟩ ⟨r.val / 64, by omega⟩

/-- The scaled query with one half of its lanes kept. -/
def qs (c : Fin 2) (q : FVec Ideal S1x512x128 .bf16) : FVec Ideal S512x128 .bf16 :=
  match c with
  | 0 => select (cmpi .slt (iota .tc S512x128 32 [1] iota_S512x128_d1_w32) (broadcast S512x128 64#32))
      (k0_pay10 q) k0_pay11
  | 1 => k0_pay12 q

theorem qs_apply (c : Fin 2) (q : FVec Ideal S1x512x128 .bf16) (r : Fin 512) (d : Fin 128) :
    qs c q (ix2 r d) = if d.val / 64 = c.val then (show EReal from q (ix3 0 r d)) * (((1 / 8 : ℝ)) : EReal) else 0 := by
  fin_cases c
  · simp only [qs]
    pointwise [k0_pay10, k0_pay11]
    rw [slt_lane, eighth]
    by_cases h : d.val / 64 = 0
    · rw [if_pos h]; exact (if_pos h).symm
    · rw [if_neg h]; exact (if_neg h).symm
  · simp only [qs]
    pointwise [k0_pay12, k0_pay10, k0_pay11]
    rw [sge_lane, eighth]
    by_cases h : d.val / 64 = 1
    · rw [if_pos h]; exact (if_pos h).symm
    · rw [if_neg h]; exact (if_neg h).symm

/-- The quotient of the accumulator's two halves. -/
def quot (a : FVec Ideal S512x256 .f32) : FVec Ideal S512x128 .f32 :=
  divf (extractStridedSlice S512x128 ![0, 0] a slices_S512x256_o0_0_S512x128)
    (extractStridedSlice S512x128 ![0, 128] a slices_S512x256_o0_128_S512x128)

theorem quot_apply (a : FVec Ideal S512x256 .f32) (r : Fin 512) (e : Fin 128) :
    quot a (ix2 r e) = Ideal.div (a (ix2 r ⟨e.val, by omega⟩)) (a (ix2 r ⟨128 + e.val, by omega⟩)) := by
  pointwise [quot]

theorem neg_apply (r : Fin 512) : k0_pay14 (F := Ideal) (ix2 r 0) = (⊥ : EReal) := by
  pointwise [k0_pay14]
  exact named_mask

theorem zero_apply (r : Fin 512) (e : Fin 256) : k0_pay15 (F := Ideal) (ix2 r e) = (0 : EReal) := by
  pointwise [k0_pay15]

/-- The identity of the row maximum. -/
theorem neg_inf : Ideal.ofBits .f32 0xFF800000#32 = (⊥ : EReal) := by
  simp [Ideal.ofBits, Ideal.ieee]

/-! ## A span of `512` keys -/

/-- The running maximum after the span. -/
def mx512 (m : FVec Ideal S512x1 .f32) (s : FVec Ideal S512x512 .f32) : FVec Ideal S512x1 .f32 :=
  maximumf m (shapeCast S512x1 (multiReduction .maximumf [1] S512 s 0xFF800000#32 reduces_S512x512_S512 (.inl rfl) rfl)
    shapeCasts_S512_S512x1)

/-- The accumulator after the span. -/
def acc512 (m : FVec Ideal S512x1 .f32) (a : FVec Ideal S512x256 .f32) (s : FVec Ideal S512x512 .f32)
    (v : FVec Ideal S512x256 .bf16) : FVec Ideal S512x256 .f32 :=
  addf (mulf (broadcastTo S512x256 (exp2 (subf m (mx512 m s))) broadcasts_S512x1_S512x256) a)
    (matmul dot_S512x512_S512x256_S512x256_1_0_0_1_n_n none
      (truncf .bf16 (exp2 (subf s (broadcastTo S512x512 (mx512 m s) broadcasts_S512x1_S512x512))) bitsLt_bf16_f32)
      v (constant S512x256 .f32 0x00000000#32))

/-- The span's scores. -/
def sc512 (q : FVec Ideal S512x128 .bf16) (k : FVec Ideal S512x128 .bf16) : FVec Ideal S512x512 .f32 :=
  matmul dot_S512x128_S512x128_S512x512_1_1_0_0_n_n none q k (constant S512x512 .f32 0x00000000#32)

theorem mx512_apply (m : FVec Ideal S512x1 .f32) (s : FVec Ideal S512x512 .f32) (r : Fin 512) :
    mx512 m s (ix2 r 0)
      = max (m (ix2 r 0)) (Finset.univ.fold max (⊥ : EReal) fun i : Fin 512 => (s (ix2 r i) : EReal)) := by
  pointwise [mx512]
  rw [neg_inf]

theorem acc512_apply (m : FVec Ideal S512x1 .f32) (a : FVec Ideal S512x256 .f32) (s : FVec Ideal S512x512 .f32)
    (v : FVec Ideal S512x256 .bf16) (r : Fin 512) (e : Fin 256) :
    acc512 m a s v (ix2 r e)
      = Ideal.exp2 ((m (ix2 r 0) : EReal)
            - max (m (ix2 r 0)) (Finset.univ.fold max (⊥ : EReal) fun i : Fin 512 => (s (ix2 r i) : EReal))) * a (ix2 r e)
        + ∑ i : Fin 512, Ideal.exp2 ((s (ix2 r i) : EReal)
            - max (m (ix2 r 0)) (Finset.univ.fold max (⊥ : EReal) fun i : Fin 512 => (s (ix2 r i) : EReal)))
          * v (ix2 i e) := by
  rw [← mx512_apply]
  pointwise [acc512]
  rfl

theorem sc512_apply (q : FVec Ideal S512x128 .bf16) (k : FVec Ideal S512x128 .bf16) (r : Fin 512) (i : Fin 512) :
    sc512 q k (ix2 r i) = ∑ d : Fin 128, (q (ix2 r d) : EReal) * k (ix2 i d) := by
  pointwise [sc512]

/-! ## A span of `1024` keys -/

/-- The running maximum after the span. -/
def mx1024 (m : FVec Ideal S512x1 .f32) (s : FVec Ideal S512x1024 .f32) : FVec Ideal S512x1 .f32 :=
  maximumf m (shapeCast S512x1 (multiReduction .maximumf [1] S512 s 0xFF800000#32 reduces_S512x1024_S512 (.inl rfl) rfl)
    shapeCasts_S512_S512x1)

/-- The accumulator after the span. -/
def acc1024 (m : FVec Ideal S512x1 .f32) (a : FVec Ideal S512x256 .f32) (s : FVec Ideal S512x1024 .f32)
    (v : FVec Ideal S1024x256 .bf16) : FVec Ideal S512x256 .f32 :=
  addf (mulf (broadcastTo S512x256 (exp2 (subf m (mx1024 m s))) broadcasts_S512x1_S512x256) a)
    (matmul dot_S512x1024_S1024x256_S512x256_1_0_0_1_n_n none
      (truncf .bf16 (exp2 (subf s (broadcastTo S512x1024 (mx1024 m s) broadcasts_S512x1_S512x1024))) bitsLt_bf16_f32)
      v (constant S512x256 .f32 0x00000000#32))

/-- The span's scores. -/
def sc1024 (q : FVec Ideal S512x128 .bf16) (k : FVec Ideal S1024x128 .bf16) : FVec Ideal S512x1024 .f32 :=
  matmul dot_S512x128_S1024x128_S512x1024_1_1_0_0_n_n none q k (constant S512x1024 .f32 0x00000000#32)

theorem mx1024_apply (m : FVec Ideal S512x1 .f32) (s : FVec Ideal S512x1024 .f32) (r : Fin 512) :
    mx1024 m s (ix2 r 0)
      = max (m (ix2 r 0)) (Finset.univ.fold max (⊥ : EReal) fun i : Fin 1024 => (s (ix2 r i) : EReal)) := by
  pointwise [mx1024]
  rw [neg_inf]

theorem acc1024_apply (m : FVec Ideal S512x1 .f32) (a : FVec Ideal S512x256 .f32) (s : FVec Ideal S512x1024 .f32)
    (v : FVec Ideal S1024x256 .bf16) (r : Fin 512) (e : Fin 256) :
    acc1024 m a s v (ix2 r e)
      = Ideal.exp2 ((m (ix2 r 0) : EReal)
            - max (m (ix2 r 0)) (Finset.univ.fold max (⊥ : EReal) fun i : Fin 1024 => (s (ix2 r i) : EReal))) * a (ix2 r e)
        + ∑ i : Fin 1024, Ideal.exp2 ((s (ix2 r i) : EReal)
            - max (m (ix2 r 0)) (Finset.univ.fold max (⊥ : EReal) fun i : Fin 1024 => (s (ix2 r i) : EReal)))
          * v (ix2 i e) := by
  rw [← mx1024_apply]
  pointwise [acc1024]
  rfl

theorem sc1024_apply (q : FVec Ideal S512x128 .bf16) (k : FVec Ideal S1024x128 .bf16) (r : Fin 512) (i : Fin 1024) :
    sc1024 q k (ix2 r i) = ∑ d : Fin 128, (q (ix2 r d) : EReal) * k (ix2 i d) := by
  pointwise [sc1024]

/-! ## A span of `1536` keys -/

/-- The running maximum after the span. -/
def mx1536 (m : FVec Ideal S512x1 .f32) (s : FVec Ideal S512x1536 .f32) : FVec Ideal S512x1 .f32 :=
  maximumf m (shapeCast S512x1 (multiReduction .maximumf [1] S512 s 0xFF800000#32 reduces_S512x1536_S512 (.inl rfl) rfl)
    shapeCasts_S512_S512x1)

/-- The accumulator after the span. -/
def acc1536 (m : FVec Ideal S512x1 .f32) (a : FVec Ideal S512x256 .f32) (s : FVec Ideal S512x1536 .f32)
    (v : FVec Ideal S1536x256 .bf16) : FVec Ideal S512x256 .f32 :=
  addf (mulf (broadcastTo S512x256 (exp2 (subf m (mx1536 m s))) broadcasts_S512x1_S512x256) a)
    (matmul dot_S512x1536_S1536x256_S512x256_1_0_0_1_n_n none
      (truncf .bf16 (exp2 (subf s (broadcastTo S512x1536 (mx1536 m s) broadcasts_S512x1_S512x1536))) bitsLt_bf16_f32)
      v (constant S512x256 .f32 0x00000000#32))

/-- The span's scores. -/
def sc1536 (q : FVec Ideal S512x128 .bf16) (k : FVec Ideal S1536x128 .bf16) : FVec Ideal S512x1536 .f32 :=
  matmul dot_S512x128_S1536x128_S512x1536_1_1_0_0_n_n none q k (constant S512x1536 .f32 0x00000000#32)

theorem mx1536_apply (m : FVec Ideal S512x1 .f32) (s : FVec Ideal S512x1536 .f32) (r : Fin 512) :
    mx1536 m s (ix2 r 0)
      = max (m (ix2 r 0)) (Finset.univ.fold max (⊥ : EReal) fun i : Fin 1536 => (s (ix2 r i) : EReal)) := by
  pointwise [mx1536]
  rw [neg_inf]

theorem acc1536_apply (m : FVec Ideal S512x1 .f32) (a : FVec Ideal S512x256 .f32) (s : FVec Ideal S512x1536 .f32)
    (v : FVec Ideal S1536x256 .bf16) (r : Fin 512) (e : Fin 256) :
    acc1536 m a s v (ix2 r e)
      = Ideal.exp2 ((m (ix2 r 0) : EReal)
            - max (m (ix2 r 0)) (Finset.univ.fold max (⊥ : EReal) fun i : Fin 1536 => (s (ix2 r i) : EReal))) * a (ix2 r e)
        + ∑ i : Fin 1536, Ideal.exp2 ((s (ix2 r i) : EReal)
            - max (m (ix2 r 0)) (Finset.univ.fold max (⊥ : EReal) fun i : Fin 1536 => (s (ix2 r i) : EReal)))
          * v (ix2 i e) := by
  rw [← mx1536_apply]
  pointwise [acc1536]
  rfl

theorem sc1536_apply (q : FVec Ideal S512x128 .bf16) (k : FVec Ideal S1536x128 .bf16) (r : Fin 512) (i : Fin 1536) :
    sc1536 q k (ix2 r i) = ∑ d : Fin 128, (q (ix2 r d) : EReal) * k (ix2 i d) := by
  pointwise [sc1536]

/-! ## The diagonal tile -/

/-- The masked scores of the diagonal tile. -/
def dg (q k : FVec Ideal S512x128 .bf16) : FVec Ideal S512x512 .f32 :=
  select mask (sc512 q k) (broadcast S512x512 (Named.named κ "mask" 0xF149F2CA#32))

theorem dg_apply (q k : FVec Ideal S512x128 .bf16) (r i : Fin 512) :
    dg q k (ix2 r i) = if i.val / 64 ≤ r.val / 64 then (sc512 q k (ix2 r i) : EReal) else ⊥ := by
  pointwise [dg]
  rw [mask_apply, named_mask]
  split <;> rfl

variable (Q K V : Fin 2048 → Fin 128 → ℝ)

/-- A tile of `n` keys starting at `o`, in base two. -/
def IsKeys (o n : ℕ) (h : o + n ≤ 2048) (k : Fin n → Fin 128 → EReal) : Prop :=
  ∀ i d, k i d = ((K ⟨o + i.val, by omega⟩ d : ℝ) : EReal) * (((Real.log 2)⁻¹ : ℝ) : EReal)

/-- A tile of `n` values starting at `o`, with ones beside them. -/
def IsVals (o n : ℕ) (h : o + n ≤ 2048) (v : Fin n → Fin 256 → EReal) : Prop :=
  (∀ i (e : Fin 128), v i ⟨e.val, by omega⟩ = ((V ⟨o + i.val, by omega⟩ e : ℝ) : EReal))
    ∧ ∀ i (e : Fin 128), v i ⟨128 + e.val, by omega⟩ = ((1 : ℝ) : EReal)

/-- A tile of `512` queries starting at `o`. -/
def IsQueries (o : ℕ) (h : o + 512 ≤ 2048) (q : FVec Ideal S1x512x128 .bf16) : Prop :=
  ∀ (r : Fin 512) (d : Fin 128), (q (ix3 0 r d) : EReal) = ((Q ⟨o + r.val, by omega⟩ d : ℝ) : EReal)

theorem dg_row {o : ℕ} {h : o + 512 ≤ 2048} (h64 : o % 64 = 0) (c : Fin 2) {q : FVec Ideal S1x512x128 .bf16}
    {k : FVec Ideal S512x128 .bf16} (hq : IsQueries Q o h q) (hk : IsKeys K o 512 h fun i d => k (ix2 i d))
    (r i : Fin 512) :
    dg (qs c q) k (ix2 r i)
      = masked (base2 (score Q K c ⟨o + r.val, by omega⟩)) ⟨o + r.val, by omega⟩ ⟨o + i.val, by omega⟩ := by
  rw [dg_apply, sc512_apply, masked]
  have hc : (i.val / 64 ≤ r.val / 64) ↔ ((o + i.val) / 64 ≤ (o + r.val) / 64) := by omega
  simp only [hc]
  split
  · exact lane_score Q K c _ _ _ _ (fun d => by rw [qs_apply, hq]) (fun d => hk i d)
  · rfl

/-- The first query block's streamed attention. -/
def out0 (q k : FVec Ideal S512x128 .bf16) (v : FVec Ideal S512x256 .bf16) : FVec Ideal S512x128 .f32 :=
  quot (acc512 k0_pay14 k0_pay15 (dg q k) v)

theorem out0_apply (c : Fin 2) {q : FVec Ideal S1x512x128 .bf16} {k : FVec Ideal S512x128 .bf16}
    {v : FVec Ideal S512x256 .bf16} (hq : IsQueries Q 0 (by omega) q)
    (hk : IsKeys K 0 512 (by omega) fun i d => k (ix2 i d)) (hv : IsVals V 0 512 (by omega) fun i e => v (ix2 i e))
    (r : Fin 512) (e : Fin 128) :
    out0 (qs c q) k v (ix2 r e)
      = ((att (score Q K c ⟨0 + r.val, by omega⟩) V ⟨0 + r.val, by omega⟩ e : ℝ) : EReal) := by
  rw [out0, quot_apply, acc512_apply, acc512_apply, neg_apply, zero_apply, zero_apply]
  exact stream_one _ V r e _ _ _ (fun i => dg_row Q K (by omega) c hq hk r i) (fun i => hv.1 i e) (fun i => hv.2 i e)

/-- The streamed attention of the query block after `512` keys. -/
def out512 (q : FVec Ideal S512x128 .bf16) (k₀ : FVec Ideal S512x128 .bf16) (v₀ : FVec Ideal S512x256 .bf16)
    (k : FVec Ideal S512x128 .bf16) (v : FVec Ideal S512x256 .bf16) : FVec Ideal S512x128 .f32 :=
  quot (acc512 (mx512 k0_pay14 (sc512 q k₀)) (acc512 k0_pay14 k0_pay15 (sc512 q k₀) v₀) (dg q k) v)

theorem out512_apply (c : Fin 2) {q : FVec Ideal S1x512x128 .bf16} {k₀ : FVec Ideal S512x128 .bf16}
    {v₀ : FVec Ideal S512x256 .bf16} {k : FVec Ideal S512x128 .bf16} {v : FVec Ideal S512x256 .bf16}
    (hq : IsQueries Q 512 (by omega) q)
    (hk₀ : IsKeys K 0 512 (by omega) fun i d => k₀ (ix2 i d)) (hv₀ : IsVals V 0 512 (by omega) fun i e => v₀ (ix2 i e))
    (hk : IsKeys K 512 512 (by omega) fun i d => k (ix2 i d)) (hv : IsVals V 512 512 (by omega) fun i e => v (ix2 i e))
    (r : Fin 512) (e : Fin 128) :
    out512 (qs c q) k₀ v₀ k v (ix2 r e)
      = ((att (score Q K c ⟨512 + r.val, by omega⟩) V ⟨512 + r.val, by omega⟩ e : ℝ) : EReal) := by
  have hz : ∀ i : Fin 512, (⟨0 + i.val, by omega⟩ : Fin 2048) = ⟨i.val, by omega⟩ := fun i => Fin.ext (Nat.zero_add _)
  rw [out512, quot_apply]
  refine (congrArg₂ Ideal.div (acc512_apply _ _ _ _ r _) (acc512_apply _ _ _ _ r _)).trans ?_
  refine stream_two 512 (by omega) (by omega) 0 (score Q K c ⟨512 + r.val, by omega⟩) V r e
    (fun i => sc512 (qs c q) k₀ (ix2 r i)) _
    (fun i => v₀ (ix2 i ⟨e.val, by omega⟩)) (fun i => v₀ (ix2 i ⟨128 + e.val, by omega⟩)) _ _ (fun i => ?_)
    (fun i => dg_row Q K (by omega) c hq hk r i) (fun i => ?_) (fun i => hv₀.2 i e) (fun i => hv.1 i e)
    (fun i => hv.2 i e) _ _ _ ?_ ?_ ?_
  · rw [sc512_apply]
    exact lane_score Q K c _ _ _ _ (fun d => by rw [qs_apply, hq]) (fun d => (hk₀ i d).trans (by rw [hz]))
  · exact (hv₀.1 i e).trans (by rw [hz])
  · rw [mx512_apply, neg_apply]
  · rw [acc512_apply, neg_apply, zero_apply]
  · rw [acc512_apply, neg_apply, zero_apply]

/-- The streamed attention of the query block after `1024` keys. -/
def out1024 (q : FVec Ideal S512x128 .bf16) (k₀ : FVec Ideal S1024x128 .bf16) (v₀ : FVec Ideal S1024x256 .bf16)
    (k : FVec Ideal S512x128 .bf16) (v : FVec Ideal S512x256 .bf16) : FVec Ideal S512x128 .f32 :=
  quot (acc512 (mx1024 k0_pay14 (sc1024 q k₀)) (acc1024 k0_pay14 k0_pay15 (sc1024 q k₀) v₀) (dg q k) v)

theorem out1024_apply (c : Fin 2) {q : FVec Ideal S1x512x128 .bf16} {k₀ : FVec Ideal S1024x128 .bf16}
    {v₀ : FVec Ideal S1024x256 .bf16} {k : FVec Ideal S512x128 .bf16} {v : FVec Ideal S512x256 .bf16}
    (hq : IsQueries Q 1024 (by omega) q)
    (hk₀ : IsKeys K 0 1024 (by omega) fun i d => k₀ (ix2 i d)) (hv₀ : IsVals V 0 1024 (by omega) fun i e => v₀ (ix2 i e))
    (hk : IsKeys K 1024 512 (by omega) fun i d => k (ix2 i d)) (hv : IsVals V 1024 512 (by omega) fun i e => v (ix2 i e))
    (r : Fin 512) (e : Fin 128) :
    out1024 (qs c q) k₀ v₀ k v (ix2 r e)
      = ((att (score Q K c ⟨1024 + r.val, by omega⟩) V ⟨1024 + r.val, by omega⟩ e : ℝ) : EReal) := by
  have hz : ∀ i : Fin 1024, (⟨0 + i.val, by omega⟩ : Fin 2048) = ⟨i.val, by omega⟩ := fun i => Fin.ext (Nat.zero_add _)
  rw [out1024, quot_apply]
  refine (congrArg₂ Ideal.div (acc512_apply _ _ _ _ r _) (acc512_apply _ _ _ _ r _)).trans ?_
  refine stream_two 1024 (by omega) (by omega) 0 (score Q K c ⟨1024 + r.val, by omega⟩) V r e
    (fun i => sc1024 (qs c q) k₀ (ix2 r i)) _
    (fun i => v₀ (ix2 i ⟨e.val, by omega⟩)) (fun i => v₀ (ix2 i ⟨128 + e.val, by omega⟩)) _ _ (fun i => ?_)
    (fun i => dg_row Q K (by omega) c hq hk r i) (fun i => ?_) (fun i => hv₀.2 i e) (fun i => hv.1 i e)
    (fun i => hv.2 i e) _ _ _ ?_ ?_ ?_
  · rw [sc1024_apply]
    exact lane_score Q K c _ _ _ _ (fun d => by rw [qs_apply, hq]) (fun d => (hk₀ i d).trans (by rw [hz]))
  · exact (hv₀.1 i e).trans (by rw [hz])
  · rw [mx1024_apply, neg_apply]
  · rw [acc1024_apply, neg_apply, zero_apply]
  · rw [acc1024_apply, neg_apply, zero_apply]

/-- The streamed attention of the query block after `1536` keys. -/
def out1536 (q : FVec Ideal S512x128 .bf16) (k₀ : FVec Ideal S1536x128 .bf16) (v₀ : FVec Ideal S1536x256 .bf16)
    (k : FVec Ideal S512x128 .bf16) (v : FVec Ideal S512x256 .bf16) : FVec Ideal S512x128 .f32 :=
  quot (acc512 (mx1536 k0_pay14 (sc1536 q k₀)) (acc1536 k0_pay14 k0_pay15 (sc1536 q k₀) v₀) (dg q k) v)

theorem out1536_apply (c : Fin 2) {q : FVec Ideal S1x512x128 .bf16} {k₀ : FVec Ideal S1536x128 .bf16}
    {v₀ : FVec Ideal S1536x256 .bf16} {k : FVec Ideal S512x128 .bf16} {v : FVec Ideal S512x256 .bf16}
    (hq : IsQueries Q 1536 (by omega) q)
    (hk₀ : IsKeys K 0 1536 (by omega) fun i d => k₀ (ix2 i d)) (hv₀ : IsVals V 0 1536 (by omega) fun i e => v₀ (ix2 i e))
    (hk : IsKeys K 1536 512 (by omega) fun i d => k (ix2 i d)) (hv : IsVals V 1536 512 (by omega) fun i e => v (ix2 i e))
    (r : Fin 512) (e : Fin 128) :
    out1536 (qs c q) k₀ v₀ k v (ix2 r e)
      = ((att (score Q K c ⟨1536 + r.val, by omega⟩) V ⟨1536 + r.val, by omega⟩ e : ℝ) : EReal) := by
  have hz : ∀ i : Fin 1536, (⟨0 + i.val, by omega⟩ : Fin 2048) = ⟨i.val, by omega⟩ := fun i => Fin.ext (Nat.zero_add _)
  rw [out1536, quot_apply]
  refine (congrArg₂ Ideal.div (acc512_apply _ _ _ _ r _) (acc512_apply _ _ _ _ r _)).trans ?_
  refine stream_two 1536 (by omega) (by omega) 0 (score Q K c ⟨1536 + r.val, by omega⟩) V r e
    (fun i => sc1536 (qs c q) k₀ (ix2 r i)) _
    (fun i => v₀ (ix2 i ⟨e.val, by omega⟩)) (fun i => v₀ (ix2 i ⟨128 + e.val, by omega⟩)) _ _ (fun i => ?_)
    (fun i => dg_row Q K (by omega) c hq hk r i) (fun i => ?_) (fun i => hv₀.2 i e) (fun i => hv.1 i e)
    (fun i => hv.2 i e) _ _ _ ?_ ?_ ?_
  · rw [sc1536_apply]
    exact lane_score Q K c _ _ _ _ (fun d => by rw [qs_apply, hq]) (fun d => (hk₀ i d).trans (by rw [hz]))
  · exact (hv₀.1 i e).trans (by rw [hz])
  · rw [mx1536_apply, neg_apply]
  · rw [acc1536_apply, neg_apply, zero_apply]
  · rw [acc1536_apply, neg_apply, zero_apply]

/-! ## The two halves combined, and the normalisation -/

/-- The first half's average minus the second's, weighed. -/
def comb (l : FVec Ideal S1x1 .f32) (a b : FVec Ideal S512x128 .f32) : FVec Ideal S512x128 .f32 :=
  subf a (mulf (broadcastTo S512x128 l broadcasts_S1x1_S512x128) b)

theorem comb_apply (l : FVec Ideal S1x1 .f32) (a b : FVec Ideal S512x128 .f32) (r : Fin 512) (e : Fin 128) :
    comb l a b (ix2 r e) = (a (ix2 r e) : EReal) - l (ix2 0 0) * b (ix2 r e) := by
  pointwise [comb]

theorem post_apply (o : FVec Ideal S512x128 .f32) (g : FVec Ideal S1x128 .f32) (r : Fin 512) (e : Fin 128) :
    k0_pay44 o g (ix3 0 r e) = post (fun x => o (ix2 r x)) (fun x => g (ix2 0 x)) e := by
  pointwise [k0_pay44]
  rfl

end Cert.KernelIdeal.Attn

end
-- ==== Proof.Tiles.lean ====
/- What the kernel reads back from its two scratch buffers: the keys in base two, and the values with ones beside
   them. -/
module

public import proofs.«01_k».proof.Proof.Stream

@[expose] public section

set_option maxRecDepth 16384

noncomputable section

namespace Cert.KernelIdeal.Attn

open Cert.KernelIdeal Cert.KernelIdeal.Gen Idealize.ShloMosaic Idealize.ShloMosaic.TcCoe Idealize.SL.Sem

/-- The scaled keys of a block, at one element. -/
theorem scaled_apply (x : FVec Ideal S1x2048x128 .f32) (i : Fin 2048) (d : Fin 128) :
    (k0_pay2 (F := Ideal) x (ix2 i d) : EReal) = (show EReal from x (ix3 0 i d)) * (((Real.log 2)⁻¹ : ℝ) : EReal) := by
  pointwise [k0_pay2]
  rw [named_log2e]

/-- The values of a block, at one element. -/
theorem plain_apply (x : FVec Ideal S1x2048x128 .f32) (i : Fin 2048) (d : Fin 128) :
    (k0_pay3 (F := Ideal) x (ix2 i d) : EReal) = x (ix3 0 i d) := by
  pointwise [k0_pay3]

/-- The ones beside the values. -/
theorem ones_apply (i : Fin 2048) (d : Fin 128) : (k0_pay4 (F := Ideal) (ix2 i d) : EReal) = ((1 : ℝ) : EReal) := by
  pointwise [k0_pay4]
  exact EReal.coe_one.symm

/-- A tile of `512` keys read back. -/
def keys512 (k : FVec Ideal S2048x128 .bf16) (o : ℕ)
    (hb : ∀ a : Fin 2, ![o, 0] a + ![512, 128] a ≤ ![2048, 128] a) : FVec Ideal S512x128 .bf16 :=
  (View.whole cc0_scratch0).readCov (Val := Elt Ideal)
    [⟨Rect.unit ![0, 0] ![2048, 128] inb_S2048x128_S2048x128_0_0, k⟩]
    (Rect.unit (s := S2048x128) ![o, 0] ![512, 128] hb).toLoadRect

theorem keys512_apply (k : FVec Ideal S2048x128 .bf16) (o : ℕ) (hb) (i : Fin 512) (d : Fin 128) (ho : o + 512 ≤ 2048) :
    keys512 k o hb (ix2 i d) = k (ix2 ⟨o + i.val, by omega⟩ d) := by
  unfold keys512
  rw [View.readCov_eq_canon']
  canon_tiles x h
  refine congrArg k (funext fun a => Fin.ext ?_)
  fin_cases a
  · exact h0.symm.trans (by simp [Rect.unit])
  · exact h1.symm.trans (by simp [Rect.unit])

/-- A tile of `512` values and ones read back. -/
def vals512 (k w : FVec Ideal S2048x128 .bf16) (o : ℕ)
    (hb : ∀ a : Fin 2, ![o, 0] a + ![512, 256] a ≤ ![2048, 256] a) : FVec Ideal S512x256 .bf16 :=
  (View.whole cc0_scratch1).readCov (Val := Elt Ideal)
    [⟨Rect.unit ![0, 128] ![2048, 128] inb_S2048x256_S2048x128_0_128, w⟩,
      ⟨Rect.unit ![0, 0] ![2048, 128] inb_S2048x256_S2048x128_0_0, k⟩]
    (Rect.unit (s := S2048x256) ![o, 0] ![512, 256] hb).toLoadRect

theorem vals512_left (k w : FVec Ideal S2048x128 .bf16) (o : ℕ) (hb) (i : Fin 512) (d : Fin 128) (ho : o + 512 ≤ 2048) :
    vals512 k w o hb (ix2 i ⟨d.val, by omega⟩) = k (ix2 ⟨o + i.val, by omega⟩ d) := by
  unfold vals512
  rw [View.readCov_eq_canon']
  canon_tiles x h
  · exfalso
    have : d.val = 128 + (x 1).val := Eq.trans (by simp [Rect.unit]) h1
    have := d.isLt
    omega
  · refine congrArg k (funext fun a => Fin.ext ?_)
    fin_cases a
    · exact h0.symm.trans (by simp [Rect.unit])
    · exact h1.symm.trans (by simp [Rect.unit])

theorem vals512_right (k w : FVec Ideal S2048x128 .bf16) (o : ℕ) (hb) (i : Fin 512) (d : Fin 128) (ho : o + 512 ≤ 2048) :
    vals512 k w o hb (ix2 i ⟨128 + d.val, by omega⟩) = w (ix2 ⟨o + i.val, by omega⟩ d) := by
  unfold vals512
  rw [View.readCov_eq_canon']
  canon_tiles x h
  · refine congrArg w (funext fun a => Fin.ext ?_)
    fin_cases a
    · exact h0.symm.trans (by simp [Rect.unit])
    · have : 128 + d.val = 128 + (x 1).val := Eq.trans (by simp [Rect.unit]) h1
      exact (Nat.add_left_cancel this).symm
  · exfalso
    have : 128 + d.val = (x 1).val := Eq.trans (by simp [Rect.unit]) h1
    have : (x 1).val < 128 := (x 1).isLt
    omega

theorem keys512_is (K : Fin 2048 → Fin 128 → ℝ) (x : FVec Ideal S1x2048x128 .f32)
    (hx : ∀ (i : Fin 2048) (d : Fin 128), (x (ix3 0 i d) : EReal) = ((K i d : ℝ) : EReal)) (o : ℕ) (hb)
    (ho : o + 512 ≤ 2048) : IsKeys K o 512 ho fun i d => keys512 (k0_pay2 x) o hb (ix2 i d) := fun i d => by
  refine (keys512_apply _ o hb i d ho).trans ?_
  rw [scaled_apply, hx]

theorem vals512_is (V : Fin 2048 → Fin 128 → ℝ) (x : FVec Ideal S1x2048x128 .f32)
    (hx : ∀ (i : Fin 2048) (d : Fin 128), (x (ix3 0 i d) : EReal) = ((V i d : ℝ) : EReal)) (o : ℕ) (hb)
    (ho : o + 512 ≤ 2048) : IsVals V o 512 ho fun i e => vals512 (k0_pay3 x) k0_pay4 o hb (ix2 i e) :=
  ⟨fun i e => (vals512_left _ _ o hb i e ho).trans ((plain_apply _ _ _).trans (hx _ _)),
    fun i e => (vals512_right _ _ o hb i e ho).trans (ones_apply _ _)⟩

/-- A tile of `1024` keys read back. -/
def keys1024 (k : FVec Ideal S2048x128 .bf16) (o : ℕ)
    (hb : ∀ a : Fin 2, ![o, 0] a + ![1024, 128] a ≤ ![2048, 128] a) : FVec Ideal S1024x128 .bf16 :=
  (View.whole cc0_scratch0).readCov (Val := Elt Ideal)
    [⟨Rect.unit ![0, 0] ![2048, 128] inb_S2048x128_S2048x128_0_0, k⟩]
    (Rect.unit (s := S2048x128) ![o, 0] ![1024, 128] hb).toLoadRect

theorem keys1024_apply (k : FVec Ideal S2048x128 .bf16) (o : ℕ) (hb) (i : Fin 1024) (d : Fin 128) (ho : o + 1024 ≤ 2048) :
    keys1024 k o hb (ix2 i d) = k (ix2 ⟨o + i.val, by omega⟩ d) := by
  unfold keys1024
  rw [View.readCov_eq_canon']
  canon_tiles x h
  refine congrArg k (funext fun a => Fin.ext ?_)
  fin_cases a
  · exact h0.symm.trans (by simp [Rect.unit])
  · exact h1.symm.trans (by simp [Rect.unit])

/-- A tile of `1024` values and ones read back. -/
def vals1024 (k w : FVec Ideal S2048x128 .bf16) (o : ℕ)
    (hb : ∀ a : Fin 2, ![o, 0] a + ![1024, 256] a ≤ ![2048, 256] a) : FVec Ideal S1024x256 .bf16 :=
  (View.whole cc0_scratch1).readCov (Val := Elt Ideal)
    [⟨Rect.unit ![0, 128] ![2048, 128] inb_S2048x256_S2048x128_0_128, w⟩,
      ⟨Rect.unit ![0, 0] ![2048, 128] inb_S2048x256_S2048x128_0_0, k⟩]
    (Rect.unit (s := S2048x256) ![o, 0] ![1024, 256] hb).toLoadRect

theorem vals1024_left (k w : FVec Ideal S2048x128 .bf16) (o : ℕ) (hb) (i : Fin 1024) (d : Fin 128) (ho : o + 1024 ≤ 2048) :
    vals1024 k w o hb (ix2 i ⟨d.val, by omega⟩) = k (ix2 ⟨o + i.val, by omega⟩ d) := by
  unfold vals1024
  rw [View.readCov_eq_canon']
  canon_tiles x h
  · exfalso
    have : d.val = 128 + (x 1).val := Eq.trans (by simp [Rect.unit]) h1
    have := d.isLt
    omega
  · refine congrArg k (funext fun a => Fin.ext ?_)
    fin_cases a
    · exact h0.symm.trans (by simp [Rect.unit])
    · exact h1.symm.trans (by simp [Rect.unit])

theorem vals1024_right (k w : FVec Ideal S2048x128 .bf16) (o : ℕ) (hb) (i : Fin 1024) (d : Fin 128) (ho : o + 1024 ≤ 2048) :
    vals1024 k w o hb (ix2 i ⟨128 + d.val, by omega⟩) = w (ix2 ⟨o + i.val, by omega⟩ d) := by
  unfold vals1024
  rw [View.readCov_eq_canon']
  canon_tiles x h
  · refine congrArg w (funext fun a => Fin.ext ?_)
    fin_cases a
    · exact h0.symm.trans (by simp [Rect.unit])
    · have : 128 + d.val = 128 + (x 1).val := Eq.trans (by simp [Rect.unit]) h1
      exact (Nat.add_left_cancel this).symm
  · exfalso
    have : 128 + d.val = (x 1).val := Eq.trans (by simp [Rect.unit]) h1
    have : (x 1).val < 128 := (x 1).isLt
    omega

theorem keys1024_is (K : Fin 2048 → Fin 128 → ℝ) (x : FVec Ideal S1x2048x128 .f32)
    (hx : ∀ (i : Fin 2048) (d : Fin 128), (x (ix3 0 i d) : EReal) = ((K i d : ℝ) : EReal)) (o : ℕ) (hb)
    (ho : o + 1024 ≤ 2048) : IsKeys K o 1024 ho fun i d => keys1024 (k0_pay2 x) o hb (ix2 i d) := fun i d => by
  refine (keys1024_apply _ o hb i d ho).trans ?_
  rw [scaled_apply, hx]

theorem vals1024_is (V : Fin 2048 → Fin 128 → ℝ) (x : FVec Ideal S1x2048x128 .f32)
    (hx : ∀ (i : Fin 2048) (d : Fin 128), (x (ix3 0 i d) : EReal) = ((V i d : ℝ) : EReal)) (o : ℕ) (hb)
    (ho : o + 1024 ≤ 2048) : IsVals V o 1024 ho fun i e => vals1024 (k0_pay3 x) k0_pay4 o hb (ix2 i e) :=
  ⟨fun i e => (vals1024_left _ _ o hb i e ho).trans ((plain_apply _ _ _).trans (hx _ _)),
    fun i e => (vals1024_right _ _ o hb i e ho).trans (ones_apply _ _)⟩

/-- A tile of `1536` keys read back. -/
def keys1536 (k : FVec Ideal S2048x128 .bf16) (o : ℕ)
    (hb : ∀ a : Fin 2, ![o, 0] a + ![1536, 128] a ≤ ![2048, 128] a) : FVec Ideal S1536x128 .bf16 :=
  (View.whole cc0_scratch0).readCov (Val := Elt Ideal)
    [⟨Rect.unit ![0, 0] ![2048, 128] inb_S2048x128_S2048x128_0_0, k⟩]
    (Rect.unit (s := S2048x128) ![o, 0] ![1536, 128] hb).toLoadRect

theorem keys1536_apply (k : FVec Ideal S2048x128 .bf16) (o : ℕ) (hb) (i : Fin 1536) (d : Fin 128) (ho : o + 1536 ≤ 2048) :
    keys1536 k o hb (ix2 i d) = k (ix2 ⟨o + i.val, by omega⟩ d) := by
  unfold keys1536
  rw [View.readCov_eq_canon']
  canon_tiles x h
  refine congrArg k (funext fun a => Fin.ext ?_)
  fin_cases a
  · exact h0.symm.trans (by simp [Rect.unit])
  · exact h1.symm.trans (by simp [Rect.unit])

/-- A tile of `1536` values and ones read back. -/
def vals1536 (k w : FVec Ideal S2048x128 .bf16) (o : ℕ)
    (hb : ∀ a : Fin 2, ![o, 0] a + ![1536, 256] a ≤ ![2048, 256] a) : FVec Ideal S1536x256 .bf16 :=
  (View.whole cc0_scratch1).readCov (Val := Elt Ideal)
    [⟨Rect.unit ![0, 128] ![2048, 128] inb_S2048x256_S2048x128_0_128, w⟩,
      ⟨Rect.unit ![0, 0] ![2048, 128] inb_S2048x256_S2048x128_0_0, k⟩]
    (Rect.unit (s := S2048x256) ![o, 0] ![1536, 256] hb).toLoadRect

theorem vals1536_left (k w : FVec Ideal S2048x128 .bf16) (o : ℕ) (hb) (i : Fin 1536) (d : Fin 128) (ho : o + 1536 ≤ 2048) :
    vals1536 k w o hb (ix2 i ⟨d.val, by omega⟩) = k (ix2 ⟨o + i.val, by omega⟩ d) := by
  unfold vals1536
  rw [View.readCov_eq_canon']
  canon_tiles x h
  · exfalso
    have : d.val = 128 + (x 1).val := Eq.trans (by simp [Rect.unit]) h1
    have := d.isLt
    omega
  · refine congrArg k (funext fun a => Fin.ext ?_)
    fin_cases a
    · exact h0.symm.trans (by simp [Rect.unit])
    · exact h1.symm.trans (by simp [Rect.unit])

theorem vals1536_right (k w : FVec Ideal S2048x128 .bf16) (o : ℕ) (hb) (i : Fin 1536) (d : Fin 128) (ho : o + 1536 ≤ 2048) :
    vals1536 k w o hb (ix2 i ⟨128 + d.val, by omega⟩) = w (ix2 ⟨o + i.val, by omega⟩ d) := by
  unfold vals1536
  rw [View.readCov_eq_canon']
  canon_tiles x h
  · refine congrArg w (funext fun a => Fin.ext ?_)
    fin_cases a
    · exact h0.symm.trans (by simp [Rect.unit])
    · have : 128 + d.val = 128 + (x 1).val := Eq.trans (by simp [Rect.unit]) h1
      exact (Nat.add_left_cancel this).symm
  · exfalso
    have : 128 + d.val = (x 1).val := Eq.trans (by simp [Rect.unit]) h1
    have : (x 1).val < 128 := (x 1).isLt
    omega

theorem keys1536_is (K : Fin 2048 → Fin 128 → ℝ) (x : FVec Ideal S1x2048x128 .f32)
    (hx : ∀ (i : Fin 2048) (d : Fin 128), (x (ix3 0 i d) : EReal) = ((K i d : ℝ) : EReal)) (o : ℕ) (hb)
    (ho : o + 1536 ≤ 2048) : IsKeys K o 1536 ho fun i d => keys1536 (k0_pay2 x) o hb (ix2 i d) := fun i d => by
  refine (keys1536_apply _ o hb i d ho).trans ?_
  rw [scaled_apply, hx]

theorem vals1536_is (V : Fin 2048 → Fin 128 → ℝ) (x : FVec Ideal S1x2048x128 .f32)
    (hx : ∀ (i : Fin 2048) (d : Fin 128), (x (ix3 0 i d) : EReal) = ((V i d : ℝ) : EReal)) (o : ℕ) (hb)
    (ho : o + 1536 ≤ 2048) : IsVals V o 1536 ho fun i e => vals1536 (k0_pay3 x) k0_pay4 o hb (ix2 i e) :=
  ⟨fun i e => (vals1536_left _ _ o hb i e ho).trans ((plain_apply _ _ _).trans (hx _ _)),
    fun i e => (vals1536_right _ _ o hb i e ho).trans (ones_apply _ _)⟩

end Cert.KernelIdeal.Attn

end
-- ==== Proof.Entry.lean ====
/- What the kernel's operand blocks hold when a grid point starts, in terms of the argument arrays: the host lays the
   arrays out in rows of `1024` lanes, casts the queries and stacks the four small vectors; point `t` of the grid takes
   stream `t / 8` and head `t % 8`. -/
module

public import proofs.«01_k».proof.Proof.Gen.KernelIdeal.Value
public import Idealize.ShloMosaic.Lib.Pipeline.ValueKit
public import Idealize.ShloMosaic.Lib.StableHlo.RunRead

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The block of each window at a grid point. -/
theorem idx : ∀ t : Fin cfg0.N, win0_0.index t = ![0, 0] ∧ win0_1.index t = ![t.val / 8, 0, t.val % 8]
    ∧ win0_2.index t = ![t.val / 8, 0, t.val % 8] ∧ win0_3.index t = ![t.val / 8, 0, t.val % 8]
    ∧ win0_4.index t = ![0, 0] ∧ win0_5.index t = ![t.val / 8, 0, t.val % 8] :=
  (by decide +kernel : ∀ t : Fin grid0.N, _)

theorem lt64 (t : Fin cfg0.N) : t.val < 64 := t.isLt

/-- The stream and the head of a grid point. -/
def bOf (t : Fin cfg0.N) : Fin 8 := ⟨t.val / 8, by have := lt64 t; omega⟩
def hOf (t : Fin cfg0.N) : Fin 8 := ⟨t.val % 8, by omega⟩

/-- The argument arrays, by their coordinates. -/
def argQ (c : Dev nD) (b : Fin 8) (r : Fin 2048) (h : Fin 8) (z : Fin 2) (d : Fin 64) : EReal :=
  m (c, Proc.tc.devRef main_arg0) (ix5 b r h z d)
def argK (c : Dev nD) (b : Fin 8) (r : Fin 2048) (h : Fin 8) (d : Fin 128) : EReal :=
  m (c, Proc.tc.devRef main_arg1) (ix4 b r h d)
def argV (c : Dev nD) (b : Fin 8) (r : Fin 2048) (h : Fin 8) (d : Fin 128) : EReal :=
  m (c, Proc.tc.devRef main_arg2) (ix4 b r h d)
def argX (c : Dev nD) (d : Fin 64) : EReal := m (c, Proc.tc.devRef main_arg3) (ix1 d)
def argY (c : Dev nD) (d : Fin 64) : EReal := m (c, Proc.tc.devRef main_arg4) (ix1 d)
def argZ (c : Dev nD) (d : Fin 64) : EReal := m (c, Proc.tc.devRef main_arg5) (ix1 d)
def argW (c : Dev nD) (d : Fin 64) : EReal := m (c, Proc.tc.devRef main_arg6) (ix1 d)
def argG (c : Dev nD) (d : Fin 128) : EReal := m (c, Proc.tc.devRef main_arg7) (ix1 d)

/-- An array laid out in rows of `1024` lanes, through the flat layout. -/
def laid {φ : FTy} (x : FVec Ideal S16384x1024 φ) : FVec Ideal S8x2048x1024 φ :=
  shapeCast S8x2048x1024 x shapeCasts_S16384x1024_S8x2048x1024
def flatQ (x : FVec Ideal S8x2048x8x2x64 .f32) : FVec Ideal S16384x1024 .bf16 :=
  truncf .bf16 (shapeCast S16384x1024 x shapeCasts_S8x2048x8x2x64_S16384x1024) bitsLt_bf16_f32
def flatK (x : FVec Ideal S8x2048x8x128 .f32) : FVec Ideal S16384x1024 .f32 :=
  shapeCast S16384x1024 x shapeCasts_S8x2048x8x128_S16384x1024

theorem laidQ_apply (x : FVec Ideal S8x2048x8x2x64 .f32) (b : Fin 8) (r : Fin 2048) (h : Fin 8) (d : Fin 128) :
    (laid (flatQ x) (ix3 b r ⟨h.val * 128 + d.val, by omega⟩) : EReal)
      = x (ix5 b r h ⟨d.val / 64, by omega⟩ ⟨d.val % 64, by omega⟩) := by
  pointwise [laid, flatQ]
  congr 2 <;> exact Fin.ext (by dsimp only; omega)

theorem laidK_apply (x : FVec Ideal S8x2048x8x128 .f32) (b : Fin 8) (r : Fin 2048) (h : Fin 8) (d : Fin 128) :
    (laid (flatK x) (ix3 b r ⟨h.val * 128 + d.val, by omega⟩) : EReal) = x (ix4 b r h d) := by
  pointwise [laid, flatK]

theorem v1_eq (F : Valuation τ sig (Elt Ideal)) :
    upto (hostOps0 (F := Ideal)) F 9 (Proc.devRef .tc main_v1) = flatQ (F (Proc.devRef .tc main_arg0)) := by
  rw [upto_last_write (i := 1) [main_v2, main_v3, main_v4, main_v5, main_v6, main_v7, main_v8] rfl rfl (by decide)]
  refine (unary_result main_v0 main_v1 _ _ _ _).trans ?_
  rw [upto_last_write (i := 0) [] rfl rfl (by decide)]
  rfl

theorem v2_eq (F : Valuation τ sig (Elt Ideal)) :
    upto (hostOps0 (F := Ideal)) F 10 (Proc.devRef .tc main_v2) = flatK (F (Proc.devRef .tc main_arg1)) := by
  rw [upto_last_write (i := 2) [main_v3, main_v4, main_v5, main_v6, main_v7, main_v8, main_v9] rfl rfl (by decide)]
  refine (reshape_result main_arg1 main_v2 rfl _ _ _ _).trans ?_
  exact congrArg flatK (upto_unwritten [main_v0, main_v1] rfl (by decide) F)

theorem v3_eq (F : Valuation τ sig (Elt Ideal)) :
    upto (hostOps0 (F := Ideal)) F 11 (Proc.devRef .tc main_v3) = flatK (F (Proc.devRef .tc main_arg2)) := by
  rw [upto_last_write (i := 3) [main_v4, main_v5, main_v6, main_v7, main_v8, main_v9, main_v10] rfl rfl (by decide)]
  refine (reshape_result main_arg2 main_v3 rfl _ _ _ _).trans ?_
  exact congrArg flatK (upto_unwritten [main_v0, main_v1, main_v2] rfl (by decide) F)

theorem v9_eq (c : Dev nD) : V m c main_v9 = laid (flatQ (m (c, Proc.tc.devRef main_arg0))) := by
  refine (after_last_write (i := 9) [main_v10, main_v11, main_v12] rfl rfl (by decide) _).trans ?_
  refine (reshape_result main_v1 main_v9 rfl _ _ _ _).trans ?_
  exact congrArg laid (v1_eq _)

theorem v10_eq (c : Dev nD) : V m c main_v10 = laid (flatK (m (c, Proc.tc.devRef main_arg1))) := by
  refine (after_last_write (i := 10) [main_v11, main_v12] rfl rfl (by decide) _).trans ?_
  refine (reshape_result main_v2 main_v10 rfl _ _ _ _).trans ?_
  exact congrArg laid (v2_eq _)

theorem v11_eq (c : Dev nD) : V m c main_v11 = laid (flatK (m (c, Proc.tc.devRef main_arg2))) := by
  refine (after_last_write (i := 11) [main_v12] rfl rfl (by decide) _).trans ?_
  refine (reshape_result main_v3 main_v11 rfl _ _ _ _).trans ?_
  exact congrArg laid (v3_eq _)

theorem v12_eq (c : Dev nD) :
    V m c main_v12 = shapeCast S1x128 (m (c, Proc.tc.devRef main_arg7)) shapeCasts_S128_S1x128 := by
  refine (after_last_write (i := 12) [] rfl rfl (by decide) _).trans ?_
  refine (reshape_result main_arg7 main_v12 rfl _ _ _ _).trans ?_
  rw [upto_unwritten [main_v0, main_v1, main_v2, main_v3, main_v4, main_v5, main_v6, main_v7, main_v8, main_v9,
    main_v10, main_v11] rfl (by decide)]
  rfl

theorem at_q (c : Dev nD) (t : Fin cfg0.N) (r : Fin 2048) (d : Fin 128) :
    (iblk m c 1 t (ix3 0 r d) : EReal) = V m c main_v9 (ix3 (bOf t) r ⟨(hOf t).val * 128 + d.val, by omega⟩) := by
  blk_simp [iblk]
  generalize V m c main_v9 = A
  blk_ext!
  all_goals simp only [idx t]; simp [bOf, hOf]

theorem emb_k (t : Fin cfg0.N) (r : Fin 2048) (d : Fin 128) :
    (win0_2.blk t).view.emb (ix3 0 r d) = (ix3 (bOf t) r ⟨(hOf t).val * 128 + d.val, by omega⟩ : S8x2048x1024.Idx) := by
  refine funext fun a => Fin.ext ?_
  fin_cases a
  · change win0_2.index t 0 * 1 + 1 * 0 = t.val / 8
    rw [(idx t).2.2.1]; simp
  · change win0_2.index t 1 * 2048 + 1 * r.val = r.val
    rw [(idx t).2.2.1]; simp
  · change win0_2.index t 2 * 128 + 1 * d.val = t.val % 8 * 128 + d.val
    rw [(idx t).2.2.1]; simp

theorem at_k (c : Dev nD) (t : Fin cfg0.N) (r : Fin 2048) (d : Fin 128) :
    (iblk m c 2 t (ix3 0 r d) : EReal) = V m c main_v10 (ix3 (bOf t) r ⟨(hOf t).val * 128 + d.val, by omega⟩) := by
  rw [v10_eq]
  unfold iblk
  have h : V m c (Pipeline.arrRef spec0 2) = laid (flatK (m (c, Proc.tc.devRef main_arg1))) := v10_eq m c
  rw [h, ← emb_k]
  rfl

theorem emb_v (t : Fin cfg0.N) (r : Fin 2048) (d : Fin 128) :
    (win0_3.blk t).view.emb (ix3 0 r d) = (ix3 (bOf t) r ⟨(hOf t).val * 128 + d.val, by omega⟩ : S8x2048x1024.Idx) := by
  refine funext fun a => Fin.ext ?_
  fin_cases a
  · change win0_3.index t 0 * 1 + 1 * 0 = t.val / 8
    rw [(idx t).2.2.2.1]; simp
  · change win0_3.index t 1 * 2048 + 1 * r.val = r.val
    rw [(idx t).2.2.2.1]; simp
  · change win0_3.index t 2 * 128 + 1 * d.val = t.val % 8 * 128 + d.val
    rw [(idx t).2.2.2.1]; simp

theorem at_v (c : Dev nD) (t : Fin cfg0.N) (r : Fin 2048) (d : Fin 128) :
    (iblk m c 3 t (ix3 0 r d) : EReal) = V m c main_v11 (ix3 (bOf t) r ⟨(hOf t).val * 128 + d.val, by omega⟩) := by
  rw [v11_eq]
  unfold iblk
  have h : V m c (Pipeline.arrRef spec0 3) = laid (flatK (m (c, Proc.tc.devRef main_arg2))) := v11_eq m c
  rw [h, ← emb_v]
  rfl

theorem at_g (c : Dev nD) (t : Fin cfg0.N) (d : Fin 128) :
    (iblk m c 4 t (ix2 0 d) : EReal) = V m c main_v12 (ix2 0 d) := by
  blk_simp [iblk]
  blk_ext!
  all_goals simp only [idx t]; simp

theorem block_q (c : Dev nD) (t : Fin cfg0.N) (r : Fin 2048) (d : Fin 128) :
    (iblk m c 1 t (ix3 0 r d) : EReal)
      = argQ m c (bOf t) r (hOf t) ⟨d.val / 64, by omega⟩ ⟨d.val % 64, by omega⟩ :=
  (at_q m c t r d).trans ((congrFun (v9_eq m c) _).trans (laidQ_apply ..))

theorem block_k (c : Dev nD) (t : Fin cfg0.N) (r : Fin 2048) (d : Fin 128) :
    (iblk m c 2 t (ix3 0 r d) : EReal) = argK m c (bOf t) r (hOf t) d :=
  (at_k m c t r d).trans ((congrFun (v10_eq m c) _).trans (laidK_apply ..))

theorem block_v (c : Dev nD) (t : Fin cfg0.N) (r : Fin 2048) (d : Fin 128) :
    (iblk m c 3 t (ix3 0 r d) : EReal) = argV m c (bOf t) r (hOf t) d :=
  (at_v m c t r d).trans ((congrFun (v11_eq m c) _).trans (laidK_apply ..))

theorem gains_apply (x : FVec Ideal S128 .f32) (d : Fin 128) :
    shapeCast S1x128 x shapeCasts_S128_S1x128 (ix2 0 d) = x (ix1 d) := by pointwise

theorem block_g (c : Dev nD) (t : Fin cfg0.N) (d : Fin 128) : (iblk m c 4 t (ix2 0 d) : EReal) = argG m c d :=
  (at_g m c t d).trans ((congrFun (v12_eq m c) _).trans (gains_apply _ d))

/-! ## The stack of the four vectors -/

/-- A vector as a row. -/
def row (a : FVec Ideal S64 .f32) : FVec Ideal S1x64 .f32 := broadcastInDim S1x64 ![1] bcast_S64_S1x64_1 a

/-- Four rows on top of each other. -/
def stack (a b c e : FVec Ideal S1x64 .f32) : FVec Ideal S4x64 .f32 :=
  concatenate S4x64 0 [⟨S1x64, a⟩, ⟨S1x64, b⟩, ⟨S1x64, c⟩, ⟨S1x64, e⟩] concatenates_S1x64_S1x64_S1x64_S1x64_S4x64_d0

theorem row_apply (a : FVec Ideal S64 .f32) (d : Fin 64) : row a (ix2 0 d) = a (ix1 d) := by pointwise [row]

theorem stack_0 (a b c e : FVec Ideal S1x64 .f32) (d : Fin 64) : stack a b c e (ix2 0 d) = a (ix2 0 d) := by
  pointwise [stack]
theorem stack_1 (a b c e : FVec Ideal S1x64 .f32) (d : Fin 64) : stack a b c e (ix2 1 d) = b (ix2 0 d) := by
  pointwise [stack]
theorem stack_2 (a b c e : FVec Ideal S1x64 .f32) (d : Fin 64) : stack a b c e (ix2 2 d) = c (ix2 0 d) := by
  pointwise [stack]
theorem stack_3 (a b c e : FVec Ideal S1x64 .f32) (d : Fin 64) : stack a b c e (ix2 3 d) = e (ix2 0 d) := by
  pointwise [stack]

theorem row_v4 (F : Valuation τ sig (Elt Ideal)) :
    upto (hostOps0 (F := Ideal)) F 8 (Proc.devRef .tc main_v4) = row (F (Proc.devRef .tc main_arg3)) := by
  rw [upto_last_write (i := 4) [main_v5, main_v6, main_v7] rfl rfl (by decide)]
  refine (unary_result main_arg3 main_v4 _ _ _ _).trans ?_
  exact congrArg row (upto_unwritten [main_v0, main_v1, main_v2, main_v3] rfl (by decide) F)

theorem row_v5 (F : Valuation τ sig (Elt Ideal)) :
    upto (hostOps0 (F := Ideal)) F 8 (Proc.devRef .tc main_v5) = row (F (Proc.devRef .tc main_arg4)) := by
  rw [upto_last_write (i := 5) [main_v6, main_v7] rfl rfl (by decide)]
  refine (unary_result main_arg4 main_v5 _ _ _ _).trans ?_
  exact congrArg row (upto_unwritten [main_v0, main_v1, main_v2, main_v3, main_v4] rfl (by decide) F)

theorem row_v6 (F : Valuation τ sig (Elt Ideal)) :
    upto (hostOps0 (F := Ideal)) F 8 (Proc.devRef .tc main_v6) = row (F (Proc.devRef .tc main_arg5)) := by
  rw [upto_last_write (i := 6) [main_v7] rfl rfl (by decide)]
  refine (unary_result main_arg5 main_v6 _ _ _ _).trans ?_
  exact congrArg row (upto_unwritten [main_v0, main_v1, main_v2, main_v3, main_v4, main_v5] rfl (by decide) F)

theorem row_v7 (F : Valuation τ sig (Elt Ideal)) :
    upto (hostOps0 (F := Ideal)) F 8 (Proc.devRef .tc main_v7) = row (F (Proc.devRef .tc main_arg6)) := by
  rw [upto_last_write (i := 7) [] rfl rfl (by decide)]
  refine (unary_result main_arg6 main_v7 _ _ _ _).trans ?_
  exact congrArg row (upto_unwritten [main_v0, main_v1, main_v2, main_v3, main_v4, main_v5, main_v6] rfl (by decide) F)

/-- The stacked operand holds the four vectors. -/
theorem v8_eq (c : Dev nD) : V m c main_v8
    = stack (row (m (c, Proc.tc.devRef main_arg3))) (row (m (c, Proc.tc.devRef main_arg4)))
        (row (m (c, Proc.tc.devRef main_arg5))) (row (m (c, Proc.tc.devRef main_arg6))) := by
  refine (after_last_write (i := 8) [main_v9, main_v10, main_v11, main_v12] rfl rfl (by decide) _).trans ?_
  refine (nary_result ![main_v4, main_v5, main_v6, main_v7] main_v8 _ _ _ _).trans ?_
  change stack (upto (hostOps0 (F := Ideal)) _ 8 (Proc.devRef .tc main_v4))
    (upto (hostOps0 (F := Ideal)) _ 8 (Proc.devRef .tc main_v5))
    (upto (hostOps0 (F := Ideal)) _ 8 (Proc.devRef .tc main_v6))
    (upto (hostOps0 (F := Ideal)) _ 8 (Proc.devRef .tc main_v7)) = _
  rw [row_v4, row_v5, row_v6, row_v7]

theorem block_s (c : Dev nD) (t : Fin cfg0.N) (a : Fin 4) (d : Fin 64) :
    (iblk m c 0 t (ix2 a d) : EReal) = V m c main_v8 (ix2 a d) := by
  blk_simp [iblk]
  blk_ext!
  all_goals simp only [idx t]; simp

theorem block_x (c : Dev nD) (t : Fin cfg0.N) (d : Fin 64) : (iblk m c 0 t (ix2 0 d) : EReal) = argX m c d :=
  (block_s m c t 0 d).trans ((congrFun (v8_eq m c) _).trans ((stack_0 ..).trans (row_apply _ d)))
theorem block_y (c : Dev nD) (t : Fin cfg0.N) (d : Fin 64) : (iblk m c 0 t (ix2 1 d) : EReal) = argY m c d :=
  (block_s m c t 1 d).trans ((congrFun (v8_eq m c) _).trans ((stack_1 ..).trans (row_apply _ d)))
theorem block_z (c : Dev nD) (t : Fin cfg0.N) (d : Fin 64) : (iblk m c 0 t (ix2 2 d) : EReal) = argZ m c d :=
  (block_s m c t 2 d).trans ((congrFun (v8_eq m c) _).trans ((stack_2 ..).trans (row_apply _ d)))
theorem block_w (c : Dev nD) (t : Fin cfg0.N) (d : Fin 64) : (iblk m c 0 t (ix2 3 d) : EReal) = argW m c d :=
  (block_s m c t 3 d).trans ((congrFun (v8_eq m c) _).trans ((stack_3 ..).trans (row_apply _ d)))

end Cert.KernelIdeal.Attn

end
-- ==== Proof.Block.lean ====
/- What the body leaves in its output block at a grid point: the combined and normalised attention of every row. -/
module

public import proofs.«01_k».proof.Proof.Tiles
public import proofs.«01_k».proof.Proof.Entry

@[expose] public section

set_option maxRecDepth 16384

noncomputable section

namespace Cert.KernelIdeal.Attn

open Cert.KernelIdeal Cert.KernelIdeal.Gen Idealize.ShloMosaic Idealize.ShloMosaic.TcCoe Idealize.SL.Sem
open Cert.Rows

/-- The weight of the second half, from the four vectors. -/
theorem lam_apply (s : FVec Ideal S4x64 .f32) : (k0_pay5 (F := Ideal) s (ix2 0 0) : EReal)
    = lam (fun d => s (ix2 0 d)) (fun d => s (ix2 1 d)) (fun d => s (ix2 2 d)) (fun d => s (ix2 3 d)) := by
  pointwise [k0_pay5]
  rfl

/-- Equal terms make equal differences. -/
theorem minus (a a' l l' b b' : EReal) (ha : a = a') (hl : l = l') (hb : b = b') : a - l * b = a' - l' * b' := by
  rw [ha, hl, hb]

/-- A tile of `512` queries read from the block. -/
def tile (x : Vec Ideal S1x2048x128 .bf16) (o : ℕ)
    (hb : ∀ a : Fin 3, ![0, o, 0] a + ![1, 512, 128] a ≤ ![1, 2048, 128] a) : FVec Ideal S1x512x128 .bf16 :=
  View.ld (Val := Elt Ideal) x (Rect.unit (s := S1x2048x128) ![0, o, 0] ![1, 512, 128] hb)

theorem tile_is (Q : Fin 2048 → Fin 128 → ℝ) (x : Vec Ideal S1x2048x128 .bf16)
    (hx : ∀ (i : Fin 2048) (d : Fin 128), (x (ix3 0 i d) : EReal) = ((Q i d : ℝ) : EReal)) (o : ℕ) (hb)
    (ho : o + 512 ≤ 2048) : IsQueries Q o ho (tile x o hb) := fun r d => by
  rw [← hx]
  refine congrArg x (funext fun a => Fin.ext ?_)
  fin_cases a <;> simp [Rect.unit]

/-- The first query block's chain of operations, regrouped. -/
theorem chain0 (s : FVec Ideal S4x64 .f32) (q : FVec Ideal S1x512x128 .bf16)
    (kb : FVec Ideal S512x128 .bf16) (vb : FVec Ideal S512x256 .bf16) (g : FVec Ideal S1x128 .f32) :
    k0_pay17 (k0_pay16 (k0_pay5 s) mask (k0_pay12 q)
        (k0_pay13 k0_pay6 (k0_pay7 (iota Kind.tc S512x512 32 [0] iota_S512x512_d0_w32))
          (k0_pay8 (iota Kind.tc S512x512 32 [0] iota_S512x512_d0_w32)) 1#32 q kb vb)
        k0_pay14 k0_pay15 kb vb g)
    = k0_pay44 (comb (k0_pay5 s) (out0 (qs 0 q) kb vb) (out0 (qs 1 q) kb vb)) g := rfl

/-- The second query block's chain of operations, regrouped. -/
theorem chain512 (s : FVec Ideal S4x64 .f32) (q : FVec Ideal S1x512x128 .bf16) (ka : FVec Ideal S512x128 .bf16) (va : FVec Ideal S512x256 .bf16)
    (kb : FVec Ideal S512x128 .bf16) (vb : FVec Ideal S512x256 .bf16) (g : FVec Ideal S1x128 .f32) :
    k0_pay35 (k0_pay5 s) (k0_pay27 (k0_pay24 q ka) (k0_pay25 q ka va) (k0_pay26 mask q kb) vb)
      (k0_pay31 (k0_pay21 q) ka va) (k0_pay32 mask (k0_pay21 q) kb) vb (k0_pay33 mask (k0_pay21 q) ka kb)
      (k0_pay34 mask (k0_pay21 q) ka kb) g
    = k0_pay44 (comb (k0_pay5 s) (out512 (qs 0 q) ka va kb vb) (out512 (qs 1 q) ka va kb vb)) g := rfl

/-- The third query block's chain of operations, regrouped. -/
theorem chain1024 (s : FVec Ideal S4x64 .f32) (q : FVec Ideal S1x512x128 .bf16) (ka : FVec Ideal S1024x128 .bf16) (va : FVec Ideal S1024x256 .bf16)
    (kb : FVec Ideal S512x128 .bf16) (vb : FVec Ideal S512x256 .bf16) (g : FVec Ideal S1x128 .f32) :
    k0_pay44
      (k0_pay43 (k0_pay5 s) mask (k0_pay39 (iota Kind.tc S512x128 32 [1] iota_S512x128_d1_w32) (k0_pay36 q) k0_pay37)
        (k0_pay41 mask (k0_pay36 q) k0_pay37 k0_pay38 ka va kb vb)
        (k0_pay42 mask (k0_pay36 q) k0_pay37 k0_pay38 ka va kb vb) ka va kb vb)
      g
    = k0_pay44 (comb (k0_pay5 s) (out1024 (qs 0 q) ka va kb vb) (out1024 (qs 1 q) ka va kb vb)) g := rfl

/-- The last query block's chain of operations, regrouped. -/
theorem chain1536 (s : FVec Ideal S4x64 .f32) (q : FVec Ideal S1x512x128 .bf16) (ka : FVec Ideal S1536x128 .bf16) (va : FVec Ideal S1536x256 .bf16)
    (kb : FVec Ideal S512x128 .bf16) (vb : FVec Ideal S512x256 .bf16) (g : FVec Ideal S1x128 .f32) :
    k0_pay1
      (k0_pay57 (k0_pay5 s) mask (k0_pay48 q) (k0_pay52 mask (k0_pay47 q) k0_pay49 k0_pay50 (k0_pay51 q ka) va kb vb)
        k0_pay53 k0_pay54 (k0_pay55 (k0_pay48 q) ka) va (k0_pay56 (k0_pay48 q) ka) kb vb)
      (k0_pay58 g)
      (k0_pay59 (k0_pay5 s) mask (k0_pay48 q) (k0_pay52 mask (k0_pay47 q) k0_pay49 k0_pay50 (k0_pay51 q ka) va kb vb)
        k0_pay53 k0_pay54 (k0_pay55 (k0_pay48 q) ka) va (k0_pay56 (k0_pay48 q) ka) kb vb)
    = k0_pay44 (comb (k0_pay5 s) (out1536 (qs 0 q) ka va kb vb) (out1536 (qs 1 q) ka va kb vb)) g := rfl

/-- The first query block's result, from real queries, keys and values. -/
theorem point0 (Q K V : Fin 2048 → Fin 128 → ℝ) (s : FVec Ideal S4x64 .f32) (q : Vec Ideal S1x2048x128 .bf16)
    (k v : FVec Ideal S1x2048x128 .f32) (g : FVec Ideal S1x128 .f32)
    (hq : ∀ (i : Fin 2048) (d : Fin 128), (q (ix3 0 i d) : EReal) = ((Q i d : ℝ) : EReal))
    (hk : ∀ (i : Fin 2048) (d : Fin 128), (k (ix3 0 i d) : EReal) = ((K i d : ℝ) : EReal))
    (hv : ∀ (i : Fin 2048) (d : Fin 128), (v (ix3 0 i d) : EReal) = ((V i d : ℝ) : EReal))
    (hbq hbk hbv) (r : Fin 512) (e : Fin 128) :
    k0_pay44 (comb (k0_pay5 s)
      (out0 (qs 0 (tile q 0 hbq)) (keys512 (k0_pay2 k) 0 hbk) (vals512 (k0_pay3 v) k0_pay4 0 hbv))
      (out0 (qs 1 (tile q 0 hbq)) (keys512 (k0_pay2 k) 0 hbk) (vals512 (k0_pay3 v) k0_pay4 0 hbv)))
      g (ix3 0 r e)
      = post (diff (lam (fun d => s (ix2 0 d)) (fun d => s (ix2 1 d)) (fun d => s (ix2 2 d)) (fun d => s (ix2 3 d))) Q K V
          ⟨0 + r.val, by omega⟩) (fun x => g (ix2 0 x)) e := by
  rw [post_apply]
  refine congrArg (fun o => post o (fun x => g (ix2 0 x)) e) (funext fun x => ?_)
  refine (comb_apply _ _ _ r x).trans (minus _ _ _ _ _ _ ?_ (lam_apply s) ?_)
  · exact out0_apply Q K V 0 (tile_is Q q hq 0 hbq (by omega))
      (keys512_is K k hk 0 hbk (by omega)) (vals512_is V v hv 0 hbv (by omega)) r x
  · exact out0_apply Q K V 1 (tile_is Q q hq 0 hbq (by omega))
      (keys512_is K k hk 0 hbk (by omega)) (vals512_is V v hv 0 hbv (by omega)) r x

/-- The second query block's result, from real queries, keys and values. -/
theorem point512 (Q K V : Fin 2048 → Fin 128 → ℝ) (s : FVec Ideal S4x64 .f32) (q : Vec Ideal S1x2048x128 .bf16)
    (k v : FVec Ideal S1x2048x128 .f32) (g : FVec Ideal S1x128 .f32)
    (hq : ∀ (i : Fin 2048) (d : Fin 128), (q (ix3 0 i d) : EReal) = ((Q i d : ℝ) : EReal))
    (hk : ∀ (i : Fin 2048) (d : Fin 128), (k (ix3 0 i d) : EReal) = ((K i d : ℝ) : EReal))
    (hv : ∀ (i : Fin 2048) (d : Fin 128), (v (ix3 0 i d) : EReal) = ((V i d : ℝ) : EReal))
    (hbq hbk hbv hbk₀ hbv₀) (r : Fin 512) (e : Fin 128) :
    k0_pay44 (comb (k0_pay5 s)
      (out512 (qs 0 (tile q 512 hbq)) (keys512 (k0_pay2 k) 0 hbk₀) (vals512 (k0_pay3 v) k0_pay4 0 hbv₀) (keys512 (k0_pay2 k) 512 hbk) (vals512 (k0_pay3 v) k0_pay4 512 hbv))
      (out512 (qs 1 (tile q 512 hbq)) (keys512 (k0_pay2 k) 0 hbk₀) (vals512 (k0_pay3 v) k0_pay4 0 hbv₀) (keys512 (k0_pay2 k) 512 hbk) (vals512 (k0_pay3 v) k0_pay4 512 hbv)))
      g (ix3 0 r e)
      = post (diff (lam (fun d => s (ix2 0 d)) (fun d => s (ix2 1 d)) (fun d => s (ix2 2 d)) (fun d => s (ix2 3 d))) Q K V
          ⟨512 + r.val, by omega⟩) (fun x => g (ix2 0 x)) e := by
  rw [post_apply]
  refine congrArg (fun o => post o (fun x => g (ix2 0 x)) e) (funext fun x => ?_)
  refine (comb_apply _ _ _ r x).trans (minus _ _ _ _ _ _ ?_ (lam_apply s) ?_)
  · exact out512_apply Q K V 0 (tile_is Q q hq 512 hbq (by omega)) (keys512_is K k hk 0 hbk₀ (by omega)) (vals512_is V v hv 0 hbv₀ (by omega))
      (keys512_is K k hk 512 hbk (by omega)) (vals512_is V v hv 512 hbv (by omega)) r x
  · exact out512_apply Q K V 1 (tile_is Q q hq 512 hbq (by omega)) (keys512_is K k hk 0 hbk₀ (by omega)) (vals512_is V v hv 0 hbv₀ (by omega))
      (keys512_is K k hk 512 hbk (by omega)) (vals512_is V v hv 512 hbv (by omega)) r x

/-- The third query block's result, from real queries, keys and values. -/
theorem point1024 (Q K V : Fin 2048 → Fin 128 → ℝ) (s : FVec Ideal S4x64 .f32) (q : Vec Ideal S1x2048x128 .bf16)
    (k v : FVec Ideal S1x2048x128 .f32) (g : FVec Ideal S1x128 .f32)
    (hq : ∀ (i : Fin 2048) (d : Fin 128), (q (ix3 0 i d) : EReal) = ((Q i d : ℝ) : EReal))
    (hk : ∀ (i : Fin 2048) (d : Fin 128), (k (ix3 0 i d) : EReal) = ((K i d : ℝ) : EReal))
    (hv : ∀ (i : Fin 2048) (d : Fin 128), (v (ix3 0 i d) : EReal) = ((V i d : ℝ) : EReal))
    (hbq hbk hbv hbk₀ hbv₀) (r : Fin 512) (e : Fin 128) :
    k0_pay44 (comb (k0_pay5 s)
      (out1024 (qs 0 (tile q 1024 hbq)) (keys1024 (k0_pay2 k) 0 hbk₀) (vals1024 (k0_pay3 v) k0_pay4 0 hbv₀) (keys512 (k0_pay2 k) 1024 hbk) (vals512 (k0_pay3 v) k0_pay4 1024 hbv))
      (out1024 (qs 1 (tile q 1024 hbq)) (keys1024 (k0_pay2 k) 0 hbk₀) (vals1024 (k0_pay3 v) k0_pay4 0 hbv₀) (keys512 (k0_pay2 k) 1024 hbk) (vals512 (k0_pay3 v) k0_pay4 1024 hbv)))
      g (ix3 0 r e)
      = post (diff (lam (fun d => s (ix2 0 d)) (fun d => s (ix2 1 d)) (fun d => s (ix2 2 d)) (fun d => s (ix2 3 d))) Q K V
          ⟨1024 + r.val, by omega⟩) (fun x => g (ix2 0 x)) e := by
  rw [post_apply]
  refine congrArg (fun o => post o (fun x => g (ix2 0 x)) e) (funext fun x => ?_)
  refine (comb_apply _ _ _ r x).trans (minus _ _ _ _ _ _ ?_ (lam_apply s) ?_)
  · exact out1024_apply Q K V 0 (tile_is Q q hq 1024 hbq (by omega)) (keys1024_is K k hk 0 hbk₀ (by omega)) (vals1024_is V v hv 0 hbv₀ (by omega))
      (keys512_is K k hk 1024 hbk (by omega)) (vals512_is V v hv 1024 hbv (by omega)) r x
  · exact out1024_apply Q K V 1 (tile_is Q q hq 1024 hbq (by omega)) (keys1024_is K k hk 0 hbk₀ (by omega)) (vals1024_is V v hv 0 hbv₀ (by omega))
      (keys512_is K k hk 1024 hbk (by omega)) (vals512_is V v hv 1024 hbv (by omega)) r x

/-- The last query block's result, from real queries, keys and values. -/
theorem point1536 (Q K V : Fin 2048 → Fin 128 → ℝ) (s : FVec Ideal S4x64 .f32) (q : Vec Ideal S1x2048x128 .bf16)
    (k v : FVec Ideal S1x2048x128 .f32) (g : FVec Ideal S1x128 .f32)
    (hq : ∀ (i : Fin 2048) (d : Fin 128), (q (ix3 0 i d) : EReal) = ((Q i d : ℝ) : EReal))
    (hk : ∀ (i : Fin 2048) (d : Fin 128), (k (ix3 0 i d) : EReal) = ((K i d : ℝ) : EReal))
    (hv : ∀ (i : Fin 2048) (d : Fin 128), (v (ix3 0 i d) : EReal) = ((V i d : ℝ) : EReal))
    (hbq hbk hbv hbk₀ hbv₀) (r : Fin 512) (e : Fin 128) :
    k0_pay44 (comb (k0_pay5 s)
      (out1536 (qs 0 (tile q 1536 hbq)) (keys1536 (k0_pay2 k) 0 hbk₀) (vals1536 (k0_pay3 v) k0_pay4 0 hbv₀) (keys512 (k0_pay2 k) 1536 hbk) (vals512 (k0_pay3 v) k0_pay4 1536 hbv))
      (out1536 (qs 1 (tile q 1536 hbq)) (keys1536 (k0_pay2 k) 0 hbk₀) (vals1536 (k0_pay3 v) k0_pay4 0 hbv₀) (keys512 (k0_pay2 k) 1536 hbk) (vals512 (k0_pay3 v) k0_pay4 1536 hbv)))
      g (ix3 0 r e)
      = post (diff (lam (fun d => s (ix2 0 d)) (fun d => s (ix2 1 d)) (fun d => s (ix2 2 d)) (fun d => s (ix2 3 d))) Q K V
          ⟨1536 + r.val, by omega⟩) (fun x => g (ix2 0 x)) e := by
  rw [post_apply]
  refine congrArg (fun o => post o (fun x => g (ix2 0 x)) e) (funext fun x => ?_)
  refine (comb_apply _ _ _ r x).trans (minus _ _ _ _ _ _ ?_ (lam_apply s) ?_)
  · exact out1536_apply Q K V 0 (tile_is Q q hq 1536 hbq (by omega)) (keys1536_is K k hk 0 hbk₀ (by omega)) (vals1536_is V v hv 0 hbv₀ (by omega))
      (keys512_is K k hk 1536 hbk (by omega)) (vals512_is V v hv 1536 hbv (by omega)) r x
  · exact out1536_apply Q K V 1 (tile_is Q q hq 1536 hbq (by omega)) (keys1536_is K k hk 0 hbk₀ (by omega)) (vals1536_is V v hv 0 hbv₀ (by omega))
      (keys512_is K k hk 1536 hbk (by omega)) (vals512_is V v hv 1536 hbv (by omega)) r x

variable (m : (ℓ : Loc nD τ sig) → Buf (Elt Ideal) ℓ)

/-- The output block at a grid point, row by row. -/
theorem out_point (c : Dev nD) (t : Fin cfg0.N) (Q K V : Fin 2048 → Fin 128 → ℝ)
    (hq : ∀ (i : Fin 2048) (d : Fin 128), (iblk m c 1 t (ix3 0 i d) : EReal) = ((Q i d : ℝ) : EReal))
    (hk : ∀ (i : Fin 2048) (d : Fin 128), (iblk m c 2 t (ix3 0 i d) : EReal) = ((K i d : ℝ) : EReal))
    (hv : ∀ (i : Fin 2048) (d : Fin 128), (iblk m c 3 t (ix3 0 i d) : EReal) = ((V i d : ℝ) : EReal))
    (r : Fin 2048) (e : Fin 128) : (outsAt0 m c t (ix3 0 r e) : EReal)
      = post (diff (lam (argX m c) (argY m c) (argZ m c) (argW m c)) Q K V r) (argG m c) e := by
  have hl : lam (fun d => iblk m c 0 t (ix2 0 d)) (fun d => iblk m c 0 t (ix2 1 d)) (fun d => iblk m c 0 t (ix2 2 d))
      (fun d => iblk m c 0 t (ix2 3 d)) = lam (argX m c) (argY m c) (argZ m c) (argW m c) := by
    rw [funext (block_x m c t), funext (block_y m c t), funext (block_z m c t), funext (block_w m c t)]
  rw [← hl, ← funext (block_g m c t)]
  unfold outsAt0
  frame_out
  canon_tiles x h
  case piece0 =>
    have hx : x = ix3 0 ⟨(x 1).val, x1_lt⟩ ⟨(x 2).val, x2_lt⟩ := by
      refine funext fun a => Fin.ext ?_
      fin_cases a
      · exact Nat.lt_one_iff.mp x0_lt
      · rfl
      · rfl
    have hr : r = ⟨1536 + (x 1).val, by omega⟩ := Fin.ext h1
    have he : e = ⟨(x 2).val, x2_lt⟩ := Fin.ext h2
    refine (congrFun (chain1536 (iblk m c 0 t) (tile (iblk m c 1 t) 1536 inb_S1x2048x128_S1x512x128_0_1536_0) (keys1536 (k0_pay2 (iblk m c 2 t)) 0 inb_S2048x128_S1536x128_0_0) (vals1536 (k0_pay3 (iblk m c 3 t)) k0_pay4 0 inb_S2048x256_S1536x256_0_0) (keys512 (k0_pay2 (iblk m c 2 t)) 1536 inb_S2048x128_S512x128_1536_0)
      (vals512 (k0_pay3 (iblk m c 3 t)) k0_pay4 1536 inb_S2048x256_S512x256_1536_0) (iblk m c 4 t)) x).trans ?_
    rw [hx, hr, he]
    exact point1536 Q K V (iblk m c 0 t) (iblk m c 1 t) (iblk m c 2 t) (iblk m c 3 t) (iblk m c 4 t) hq hk hv _ _ _ _ _ _ _
  case piece1 =>
    have hx : x = ix3 0 ⟨(x 1).val, x1_lt⟩ ⟨(x 2).val, x2_lt⟩ := by
      refine funext fun a => Fin.ext ?_
      fin_cases a
      · exact Nat.lt_one_iff.mp x0_lt
      · rfl
      · rfl
    have hr : r = ⟨1024 + (x 1).val, by omega⟩ := Fin.ext h1
    have he : e = ⟨(x 2).val, x2_lt⟩ := Fin.ext h2
    refine (congrFun (chain1024 (iblk m c 0 t) (tile (iblk m c 1 t) 1024 inb_S1x2048x128_S1x512x128_0_1024_0) (keys1024 (k0_pay2 (iblk m c 2 t)) 0 inb_S2048x128_S1024x128_0_0) (vals1024 (k0_pay3 (iblk m c 3 t)) k0_pay4 0 inb_S2048x256_S1024x256_0_0) (keys512 (k0_pay2 (iblk m c 2 t)) 1024 inb_S2048x128_S512x128_1024_0)
      (vals512 (k0_pay3 (iblk m c 3 t)) k0_pay4 1024 inb_S2048x256_S512x256_1024_0) (iblk m c 4 t)) x).trans ?_
    rw [hx, hr, he]
    exact point1024 Q K V (iblk m c 0 t) (iblk m c 1 t) (iblk m c 2 t) (iblk m c 3 t) (iblk m c 4 t) hq hk hv _ _ _ _ _ _ _
  case piece2 =>
    have hx : x = ix3 0 ⟨(x 1).val, x1_lt⟩ ⟨(x 2).val, x2_lt⟩ := by
      refine funext fun a => Fin.ext ?_
      fin_cases a
      · exact Nat.lt_one_iff.mp x0_lt
      · rfl
      · rfl
    have hr : r = ⟨512 + (x 1).val, by omega⟩ := Fin.ext h1
    have he : e = ⟨(x 2).val, x2_lt⟩ := Fin.ext h2
    refine (congrFun (chain512 (iblk m c 0 t) (tile (iblk m c 1 t) 512 inb_S1x2048x128_S1x512x128_0_512_0) (keys512 (k0_pay2 (iblk m c 2 t)) 0 inb_S2048x128_S512x128_0_0) (vals512 (k0_pay3 (iblk m c 3 t)) k0_pay4 0 inb_S2048x256_S512x256_0_0) (keys512 (k0_pay2 (iblk m c 2 t)) 512 inb_S2048x128_S512x128_512_0)
      (vals512 (k0_pay3 (iblk m c 3 t)) k0_pay4 512 inb_S2048x256_S512x256_512_0) (iblk m c 4 t)) x).trans ?_
    rw [hx, hr, he]
    exact point512 Q K V (iblk m c 0 t) (iblk m c 1 t) (iblk m c 2 t) (iblk m c 3 t) (iblk m c 4 t) hq hk hv _ _ _ _ _ _ _
  case piece3 =>
    have hx : x = ix3 0 ⟨(x 1).val, x1_lt⟩ ⟨(x 2).val, x2_lt⟩ := by
      refine funext fun a => Fin.ext ?_
      fin_cases a
      · exact Nat.lt_one_iff.mp x0_lt
      · rfl
      · rfl
    have hr : r = ⟨0 + (x 1).val, by omega⟩ := Fin.ext (h1.trans (Nat.zero_add _).symm)
    have he : e = ⟨(x 2).val, x2_lt⟩ := Fin.ext h2
    refine (congrFun (chain0 (iblk m c 0 t) (tile (iblk m c 1 t) 0 inb_S1x2048x128_S1x512x128_0_0_0) (keys512 (k0_pay2 (iblk m c 2 t)) 0 inb_S2048x128_S512x128_0_0)
      (vals512 (k0_pay3 (iblk m c 3 t)) k0_pay4 0 inb_S2048x256_S512x256_0_0) (iblk m c 4 t)) x).trans ?_
    rw [hx, hr, he]
    exact point0 Q K V (iblk m c 0 t) (iblk m c 1 t) (iblk m c 2 t) (iblk m c 3 t) (iblk m c 4 t) hq hk hv _ _ _ _ _

end Cert.KernelIdeal.Attn

end
-- ==== Proof.Array.lean ====
/- The kernel's result array after the run: the combined and normalised attention of every stream, head and row. -/
module

public import proofs.«01_k».proof.Proof.Block

@[expose] public section

set_option maxRecDepth 16384

noncomputable section

namespace Cert.KernelIdeal.Attn

open Cert.KernelIdeal Cert.KernelIdeal.Gen Idealize.ShloMosaic Idealize.ShloMosaic.TcCoe Idealize.SL.Sem
open Cert.Rows Cert.Softmax

/-- The result array, from the argument arrays by coordinates. -/
def laidOut (q : Fin 8 → Fin 2048 → Fin 8 → Fin 2 → Fin 64 → EReal) (k v : Fin 8 → Fin 2048 → Fin 8 → Fin 128 → EReal)
    (l : EReal) (g : Fin 128 → EReal) : FVec Ideal S8x2048x1024 .bf16 := fun i =>
  spec q k v l g ⟨(i 0).val, (i 0).isLt⟩ ⟨(i 1).val, (i 1).isLt⟩
    ⟨(i 2).val / 128, Nat.div_lt_of_lt_mul (i 2).isLt⟩ ⟨(i 2).val % 128, Nat.mod_lt _ (by omega)⟩

theorem laidOut_apply (q k v l g) (b : Fin 8) (r : Fin 2048) (h : Fin 8) (e : Fin 128) :
    laidOut q k v l g (ix3 b r ⟨h.val * 128 + e.val, by omega⟩) = spec q k v l g b r h e := by
  unfold laidOut
  congr 1
  · exact Fin.ext (by show (h.val * 128 + e.val) / 128 = h.val; omega)
  · exact Fin.ext (by show (h.val * 128 + e.val) % 128 = e.val; omega)

theorem emb_out (t : Fin cfg0.N) (r : Fin 2048) (d : Fin 128) :
    (win0_5.blk t).view.emb (ix3 0 r d) = (ix3 (bOf t) r ⟨(hOf t).val * 128 + d.val, by omega⟩ : S8x2048x1024.Idx) := by
  refine funext fun a => Fin.ext ?_
  fin_cases a
  · change win0_5.index t 0 * 1 + 1 * 0 = t.val / 8
    rw [(idx t).2.2.2.2.2]; simp
  · change win0_5.index t 1 * 2048 + 1 * r.val = r.val
    rw [(idx t).2.2.2.2.2]; simp
  · change win0_5.index t 2 * 128 + 1 * d.val = t.val % 8 * 128 + d.val
    rw [(idx t).2.2.2.2.2]; simp

variable (m : (ℓ : Loc nD τ sig) → Buf (Elt Ideal) ℓ)

/-- One block of the result, from real queries, keys and values. -/
theorem block_point (c : Dev nD) (hq : ∀ b r h z d, argQ m c b r h z d ≠ ⊥ ∧ argQ m c b r h z d ≠ ⊤)
    (hk : ∀ b r h d, argK m c b r h d ≠ ⊥ ∧ argK m c b r h d ≠ ⊤)
    (hv : ∀ b r h d, argV m c b r h d ≠ ⊥ ∧ argV m c b r h d ≠ ⊤) (t : Fin cfg0.N) (r : Fin 2048) (e : Fin 128) :
    (outsAt0 m c t (ix3 0 r e) : EReal) = spec (argQ m c) (argK m c) (argV m c)
      (lam (argX m c) (argY m c) (argZ m c) (argW m c)) (argG m c) (bOf t) r (hOf t) e :=
  out_point m c t (headQ (argQ m c) (bOf t) (hOf t)) (headK (argK m c) (bOf t) (hOf t))
    (headK (argV m c) (bOf t) (hOf t))
    (fun i d => (block_q m c t i d).trans (coe_of_finite (hq ..).1 (hq ..).2))
    (fun i d => (block_k m c t i d).trans (coe_of_finite (hk ..).1 (hk ..).2))
    (fun i d => (block_v m c t i d).trans (coe_of_finite (hv ..).1 (hv ..).2)) r e

/-- An index of a block by its row and its lane. -/
theorem split_block (y : S1x2048x128.Idx) : y = ix3 0 ⟨(y 1).val, (y 1).isLt⟩ ⟨(y 2).val, (y 2).isLt⟩ := by
  refine funext fun a => Fin.ext ?_
  fin_cases a
  · exact Nat.lt_one_iff.mp (y 0).isLt
  · rfl
  · rfl

/-- What a grid point leaves in its block, at the block's place in the array. -/
theorem block_laid (c : Dev nD) (hq : ∀ b r h z d, argQ m c b r h z d ≠ ⊥ ∧ argQ m c b r h z d ≠ ⊤)
    (hk : ∀ b r h d, argK m c b r h d ≠ ⊥ ∧ argK m c b r h d ≠ ⊤)
    (hv : ∀ b r h d, argV m c b r h d ≠ ⊥ ∧ argV m c b r h d ≠ ⊤) (t : Fin cfg0.N) (y : S1x2048x128.Idx) :
    (outsAt0 m c t y : EReal) = laidOut (argQ m c) (argK m c) (argV m c)
      (lam (argX m c) (argY m c) (argZ m c) (argW m c)) (argG m c) ((win0_5.blk t).view.emb y) := by
  obtain ⟨r, e, rfl⟩ : ∃ (r : Fin 2048) (e : Fin 128), y = ix3 0 r e := ⟨_, _, split_block y⟩
  rw [emb_out, laidOut_apply]
  exact block_point m c hq hk hv t r e

/-- The result array of a run from real queries, keys and values. -/
theorem array (c : Dev nD) (hq : ∀ b r h z d, argQ m c b r h z d ≠ ⊥ ∧ argQ m c b r h z d ≠ ⊤)
    (hk : ∀ b r h d, argK m c b r h d ≠ ⊥ ∧ argK m c b r h d ≠ ⊤)
    (hv : ∀ b r h d, argV m c b r h d ≠ ⊥ ∧ argV m c b r h d ≠ ⊤) :
    (dats m 0 c).arrAt 5 cfg0.N = laidOut (argQ m c) (argK m c) (argV m c)
      (lam (argX m c) (argY m c) (argZ m c) (argW m c)) (argG m c) := by
  refine (dats m 0 c).arrAt_eq_of_covers 5 _ (by decide +kernel) fun t _ y => ?_
  blk_simp
  rw [after0_5]
  exact block_laid m c hq hk hv t y

end Cert.KernelIdeal.Attn

end
-- ==== Proof.Memory.lean ====
/- The memory's keys and values as functions of the coordinates of the arrays: the two halves of the product of its
   rows with the weights, and the norm of the keys' heads. -/
module

public import Idealize.ShloMosaic.Lib.Pointwise
public import Idealize.ShloMosaic.PureOps.Ideal.Laws

@[expose] public section

noncomputable section

namespace Cert.Memory

open Idealize.ShloMosaic

/-- The stream of a row of the flat arrays, and its place in the stream. -/
def stream (i : Fin 2048) : Fin 8 := ⟨i.val / 256, by omega⟩
def place (i : Fin 2048) : Fin 256 := ⟨i.val % 256, by omega⟩

/-- The column of the weights of a key's lane, and of a value's. -/
def keyCol (n : Fin 1024) : Fin 2048 := ⟨n.val, by omega⟩
def valueCol (n : Fin 1024) : Fin 2048 := ⟨1024 + n.val, by omega⟩

/-- The product of a row with a column. -/
def product (h : Fin 8 → Fin 256 → Fin 2048 → EReal) (w : Fin 2048 → Fin 2048 → EReal) (i n : Fin 2048) : EReal :=
  ∑ k : Fin 2048, h (stream i) (place i) k * w k n

/-- The lane of the whole row that a head's lane is; a lane's head, and its place in the head. -/
def lane (a : Fin 4) (e : Fin 256) : Fin 1024 := ⟨256 * a.val + e.val, by omega⟩
def head (n : Fin 1024) : Fin 4 := ⟨n.val / 256, by omega⟩
def inHead (n : Fin 1024) : Fin 256 := ⟨n.val % 256, by omega⟩

/-- A row of heads, each over its root mean square, times the gain. -/
def normed (z : Fin 1024 → EReal) (g : Fin 256 → EReal) (n : Fin 1024) : EReal :=
  z n * Ideal.rsqrt (Ideal.div (∑ e, z (lane (head n) e) * z (lane (head n) e)) (Ideal.ofBits .f32 0x43800000#32)
    + Ideal.ofBits .f32 0x358637BD#32) * g (inHead n)

end Cert.Memory

end
-- ==== Proof.Cross.lean ====
/- The mathematics of one row of the cross-attention: the quotient of the weighed values and the weights is the sum of the
   values under the softmax, the scores being real. -/
module

public import proofs.«01_k».proof.Proof.Memory
public import proofs.«01_k».proof.Proof.Softmax

@[expose] public section

noncomputable section

namespace Cert.Cross.Row

open Idealize.ShloMosaic Cert.Softmax

/-- The score of a query and a key. -/
def score (q k : Fin 256 → EReal) : EReal := (∑ d, q d * k d) * Ideal.ofBits .f32 0x3D800000#32

/-- The exponential of a score, the greatest of the row taken off. -/
def weight (s : Fin 256 → EReal) (κ : Fin 256) : EReal := Ideal.exp (s κ - Finset.univ.fold max ⊥ s)

/-- The values, weighed, over the weights. -/
def attended (s v : Fin 256 → EReal) : EReal := Ideal.div (∑ κ, weight s κ * v κ) (∑ κ, weight s κ)

/-- The result at a lane of the whole row of heads: the queries' and the keys' lanes of its head, and its own value. -/
def attend (q : Fin 1024 → EReal) (k v : Fin 256 → Fin 1024 → EReal) (n : Fin 1024) : EReal :=
  attended (fun κ => score (fun d => q (Memory.lane (Memory.head n) d)) fun d => k κ (Memory.lane (Memory.head n) d))
    fun κ => v κ n

/-- The score of a real query and a real key is real. -/
theorem score_real (q k : Fin 256 → EReal) (hq : ∀ d, q d ≠ ⊥ ∧ q d ≠ ⊤) (hk : ∀ d, k d ≠ ⊥ ∧ k d ≠ ⊤) :
    score q k ≠ ⊥ ∧ score q k ≠ ⊤ := by
  obtain ⟨c, hc⟩ : ∃ c : ℝ, Ideal.ofBits .f32 0x3D800000#32 = (c : EReal) := ⟨_, rfl⟩
  have h : score q k = (((∑ d, (q d).toReal * (k d).toReal) * c : ℝ) : EReal) := by
    unfold score
    rw [hc, EReal.coe_mul, ← coe_sum]
    refine congrArg (fun x : EReal => x * c) (Finset.sum_congr rfl fun d _ => ?_)
    rw [EReal.coe_mul, ← coe_of_finite (hq d).1 (hq d).2, ← coe_of_finite (hk d).1 (hk d).2]
  rw [h]
  exact ⟨EReal.coe_ne_bot _, EReal.coe_ne_top _⟩

/-- A real factor, not negative, goes into a sum. -/
theorem sum_scaled (c : ℝ) (hc : 0 ≤ c) {ι : Type*} [Fintype ι] (f : ι → EReal) :
    (∑ i, f i) * (c : EReal) = ∑ i, f i * (c : EReal) := by
  classical
  induction (Finset.univ : Finset ι) using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

/-- The sum of the values under the softmax is the quotient. -/
theorem softmax_sum (s v : Fin 256 → EReal) (hs : ∀ κ, s κ ≠ ⊥ ∧ s κ ≠ ⊤) :
    ∑ κ, v κ * Ideal.div (weight s κ) (∑ j, weight s j) = attended s v := by
  obtain ⟨M, hM⟩ := fold_max_real s (fun κ => (hs κ).2) 0 (hs 0).1
  have hw : ∀ κ, weight s κ = ((Real.exp ((s κ).toReal - M) : ℝ) : EReal) := fun κ => by
    unfold weight
    rw [hM, coe_of_finite (hs κ).1 (hs κ).2, ← EReal.coe_sub, EReal.toReal_coe]
    rfl
  have hl : ∑ κ, weight s κ = ((∑ κ, Real.exp ((s κ).toReal - M) : ℝ) : EReal) := by
    rw [← coe_sum]
    exact Finset.sum_congr rfl fun κ _ => hw κ
  have hpos : 0 < ∑ κ : Fin 256, Real.exp ((s κ).toReal - M) :=
    Finset.sum_pos (fun _ _ => Real.exp_pos _) ⟨0, Finset.mem_univ _⟩
  have hdiv : ∀ x : EReal, Ideal.div x (∑ κ, weight s κ) = x * (((∑ κ, Real.exp ((s κ).toReal - M))⁻¹ : ℝ) : EReal) :=
    fun x => by rw [hl, Ideal.div, if_neg (by exact_mod_cast hpos.ne'), ← EReal.coe_inv]
  unfold attended
  rw [hdiv, sum_scaled _ (inv_nonneg.2 hpos.le)]
  refine Finset.sum_congr rfl fun κ _ => ?_
  rw [hdiv, ← mul_assoc, mul_comm (v κ)]

end Cert.Cross.Row

end
-- ==== Proof.CrossBlock.lean ====
/- One block of the cross-attention: each of its four heads over the whole memory. -/
module

public import proofs.«01_k».proof.Proof.Cross
public import proofs.«01_k».proof.Proof.Gen.CrossIdeal.Value
public import Idealize.ShloMosaic.Lib.Pipeline.ValueKit

@[expose] public section

set_option maxRecDepth 16384

noncomputable section

namespace Cert.CrossIdeal.Value

open Cert.CrossIdeal Cert.CrossIdeal.Gen Idealize.ShloMosaic Cert.Cross.Row Cert.Memory

theorem minus_infinity : Ideal.ofBits .f32 0xFF800000#32 = (⊥ : EReal) := by simp [Ideal.ofBits, Ideal.ieee]

/-- The scores of a head, as a product. -/
theorem product_apply (q : Vec Ideal S1x512x256 .bf16) (k : Vec Ideal S1x256x256 .f32) (r : Fin 512) (κ : Fin 256) :
    (k0_pay2 (F := Ideal) q k (ix2 r κ) : EReal) = ∑ d : Fin 256, (q (ix3 0 r d) : EReal) * k (ix3 0 κ d) := by
  pointwise [k0_pay2]

/-- A head's result, from its scores. -/
theorem head_apply (z : FVec Ideal S512x256 .f32) (v : Vec Ideal S1x256x256 .f32) (r : Fin 512) (e : Fin 256) :
    (k0_pay3 (F := Ideal) z (Scalar.ofBits .f32 0x3D800000#32) v (ix3 0 r e) : EReal)
      = attended (fun κ => (z (ix2 r κ) : EReal) * Ideal.ofBits .f32 0x3D800000#32) fun κ => v (ix3 0 κ e) := by
  pointwise [k0_pay3]
  rw [minus_infinity]
  rfl

/-- A head's result, from its queries, its keys and its values. -/
theorem pay_apply (q : Vec Ideal S1x512x256 .bf16) (k v : Vec Ideal S1x256x256 .f32) (r : Fin 512) (e : Fin 256) :
    (k0_pay1 (F := Ideal) q k v (ix3 0 r e) : EReal)
      = attended (fun κ => score (fun d => q (ix3 0 r d)) fun d => k (ix3 0 κ d)) fun κ => v (ix3 0 κ e) := by
  refine (head_apply (k0_pay2 (F := Ideal) q k) v r e).trans (congrArg (attended · _) (funext fun κ => ?_))
  rw [product_apply]
  rfl

/-- The same for the other heads, whose arithmetic is cut elsewhere. -/
theorem second (q : Vec Ideal S1x512x256 .bf16) (k v : Vec Ideal S1x256x256 .f32) :
    k0_pay3 (F := Ideal) (k0_pay2 q k) (Scalar.ofBits .f32 0x3D800000#32) v = k0_pay1 q k v := rfl
theorem third (q : Vec Ideal S1x512x256 .bf16) (k v : Vec Ideal S1x256x256 .f32) :
    k0_pay7 (F := Ideal) (k0_pay4 v) (k0_pay5 q k) (k0_pay6 q k) = k0_pay1 q k v := rfl
theorem fourth (q : Vec Ideal S1x512x256 .bf16) (k v : Vec Ideal S1x256x256 .f32) :
    k0_pay8 (F := Ideal) q k v = k0_pay1 q k v := rfl

/-- The block's rows, by their coordinates. -/
def blockRows (q : Vec Ideal S1x512x1024 .bf16) (k v : Vec Ideal S1x256x1024 .f32) : Vec Ideal S1x512x1024 .bf16 := fun y =>
  attend (fun n => q (ix3 0 ⟨(y 1).val, (y 1).isLt⟩ n)) (fun κ n => k (ix3 0 κ n)) (fun κ n => v (ix3 0 κ n))
    ⟨(y 2).val, (y 2).isLt⟩

/-- A head's lanes of the block. -/
theorem head_q (q : Vec Ideal S1x512x1024 .bf16) (a : Fin 4) (o : Nat) (ho : o = 256 * a.val)
    (hb : ∀ x, (![0, 0, o] : Fin 3 → Nat) x + S1x512x256.size x ≤ S1x512x1024.size x) (r : Fin 512) (e : Fin 256) :
    (Rect.unit (s := S1x512x1024) ![0, 0, o] S1x512x256.size hb).idx (ix3 0 r e) = ix3 0 r (lane a e) := by
  subst ho
  refine funext fun x => Fin.ext ?_
  fin_cases x
  · rfl
  · show 0 + 1 * r.val = r.val
    omega
  · show 256 * a.val + 1 * e.val = 256 * a.val + e.val
    omega

theorem head_k (k : Vec Ideal S1x256x1024 .f32) (a : Fin 4) (o : Nat) (ho : o = 256 * a.val)
    (hb : ∀ x, (![0, 0, o] : Fin 3 → Nat) x + S1x256x256.size x ≤ S1x256x1024.size x) (κ e : Fin 256) :
    (Rect.unit (s := S1x256x1024) ![0, 0, o] S1x256x256.size hb).idx (ix3 0 κ e) = ix3 0 κ (lane a e) := by
  subst ho
  refine funext fun x => Fin.ext ?_
  fin_cases x
  · rfl
  · show 0 + 1 * κ.val = κ.val
    omega
  · show 256 * a.val + 1 * e.val = 256 * a.val + e.val
    omega

/-- A head's store. -/
theorem piece (q : Vec Ideal S1x512x1024 .bf16) (k v : Vec Ideal S1x256x1024 .f32) (a : Fin 4) (o : Nat)
    (ho : o = 256 * a.val) (hb : ∀ x, (![0, 0, o] : Fin 3 → Nat) x + S1x512x256.size x ≤ S1x512x1024.size x)
    (hc : ∀ x, (![0, 0, o] : Fin 3 → Nat) x + S1x256x256.size x ≤ S1x256x1024.size x) (x : S1x512x256.Idx) :
    k0_pay1 (F := Ideal) (View.ld q (Rect.unit (s := S1x512x1024) ![0, 0, o] S1x512x256.size hb))
        (View.ld k (Rect.unit (s := S1x256x1024) ![0, 0, o] S1x256x256.size hc))
        (View.ld v (Rect.unit (s := S1x256x1024) ![0, 0, o] S1x256x256.size hc)) x
      = blockRows q k v ((Rect.unit (s := S1x512x1024) ![0, 0, o] S1x512x256.size hb).idx x) := by
  obtain ⟨r, e, rfl⟩ : ∃ (r : Fin 512) (e : Fin 256), x = ix3 0 r e :=
    ⟨⟨(x 1).val, (x 1).isLt⟩, ⟨(x 2).val, (x 2).isLt⟩, funext fun b => by
      fin_cases b
      · exact Fin.ext (Nat.lt_one_iff.1 (x 0).isLt)
      · rfl
      · rfl⟩
  have hh : head (lane a e) = a := Fin.ext (show (256 * a.val + e.val) / 256 = a.val by omega)
  refine (pay_apply _ _ _ r e).trans (Eq.trans ?_ (congrArg (blockRows q k v) (head_q q a o ho hb r e).symm))
  show _ = attended (fun κ => score (fun d => q (ix3 0 r (lane (head (lane a e)) d)))
    fun d => k (ix3 0 κ (lane (head (lane a e)) d))) fun κ => v (ix3 0 κ (lane a e))
  rw [hh]
  refine congrArg₂ attended (funext fun κ => congrArg₂ score (funext fun d => ?_) (funext fun d => ?_)) (funext fun κ => ?_)
  · exact congrArg q (head_q q a o ho hb r d)
  · exact congrArg k (head_k k a o ho hc κ d)
  · exact congrArg v (head_k v a o ho hc κ e)

/-- What a grid point leaves in its block. -/
theorem out_apply (q : Vec Ideal S1x512x1024 .bf16) (k v : Vec Ideal S1x256x1024 .f32) (y : S1x512x1024.Idx) :
    out0_3 (F := Ideal) q k v y = blockRows q k v y := by
  unfold out0_3
  rw [second, third, fourth]
  refine View.canon_apply_of_pieces (blockRows q k v) _ ?_ y (cover0_3 _ _ _ _ y)
  intro pc hpc
  rcases List.mem_cons.mp hpc with rfl | hpc
  · exact fun x => piece q k v 3 768 rfl _ _ x
  rcases List.mem_cons.mp hpc with rfl | hpc
  · exact fun x => piece q k v 2 512 rfl _ _ x
  rcases List.mem_cons.mp hpc with rfl | hpc
  · exact fun x => piece q k v 1 256 rfl _ _ x
  rcases List.mem_cons.mp hpc with rfl | hpc
  · exact fun x => piece q k v 0 0 rfl _ _ x
  nomatch hpc

end Cert.CrossIdeal.Value

end
-- ==== Proof.CrossArray.lean ====
/- The cross-attention's result array after the run, from the argument arrays. -/
module

public import proofs.«01_k».proof.Proof.CrossBlock
public import Idealize.ShloMosaic.Lib.StableHlo.RunRead
public import Idealize.ShloMosaic.Lib.KernelVsHost

@[expose] public section

set_option maxRecDepth 16384

noncomputable section

namespace Cert.CrossIdeal.Value

open Cert.CrossIdeal Cert.CrossIdeal.Gen Idealize.ShloMosaic Idealize.ShloMosaic.TcCoe Idealize.SL.Sem
open Idealize.ShloMosaic.StableHlo Cert.Cross.Row Cert.Memory

variable (m : (ℓ : Loc nD τ sig) → Buf (Elt Ideal) ℓ)

/-- The block of each window at a grid point. -/
theorem idx : ∀ t : Fin cfg0.N, win0_0.index t = ![t.val / 4, t.val % 4, 0] ∧ win0_1.index t = ![t.val / 4, 0, 0]
    ∧ win0_2.index t = ![t.val / 4, 0, 0] ∧ win0_3.index t = ![t.val / 4, t.val % 4, 0] :=
  (by decide +kernel : ∀ t : Fin grid0.N, _)

theorem lt32 (t : Fin cfg0.N) : t.val < 32 := t.isLt

/-- The stream of a grid point, and the row of the stream that a block's row is. -/
def streamOf (t : Fin cfg0.N) : Fin 8 := ⟨t.val / 4, by have := lt32 t; omega⟩
def rowOf (t : Fin cfg0.N) (r : Fin 512) : Fin 2048 := ⟨t.val % 4 * 512 + r.val, by omega⟩

/-- The argument arrays, by stream, row and lane. -/
def argQ (c : Dev nD) (b : Fin 8) (r : Fin 2048) (n : Fin 1024) : EReal :=
  m (c, Proc.tc.devRef main_arg0) (ix4 b r (head n) (inHead n))
def argK (c : Dev nD) (b : Fin 8) (κ : Fin 256) (n : Fin 1024) : EReal :=
  m (c, Proc.tc.devRef main_arg1) (ix4 b κ (head n) (inHead n))
def argV (c : Dev nD) (b : Fin 8) (κ : Fin 256) (n : Fin 1024) : EReal :=
  m (c, Proc.tc.devRef main_arg2) (ix4 b κ (head n) (inHead n))

/-! ## The arrays the host hands to the kernel -/

def flatQ (q : FVec Ideal S8x2048x4x256 .f32) : FVec Ideal S16384x1024 .bf16 :=
  truncf .bf16 (shapeCast S16384x1024 q shapeCasts_S8x2048x4x256_S16384x1024) bitsLt_bf16_f32
def layQ (q : FVec Ideal S8x2048x4x256 .f32) : FVec Ideal S8x2048x1024 .bf16 :=
  shapeCast S8x2048x1024 (flatQ q) shapeCasts_S16384x1024_S8x2048x1024
def flatK (k : FVec Ideal S8x256x4x256 .f32) : FVec Ideal S2048x1024 .f32 :=
  shapeCast S2048x1024 k shapeCasts_S8x256x4x256_S2048x1024
def layK (k : FVec Ideal S8x256x4x256 .f32) : FVec Ideal S8x256x1024 .f32 :=
  shapeCast S8x256x1024 (flatK k) shapeCasts_S2048x1024_S8x256x1024

theorem layQ_apply (q : FVec Ideal S8x2048x4x256 .f32) (b : Fin 8) (r : Fin 2048) (n : Fin 1024) :
    (layQ q (ix3 b r n) : EReal) = q (ix4 b r (head n) (inHead n)) := by
  pointwise [layQ, flatQ]
  refine congrArg q (funext fun a => Fin.ext ?_)
  fin_cases a <;> simp [head, inHead] <;> omega

theorem layK_apply (k : FVec Ideal S8x256x4x256 .f32) (b : Fin 8) (κ : Fin 256) (n : Fin 1024) :
    (layK k (ix3 b κ n) : EReal) = k (ix4 b κ (head n) (inHead n)) := by
  pointwise [layK, flatK]
  refine congrArg k (funext fun a => Fin.ext ?_)
  fin_cases a <;> simp [head, inHead] <;> omega

theorem v4_eq (c : Dev nD) : V m c main_v4 = layQ (m (c, Proc.tc.devRef main_arg0)) := by
  refine (after_last_write (i := 4) [main_v5, main_v6] rfl rfl (by decide) _).trans ?_
  refine (reshape_result main_v1 main_v4 rfl _ _ _ _).trans ?_
  refine congrArg (fun x => shapeCast S8x2048x1024 x shapeCasts_S16384x1024_S8x2048x1024)
    (?_ : _ = flatQ (m (c, Proc.tc.devRef main_arg0)))
  rw [upto_last_write (i := 1) [main_v2, main_v3] rfl rfl (by decide)]
  refine (unary_result main_v0 main_v1 _ _ _ _).trans ?_
  rw [upto_last_write (i := 0) [] rfl rfl (by decide)]
  rfl

theorem v5_eq (c : Dev nD) : V m c main_v5 = layK (m (c, Proc.tc.devRef main_arg1)) := by
  refine (after_last_write (i := 5) [main_v6] rfl rfl (by decide) _).trans ?_
  refine (reshape_result main_v2 main_v5 rfl _ _ _ _).trans ?_
  refine congrArg (fun x => shapeCast S8x256x1024 x shapeCasts_S2048x1024_S8x256x1024)
    (?_ : _ = flatK (m (c, Proc.tc.devRef main_arg1)))
  rw [upto_last_write (i := 2) [main_v3, main_v4] rfl rfl (by decide)]
  refine (reshape_result main_arg1 main_v2 rfl _ _ _ _).trans ?_
  exact congrArg flatK (upto_unwritten [main_v0, main_v1] rfl (by decide) _)

theorem v6_eq (c : Dev nD) : V m c main_v6 = layK (m (c, Proc.tc.devRef main_arg2)) := by
  refine (after_last_write (i := 6) [] rfl rfl (by decide) _).trans ?_
  refine (reshape_result main_v3 main_v6 rfl _ _ _ _).trans ?_
  refine congrArg (fun x => shapeCast S8x256x1024 x shapeCasts_S2048x1024_S8x256x1024)
    (?_ : _ = flatK (m (c, Proc.tc.devRef main_arg2)))
  rw [upto_last_write (i := 3) [main_v4, main_v5] rfl rfl (by decide)]
  refine (reshape_result main_arg2 main_v3 rfl _ _ _ _).trans ?_
  exact congrArg flatK (upto_unwritten [main_v0, main_v1, main_v2] rfl (by decide) _)

/-! ## The blocks of the arrays at a grid point -/

theorem emb_q (t : Fin cfg0.N) (r : Fin 512) (n : Fin 1024) :
    (win0_0.blk t).view.emb (ix3 0 r n) = (ix3 (streamOf t) (rowOf t r) n : S8x2048x1024.Idx) := by
  refine funext fun a => Fin.ext ?_
  fin_cases a
  · change win0_0.index t 0 * 1 + 1 * 0 = t.val / 4
    rw [(idx t).1]; simp
  · change win0_0.index t 1 * 512 + 1 * r.val = t.val % 4 * 512 + r.val
    rw [(idx t).1]; simp
  · change win0_0.index t 2 * 1024 + 1 * n.val = n.val
    rw [(idx t).1]; simp

theorem emb_k (t : Fin cfg0.N) (κ : Fin 256) (n : Fin 1024) :
    (win0_1.blk t).view.emb (ix3 0 κ n) = (ix3 (streamOf t) κ n : S8x256x1024.Idx) := by
  refine funext fun a => Fin.ext ?_
  fin_cases a
  · change win0_1.index t 0 * 1 + 1 * 0 = t.val / 4
    rw [(idx t).2.1]; simp
  · change win0_1.index t 1 * 256 + 1 * κ.val = κ.val
    rw [(idx t).2.1]; simp
  · change win0_1.index t 2 * 1024 + 1 * n.val = n.val
    rw [(idx t).2.1]; simp

theorem emb_v (t : Fin cfg0.N) (κ : Fin 256) (n : Fin 1024) :
    (win0_2.blk t).view.emb (ix3 0 κ n) = (ix3 (streamOf t) κ n : S8x256x1024.Idx) := by
  refine funext fun a => Fin.ext ?_
  fin_cases a
  · change win0_2.index t 0 * 1 + 1 * 0 = t.val / 4
    rw [(idx t).2.2.1]; simp
  · change win0_2.index t 1 * 256 + 1 * κ.val = κ.val
    rw [(idx t).2.2.1]; simp
  · change win0_2.index t 2 * 1024 + 1 * n.val = n.val
    rw [(idx t).2.2.1]; simp

theorem emb_out (t : Fin cfg0.N) (r : Fin 512) (n : Fin 1024) :
    (win0_3.blk t).view.emb (ix3 0 r n) = (ix3 (streamOf t) (rowOf t r) n : S8x2048x1024.Idx) := by
  refine funext fun a => Fin.ext ?_
  fin_cases a
  · change win0_3.index t 0 * 1 + 1 * 0 = t.val / 4
    rw [(idx t).2.2.2]; simp
  · change win0_3.index t 1 * 512 + 1 * r.val = t.val % 4 * 512 + r.val
    rw [(idx t).2.2.2]; simp
  · change win0_3.index t 2 * 1024 + 1 * n.val = n.val
    rw [(idx t).2.2.2]; simp

theorem block_q (c : Dev nD) (t : Fin cfg0.N) (r : Fin 512) (n : Fin 1024) :
    (iblk m c 0 t (ix3 0 r n) : EReal) = argQ m c (streamOf t) (rowOf t r) n := by
  unfold iblk
  have h : V m c (Pipeline.arrRef spec0 0) = layQ (m (c, Proc.tc.devRef main_arg0)) := v4_eq m c
  rw [h]
  exact (congrArg (layQ (m (c, Proc.tc.devRef main_arg0))) (emb_q t r n)).trans (layQ_apply _ _ _ _)

theorem block_k (c : Dev nD) (t : Fin cfg0.N) (κ : Fin 256) (n : Fin 1024) :
    (iblk m c 1 t (ix3 0 κ n) : EReal) = argK m c (streamOf t) κ n := by
  unfold iblk
  have h : V m c (Pipeline.arrRef spec0 1) = layK (m (c, Proc.tc.devRef main_arg1)) := v5_eq m c
  rw [h]
  exact (congrArg (layK (m (c, Proc.tc.devRef main_arg1))) (emb_k t κ n)).trans (layK_apply _ _ _ _)

theorem block_v (c : Dev nD) (t : Fin cfg0.N) (κ : Fin 256) (n : Fin 1024) :
    (iblk m c 2 t (ix3 0 κ n) : EReal) = argV m c (streamOf t) κ n := by
  unfold iblk
  have h : V m c (Pipeline.arrRef spec0 2) = layK (m (c, Proc.tc.devRef main_arg2)) := v6_eq m c
  rw [h]
  exact (congrArg (layK (m (c, Proc.tc.devRef main_arg2))) (emb_v t κ n)).trans (layK_apply _ _ _ _)

/-! ## The result -/

/-- The result array. -/
def result (c : Dev nD) : FVec Ideal S8x2048x1024 .bf16 := fun i =>
  attend (argQ m c ⟨(i 0).val, (i 0).isLt⟩ ⟨(i 1).val, (i 1).isLt⟩) (argK m c ⟨(i 0).val, (i 0).isLt⟩)
    (argV m c ⟨(i 0).val, (i 0).isLt⟩) ⟨(i 2).val, (i 2).isLt⟩

/-- The result array at a lane, from the argument arrays. -/
theorem result_apply (c : Dev nD) (b : Fin 8) (t : Fin 2048) (n : Fin 1024) :
    (result m c (ix3 b t n) : EReal)
      = attended (fun κ => score (fun d => m (c, Proc.tc.devRef main_arg0) (ix4 b t (head n) d))
          fun d => m (c, Proc.tc.devRef main_arg1) (ix4 b κ (head n) d))
        fun κ => m (c, Proc.tc.devRef main_arg2) (ix4 b κ (head n) (inHead n)) := by
  have hh : ∀ (a : Fin 4) (d : Fin 256), head (lane a d) = a := fun a d =>
    Fin.ext (show (256 * a.val + d.val) / 256 = a.val by omega)
  have hi : ∀ (a : Fin 4) (d : Fin 256), inHead (lane a d) = d := fun a d =>
    Fin.ext (show (256 * a.val + d.val) % 256 = d.val by omega)
  show attended (fun κ => score (fun d => argQ m c b t (lane (head n) d)) fun d => argK m c b κ (lane (head n) d))
    (fun κ => argV m c b κ n) = _
  unfold argQ argK argV
  simp only [hh, hi]

/-- A block's row is the row of its operands. -/
theorem rows_eq {q : Vec Ideal S1x512x1024 .bf16} {k v : Vec Ideal S1x256x1024 .f32} {r : Fin 512} {Q : Fin 1024 → EReal}
    {K V : Fin 256 → Fin 1024 → EReal} (hq : ∀ n, (q (ix3 0 r n) : EReal) = Q n)
    (hk : ∀ κ n, (k (ix3 0 κ n) : EReal) = K κ n) (hv : ∀ κ n, (v (ix3 0 κ n) : EReal) = V κ n) (n : Fin 1024) :
    (blockRows q k v (ix3 0 r n) : EReal) = attend Q K V n := by
  obtain rfl : (fun n => (q (ix3 0 r n) : EReal)) = Q := funext hq
  obtain rfl : (fun κ n => (k (ix3 0 κ n) : EReal)) = K := funext fun κ => funext (hk κ)
  obtain rfl : (fun κ n => (v (ix3 0 κ n) : EReal)) = V := funext fun κ => funext (hv κ)
  rfl

theorem block_laid (c : Dev nD) (t : Fin cfg0.N) (y : S1x512x1024.Idx) :
    (out0_3 (F := Ideal) (iblk m c 0 t) (iblk m c 1 t) (iblk m c 2 t) y : EReal)
      = result m c ((win0_3.blk t).view.emb y) := by
  obtain ⟨r, n, rfl⟩ : ∃ (r : Fin 512) (n : Fin 1024), y = ix3 0 r n :=
    ⟨⟨(y 1).val, (y 1).isLt⟩, ⟨(y 2).val, (y 2).isLt⟩, funext fun b => by
      fin_cases b
      · exact Fin.ext (Nat.lt_one_iff.1 (y 0).isLt)
      · rfl
      · rfl⟩
  rw [emb_out, out_apply]
  exact rows_eq (block_q m c t r) (block_k m c t) (block_v m c t) n

/-- The result array of the run. -/
theorem array (c : Dev nD) : (dats m 0 c).arrAt 3 cfg0.N = result m c := by
  refine (dats m 0 c).arrAt_eq_of_covers 3 _ (by decide +kernel) fun t _ y => ?_
  blk_simp
  rw [after0_3]
  exact block_laid m c t y

end Cert.CrossIdeal.Value

end
-- ==== Proof.CrossReference.lean ====
/- What the reference of the cross-attention computes: the row of the softmax over the memory, of real scores. -/
module

public import proofs.«01_k».proof.Proof.Cross
public import proofs.«01_k».proof.Proof.Gen.CrossReferenceIdeal.Read
public import Idealize.ShloMosaic.Lib.Pipeline.ValueKit

@[expose] public section

set_option maxRecDepth 16384

noncomputable section

namespace Cert.CrossReferenceIdeal.Read

open Cert.CrossReferenceIdeal Cert.CrossReferenceIdeal.Gen Idealize.ShloMosaic Cert.Cross.Row Cert.Memory

variable (x0 : (⟨S8x2048x4x256, .f32⟩ : BufTy).Contents (Elt Ideal))
  (x1 x2 : (⟨S8x256x4x256, .f32⟩ : BufTy).Contents (Elt Ideal))

theorem minus_infinity : Ideal.ofBits .f32 0xFF800000#32 = (⊥ : EReal) := by simp [Ideal.ofBits, Ideal.ieee]
theorem zero : Ideal.ofBits .f32 0x00000000#32 = (0 : EReal) := by simp [Ideal.ofBits, Ideal.ieee]

/-- A row of the scores. -/
def scores (b : Fin 8) (h : Fin 4) (t : Fin 2048) (κ : Fin 256) : EReal :=
  score (fun d => x0 (ix4 b t h d)) fun d => x1 (ix4 b κ h d)

theorem score_apply (b : Fin 8) (h : Fin 4) (t : Fin 2048) (κ : Fin 256) (j : S8x4x2048x256.Idx) (hj : j = ix4 b h t κ) :
    (val_main_v2 (F := Ideal) x0 x1 j : EReal) = scores x0 x1 b h t κ := by
  subst hj
  rw [val_main_v2_apply, val_main_v0_apply, val_main_v1_apply]
  unfold scores score
  refine congrArg₂ (fun x y : EReal => x * y) (Finset.sum_congr rfl fun d _ => congrArg₂ (fun x y : EReal => x * y) ?_ ?_)
    rfl
  · exact congrArg x0 (funext fun a => by fin_cases a <;> rfl)
  · exact congrArg x1 (funext fun a => by fin_cases a <;> rfl)

/-- The greatest of a row's scores. -/
theorem top_apply (b : Fin 8) (h : Fin 4) (t : Fin 2048) (j : S8x4x2048.Idx) (hj : j = ix3 b h t) :
    (val_main_v5 (F := Ideal) x0 x1 j : EReal) = Finset.univ.fold max ⊥ (scores x0 x1 b h t) := by
  subst hj
  have hm : (val_main_v3 (F := Ideal) x0 x1 (ix3 b h t) : EReal) = Finset.univ.fold max ⊥ (scores x0 x1 b h t) := by
    unfold val_main_v3
    rw [Host.reduce_eq_fold_single _ _ _ _ (by decide : S8x4x2048x256.Reduces [3] S8x4x2048)]
    refine congrArg₂ (Finset.univ.fold max) minus_infinity (funext fun κ => score_apply x0 x1 b h t κ _ ?_)
    exact funext fun a => Fin.ext (by fin_cases a <;> rfl)
  rw [val_main_v5_apply, val_main_v4_apply, val_main_cst_1_apply]
  exact (congrArg₂ max minus_infinity hm).trans (max_eq_right bot_le)

/-- A row's weights. -/
theorem weight_apply (b : Fin 8) (h : Fin 4) (t : Fin 2048) (κ : Fin 256) (j : S8x4x2048x256.Idx)
    (hj : j = ix4 b h t κ) : (val_main_v9 (F := Ideal) x0 x1 j : EReal) = weight (scores x0 x1 b h t) κ := by
  subst hj
  rw [val_main_v9_apply, val_main_v8_apply, val_main_v7_apply, val_main_v6_apply]
  refine congrArg Ideal.exp (congrArg₂ (fun x y : EReal => x - y) (score_apply x0 x1 b h t κ _ rfl)
    (top_apply x0 x1 b h t _ ?_))
  funext a; fin_cases a <;> rfl

/-- A row's softmax. -/
theorem softmax_apply (b : Fin 8) (h : Fin 4) (t : Fin 2048) (κ : Fin 256) (j : S8x4x2048x256.Idx)
    (hj : j = ix4 b h t κ) : (val_main_v13 (F := Ideal) x0 x1 j : EReal)
      = Ideal.div (weight (scores x0 x1 b h t) κ) (∑ i, weight (scores x0 x1 b h t) i) := by
  subst hj
  rw [val_main_v13_apply, val_main_v12_apply, val_main_v11_apply, val_main_v10_apply, val_main_cst_2_apply]
  refine congrArg₂ Ideal.div (weight_apply x0 x1 b h t κ _ rfl) ?_
  refine (congrArg₂ (fun x y : EReal => x + y) zero (Finset.sum_congr rfl fun i _ =>
    weight_apply x0 x1 b h t i _ ?_)).trans (zero_add _)
  funext a; fin_cases a <;> rfl

/-- The reference at a stream, a row and a lane, the queries and the keys being real. -/
theorem ref_apply (hq : ∀ i, (x0 i : EReal) ≠ ⊥ ∧ (x0 i : EReal) ≠ ⊤) (hk : ∀ i, (x1 i : EReal) ≠ ⊥ ∧ (x1 i : EReal) ≠ ⊤)
    (b : Fin 8) (t : Fin 2048) (n : Fin 1024) : (val_main_v17 (F := Ideal) x0 x1 x2 (ix3 b t n) : EReal)
      = attended (scores x0 x1 b (head n) t) fun κ => x2 (ix4 b κ (head n) (inHead n)) := by
  have hi : idx_main_v15 (idx_main_v16 (ix3 b t n)) = ix4 b (head n) (inHead n) t := by
    refine funext fun a => Fin.ext ?_
    fin_cases a <;> simp [idx_main_v15, idx_main_v16, head, inHead] <;> omega
  rw [val_main_v17_apply, val_main_v16_apply, val_main_v15_apply, hi]
  show (val_main_v14 (F := Ideal) x0 x1 x2 (ix4 b (head n) (inHead n) t) : EReal) = _
  rw [val_main_v14_apply, ← softmax_sum (scores x0 x1 b (head n) t) _ fun κ => score_real _ _ (fun d => hq _) fun d => hk _]
  refine Finset.sum_congr rfl fun κ _ => congrArg₂ (fun x y : EReal => x * y) ?_ ?_
  · exact congrArg x2 (funext fun a => by fin_cases a <;> rfl)
  · exact softmax_apply x0 x1 b (head n) t κ _ (funext fun a => by fin_cases a <;> rfl)

end Cert.CrossReferenceIdeal.Read

end
-- ==== Proof.Dense.lean ====
/- Functions of the coordinates of the arrays, common to the kernels and their references: rows of streams of `2048`,
   a product on top of a residual, and the gated sum of three products. -/
module

public import Idealize.ShloMosaic.Lib.Pointwise

@[expose] public section

noncomputable section

namespace Cert.Dense

open Idealize.ShloMosaic

/-- The stream of a row of the flat arrays, and its place in the stream. -/
def stream (i : Fin 16384) : Fin 8 := ⟨i.val / 2048, by omega⟩
def place (i : Fin 16384) : Fin 2048 := ⟨i.val % 2048, by omega⟩

/-- A product on top of a residual. -/
def onTop (x : Fin 8 → Fin 2048 → Fin 2048 → EReal) (y : Fin 8 → Fin 2048 → Fin 5504 → EReal)
    (w : Fin 5504 → Fin 2048 → EReal) (i : Fin 16384) (n : Fin 2048) : EReal :=
  x (stream i) (place i) n + ∑ k : Fin 5504, y (stream i) (place i) k * w k n

/-- The stream of a row of the sample's flat arrays, whose streams have `32` rows, and its place in the stream. -/
def sampleStream (i : Fin 1024) : Fin 32 := ⟨i.val / 32, by omega⟩
def samplePlace (i : Fin 1024) : Fin 32 := ⟨i.val % 32, by omega⟩

/-- The sample's product on top of its residual. -/
def onTopSample (x : Fin 32 → Fin 32 → Fin 2048 → EReal) (y : Fin 32 → Fin 32 → Fin 5504 → EReal)
    (w : Fin 5504 → Fin 2048 → EReal) (i : Fin 1024) (n : Fin 2048) : EReal :=
  x (sampleStream i) (samplePlace i) n + ∑ k : Fin 5504, y (sampleStream i) (samplePlace i) k * w k n

/-- A column of the gates' weights: branch `a`, lane `n`. -/
def gateCol (a : Fin 3) (n : Fin 2048) : Fin 13312 := ⟨7168 + 2048 * a.val + n.val, by omega⟩

/-- One branch's product, weighted by its gate. -/
def gated (h : Fin 8 → Fin 2048 → Fin 2048 → EReal) (o : Fin 8 → Fin 2048 → Fin 1024 → EReal)
    (w : Fin 2048 → Fin 13312 → EReal) (g : Fin 3 → Fin 2048 → EReal) (u : Fin 3 → Fin 1024 → Fin 2048 → EReal)
    (a : Fin 3) (i : Fin 16384) (n : Fin 2048) : EReal :=
  Ideal.logistic ((∑ k : Fin 2048, h (stream i) (place i) k * w k (gateCol a n)) + g a n)
    * ∑ k : Fin 1024, o (stream i) (place i) k * u a k n

/-- The gated sum of the three branches. -/
def merged (h : Fin 8 → Fin 2048 → Fin 2048 → EReal) (p q s : Fin 8 → Fin 2048 → Fin 1024 → EReal)
    (w : Fin 2048 → Fin 13312 → EReal) (g : Fin 3 → Fin 2048 → EReal) (u : Fin 3 → Fin 1024 → Fin 2048 → EReal)
    (i : Fin 16384) (n : Fin 2048) : EReal :=
  gated h p w g u 0 i n + gated h q w g u 1 i n + gated h s w g u 2 i n

/-- A sum over more terms, the further ones zero. -/
theorem sum_padded (f : Fin 5632 → EReal) (hf : ∀ k, 5504 ≤ k.val → f k = 0) :
    ∑ k, f k = ∑ k : Fin 5504, f ⟨k.val, by omega⟩ := by
  refine (Fin.sum_univ_add (a := 5504) (b := 128) f).trans ?_
  rw [Finset.sum_eq_zero (s := (Finset.univ : Finset (Fin 128))) (fun k _ => hf _ (by simp)), add_zero]
  rfl

end Cert.Dense

end
-- ==== Proof.DenseReference.lean ====
/- What the references of the merged branches and of the down projection compute: the same functions of the
   coordinates of the arrays as the kernels. -/
module

public import proofs.«01_k».proof.Proof.Dense
public import proofs.«01_k».proof.Proof.Gen.MergeReferenceIdeal.Read
public import proofs.«01_k».proof.Proof.Gen.DownReferenceIdeal.Read
public import proofs.«01_k».proof.Proof.Gen.DownSampleReferenceIdeal.Read
public import Idealize.ShloMosaic.Lib.Pipeline.ValueKit

@[expose] public section

set_option maxRecDepth 16384

noncomputable section

namespace Cert.DownReferenceIdeal.Read

open Cert.DownReferenceIdeal Cert.DownReferenceIdeal.Gen Idealize.ShloMosaic Cert.Dense

/-- The down projection's reference at a row and a lane. -/
theorem ref_apply (x0 : (⟨S8x2048x2048, .f32⟩ : BufTy).Contents (Elt Ideal))
    (x1 : (⟨S8x2048x5504, .f32⟩ : BufTy).Contents (Elt Ideal)) (x2 : (⟨S5504x2048, .f32⟩ : BufTy).Contents (Elt Ideal))
    (i : Fin 16384) (n : Fin 2048) : (val_main_v2 (F := Ideal) x0 x1 x2 (ix2 i n) : EReal)
      = onTop (fun b r n => x0 (ix3 b r n)) (fun b r k => x1 (ix3 b r k)) (fun k n => x2 (ix2 k n)) i n := by
  have hi : idx_main_v2 (ix2 i n) = ix3 (stream i) (place i) n := by
    refine funext fun a => Fin.ext ?_
    fin_cases a <;> simp [idx_main_v2, stream, place] <;> omega
  rw [val_main_v2_apply, hi, val_main_v1_apply, val_main_v0_apply]
  refine congrArg₂ (· + ·) rfl (Finset.sum_congr rfl fun k _ => congrArg₂ (· * ·) ?_ ?_)
  · exact congrArg x1 (funext fun a => by fin_cases a <;> rfl)
  · exact congrArg x2 (funext fun a => by fin_cases a <;> rfl)

end Cert.DownReferenceIdeal.Read

namespace Cert.DownSampleReferenceIdeal.Read

open Cert.DownSampleReferenceIdeal Cert.DownSampleReferenceIdeal.Gen Idealize.ShloMosaic Cert.Dense

/-- The reference of the sample's down projection at a row and a lane. -/
theorem ref_apply (x0 : (⟨S32x32x2048, .f32⟩ : BufTy).Contents (Elt Ideal))
    (x1 : (⟨S32x32x5504, .f32⟩ : BufTy).Contents (Elt Ideal)) (x2 : (⟨S5504x2048, .f32⟩ : BufTy).Contents (Elt Ideal))
    (i : Fin 1024) (n : Fin 2048) : (val_main_v2 (F := Ideal) x0 x1 x2 (ix2 i n) : EReal)
      = onTopSample (fun b r n => x0 (ix3 b r n)) (fun b r k => x1 (ix3 b r k)) (fun k n => x2 (ix2 k n)) i n := by
  have hi : idx_main_v2 (ix2 i n) = ix3 (sampleStream i) (samplePlace i) n := by
    refine funext fun a => Fin.ext ?_
    fin_cases a <;> simp [idx_main_v2, sampleStream, samplePlace] <;> omega
  rw [val_main_v2_apply, hi, val_main_v1_apply, val_main_v0_apply]
  refine congrArg₂ (· + ·) rfl (Finset.sum_congr rfl fun k _ => congrArg₂ (· * ·) ?_ ?_)
  · exact congrArg x1 (funext fun a => by fin_cases a <;> rfl)
  · exact congrArg x2 (funext fun a => by fin_cases a <;> rfl)

end Cert.DownSampleReferenceIdeal.Read

namespace Cert.MergeReferenceIdeal.Read

open Cert.MergeReferenceIdeal Cert.MergeReferenceIdeal.Gen Idealize.ShloMosaic Cert.Dense

theorem one : Ideal.ofBits .f32 0x3F800000#32 = (1 : EReal) := by
  simp [Ideal.ofBits, Ideal.ieee]
  rw [← EReal.coe_mul, ← EReal.coe_one]
  norm_num
theorem zero : Ideal.ofBits .f32 0x00000000#32 = (0 : EReal) := by simp [Ideal.ofBits, Ideal.ieee]

variable (x0 : (⟨S8x2048x2048, .f32⟩ : BufTy).Contents (Elt Ideal))
  (x1 x2 x3 : (⟨S8x2048x1024, .f32⟩ : BufTy).Contents (Elt Ideal))
  (x4 : (⟨S2048x13312, .f32⟩ : BufTy).Contents (Elt Ideal)) (x5 : (⟨S3x2048, .f32⟩ : BufTy).Contents (Elt Ideal))
  (x6 : (⟨S3x1024x2048, .f32⟩ : BufTy).Contents (Elt Ideal))

/-- A gate before its logistic function. -/
theorem linear_apply (b : Fin 8) (t : Fin 2048) (a : Fin 3) (n : Fin 2048) :
    (val_main_v5 (F := Ideal) x0 x4 x5 (ix4 b t a n) : EReal)
      = (∑ k : Fin 2048, (x0 (ix3 b t k) : EReal) * x4 (ix2 k (gateCol a n))) + x5 (ix2 a n) := by
  rw [val_main_v5_apply, val_main_v2_apply, val_main_v1_apply, val_main_v0_apply, val_main_v4_apply, val_main_v3_apply]
  refine congrArg₂ (· + ·) (Finset.sum_congr rfl fun k _ => congrArg₂ (· * ·) ?_ ?_) ?_
  · refine congrArg x0 (funext fun e => Fin.ext ?_)
    fin_cases e <;> simp [lidx_main_v0, idx_main_v1, idx_main_v2] <;> omega
  · refine congrArg x4 (funext fun e => Fin.ext ?_)
    fin_cases e <;> simp [ridx_main_v0, idx_main_v1, idx_main_v2, gateCol] <;> omega
  · exact congrArg x5 (funext fun e => by fin_cases e <;> rfl)

/-- A gate. -/
theorem gate_apply (b : Fin 8) (t : Fin 2048) (a : Fin 3) (n : Fin 2048) :
    (val_main_v11 (F := Ideal) x0 x4 x5 (ix4 b t a n) : EReal)
      = Ideal.logistic ((∑ k : Fin 2048, (x0 (ix3 b t k) : EReal) * x4 (ix2 k (gateCol a n))) + x5 (ix2 a n)) := by
  rw [val_main_v11_apply, val_main_v9_apply, val_main_v7_apply, val_main_v6_apply, linear_apply, val_main_v10_apply,
    val_main_v8_apply]
  exact congrArg₂ Ideal.div one (congrArg₂ (· + ·) one rfl)

/-- Branch `0`, weighted by its gate. -/
theorem term0_apply (i : Fin 16384) (n : Fin 2048) :
    (val_main_v17 (F := Ideal) x0 x1 x4 x5 x6 (ix3 (stream i) (place i) n) : EReal)
      = gated (fun b r k => x0 (ix3 b r k)) (fun b r k => x1 (ix3 b r k)) (fun k n => x4 (ix2 k n))
          (fun a n => x5 (ix2 a n)) (fun a k n => x6 (ix3 a k n)) 0 i n := by
  have hg : idx_main_v12 (idx_main_v13 (ix3 (stream i) (place i) n)) = ix4 (stream i) (place i) 0 n := by
    refine funext fun e => Fin.ext ?_
    fin_cases e <;> simp [idx_main_v12, idx_main_v13] <;> omega
  rw [val_main_v17_apply, val_main_v13_apply, val_main_v12_apply, hg, gate_apply, val_main_v16_apply]
  refine congrArg₂ (· * ·) rfl (Finset.sum_congr rfl fun k _ => ?_)
  rw [val_main_v15_apply, val_main_v14_apply]
  refine congrArg₂ (· * ·) ?_ ?_
  · exact congrArg x1 (funext fun e => by fin_cases e <;> rfl)
  · refine congrArg x6 (funext fun e => Fin.ext ?_)
    fin_cases e <;> simp [idx_main_v14, idx_main_v15, ridx_main_v16] <;> omega

/-- Branch `1`, weighted by its gate. -/
theorem term1_apply (i : Fin 16384) (n : Fin 2048) :
    (val_main_v25 (F := Ideal) x0 x2 x4 x5 x6 (ix3 (stream i) (place i) n) : EReal)
      = gated (fun b r k => x0 (ix3 b r k)) (fun b r k => x2 (ix3 b r k)) (fun k n => x4 (ix2 k n))
          (fun a n => x5 (ix2 a n)) (fun a k n => x6 (ix3 a k n)) 1 i n := by
  have hg : idx_main_v20 (idx_main_v21 (ix3 (stream i) (place i) n)) = ix4 (stream i) (place i) 1 n := by
    refine funext fun e => Fin.ext ?_
    fin_cases e <;> simp [idx_main_v20, idx_main_v21] <;> omega
  rw [val_main_v25_apply, val_main_v21_apply, val_main_v20_apply, hg, gate_apply, val_main_v24_apply]
  refine congrArg₂ (· * ·) rfl (Finset.sum_congr rfl fun k _ => ?_)
  rw [val_main_v23_apply, val_main_v22_apply]
  refine congrArg₂ (· * ·) ?_ ?_
  · exact congrArg x2 (funext fun e => by fin_cases e <;> rfl)
  · refine congrArg x6 (funext fun e => Fin.ext ?_)
    fin_cases e <;> simp [idx_main_v22, idx_main_v23, ridx_main_v24] <;> omega

/-- Branch `2`, weighted by its gate. -/
theorem term2_apply (i : Fin 16384) (n : Fin 2048) :
    (val_main_v32 (F := Ideal) x0 x3 x4 x5 x6 (ix3 (stream i) (place i) n) : EReal)
      = gated (fun b r k => x0 (ix3 b r k)) (fun b r k => x3 (ix3 b r k)) (fun k n => x4 (ix2 k n))
          (fun a n => x5 (ix2 a n)) (fun a k n => x6 (ix3 a k n)) 2 i n := by
  have hg : idx_main_v27 (idx_main_v28 (ix3 (stream i) (place i) n)) = ix4 (stream i) (place i) 2 n := by
    refine funext fun e => Fin.ext ?_
    fin_cases e <;> simp [idx_main_v27, idx_main_v28] <;> omega
  rw [val_main_v32_apply, val_main_v28_apply, val_main_v27_apply, hg, gate_apply, val_main_v31_apply]
  refine congrArg₂ (· * ·) rfl (Finset.sum_congr rfl fun k _ => ?_)
  rw [val_main_v30_apply, val_main_v29_apply]
  refine congrArg₂ (· * ·) ?_ ?_
  · exact congrArg x3 (funext fun e => by fin_cases e <;> rfl)
  · refine congrArg x6 (funext fun e => Fin.ext ?_)
    fin_cases e <;> simp [idx_main_v29, idx_main_v30, ridx_main_v31] <;> omega

/-- The merged branches' reference at a row and a lane. -/
theorem ref_apply (i : Fin 16384) (n : Fin 2048) :
    (val_main_v35 (F := Ideal) x0 x1 x2 x3 x4 x5 x6 (ix2 i n) : EReal)
      = merged (fun b r k => x0 (ix3 b r k)) (fun b r k => x1 (ix3 b r k)) (fun b r k => x2 (ix3 b r k))
          (fun b r k => x3 (ix3 b r k)) (fun k n => x4 (ix2 k n)) (fun a n => x5 (ix2 a n))
          (fun a k n => x6 (ix3 a k n)) i n := by
  have hi : idx_main_v35 (ix2 i n) = ix3 (stream i) (place i) n := by
    refine funext fun a => Fin.ext ?_
    fin_cases a <;> simp [idx_main_v35, stream, place] <;> omega
  rw [val_main_v35_apply, hi, val_main_v34_apply, val_main_v33_apply, val_main_v26_apply, val_main_v19_apply,
    term0_apply, term1_apply, term2_apply, val_main_v18_apply]
  refine congrArg₂ (· + ·) (congrArg₂ (· + ·) ?_ rfl) rfl
  exact (congrArg₂ (· + ·) zero rfl).trans (zero_add _)

end Cert.MergeReferenceIdeal.Read

end
-- ==== Proof.DownArray.lean ====
/- The down projection's result array after the run: the residual plus the product, at every row and lane. The host
   pads the inner axis with zeros, which add nothing to the sums. -/
module

public import proofs.«01_k».proof.Proof.Dense
public import proofs.«01_k».proof.Proof.Gen.DownIdeal.Value
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.StableHlo Cert.Dense

variable (m : (ℓ : Loc nD τ sig) → Buf (Elt Ideal) ℓ)

/-- The block of each window at a grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem lt64 (t : Fin cfg0.N) : t.val < 64 := t.isLt

/-- The row of the array that a block's row is, and the lane. -/
def rowOf (t : Fin cfg0.N) (r : Fin 1024) : Fin 16384 := ⟨t.val / 4 * 1024 + r.val, by have := lt64 t; omega⟩
def colOf (t : Fin cfg0.N) (e : Fin 512) : Fin 2048 := ⟨t.val % 4 * 512 + e.val, by omega⟩

/-- The argument arrays, by their coordinates. -/
def argX (c : Dev nD) (b : Fin 8) (r n : Fin 2048) : EReal := m (c, Proc.tc.devRef main_arg0) (ix3 b r n)
def argY (c : Dev nD) (b : Fin 8) (r : Fin 2048) (k : Fin 5504) : EReal := m (c, Proc.tc.devRef main_arg1) (ix3 b r k)
def argW (c : Dev nD) (k : Fin 5504) (n : Fin 2048) : EReal := m (c, Proc.tc.devRef main_arg2) (ix2 k n)

/-! ## The arrays the host hands to the kernel -/

def flatX (x : FVec Ideal S8x2048x2048 .f32) : FVec Ideal S16384x2048 .f32 :=
  shapeCast S16384x2048 x shapeCasts_S8x2048x2048_S16384x2048
def flatY (y : FVec Ideal S8x2048x5504 .f32) : FVec Ideal S16384x5504 .bf16 :=
  truncf .bf16 (shapeCast S16384x5504 y shapeCasts_S8x2048x5504_S16384x5504) bitsLt_bf16_f32
def padY (y : FVec Ideal S8x2048x5504 .f32) : FVec Ideal S16384x5632 .bf16 :=
  pad S16384x5632 ![0, 0] ![0, 128] ![0, 0] (flatY y) (constant (F := Ideal) S_ .bf16 0x0000#16)
    pads_S16384x5504_S16384x5632_000_01280 h_S_
def padW (w : FVec Ideal S5504x2048 .f32) : FVec Ideal S5632x2048 .bf16 :=
  pad S5632x2048 ![0, 0] ![128, 0] ![0, 0] (truncf .bf16 w bitsLt_bf16_f32) (constant (F := Ideal) S_ .bf16 0x0000#16)
    pads_S5504x2048_S5632x2048_01280_000 h_S_

theorem flatX_apply (x : FVec Ideal S8x2048x2048 .f32) (i : Fin 16384) (n : Fin 2048) :
    (flatX x (ix2 i n) : EReal) = x (ix3 (stream i) (place i) n) := by
  pointwise [flatX]
  rfl

theorem flatY_apply (y : FVec Ideal S8x2048x5504 .f32) (i : Fin 16384) (k : Fin 5504) :
    (flatY y (ix2 i k) : EReal) = y (ix3 (stream i) (place i) k) := by
  pointwise [flatY]
  rfl

theorem zero_bf16 : Ideal.ofBits .bf16 0x0000#16 = (0 : EReal) := by simp [Ideal.ofBits, Ideal.ieee]

theorem padY_inside (y : FVec Ideal S8x2048x5504 .f32) (i : Fin 16384) (k : Fin 5504) :
    (padY y (ix2 i ⟨k.val, by omega⟩) : EReal) = y (ix3 (stream i) (place i) k) :=
  (pad_apply_of_inside _ _ _ _ _ _ _ _ (ix2 i k) (fun a => by fin_cases a <;> simp)).trans (flatY_apply y i k)

theorem padW_inside (w : FVec Ideal S5504x2048 .f32) (k : Fin 5504) (n : Fin 2048) :
    (padW w (ix2 ⟨k.val, by omega⟩ n) : EReal) = w (ix2 k n) :=
  (pad_apply_of_inside _ _ _ _ _ _ _ _ (ix2 k n) (fun a => by fin_cases a <;> simp)).trans rfl

theorem padW_outside (w : FVec Ideal S5504x2048 .f32) (k : Fin 5632) (n : Fin 2048) (hk : 5504 ≤ k.val) :
    (padW w (ix2 k n) : EReal) = 0 :=
  (pad_apply_of_not_inside _ _ _ _ _ _ _ _ (0 : Fin 2) (by simp; omega)).trans zero_bf16

theorem v5_eq (c : Dev nD) : V m c main_v5 = flatX (m (c, Proc.tc.devRef main_arg0)) := by
  refine (after_last_write (i := 7) [] rfl rfl (by decide) _).trans ?_
  refine (reshape_result main_arg0 main_v5 rfl _ _ _ _).trans ?_
  exact congrArg flatX (upto_unwritten [main_v0, main_v1, main_cst, main_v2, main_v3, main_cst_0, main_v4] rfl (by decide) _)

theorem v1_eq (F : Valuation τ sig (Elt Ideal)) :
    upto (hostOps0 (F := Ideal)) F 3 (Proc.devRef .tc main_v1) = flatY (F (Proc.devRef .tc main_arg1)) := by
  rw [upto_last_write (i := 1) [main_cst] rfl rfl (by decide)]
  refine (unary_result main_v0 main_v1 _ _ _ _).trans ?_
  rw [upto_last_write (i := 0) [] rfl rfl (by decide)]
  rfl

theorem v2_eq (c : Dev nD) : V m c main_v2 = padY (m (c, Proc.tc.devRef main_arg1)) := by
  refine (after_last_write (i := 3) [main_v3, main_cst_0, main_v4, main_v5] rfl rfl (by decide) _).trans ?_
  refine (binary_result main_v1 main_cst main_v2 _ _ _ _ _).trans ?_
  rw [v1_eq, upto_last_write (i := 2) [] rfl rfl (by decide)]
  rfl

theorem v4_eq (c : Dev nD) : V m c main_v4 = padW (m (c, Proc.tc.devRef main_arg2)) := by
  refine (after_last_write (i := 6) [main_v5] rfl rfl (by decide) _).trans ?_
  refine (binary_result main_v3 main_cst_0 main_v4 _ _ _ _ _).trans ?_
  rw [upto_last_write (i := 4) [main_cst_0] rfl rfl (by decide), upto_last_write (i := 5) [] rfl rfl (by decide)]
  refine congrArg₂ (fun x v => pad S5632x2048 ![0, 0] ![128, 0] ![0, 0] x v pads_S5504x2048_S5632x2048_01280_000 h_S_)
    ((unary_result main_arg2 main_v3 _ _ _ _).trans ?_) rfl
  exact congrArg (truncf (F := Ideal) .bf16 · bitsLt_bf16_f32)
    (upto_unwritten [main_v0, main_v1, main_cst, main_v2] rfl (by decide) _)

/-! ## The blocks of the arrays at a grid point -/

theorem emb_y (t : Fin cfg0.N) (r : Fin 1024) (k : Fin 5632) :
    (win0_0.blk t).view.emb (ix2 r k) = (ix2 (rowOf t r) k : S16384x5632.Idx) := by
  refine funext fun a => Fin.ext ?_
  fin_cases a
  · change win0_0.index t 0 * 1024 + 1 * r.val = t.val / 4 * 1024 + r.val
    rw [(idx t).1]; simp
  · change win0_0.index t 1 * 5632 + 1 * k.val = k.val
    rw [(idx t).1]; simp

theorem emb_w (t : Fin cfg0.N) (k : Fin 5632) (e : Fin 512) :
    (win0_1.blk t).view.emb (ix2 k e) = (ix2 k (colOf t e) : S5632x2048.Idx) := by
  refine funext fun a => Fin.ext ?_
  fin_cases a
  · change win0_1.index t 0 * 5632 + 1 * k.val = k.val
    rw [(idx t).2.1]; simp
  · change win0_1.index t 1 * 512 + 1 * e.val = t.val % 4 * 512 + e.val
    rw [(idx t).2.1]; simp

theorem emb_x (t : Fin cfg0.N) (r : Fin 1024) (e : Fin 512) :
    (win0_2.blk t).view.emb (ix2 r e) = (ix2 (rowOf t r) (colOf t e) : S16384x2048.Idx) := by
  refine funext fun a => Fin.ext ?_
  fin_cases a
  · change win0_2.index t 0 * 1024 + 1 * r.val = t.val / 4 * 1024 + r.val
    rw [(idx t).2.2.1]; simp
  · change win0_2.index t 1 * 512 + 1 * e.val = t.val % 4 * 512 + e.val
    rw [(idx t).2.2.1]; simp

theorem emb_out (t : Fin cfg0.N) (r : Fin 1024) (e : Fin 512) :
    (win0_3.blk t).view.emb (ix2 r e) = (ix2 (rowOf t r) (colOf t e) : S16384x2048.Idx) := by
  refine funext fun a => Fin.ext ?_
  fin_cases a
  · change win0_3.index t 0 * 1024 + 1 * r.val = t.val / 4 * 1024 + r.val
    rw [(idx t).2.2.2]; simp
  · change win0_3.index t 1 * 512 + 1 * e.val = t.val % 4 * 512 + e.val
    rw [(idx t).2.2.2]; simp

theorem block_y (c : Dev nD) (t : Fin cfg0.N) (r : Fin 1024) (k : Fin 5632) :
    (iblk m c 0 t (ix2 r k) : EReal) = padY (m (c, Proc.tc.devRef main_arg1)) (ix2 (rowOf t r) k) := by
  unfold iblk
  have h : V m c (Pipeline.arrRef spec0 0) = padY (m (c, Proc.tc.devRef main_arg1)) := v2_eq m c
  rw [h, ← emb_y]
  rfl

theorem block_w (c : Dev nD) (t : Fin cfg0.N) (k : Fin 5632) (e : Fin 512) :
    (iblk m c 1 t (ix2 k e) : EReal) = padW (m (c, Proc.tc.devRef main_arg2)) (ix2 k (colOf t e)) := by
  unfold iblk
  have h : V m c (Pipeline.arrRef spec0 1) = padW (m (c, Proc.tc.devRef main_arg2)) := v4_eq m c
  rw [h, ← emb_w]
  rfl

theorem block_x (c : Dev nD) (t : Fin cfg0.N) (r : Fin 1024) (e : Fin 512) :
    (iblk m c 2 t (ix2 r e) : EReal) = flatX (m (c, Proc.tc.devRef main_arg0)) (ix2 (rowOf t r) (colOf t e)) := by
  unfold iblk
  have h : V m c (Pipeline.arrRef spec0 2) = flatX (m (c, Proc.tc.devRef main_arg0)) := v5_eq m c
  rw [h, ← emb_x]
  rfl

/-! ## The result -/

/-- One grid point's product and sum. -/
theorem pay_apply (x : Vec Ideal S1024x512 .f32) (y : Vec Ideal S1024x5632 .bf16) (w : Vec Ideal S5632x512 .bf16)
    (r : Fin 1024) (e : Fin 512) : (k0_pay1 (F := Ideal) x y w (ix2 r e) : EReal)
      = x (ix2 r e) + ∑ k : Fin 5632, (y (ix2 r k) : EReal) * w (ix2 k e) := by
  pointwise [k0_pay1]

/-- What a grid point leaves in its block. -/
theorem out_apply (x : Vec Ideal S1024x512 .f32) (y : Vec Ideal S1024x5632 .bf16) (w : Vec Ideal S5632x512 .bf16)
    (j : S1024x512.Idx) : out0_3 (F := Ideal) y w x j = k0_pay1 (F := Ideal) x y w j := by
  unfold out0_3
  rw [View.canon_unit_zero (by decide), View.ld_unit_zero (by decide), View.ld_unit_zero (by decide),
    View.ld_unit_zero (by decide)]

/-- The result array, from the argument arrays by coordinates. -/
def result (x : Fin 8 → Fin 2048 → Fin 2048 → EReal) (y : Fin 8 → Fin 2048 → Fin 5504 → EReal)
    (w : Fin 5504 → Fin 2048 → EReal) : FVec Ideal S16384x2048 .f32 := fun i =>
  onTop x y w ⟨(i 0).val, (i 0).isLt⟩ ⟨(i 1).val, (i 1).isLt⟩

theorem block_point (c : Dev nD) (t : Fin cfg0.N) (r : Fin 1024) (e : Fin 512) :
    (k0_pay1 (F := Ideal) (iblk m c 2 t) (iblk m c 0 t) (iblk m c 1 t) (ix2 r e) : EReal)
      = onTop (argX m c) (argY m c) (argW m c) (rowOf t r) (colOf t e) := by
  rw [pay_apply, block_x, flatX_apply]
  refine congrArg₂ (· + ·) rfl ?_
  rw [sum_padded _ fun k hk => ?_]
  · refine Finset.sum_congr rfl fun k _ => ?_
    rw [block_y, block_w]
    exact congrArg₂ (· * ·) (padY_inside _ _ _) (padW_inside _ _ _)
  · rw [block_w, padW_outside _ _ _ hk, mul_zero]

theorem block_laid (c : Dev nD) (t : Fin cfg0.N) (y : S1024x512.Idx) :
    (out0_3 (F := Ideal) (iblk m c 0 t) (iblk m c 1 t) (iblk m c 2 t) y : EReal)
      = result (argX m c) (argY m c) (argW m c) ((win0_3.blk t).view.emb y) := by
  obtain ⟨r, e, rfl⟩ : ∃ (r : Fin 1024) (e : Fin 512), y = ix2 r e :=
    ⟨⟨(y 0).val, (y 0).isLt⟩, ⟨(y 1).val, (y 1).isLt⟩, funext fun a => by fin_cases a <;> rfl⟩
  rw [emb_out, out_apply]
  exact block_point m c t r e

/-- The result array of the run. -/
theorem array (c : Dev nD) : (dats m 0 c).arrAt 3 cfg0.N = result (argX m c) (argY m c) (argW m c) := by
  refine (dats m 0 c).arrAt_eq_of_covers 3 _ (by decide +kernel) fun t _ y => ?_
  blk_simp
  rw [after0_3]
  exact block_laid m c t y

end Cert.DownIdeal.Value

end
-- ==== Proof.DownSampleArray.lean ====
/- The result array of the sample's down projection after the run: the residual plus the product, at every row and lane. The host
   pads the inner axis with zeros, which add nothing to the sums. -/
module

public import proofs.«01_k».proof.Proof.Dense
public import proofs.«01_k».proof.Proof.Gen.DownSampleIdeal.Value
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.DownSampleIdeal.Value

open Cert.DownSampleIdeal Cert.DownSampleIdeal.Gen Idealize.ShloMosaic Idealize.ShloMosaic.TcCoe Idealize.SL.Sem
open Idealize.ShloMosaic.StableHlo Cert.Dense

variable (m : (ℓ : Loc nD τ sig) → Buf (Elt Ideal) ℓ)

/-- The block of each window at a grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem lt4 (t : Fin cfg0.N) : t.val < 4 := t.isLt

/-- The row of the array that a block's row is, and the lane. -/
def rowOf (t : Fin cfg0.N) (r : Fin 1024) : Fin 1024 := ⟨t.val / 4 * 1024 + r.val, by have := lt4 t; omega⟩
def colOf (t : Fin cfg0.N) (e : Fin 512) : Fin 2048 := ⟨t.val % 4 * 512 + e.val, by omega⟩

/-- The argument arrays, by their coordinates. -/
def argX (c : Dev nD) (b r : Fin 32) (n : Fin 2048) : EReal := m (c, Proc.tc.devRef main_arg0) (ix3 b r n)
def argY (c : Dev nD) (b r : Fin 32) (k : Fin 5504) : EReal := m (c, Proc.tc.devRef main_arg1) (ix3 b r k)
def argW (c : Dev nD) (k : Fin 5504) (n : Fin 2048) : EReal := m (c, Proc.tc.devRef main_arg2) (ix2 k n)

/-! ## The arrays the host hands to the kernel -/

def flatX (x : FVec Ideal S32x32x2048 .f32) : FVec Ideal S1024x2048 .f32 :=
  shapeCast S1024x2048 x shapeCasts_S32x32x2048_S1024x2048
def flatY (y : FVec Ideal S32x32x5504 .f32) : FVec Ideal S1024x5504 .bf16 :=
  truncf .bf16 (shapeCast S1024x5504 y shapeCasts_S32x32x5504_S1024x5504) bitsLt_bf16_f32
def padY (y : FVec Ideal S32x32x5504 .f32) : FVec Ideal S1024x5632 .bf16 :=
  pad S1024x5632 ![0, 0] ![0, 128] ![0, 0] (flatY y) (constant (F := Ideal) S_ .bf16 0x0000#16)
    pads_S1024x5504_S1024x5632_000_01280 h_S_
def padW (w : FVec Ideal S5504x2048 .f32) : FVec Ideal S5632x2048 .bf16 :=
  pad S5632x2048 ![0, 0] ![128, 0] ![0, 0] (truncf .bf16 w bitsLt_bf16_f32) (constant (F := Ideal) S_ .bf16 0x0000#16)
    pads_S5504x2048_S5632x2048_01280_000 h_S_

theorem flatX_apply (x : FVec Ideal S32x32x2048 .f32) (i : Fin 1024) (n : Fin 2048) :
    (flatX x (ix2 i n) : EReal) = x (ix3 (sampleStream i) (samplePlace i) n) := by
  pointwise [flatX]
  rfl

theorem flatY_apply (y : FVec Ideal S32x32x5504 .f32) (i : Fin 1024) (k : Fin 5504) :
    (flatY y (ix2 i k) : EReal) = y (ix3 (sampleStream i) (samplePlace i) k) := by
  pointwise [flatY]
  rfl

theorem zero_bf16 : Ideal.ofBits .bf16 0x0000#16 = (0 : EReal) := by simp [Ideal.ofBits, Ideal.ieee]

theorem padY_inside (y : FVec Ideal S32x32x5504 .f32) (i : Fin 1024) (k : Fin 5504) :
    (padY y (ix2 i ⟨k.val, by omega⟩) : EReal) = y (ix3 (sampleStream i) (samplePlace i) k) :=
  (pad_apply_of_inside _ _ _ _ _ _ _ _ (ix2 i k) (fun a => by fin_cases a <;> simp)).trans (flatY_apply y i k)

theorem padW_inside (w : FVec Ideal S5504x2048 .f32) (k : Fin 5504) (n : Fin 2048) :
    (padW w (ix2 ⟨k.val, by omega⟩ n) : EReal) = w (ix2 k n) :=
  (pad_apply_of_inside _ _ _ _ _ _ _ _ (ix2 k n) (fun a => by fin_cases a <;> simp)).trans rfl

theorem padW_outside (w : FVec Ideal S5504x2048 .f32) (k : Fin 5632) (n : Fin 2048) (hk : 5504 ≤ k.val) :
    (padW w (ix2 k n) : EReal) = 0 :=
  (pad_apply_of_not_inside _ _ _ _ _ _ _ _ (0 : Fin 2) (by simp; omega)).trans zero_bf16

theorem v5_eq (c : Dev nD) : V m c main_v5 = flatX (m (c, Proc.tc.devRef main_arg0)) := by
  refine (after_last_write (i := 7) [] rfl rfl (by decide) _).trans ?_
  refine (reshape_result main_arg0 main_v5 rfl _ _ _ _).trans ?_
  exact congrArg flatX (upto_unwritten [main_v0, main_v1, main_cst, main_v2, main_v3, main_cst_0, main_v4] rfl (by decide) _)

theorem v1_eq (F : Valuation τ sig (Elt Ideal)) :
    upto (hostOps0 (F := Ideal)) F 3 (Proc.devRef .tc main_v1) = flatY (F (Proc.devRef .tc main_arg1)) := by
  rw [upto_last_write (i := 1) [main_cst] rfl rfl (by decide)]
  refine (unary_result main_v0 main_v1 _ _ _ _).trans ?_
  rw [upto_last_write (i := 0) [] rfl rfl (by decide)]
  rfl

theorem v2_eq (c : Dev nD) : V m c main_v2 = padY (m (c, Proc.tc.devRef main_arg1)) := by
  refine (after_last_write (i := 3) [main_v3, main_cst_0, main_v4, main_v5] rfl rfl (by decide) _).trans ?_
  refine (binary_result main_v1 main_cst main_v2 _ _ _ _ _).trans ?_
  rw [v1_eq, upto_last_write (i := 2) [] rfl rfl (by decide)]
  rfl

theorem v4_eq (c : Dev nD) : V m c main_v4 = padW (m (c, Proc.tc.devRef main_arg2)) := by
  refine (after_last_write (i := 6) [main_v5] rfl rfl (by decide) _).trans ?_
  refine (binary_result main_v3 main_cst_0 main_v4 _ _ _ _ _).trans ?_
  rw [upto_last_write (i := 4) [main_cst_0] rfl rfl (by decide), upto_last_write (i := 5) [] rfl rfl (by decide)]
  refine congrArg₂ (fun x v => pad S5632x2048 ![0, 0] ![128, 0] ![0, 0] x v pads_S5504x2048_S5632x2048_01280_000 h_S_)
    ((unary_result main_arg2 main_v3 _ _ _ _).trans ?_) rfl
  exact congrArg (truncf (F := Ideal) .bf16 · bitsLt_bf16_f32)
    (upto_unwritten [main_v0, main_v1, main_cst, main_v2] rfl (by decide) _)

/-! ## The blocks of the arrays at a grid point -/

theorem emb_y (t : Fin cfg0.N) (r : Fin 1024) (k : Fin 5632) :
    (win0_0.blk t).view.emb (ix2 r k) = (ix2 (rowOf t r) k : S1024x5632.Idx) := by
  refine funext fun a => Fin.ext ?_
  fin_cases a
  · change win0_0.index t 0 * 1024 + 1 * r.val = t.val / 4 * 1024 + r.val
    rw [(idx t).1]; simp
  · change win0_0.index t 1 * 5632 + 1 * k.val = k.val
    rw [(idx t).1]; simp

theorem emb_w (t : Fin cfg0.N) (k : Fin 5632) (e : Fin 512) :
    (win0_1.blk t).view.emb (ix2 k e) = (ix2 k (colOf t e) : S5632x2048.Idx) := by
  refine funext fun a => Fin.ext ?_
  fin_cases a
  · change win0_1.index t 0 * 5632 + 1 * k.val = k.val
    rw [(idx t).2.1]; simp
  · change win0_1.index t 1 * 512 + 1 * e.val = t.val % 4 * 512 + e.val
    rw [(idx t).2.1]; simp

theorem emb_x (t : Fin cfg0.N) (r : Fin 1024) (e : Fin 512) :
    (win0_2.blk t).view.emb (ix2 r e) = (ix2 (rowOf t r) (colOf t e) : S1024x2048.Idx) := by
  refine funext fun a => Fin.ext ?_
  fin_cases a
  · change win0_2.index t 0 * 1024 + 1 * r.val = t.val / 4 * 1024 + r.val
    rw [(idx t).2.2.1]; simp
  · change win0_2.index t 1 * 512 + 1 * e.val = t.val % 4 * 512 + e.val
    rw [(idx t).2.2.1]; simp

theorem emb_out (t : Fin cfg0.N) (r : Fin 1024) (e : Fin 512) :
    (win0_3.blk t).view.emb (ix2 r e) = (ix2 (rowOf t r) (colOf t e) : S1024x2048.Idx) := by
  refine funext fun a => Fin.ext ?_
  fin_cases a
  · change win0_3.index t 0 * 1024 + 1 * r.val = t.val / 4 * 1024 + r.val
    rw [(idx t).2.2.2]; simp
  · change win0_3.index t 1 * 512 + 1 * e.val = t.val % 4 * 512 + e.val
    rw [(idx t).2.2.2]; simp

theorem block_y (c : Dev nD) (t : Fin cfg0.N) (r : Fin 1024) (k : Fin 5632) :
    (iblk m c 0 t (ix2 r k) : EReal) = padY (m (c, Proc.tc.devRef main_arg1)) (ix2 (rowOf t r) k) := by
  unfold iblk
  have h : V m c (Pipeline.arrRef spec0 0) = padY (m (c, Proc.tc.devRef main_arg1)) := v2_eq m c
  rw [h, ← emb_y]
  rfl

theorem block_w (c : Dev nD) (t : Fin cfg0.N) (k : Fin 5632) (e : Fin 512) :
    (iblk m c 1 t (ix2 k e) : EReal) = padW (m (c, Proc.tc.devRef main_arg2)) (ix2 k (colOf t e)) := by
  unfold iblk
  have h : V m c (Pipeline.arrRef spec0 1) = padW (m (c, Proc.tc.devRef main_arg2)) := v4_eq m c
  rw [h, ← emb_w]
  rfl

theorem block_x (c : Dev nD) (t : Fin cfg0.N) (r : Fin 1024) (e : Fin 512) :
    (iblk m c 2 t (ix2 r e) : EReal) = flatX (m (c, Proc.tc.devRef main_arg0)) (ix2 (rowOf t r) (colOf t e)) := by
  unfold iblk
  have h : V m c (Pipeline.arrRef spec0 2) = flatX (m (c, Proc.tc.devRef main_arg0)) := v5_eq m c
  rw [h, ← emb_x]
  rfl

/-! ## The result -/

/-- One grid point's product and sum. -/
theorem pay_apply (x : Vec Ideal S1024x512 .f32) (y : Vec Ideal S1024x5632 .bf16) (w : Vec Ideal S5632x512 .bf16)
    (r : Fin 1024) (e : Fin 512) : (k0_pay1 (F := Ideal) x y w (ix2 r e) : EReal)
      = x (ix2 r e) + ∑ k : Fin 5632, (y (ix2 r k) : EReal) * w (ix2 k e) := by
  pointwise [k0_pay1]

/-- What a grid point leaves in its block. -/
theorem out_apply (x : Vec Ideal S1024x512 .f32) (y : Vec Ideal S1024x5632 .bf16) (w : Vec Ideal S5632x512 .bf16)
    (j : S1024x512.Idx) : out0_3 (F := Ideal) y w x j = k0_pay1 (F := Ideal) x y w j := by
  unfold out0_3
  rw [View.canon_unit_zero (by decide), View.ld_unit_zero (by decide), View.ld_unit_zero (by decide),
    View.ld_unit_zero (by decide)]

/-- The result array, from the argument arrays by coordinates. -/
def result (x : Fin 32 → Fin 32 → Fin 2048 → EReal) (y : Fin 32 → Fin 32 → Fin 5504 → EReal)
    (w : Fin 5504 → Fin 2048 → EReal) : FVec Ideal S1024x2048 .f32 := fun i =>
  onTopSample x y w ⟨(i 0).val, (i 0).isLt⟩ ⟨(i 1).val, (i 1).isLt⟩

theorem block_point (c : Dev nD) (t : Fin cfg0.N) (r : Fin 1024) (e : Fin 512) :
    (k0_pay1 (F := Ideal) (iblk m c 2 t) (iblk m c 0 t) (iblk m c 1 t) (ix2 r e) : EReal)
      = onTopSample (argX m c) (argY m c) (argW m c) (rowOf t r) (colOf t e) := by
  rw [pay_apply, block_x, flatX_apply]
  refine congrArg₂ (· + ·) rfl ?_
  rw [sum_padded _ fun k hk => ?_]
  · refine Finset.sum_congr rfl fun k _ => ?_
    rw [block_y, block_w]
    exact congrArg₂ (· * ·) (padY_inside _ _ _) (padW_inside _ _ _)
  · rw [block_w, padW_outside _ _ _ hk, mul_zero]

theorem block_laid (c : Dev nD) (t : Fin cfg0.N) (y : S1024x512.Idx) :
    (out0_3 (F := Ideal) (iblk m c 0 t) (iblk m c 1 t) (iblk m c 2 t) y : EReal)
      = result (argX m c) (argY m c) (argW m c) ((win0_3.blk t).view.emb y) := by
  obtain ⟨r, e, rfl⟩ : ∃ (r : Fin 1024) (e : Fin 512), y = ix2 r e :=
    ⟨⟨(y 0).val, (y 0).isLt⟩, ⟨(y 1).val, (y 1).isLt⟩, funext fun a => by fin_cases a <;> rfl⟩
  rw [emb_out, out_apply]
  exact block_point m c t r e

/-- The result array of the run. -/
theorem array (c : Dev nD) : (dats m 0 c).arrAt 3 cfg0.N = result (argX m c) (argY m c) (argW m c) := by
  refine (dats m 0 c).arrAt_eq_of_covers 3 _ (by decide +kernel) fun t _ y => ?_
  blk_simp
  rw [after0_3]
  exact block_laid m c t y

end Cert.DownSampleIdeal.Value

end
-- ==== Proof.Finite.lean ====
/- What the precondition says: every element of the arrays it names is a real number. -/
module

public import proofs.«01_k».proof.Pre_finite
public import Idealize.ShloMosaic.Lib.ReduceAll
public import Idealize.ShloMosaic.PureOps.Ideal

@[expose] public section

noncomputable section

namespace Cert.Finite

open Idealize.ShloMosaic Cert.Pre_finite

/-- The predicate's stated facts about its shapes. -/
theorem facts : Cert.Pre_finite.Facts where
  bcast_S_S8x2048x8x2x64 := by decide
  reducesTo_S8x2048x8x2x64_S_d0_1_2_3_4 := by decide
  h_S_ := by decide
  bcast_S_S8x2048x8x128 := by decide
  reducesTo_S8x2048x8x128_S_d0_1_2_3 := by decide
  bcast_S_S64 := by decide
  reducesTo_S64_S_d0 := by decide

/-- A number whose absolute value is below infinity is real. -/
theorem real_of {x : EReal} (h : Ideal.cmp .olt (max x (-x)) (Ideal.ofBits .f32 0x7F800000#32) = 1#1) :
    x ≠ ⊥ ∧ x ≠ ⊤ := by
  have hi : Ideal.ofBits .f32 0x7F800000#32 = (⊤ : EReal) := by simp [Ideal.ofBits, Ideal.ieee]
  rw [hi] at h
  have h' : max x (-x) < ⊤ := by
    by_contra hc
    simp [Ideal.cmp, hc] at h
  exact ⟨fun e => by simp [e] at h', fun e => by simp [e] at h'⟩

instance : Subsingleton S_.Idx := ⟨fun _ _ => funext fun a => a.elim0⟩

/-- The precondition, element by element. -/
theorem of_pre [self : Facts] (a0 : FVec Ideal S8x2048x8x2x64 .f32) (a1 a2 : FVec Ideal S8x2048x8x128 .f32)
    (a3 a4 a5 a6 : FVec Ideal S64 .f32) (a7 : FVec Ideal S128 .f32) (j : S_.Idx)
    (h : fn (F := Ideal) a0 a1 a2 a3 a4 a5 a6 a7 j = 1#1) :
    (∀ i, (a0 i : EReal) ≠ ⊥ ∧ (a0 i : EReal) ≠ ⊤) ∧ (∀ i, (a1 i : EReal) ≠ ⊥ ∧ (a1 i : EReal) ≠ ⊤)
      ∧ (∀ i, (a2 i : EReal) ≠ ⊥ ∧ (a2 i : EReal) ≠ ⊤) ∧ (∀ i, (a3 i : EReal) ≠ ⊥ ∧ (a3 i : EReal) ≠ ⊤)
      ∧ (∀ i, (a4 i : EReal) ≠ ⊥ ∧ (a4 i : EReal) ≠ ⊤) ∧ (∀ i, (a5 i : EReal) ≠ ⊥ ∧ (a5 i : EReal) ≠ ⊤)
      ∧ (∀ i, (a6 i : EReal) ≠ ⊥ ∧ (a6 i : EReal) ≠ ⊤) := by
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of (Host.reduce_andi_all _ _ _ _ _ h0 i), fun i => real_of (Host.reduce_andi_all _ _ _ _ _ h1 i),
    fun i => real_of (Host.reduce_andi_all _ _ _ _ _ h2 i), fun i => real_of (Host.reduce_andi_all _ _ _ _ _ h3 i),
    fun i => real_of (Host.reduce_andi_all _ _ _ _ _ h4 i), fun i => real_of (Host.reduce_andi_all _ _ _ _ _ h5 i),
    fun i => real_of (Host.reduce_andi_all _ _ _ _ _ h6 i)⟩

end Cert.Finite

end
-- ==== Proof.FiniteScores.lean ====
/- What the cross-attention's precondition says: every query and every key is a real number. -/
module

public import proofs.«01_k».proof.Pre_finite_scores
public import proofs.«01_k».proof.Proof.Finite

@[expose] public section

noncomputable section

namespace Cert.FiniteScores

open Idealize.ShloMosaic Cert.Pre_finite_scores

/-- The predicate's stated facts about its shapes. -/
theorem facts : Cert.Pre_finite_scores.Facts where
  bcast_S_S8x2048x4x256 := by decide
  reducesTo_S8x2048x4x256_S_d0_1_2_3 := by decide
  h_S_ := by decide
  bcast_S_S8x256x4x256 := by decide
  reducesTo_S8x256x4x256_S_d0_1_2_3 := by decide

instance : Subsingleton S_.Idx := ⟨fun _ _ => funext fun a => a.elim0⟩

/-- The precondition, element by element. -/
theorem of_pre [self : Facts] (q : FVec Ideal S8x2048x4x256 .f32) (k v : FVec Ideal S8x256x4x256 .f32) (j : S_.Idx)
    (h : fn (F := Ideal) q k v j = 1#1) :
    (∀ i, (q i : EReal) ≠ ⊥ ∧ (q i : EReal) ≠ ⊤) ∧ (∀ i, (k i : EReal) ≠ ⊥ ∧ (k i : EReal) ≠ ⊤) := by
  obtain ⟨h0, h1⟩ := IntOp.andi_eq_one.1 h
  exact ⟨fun i => Cert.Finite.real_of (Host.reduce_andi_all _ _ _ _ _ h0 i),
    fun i => Cert.Finite.real_of (Host.reduce_andi_all _ _ _ _ _ h1 i)⟩

end Cert.FiniteScores

end
-- ==== Proof.KeysArray.lean ====
/- The memory's keys after the run: the product of its rows with the first half of the weights' columns, each head over
   its root mean square, times the gain. -/
module

public import proofs.«01_k».proof.Proof.Memory
public import proofs.«01_k».proof.Proof.Gen.KeysIdeal.Value
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.KeysIdeal.Value

open Cert.KeysIdeal Cert.KeysIdeal.Gen Idealize.ShloMosaic Idealize.ShloMosaic.TcCoe Idealize.SL.Sem
open Idealize.ShloMosaic.StableHlo Cert.Memory

variable (m : (ℓ : Loc nD τ sig) → Buf (Elt Ideal) ℓ)

/-- The block of each window at a grid point. -/
theorem idx : ∀ t : Fin cfg0.N, win0_0.index t = ![t.val / 2, 0] ∧ win0_1.index t = ![0, t.val % 2]
    ∧ win0_2.index t = ![0, 0] ∧ win0_3.index t = ![t.val / 2, t.val % 2] :=
  (by decide +kernel : ∀ t : Fin grid0.N, _)

theorem lt4 (t : Fin cfg0.N) : t.val < 4 := t.isLt

/-- The row of the array that a block's row is, and the lane. -/
def rowOf (t : Fin cfg0.N) (r : Fin 1024) : Fin 2048 := ⟨t.val / 2 * 1024 + r.val, by have := lt4 t; omega⟩
def colOf (t : Fin cfg0.N) (e : Fin 512) : Fin 1024 := ⟨t.val % 2 * 512 + e.val, by omega⟩

/-- The argument arrays, by their coordinates. -/
def argH (c : Dev nD) (b : Fin 8) (r : Fin 256) (k : Fin 2048) : EReal := m (c, Proc.tc.devRef main_arg0) (ix3 b r k)
def argW (c : Dev nD) (k n : Fin 2048) : EReal := m (c, Proc.tc.devRef main_arg1) (ix2 k n)
def argG (c : Dev nD) (n : Fin 256) : EReal := m (c, Proc.tc.devRef main_arg2) (ix1 n)

/-! ## The arrays the host hands to the kernel -/

def flatH (h : FVec Ideal S8x256x2048 .f32) : FVec Ideal S2048x2048 .bf16 :=
  truncf .bf16 (shapeCast S2048x2048 h shapeCasts_S8x256x2048_S2048x2048) bitsLt_bf16_f32
def castW (w : FVec Ideal S2048x2048 .f32) : FVec Ideal S2048x2048 .bf16 := truncf .bf16 w bitsLt_bf16_f32

theorem flatH_apply (h : FVec Ideal S8x256x2048 .f32) (i k : Fin 2048) :
    (flatH h (ix2 i k) : EReal) = h (ix3 (stream i) (place i) k) := by
  pointwise [flatH]
  rfl

def rowG (g : FVec Ideal S256 .f32) : FVec Ideal S1x256 .f32 := shapeCast S1x256 g shapeCasts_S256_S1x256

theorem rowG_apply (g : FVec Ideal S256 .f32) (n : Fin 256) : (rowG g (ix2 0 n) : EReal) = g (ix1 n) := by
  pointwise [rowG]

theorem v1_eq (c : Dev nD) : V m c main_v1 = flatH (m (c, Proc.tc.devRef main_arg0)) := by
  refine (after_last_write (i := 1) [main_v2, main_v3] rfl rfl (by decide) _).trans ?_
  refine (unary_result main_v0 main_v1 _ _ _ _).trans ?_
  rw [upto_last_write (i := 0) [] rfl rfl (by decide)]
  rfl

theorem v2_eq (c : Dev nD) : V m c main_v2 = castW (m (c, Proc.tc.devRef main_arg1)) := by
  refine (after_last_write (i := 2) [main_v3] rfl rfl (by decide) _).trans ?_
  refine (unary_result main_arg1 main_v2 _ _ _ _).trans ?_
  exact congrArg castW (upto_unwritten [main_v0, main_v1] rfl (by decide) _)

theorem v3_eq (c : Dev nD) : V m c main_v3 = rowG (m (c, Proc.tc.devRef main_arg2)) := by
  refine (after_last_write (i := 3) [] rfl rfl (by decide) _).trans ?_
  refine (reshape_result main_arg2 main_v3 rfl _ _ _ _).trans ?_
  exact congrArg rowG (upto_unwritten [main_v0, main_v1, main_v2] rfl (by decide) _)

/-! ## The blocks of the arrays at a grid point -/

theorem emb_h (t : Fin cfg0.N) (r : Fin 1024) (k : Fin 2048) :
    (win0_0.blk t).view.emb (ix2 r k) = (ix2 (rowOf t r) k : S2048x2048.Idx) := by
  refine funext fun a => Fin.ext ?_
  fin_cases a
  · change win0_0.index t 0 * 1024 + 1 * r.val = t.val / 2 * 1024 + r.val
    rw [(idx t).1]; simp
  · change win0_0.index t 1 * 2048 + 1 * k.val = k.val
    rw [(idx t).1]; simp

theorem emb_w (t : Fin cfg0.N) (k : Fin 2048) (e : Fin 512) :
    (win0_1.blk t).view.emb (ix2 k e) = (ix2 k (keyCol (colOf t e)) : S2048x2048.Idx) := by
  refine funext fun a => Fin.ext ?_
  fin_cases a
  · change win0_1.index t 0 * 2048 + 1 * k.val = k.val
    rw [(idx t).2.1]; simp
  · change win0_1.index t 1 * 512 + 1 * e.val = t.val % 2 * 512 + e.val
    rw [(idx t).2.1]; simp

theorem emb_g (t : Fin cfg0.N) (n : Fin 256) :
    (win0_2.blk t).view.emb (ix2 0 n) = (ix2 0 n : S1x256.Idx) := by
  refine funext fun a => Fin.ext ?_
  fin_cases a
  · change win0_2.index t 0 * 1 + 1 * 0 = 0
    rw [(idx t).2.2.1]; simp
  · change win0_2.index t 1 * 256 + 1 * n.val = n.val
    rw [(idx t).2.2.1]; simp

theorem emb_out (t : Fin cfg0.N) (r : Fin 1024) (e : Fin 512) :
    (win0_3.blk t).view.emb (ix2 r e) = (ix2 (rowOf t r) (colOf t e) : S2048x1024.Idx) := by
  refine funext fun a => Fin.ext ?_
  fin_cases a
  · change win0_3.index t 0 * 1024 + 1 * r.val = t.val / 2 * 1024 + r.val
    rw [(idx t).2.2.2]; simp
  · change win0_3.index t 1 * 512 + 1 * e.val = t.val % 2 * 512 + e.val
    rw [(idx t).2.2.2]; simp

theorem block_h (c : Dev nD) (t : Fin cfg0.N) (r : Fin 1024) (k : Fin 2048) :
    (iblk m c 0 t (ix2 r k) : EReal) = argH m c (stream (rowOf t r)) (place (rowOf t r)) k := by
  unfold iblk
  have h : V m c (Pipeline.arrRef spec0 0) = flatH (m (c, Proc.tc.devRef main_arg0)) := v1_eq m c
  rw [h]
  exact (congrArg (flatH (m (c, Proc.tc.devRef main_arg0))) (emb_h t r k)).trans (flatH_apply _ _ _)

theorem block_w (c : Dev nD) (t : Fin cfg0.N) (k : Fin 2048) (e : Fin 512) :
    (iblk m c 1 t (ix2 k e) : EReal) = argW m c k (keyCol (colOf t e)) := by
  unfold iblk
  have h : V m c (Pipeline.arrRef spec0 1) = castW (m (c, Proc.tc.devRef main_arg1)) := v2_eq m c
  rw [h]
  exact congrArg (castW (m (c, Proc.tc.devRef main_arg1))) (emb_w t k e)

theorem block_g (c : Dev nD) (t : Fin cfg0.N) (n : Fin 256) : (iblk m c 2 t (ix2 0 n) : EReal) = argG m c n := by
  unfold iblk
  have h : V m c (Pipeline.arrRef spec0 2) = rowG (m (c, Proc.tc.devRef main_arg2)) := v3_eq m c
  rw [h]
  exact (congrArg (rowG (m (c, Proc.tc.devRef main_arg2))) (emb_g t n)).trans (rowG_apply _ _)

/-! ## The result -/

/-- One grid point's product. -/
theorem pay_apply (h : Vec Ideal S1024x2048 .bf16) (w : Vec Ideal S2048x512 .bf16) (r : Fin 1024) (e : Fin 512) :
    (k0_pay1 (F := Ideal) h w (ix2 r e) : EReal) = ∑ k : Fin 2048, (h (ix2 r k) : EReal) * w (ix2 k e) := by
  pointwise [k0_pay1]

/-- The lane of a block that a lane of one of its two heads is. -/
def half (a : Fin 2) (e : Fin 256) : Fin 512 := ⟨256 * a.val + e.val, by omega⟩

/-- The sum of squares of one of a block's heads. -/
theorem squares_apply (h : Vec Ideal S1024x2048 .bf16) (w : Vec Ideal S2048x512 .bf16) (g : Vec Ideal S1x256 .f32)
    (a : Fin 2) (r : Fin 1024) : (Fam3_1 (F := Ideal) h w g a (ix1 r) : EReal)
      = ∑ e : Fin 256, (k0_pay1 (F := Ideal) h w (ix2 r (half a e)) : EReal) * k0_pay1 (F := Ideal) h w (ix2 r (half a e)) := by
  unfold Fam3_1
  generalize k0_pay1 (F := Ideal) h w = z
  fin_cases a
  · dsimp only
    pointwise []
    refine Finset.sum_congr rfl fun e _ => congrArg₂ (· * ·) (congrArg z ?_) (congrArg z ?_) <;>
      exact funext fun b => Fin.ext (by fin_cases b <;> simp [half])
  · dsimp only
    pointwise []
    refine Finset.sum_congr rfl fun e _ => congrArg₂ (· * ·) (congrArg z ?_) (congrArg z ?_) <;>
      exact funext fun b => Fin.ext (by fin_cases b <;> simp [half])

/-- What a grid point leaves in its block. -/
theorem out_apply (h : Vec Ideal S1024x2048 .bf16) (w : Vec Ideal S2048x512 .bf16) (g : Vec Ideal S1x256 .f32)
    (j : S1024x512.Idx) : out0_3 (F := Ideal) h w g j = E3 (F := Ideal) h w g j := by
  unfold out0_3
  rw [View.ld_unit_zero (by decide), View.ld_unit_zero (by decide), View.ld_unit_zero (by decide)]
  exact canon3_eq h w g j

/-- A row of the keys before their norm. -/
def row (c : Dev nD) (i : Fin 2048) (n : Fin 1024) : EReal := product (argH m c) (argW m c) i (keyCol n)

/-- The result array. -/
def result (c : Dev nD) : FVec Ideal S2048x1024 .f32 := fun i =>
  normed (row m c ⟨(i 0).val, (i 0).isLt⟩) (argG m c) ⟨(i 1).val, (i 1).isLt⟩

theorem block_row (c : Dev nD) (t : Fin cfg0.N) (r : Fin 1024) (e : Fin 512) :
    (k0_pay1 (F := Ideal) (iblk m c 0 t) (iblk m c 1 t) (ix2 r e) : EReal) = row m c (rowOf t r) (colOf t e) := by
  rw [pay_apply]
  exact Finset.sum_congr rfl fun k _ => congrArg₂ (fun x y : EReal => x * y) (block_h m c t r k) (block_w m c t k e)

/-- The head of a block's lane. -/
def headOf (e : Fin 512) : Fin 2 := ⟨e.val / 256, by omega⟩

theorem half_lane (t : Fin cfg0.N) (e : Fin 512) (k : Fin 256) :
    colOf t (half (headOf e) k) = lane (head (colOf t e)) k :=
  Fin.ext (show t.val % 2 * 512 + (256 * (e.val / 256) + k.val) = 256 * ((t.val % 2 * 512 + e.val) / 256) + k.val by omega)

theorem block_squares (c : Dev nD) (t : Fin cfg0.N) (r : Fin 1024) (e : Fin 512) :
    (Fam3_1 (F := Ideal) (iblk m c 0 t) (iblk m c 1 t) (iblk m c 2 t) (headOf e) (ix1 r) : EReal)
      = ∑ k, row m c (rowOf t r) (lane (head (colOf t e)) k) * row m c (rowOf t r) (lane (head (colOf t e)) k) := by
  rw [squares_apply]
  refine Finset.sum_congr rfl fun k _ => ?_
  rw [block_row, half_lane]

theorem block_gain (c : Dev nD) (t : Fin cfg0.N) (e : Fin 512) (j : S1x256.Idx) (hj : j = ix2 0 ⟨e.val % 256, by omega⟩) :
    (iblk m c 2 t j : EReal) = argG m c (inHead (colOf t e)) := by
  subst hj
  refine (block_g m c t _).trans (congrArg (argG m c) (Fin.ext ?_))
  show e.val % 256 = (t.val % 2 * 512 + e.val) % 256
  omega

/-- The arithmetic of a lane, from its three readings. -/
theorem lane_eq {h : Vec Ideal S1024x2048 .bf16} {w : Vec Ideal S2048x512 .bf16} {g : Vec Ideal S1x256 .f32}
    {r : Fin 1024} {e : Fin 512} {x s v : EReal} (hx : (k0_pay1 (F := Ideal) h w (ix2 r e) : EReal) = x)
    (hs : (Fam3_1 (F := Ideal) h w g (headOf e) (ix1 r) : EReal) = s)
    (hv : (g (ix2 0 ⟨e.val % 256, by omega⟩) : EReal) = v) :
    (E3 (F := Ideal) h w g (ix2 r e) : EReal)
      = x * Ideal.rsqrt (Ideal.div s (Ideal.ofBits .f32 0x43800000#32) + Ideal.ofBits .f32 0x358637BD#32) * v := by
  have e0 : ix3_0 (ix2 r e) = ix2 r e := funext fun a => by fin_cases a <;> rfl
  have e1 : ix3_1 (ix2 r e) = ix1 r := funext fun a => by fin_cases a; rfl
  have e2 : ix3_2 (ix2 r e) = ix2 0 ⟨e.val % 256, by omega⟩ := funext fun a => by fin_cases a <;> rfl
  have e3 : sel3 (ix2 r e) = headOf e := rfl
  unfold E3
  rw [e0, e1, e2, e3, hx, hs, hv]
  rfl

theorem block_laid (c : Dev nD) (t : Fin cfg0.N) (y : S1024x512.Idx) :
    (out0_3 (F := Ideal) (iblk m c 0 t) (iblk m c 1 t) (iblk m c 2 t) y : EReal)
      = result m c ((win0_3.blk t).view.emb y) := by
  obtain ⟨r, e, rfl⟩ : ∃ (r : Fin 1024) (e : Fin 512), y = ix2 r e :=
    ⟨⟨(y 0).val, (y 0).isLt⟩, ⟨(y 1).val, (y 1).isLt⟩, funext fun a => by fin_cases a <;> rfl⟩
  rw [emb_out, out_apply]
  exact lane_eq (block_row m c t r e) (block_squares m c t r e) (block_gain m c t e _ rfl)

/-- The result array of the run. -/
theorem array (c : Dev nD) : (dats m 0 c).arrAt 3 cfg0.N = result m c := by
  refine (dats m 0 c).arrAt_eq_of_covers 3 _ (by decide +kernel) fun t _ y => ?_
  blk_simp
  rw [after0_3]
  exact block_laid m c t y

end Cert.KeysIdeal.Value

end
-- ==== Proof.MemoryReference.lean ====
/- What the references of the memory's keys and values compute: the same functions of the coordinates of the arrays as
   the kernels. -/
module

public import proofs.«01_k».proof.Proof.Memory
public import proofs.«01_k».proof.Proof.Gen.KeysReferenceIdeal.Read
public import proofs.«01_k».proof.Proof.Gen.ValuesReferenceIdeal.Read
public import Idealize.ShloMosaic.Lib.Pipeline.ValueKit

@[expose] public section

set_option maxRecDepth 16384

noncomputable section

namespace Cert.ValuesReferenceIdeal.Read

open Cert.ValuesReferenceIdeal Cert.ValuesReferenceIdeal.Gen Idealize.ShloMosaic Cert.Memory

/-- The values' reference at a row and a lane. -/
theorem ref_apply (x0 : (⟨S8x256x2048, .f32⟩ : BufTy).Contents (Elt Ideal))
    (x1 : (⟨S2048x2048, .f32⟩ : BufTy).Contents (Elt Ideal)) (i : Fin 2048) (n : Fin 1024) :
    (val_main_v3 (F := Ideal) x0 x1 (ix2 i n) : EReal)
      = product (fun b r k => x0 (ix3 b r k)) (fun k n => x1 (ix2 k n)) i (valueCol n) := by
  have hi : idx_main_v2 (idx_main_v3 (ix2 i n)) = ix3 (stream i) (place i) (valueCol n) := by
    refine funext fun a => Fin.ext ?_
    fin_cases a <;> simp [idx_main_v2, idx_main_v3, stream, place, valueCol] <;> omega
  rw [val_main_v3_apply, val_main_v2_apply, hi, val_main_v0_apply]
  refine Finset.sum_congr rfl fun k _ => congrArg₂ (fun x y : EReal => x * y) ?_ ?_
  · exact congrArg x0 (funext fun a => by fin_cases a <;> rfl)
  · exact congrArg x1 (funext fun a => by fin_cases a <;> rfl)

end Cert.ValuesReferenceIdeal.Read

namespace Cert.KeysReferenceIdeal.Read

open Cert.KeysReferenceIdeal Cert.KeysReferenceIdeal.Gen Idealize.ShloMosaic Cert.Memory

variable (x0 : (⟨S8x256x2048, .f32⟩ : BufTy).Contents (Elt Ideal)) (x1 : (⟨S2048x2048, .f32⟩ : BufTy).Contents (Elt Ideal))
  (x2 : (⟨S256, .f32⟩ : BufTy).Contents (Elt Ideal))

/-- A row of the keys before their norm. -/
def row (i : Fin 2048) (n : Fin 1024) : EReal :=
  product (fun b r k => x0 (ix3 b r k)) (fun k n => x1 (ix2 k n)) i (keyCol n)

theorem row_apply (i : Fin 2048) (a : Fin 4) (e : Fin 256) (j : S8x256x4x256.Idx)
    (hj : j = ix4 (stream i) (place i) a e) : (val_main_v3 (F := Ideal) x0 x1 j : EReal) = row x0 x1 i (lane a e) := by
  subst hj
  have hi : idx_main_v1 (idx_main_v3 (ix4 (stream i) (place i) a e)) = ix3 (stream i) (place i) (keyCol (lane a e)) := by
    refine funext fun b => Fin.ext ?_
    fin_cases b <;> simp [idx_main_v1, idx_main_v3, stream, place, keyCol, lane] <;> omega
  rw [val_main_v3_apply, val_main_v1_apply, hi, val_main_v0_apply]
  unfold row product
  refine Finset.sum_congr rfl fun k _ => congrArg₂ (fun x y : EReal => x * y) ?_ ?_
  · exact congrArg x0 (funext fun a => by fin_cases a <;> rfl)
  · exact congrArg x1 (funext fun a => by fin_cases a <;> rfl)

theorem zero : Ideal.ofBits .f32 0x00000000#32 = (0 : EReal) := by simp [Ideal.ofBits, Ideal.ieee]

/-- A head's sum of squares. -/
theorem squares_apply (i : Fin 2048) (a : Fin 4) (j : S8x256x4.Idx) (hj : j = ix3 (stream i) (place i) a) :
    (val_main_v5 (F := Ideal) x0 x1 j : EReal) = ∑ e, row x0 x1 i (lane a e) * row x0 x1 i (lane a e) := by
  subst hj
  rw [val_main_v5_apply]
  refine (congrArg₂ (fun x y : EReal => x + y) zero (Finset.sum_congr rfl fun e _ => ?_)).trans (zero_add _)
  rw [val_main_v4_apply, row_apply x0 x1 i a e _ (funext fun b => by fin_cases b <;> rfl)]
  rfl

/-- A head's scale. -/
theorem scale_apply (i : Fin 2048) (a : Fin 4) (j : S8x256x4x1.Idx) (hj : j = ix4 (stream i) (place i) a 0) :
    (val_main_v11 (F := Ideal) x0 x1 j : EReal)
      = Ideal.rsqrt (Ideal.div (∑ e, row x0 x1 i (lane a e) * row x0 x1 i (lane a e)) (Ideal.ofBits .f32 0x43800000#32)
          + Ideal.ofBits .f32 0x358637BD#32) := by
  subst hj
  rw [val_main_v11_apply, val_main_v10_apply, val_main_v8_apply, val_main_v6_apply, val_main_v7_apply, val_main_v9_apply,
    squares_apply x0 x1 i a _ (funext fun b => by fin_cases b <;> rfl)]
  rfl

/-- The keys before they are laid flat. -/
theorem normed_apply (i : Fin 2048) (n : Fin 1024) (j : S8x256x4x256.Idx)
    (hj : j = ix4 (stream i) (place i) (head n) (inHead n)) :
    (val_main_v16 (F := Ideal) x0 x1 x2 j : EReal) = normed (row x0 x1 i) (fun e => x2 (ix1 e)) n := by
  have hn : lane (head n) (inHead n) = n := Fin.ext (Nat.div_add_mod n.val 256)
  subst hj
  rw [val_main_v16_apply, val_main_v13_apply, val_main_v12_apply, val_main_v15_apply, val_main_v14_apply,
    row_apply x0 x1 i _ _ _ rfl, scale_apply x0 x1 i (head n) _ (funext fun b => by fin_cases b <;> rfl), hn]
  exact congrArg₂ (fun x y : EReal => x * y) rfl (congrArg x2 (funext fun a => by fin_cases a; rfl))

/-- The keys' reference at a row and a lane. -/
theorem ref_apply (i : Fin 2048) (n : Fin 1024) :
    (val_main_v17 (F := Ideal) x0 x1 x2 (ix2 i n) : EReal) = normed (row x0 x1 i) (fun e => x2 (ix1 e)) n := by
  rw [val_main_v17_apply]
  refine normed_apply x0 x1 x2 i n _ (funext fun a => Fin.ext ?_)
  fin_cases a <;> simp [idx_main_v17, stream, place, head, inHead] <;> omega

end Cert.KeysReferenceIdeal.Read

end
-- ==== Proof.MergeArray.lean ====
/- The merged branches' result array after the run: at every row and lane the three products, each weighted by its
   gate, summed. -/
module

public import proofs.«01_k».proof.Proof.Dense
public import proofs.«01_k».proof.Proof.Gen.MergeIdeal.Value
public import Idealize.ShloMosaic.Lib.Pipeline.ValueKit
public import Idealize.ShloMosaic.Lib.StableHlo.RunRead

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.StableHlo Cert.Dense

variable (m : (ℓ : Loc nD τ sig) → Buf (Elt Ideal) ℓ)

/-- The block of each window at a grid point. -/
theorem idx : ∀ t : Fin cfg0.N, win0_0.index t = ![t.val / 4, 0] ∧ win0_1.index t = ![t.val / 4, 0]
    ∧ win0_2.index t = ![t.val / 4, 0] ∧ win0_3.index t = ![t.val / 4, 0] ∧ win0_4.index t = ![0, 14 + t.val % 4]
    ∧ win0_5.index t = ![0, 18 + t.val % 4] ∧ win0_6.index t = ![0, 22 + t.val % 4]
    ∧ win0_7.index t = ![0, 0, t.val % 4] ∧ win0_8.index t = ![0, 0, t.val % 4]
    ∧ win0_9.index t = ![t.val / 4, t.val % 4] :=
  (by decide +kernel : ∀ t : Fin grid0.N, _)

theorem lt64 (t : Fin cfg0.N) : t.val < 64 := t.isLt

/-- The row of the array that a block's row is, and the lane. -/
def rowOf (t : Fin cfg0.N) (r : Fin 1024) : Fin 16384 := ⟨t.val / 4 * 1024 + r.val, by have := lt64 t; omega⟩
def colOf (t : Fin cfg0.N) (e : Fin 512) : Fin 2048 := ⟨t.val % 4 * 512 + e.val, by omega⟩

/-- The argument arrays, by their coordinates. -/
def argH (c : Dev nD) (b : Fin 8) (r k : Fin 2048) : EReal := m (c, Proc.tc.devRef main_arg0) (ix3 b r k)
def argP (c : Dev nD) (b : Fin 8) (r : Fin 2048) (k : Fin 1024) : EReal := m (c, Proc.tc.devRef main_arg1) (ix3 b r k)
def argQ (c : Dev nD) (b : Fin 8) (r : Fin 2048) (k : Fin 1024) : EReal := m (c, Proc.tc.devRef main_arg2) (ix3 b r k)
def argS (c : Dev nD) (b : Fin 8) (r : Fin 2048) (k : Fin 1024) : EReal := m (c, Proc.tc.devRef main_arg3) (ix3 b r k)
def argW (c : Dev nD) (k : Fin 2048) (n : Fin 13312) : EReal := m (c, Proc.tc.devRef main_arg4) (ix2 k n)
def argG (c : Dev nD) (a : Fin 3) (n : Fin 2048) : EReal := m (c, Proc.tc.devRef main_arg5) (ix2 a n)
def argU (c : Dev nD) (a : Fin 3) (k : Fin 1024) (n : Fin 2048) : EReal := m (c, Proc.tc.devRef main_arg6) (ix3 a k n)

/-! ## The arrays the host hands to the kernel -/

def flatH (x : FVec Ideal S8x2048x2048 .f32) : FVec Ideal S16384x2048 .bf16 :=
  truncf .bf16 (shapeCast S16384x2048 x shapeCasts_S8x2048x2048_S16384x2048) bitsLt_bf16_f32
def flatO (x : FVec Ideal S8x2048x1024 .f32) : FVec Ideal S16384x1024 .bf16 :=
  truncf .bf16 (shapeCast S16384x1024 x shapeCasts_S8x2048x1024_S16384x1024) bitsLt_bf16_f32
def castW (x : FVec Ideal S2048x13312 .f32) : FVec Ideal S2048x13312 .bf16 := truncf .bf16 x bitsLt_bf16_f32
def flatG (x : FVec Ideal S3x2048 .f32) : FVec Ideal S3x1x2048 .f32 :=
  shapeCast S3x1x2048 x shapeCasts_S3x2048_S3x1x2048
def castU (x : FVec Ideal S3x1024x2048 .f32) : FVec Ideal S3x1024x2048 .bf16 := truncf .bf16 x bitsLt_bf16_f32

theorem flatH_apply (x : FVec Ideal S8x2048x2048 .f32) (i : Fin 16384) (k : Fin 2048) :
    (flatH x (ix2 i k) : EReal) = x (ix3 (stream i) (place i) k) := by
  pointwise [flatH]
  rfl

theorem flatO_apply (x : FVec Ideal S8x2048x1024 .f32) (i : Fin 16384) (k : Fin 1024) :
    (flatO x (ix2 i k) : EReal) = x (ix3 (stream i) (place i) k) := by
  pointwise [flatO]
  rfl

theorem flatG_apply (x : FVec Ideal S3x2048 .f32) (a : Fin 3) (n : Fin 2048) :
    (flatG x (ix3 a 0 n) : EReal) = x (ix2 a n) := by
  pointwise [flatG]

theorem v1_eq (c : Dev nD) : V m c main_v1 = flatH (m (c, Proc.tc.devRef main_arg0)) := by
  refine (after_last_write (i := 1) [main_v2, main_v3, main_v4, main_v5, main_v6, main_v7, main_v8, main_v9, main_v10] rfl rfl (by decide) _).trans ?_
  refine (unary_result main_v0 main_v1 _ _ _ _).trans ?_
  rw [upto_last_write (i := 0) [] rfl rfl (by decide)]
  refine congrArg (truncf (F := Ideal) .bf16 · bitsLt_bf16_f32) ((reshape_result main_arg0 main_v0 rfl _ _ _ _).trans ?_)
  rw [upto_unwritten [] rfl (by decide)]
  rfl

theorem v3_eq (c : Dev nD) : V m c main_v3 = flatO (m (c, Proc.tc.devRef main_arg1)) := by
  refine (after_last_write (i := 3) [main_v4, main_v5, main_v6, main_v7, main_v8, main_v9, main_v10] rfl rfl (by decide) _).trans ?_
  refine (unary_result main_v2 main_v3 _ _ _ _).trans ?_
  rw [upto_last_write (i := 2) [] rfl rfl (by decide)]
  refine congrArg (truncf (F := Ideal) .bf16 · bitsLt_bf16_f32) ((reshape_result main_arg1 main_v2 rfl _ _ _ _).trans ?_)
  rw [upto_unwritten [main_v0, main_v1] rfl (by decide)]
  rfl

theorem v5_eq (c : Dev nD) : V m c main_v5 = flatO (m (c, Proc.tc.devRef main_arg2)) := by
  refine (after_last_write (i := 5) [main_v6, main_v7, main_v8, main_v9, main_v10] rfl rfl (by decide) _).trans ?_
  refine (unary_result main_v4 main_v5 _ _ _ _).trans ?_
  rw [upto_last_write (i := 4) [] rfl rfl (by decide)]
  refine congrArg (truncf (F := Ideal) .bf16 · bitsLt_bf16_f32) ((reshape_result main_arg2 main_v4 rfl _ _ _ _).trans ?_)
  rw [upto_unwritten [main_v0, main_v1, main_v2, main_v3] rfl (by decide)]
  rfl

theorem v7_eq (c : Dev nD) : V m c main_v7 = flatO (m (c, Proc.tc.devRef main_arg3)) := by
  refine (after_last_write (i := 7) [main_v8, main_v9, main_v10] rfl rfl (by decide) _).trans ?_
  refine (unary_result main_v6 main_v7 _ _ _ _).trans ?_
  rw [upto_last_write (i := 6) [] rfl rfl (by decide)]
  refine congrArg (truncf (F := Ideal) .bf16 · bitsLt_bf16_f32) ((reshape_result main_arg3 main_v6 rfl _ _ _ _).trans ?_)
  rw [upto_unwritten [main_v0, main_v1, main_v2, main_v3, main_v4, main_v5] rfl (by decide)]
  rfl

theorem v8_eq (c : Dev nD) : V m c main_v8 = castW (m (c, Proc.tc.devRef main_arg4)) := by
  refine (after_last_write (i := 8) [main_v9, main_v10] rfl rfl (by decide) _).trans ?_
  refine (unary_result main_arg4 main_v8 _ _ _ _).trans ?_
  exact congrArg castW (upto_unwritten [main_v0, main_v1, main_v2, main_v3, main_v4, main_v5, main_v6, main_v7] rfl (by decide) _)

theorem v9_eq (c : Dev nD) : V m c main_v9 = flatG (m (c, Proc.tc.devRef main_arg5)) := by
  refine (after_last_write (i := 9) [main_v10] rfl rfl (by decide) _).trans ?_
  refine (reshape_result main_arg5 main_v9 rfl _ _ _ _).trans ?_
  exact congrArg flatG (upto_unwritten [main_v0, main_v1, main_v2, main_v3, main_v4, main_v5, main_v6, main_v7, main_v8] rfl (by decide) _)

theorem v10_eq (c : Dev nD) : V m c main_v10 = castU (m (c, Proc.tc.devRef main_arg6)) := by
  refine (after_last_write (i := 10) [] rfl rfl (by decide) _).trans ?_
  refine (unary_result main_arg6 main_v10 _ _ _ _).trans ?_
  exact congrArg castU (upto_unwritten [main_v0, main_v1, main_v2, main_v3, main_v4, main_v5, main_v6, main_v7, main_v8, main_v9] rfl (by decide) _)

/-! ## The blocks of the arrays at a grid point -/

theorem emb_h (t : Fin cfg0.N) (r : Fin 1024) (k : Fin 2048) :
    (win0_0.blk t).view.emb (ix2 r k) = (ix2 (rowOf t r) k : S16384x2048.Idx) := by
  refine funext fun a => Fin.ext ?_
  fin_cases a
  · change win0_0.index t 0 * 1024 + 1 * r.val = t.val / 4 * 1024 + r.val
    rw [(idx t).1]; simp
  · change win0_0.index t 1 * 2048 + 1 * k.val = k.val
    rw [(idx t).1]; simp

theorem block_h (c : Dev nD) (t : Fin cfg0.N) (r : Fin 1024) (k : Fin 2048) :
    (iblk m c 0 t (ix2 r k) : EReal) = flatH (m (c, Proc.tc.devRef main_arg0)) (ix2 (rowOf t r) k) := by
  unfold iblk
  have h : V m c (Pipeline.arrRef spec0 0) = flatH (m (c, Proc.tc.devRef main_arg0)) := v1_eq m c
  rw [h, ← emb_h]
  rfl

theorem emb_p (t : Fin cfg0.N) (r : Fin 1024) (k : Fin 1024) :
    (win0_1.blk t).view.emb (ix2 r k) = (ix2 (rowOf t r) k : S16384x1024.Idx) := by
  refine funext fun a => Fin.ext ?_
  fin_cases a
  · change win0_1.index t 0 * 1024 + 1 * r.val = t.val / 4 * 1024 + r.val
    rw [(idx t).2.1]; simp
  · change win0_1.index t 1 * 1024 + 1 * k.val = k.val
    rw [(idx t).2.1]; simp

theorem block_p (c : Dev nD) (t : Fin cfg0.N) (r : Fin 1024) (k : Fin 1024) :
    (iblk m c 1 t (ix2 r k) : EReal) = flatO (m (c, Proc.tc.devRef main_arg1)) (ix2 (rowOf t r) k) := by
  unfold iblk
  have h : V m c (Pipeline.arrRef spec0 1) = flatO (m (c, Proc.tc.devRef main_arg1)) := v3_eq m c
  rw [h, ← emb_p]
  rfl

theorem emb_q (t : Fin cfg0.N) (r : Fin 1024) (k : Fin 1024) :
    (win0_2.blk t).view.emb (ix2 r k) = (ix2 (rowOf t r) k : S16384x1024.Idx) := by
  refine funext fun a => Fin.ext ?_
  fin_cases a
  · change win0_2.index t 0 * 1024 + 1 * r.val = t.val / 4 * 1024 + r.val
    rw [(idx t).2.2.1]; simp
  · change win0_2.index t 1 * 1024 + 1 * k.val = k.val
    rw [(idx t).2.2.1]; simp

theorem block_q (c : Dev nD) (t : Fin cfg0.N) (r : Fin 1024) (k : Fin 1024) :
    (iblk m c 2 t (ix2 r k) : EReal) = flatO (m (c, Proc.tc.devRef main_arg2)) (ix2 (rowOf t r) k) := by
  unfold iblk
  have h : V m c (Pipeline.arrRef spec0 2) = flatO (m (c, Proc.tc.devRef main_arg2)) := v5_eq m c
  rw [h, ← emb_q]
  rfl

theorem emb_s (t : Fin cfg0.N) (r : Fin 1024) (k : Fin 1024) :
    (win0_3.blk t).view.emb (ix2 r k) = (ix2 (rowOf t r) k : S16384x1024.Idx) := by
  refine funext fun a => Fin.ext ?_
  fin_cases a
  · change win0_3.index t 0 * 1024 + 1 * r.val = t.val / 4 * 1024 + r.val
    rw [(idx t).2.2.2.1]; simp
  · change win0_3.index t 1 * 1024 + 1 * k.val = k.val
    rw [(idx t).2.2.2.1]; simp

theorem block_s (c : Dev nD) (t : Fin cfg0.N) (r : Fin 1024) (k : Fin 1024) :
    (iblk m c 3 t (ix2 r k) : EReal) = flatO (m (c, Proc.tc.devRef main_arg3)) (ix2 (rowOf t r) k) := by
  unfold iblk
  have h : V m c (Pipeline.arrRef spec0 3) = flatO (m (c, Proc.tc.devRef main_arg3)) := v7_eq m c
  rw [h, ← emb_s]
  rfl

theorem emb_w0 (t : Fin cfg0.N) (k : Fin 2048) (e : Fin 512) :
    (win0_4.blk t).view.emb (ix2 k e) = (ix2 k (gateCol 0 (colOf t e)) : S2048x13312.Idx) := by
  refine funext fun a => Fin.ext ?_
  fin_cases a
  · change win0_4.index t 0 * 2048 + 1 * k.val = k.val
    rw [(idx t).2.2.2.2.1]; simp
  · change win0_4.index t 1 * 512 + 1 * e.val = 7168 + 2048 * 0 + (t.val % 4 * 512 + e.val)
    rw [(idx t).2.2.2.2.1]; simp; omega

theorem block_w0 (c : Dev nD) (t : Fin cfg0.N) (k : Fin 2048) (e : Fin 512) :
    (iblk m c 4 t (ix2 k e) : EReal) = argW m c k (gateCol 0 (colOf t e)) := by
  unfold iblk
  have h : V m c (Pipeline.arrRef spec0 4) = castW (m (c, Proc.tc.devRef main_arg4)) := v8_eq m c
  rw [h]
  unfold argW
  rw [← emb_w0]
  rfl

theorem emb_w1 (t : Fin cfg0.N) (k : Fin 2048) (e : Fin 512) :
    (win0_5.blk t).view.emb (ix2 k e) = (ix2 k (gateCol 1 (colOf t e)) : S2048x13312.Idx) := by
  refine funext fun a => Fin.ext ?_
  fin_cases a
  · change win0_5.index t 0 * 2048 + 1 * k.val = k.val
    rw [(idx t).2.2.2.2.2.1]; simp
  · change win0_5.index t 1 * 512 + 1 * e.val = 7168 + 2048 * 1 + (t.val % 4 * 512 + e.val)
    rw [(idx t).2.2.2.2.2.1]; simp; omega

theorem block_w1 (c : Dev nD) (t : Fin cfg0.N) (k : Fin 2048) (e : Fin 512) :
    (iblk m c 5 t (ix2 k e) : EReal) = argW m c k (gateCol 1 (colOf t e)) := by
  unfold iblk
  have h : V m c (Pipeline.arrRef spec0 5) = castW (m (c, Proc.tc.devRef main_arg4)) := v8_eq m c
  rw [h]
  unfold argW
  rw [← emb_w1]
  rfl

theorem emb_w2 (t : Fin cfg0.N) (k : Fin 2048) (e : Fin 512) :
    (win0_6.blk t).view.emb (ix2 k e) = (ix2 k (gateCol 2 (colOf t e)) : S2048x13312.Idx) := by
  refine funext fun a => Fin.ext ?_
  fin_cases a
  · change win0_6.index t 0 * 2048 + 1 * k.val = k.val
    rw [(idx t).2.2.2.2.2.2.1]; simp
  · change win0_6.index t 1 * 512 + 1 * e.val = 7168 + 2048 * 2 + (t.val % 4 * 512 + e.val)
    rw [(idx t).2.2.2.2.2.2.1]; simp; omega

theorem block_w2 (c : Dev nD) (t : Fin cfg0.N) (k : Fin 2048) (e : Fin 512) :
    (iblk m c 6 t (ix2 k e) : EReal) = argW m c k (gateCol 2 (colOf t e)) := by
  unfold iblk
  have h : V m c (Pipeline.arrRef spec0 6) = castW (m (c, Proc.tc.devRef main_arg4)) := v8_eq m c
  rw [h]
  unfold argW
  rw [← emb_w2]
  rfl

theorem emb_g (t : Fin cfg0.N) (a : Fin 3) (e : Fin 512) :
    (win0_7.blk t).view.emb (ix3 a 0 e) = (ix3 a 0 (colOf t e) : S3x1x2048.Idx) := by
  refine funext fun b => Fin.ext ?_
  fin_cases b
  · change win0_7.index t 0 * 3 + 1 * a.val = a.val
    rw [(idx t).2.2.2.2.2.2.2.1]; simp
  · change win0_7.index t 1 * 1 + 1 * 0 = 0
    rw [(idx t).2.2.2.2.2.2.2.1]; simp
  · change win0_7.index t 2 * 512 + 1 * e.val = t.val % 4 * 512 + e.val
    rw [(idx t).2.2.2.2.2.2.2.1]; simp

theorem block_g (c : Dev nD) (t : Fin cfg0.N) (a : Fin 3) (e : Fin 512) :
    (iblk m c 7 t (ix3 a 0 e) : EReal) = argG m c a (colOf t e) := by
  unfold iblk
  have h : V m c (Pipeline.arrRef spec0 7) = flatG (m (c, Proc.tc.devRef main_arg5)) := v9_eq m c
  rw [h]
  refine Eq.trans ?_ (flatG_apply _ a (colOf t e))
  rw [← emb_g]
  rfl

theorem emb_u (t : Fin cfg0.N) (a : Fin 3) (k : Fin 1024) (e : Fin 512) :
    (win0_8.blk t).view.emb (ix3 a k e) = (ix3 a k (colOf t e) : S3x1024x2048.Idx) := by
  refine funext fun b => Fin.ext ?_
  fin_cases b
  · change win0_8.index t 0 * 3 + 1 * a.val = a.val
    rw [(idx t).2.2.2.2.2.2.2.2.1]; simp
  · change win0_8.index t 1 * 1024 + 1 * k.val = k.val
    rw [(idx t).2.2.2.2.2.2.2.2.1]; simp
  · change win0_8.index t 2 * 512 + 1 * e.val = t.val % 4 * 512 + e.val
    rw [(idx t).2.2.2.2.2.2.2.2.1]; simp

theorem block_u (c : Dev nD) (t : Fin cfg0.N) (a : Fin 3) (k : Fin 1024) (e : Fin 512) :
    (iblk m c 8 t (ix3 a k e) : EReal) = argU m c a k (colOf t e) := by
  unfold iblk
  have h : V m c (Pipeline.arrRef spec0 8) = castU (m (c, Proc.tc.devRef main_arg6)) := v10_eq m c
  rw [h]
  unfold argU
  rw [← emb_u]
  rfl

theorem emb_out (t : Fin cfg0.N) (r : Fin 1024) (e : Fin 512) :
    (win0_9.blk t).view.emb (ix2 r e) = (ix2 (rowOf t r) (colOf t e) : S16384x2048.Idx) := by
  refine funext fun a => Fin.ext ?_
  fin_cases a
  · change win0_9.index t 0 * 1024 + 1 * r.val = t.val / 4 * 1024 + r.val
    rw [(idx t).2.2.2.2.2.2.2.2.2]; simp
  · change win0_9.index t 1 * 512 + 1 * e.val = t.val % 4 * 512 + e.val
    rw [(idx t).2.2.2.2.2.2.2.2.2]; simp

/-! ## The result -/

/-- One branch of a block, from the blocks read. -/
def branch (h : Fin 2048 → EReal) (w : Fin 2048 → EReal) (g : EReal) (o u : Fin 1024 → EReal) : EReal :=
  Ideal.logistic ((∑ k, h k * w k) + g) * ∑ k, o k * u k

/-- The first two branches of a block. -/
theorem pay3_apply (h : Vec Ideal S1024x2048 .bf16) (w : Vec Ideal S2048x512 .bf16) (g : Vec Ideal S1x1x512 .f32)
    (o : Vec Ideal S1024x1024 .bf16) (u : Vec Ideal S1x1024x512 .bf16) (w' : Vec Ideal S2048x512 .bf16)
    (g' : Vec Ideal S1x1x512 .f32) (o' : Vec Ideal S1024x1024 .bf16) (u' : Vec Ideal S1x1024x512 .bf16)
    (r : Fin 1024) (e : Fin 512) : (k0_pay3 (F := Ideal) h w g o u w' g' o' u' (ix2 r e) : EReal)
      = branch (fun k => h (ix2 r k)) (fun k => w (ix2 k e)) (g (ix3 0 0 e)) (fun k => o (ix2 r k)) (fun k => u (ix3 0 k e))
        + branch (fun k => h (ix2 r k)) (fun k => w' (ix2 k e)) (g' (ix3 0 0 e)) (fun k => o' (ix2 r k))
          (fun k => u' (ix3 0 k e)) := by
  pointwise [k0_pay3, k0_pay2]
  rfl

/-- The third branch on top of the first two. -/
theorem pay1_apply (h : Vec Ideal S1024x2048 .bf16) (z : FVec Ideal S1024x512 .f32) (w : Vec Ideal S2048x512 .bf16)
    (g : Vec Ideal S1x1x512 .f32) (o : Vec Ideal S1024x1024 .bf16) (u : Vec Ideal S1x1024x512 .bf16)
    (r : Fin 1024) (e : Fin 512) : (k0_pay1 (F := Ideal) (k0_pay2 h) z w g o u (ix2 r e) : EReal)
      = z (ix2 r e) + branch (fun k => h (ix2 r k)) (fun k => w (ix2 k e)) (g (ix3 0 0 e)) (fun k => o (ix2 r k))
          (fun k => u (ix3 0 k e)) := by
  pointwise [k0_pay1, k0_pay2]
  rfl

/-- A branch's row of the gates' additions, and its matrix, read from the blocks of all three. -/
theorem ld_g (x : Vec Ideal S3x1x512 .f32) (a : Fin 3) (hb : ∀ b : Fin 3, ![a.val, 0, 0] b + S1x1x512.size b ≤ S3x1x512.size b)
    (e : Fin 512) : View.ld (Val := Elt Ideal) x (Rect.unit (s := S3x1x512) ![a.val, 0, 0] S1x1x512.size hb) (ix3 0 0 e)
      = x (ix3 a 0 e) := by
  refine congrArg x (funext fun b => Fin.ext ?_)
  fin_cases b <;> simp [Rect.unit]

theorem ld_u (x : Vec Ideal S3x1024x512 .bf16) (a : Fin 3)
    (hb : ∀ b : Fin 3, ![a.val, 0, 0] b + S1x1024x512.size b ≤ S3x1024x512.size b) (k : Fin 1024) (e : Fin 512) :
    View.ld (Val := Elt Ideal) x (Rect.unit (s := S3x1024x512) ![a.val, 0, 0] S1x1024x512.size hb) (ix3 0 k e)
      = x (ix3 a k e) := by
  refine congrArg x (funext fun b => Fin.ext ?_)
  fin_cases b <;> simp [Rect.unit]

/-- What a grid point leaves in its block, from the blocks it reads. -/
theorem out_apply (x0 : Vec Ideal S1024x2048 .bf16) (x1 x2 x3 : Vec Ideal S1024x1024 .bf16)
    (x4 x5 x6 : Vec Ideal S2048x512 .bf16) (x7 : Vec Ideal S3x1x512 .f32) (x8 : Vec Ideal S3x1024x512 .bf16)
    (r : Fin 1024) (e : Fin 512) : (out0_9 (F := Ideal) x0 x1 x2 x3 x4 x5 x6 x7 x8 (ix2 r e) : EReal)
      = branch (fun k => x0 (ix2 r k)) (fun k => x4 (ix2 k e)) (x7 (ix3 0 0 e)) (fun k => x1 (ix2 r k)) (fun k => x8 (ix3 0 k e))
        + branch (fun k => x0 (ix2 r k)) (fun k => x5 (ix2 k e)) (x7 (ix3 1 0 e)) (fun k => x2 (ix2 r k))
          (fun k => x8 (ix3 1 k e))
        + branch (fun k => x0 (ix2 r k)) (fun k => x6 (ix2 k e)) (x7 (ix3 2 0 e)) (fun k => x3 (ix2 r k))
          (fun k => x8 (ix3 2 k e)) := by
  unfold out0_9
  rw [View.canon_unit_zero (by decide), View.ld_unit_zero (S := S1024x2048) (by decide)]
  simp only [View.ld_unit_zero (S := S1024x1024) (show ![0, 0] = fun _ => 0 by decide),
    View.ld_unit_zero (S := S2048x512) (show ![0, 0] = fun _ => 0 by decide)]
  refine (pay1_apply _ _ _ _ _ _ r e).trans (congrArg₂ (· + ·) ((pay3_apply _ _ _ _ _ _ _ _ _ r e).trans
    (congrArg₂ (· + ·) ?_ ?_)) ?_)
  · exact congrArg₂ (fun g u => branch _ _ g _ u) (ld_g x7 0 _ e) (funext fun k => ld_u x8 0 _ k e)
  · exact congrArg₂ (fun g u => branch _ _ g _ u) (ld_g x7 1 _ e) (funext fun k => ld_u x8 1 _ k e)
  · exact congrArg₂ (fun g u => branch _ _ g _ u) (ld_g x7 2 _ e) (funext fun k => ld_u x8 2 _ k e)

/-- The result array, from the argument arrays by coordinates. -/
def result (h : Fin 8 → Fin 2048 → Fin 2048 → EReal) (p q s : Fin 8 → Fin 2048 → Fin 1024 → EReal)
    (w : Fin 2048 → Fin 13312 → EReal) (g : Fin 3 → Fin 2048 → EReal) (u : Fin 3 → Fin 1024 → Fin 2048 → EReal) :
    FVec Ideal S16384x2048 .bf16 := fun i =>
  merged h p q s w g u ⟨(i 0).val, (i 0).isLt⟩ ⟨(i 1).val, (i 1).isLt⟩

theorem block_point (c : Dev nD) (t : Fin cfg0.N) (r : Fin 1024) (e : Fin 512) :
    (out0_9 (F := Ideal) (iblk m c 0 t) (iblk m c 1 t) (iblk m c 2 t) (iblk m c 3 t) (iblk m c 4 t) (iblk m c 5 t)
        (iblk m c 6 t) (iblk m c 7 t) (iblk m c 8 t) (ix2 r e) : EReal)
      = merged (argH m c) (argP m c) (argQ m c) (argS m c) (argW m c) (argG m c) (argU m c) (rowOf t r) (colOf t e) := by
  have hh : (fun k => (iblk m c 0 t (ix2 r k) : EReal)) = fun k => argH m c (stream (rowOf t r)) (place (rowOf t r)) k :=
    funext fun k => (block_h m c t r k).trans (flatH_apply ..)
  refine (out_apply _ _ _ _ _ _ _ _ _ r e).trans ?_
  rw [hh, block_g, block_g, block_g]
  simp only [block_u, block_w0, block_w1, block_w2, block_p, block_q, block_s, flatO_apply]
  rfl

theorem block_laid (c : Dev nD) (t : Fin cfg0.N) (y : S1024x512.Idx) :
    (out0_9 (F := Ideal) (iblk m c 0 t) (iblk m c 1 t) (iblk m c 2 t) (iblk m c 3 t) (iblk m c 4 t) (iblk m c 5 t)
        (iblk m c 6 t) (iblk m c 7 t) (iblk m c 8 t) y : EReal)
      = result (argH m c) (argP m c) (argQ m c) (argS m c) (argW m c) (argG m c) (argU m c) ((win0_9.blk t).view.emb y) := by
  obtain ⟨r, e, rfl⟩ : ∃ (r : Fin 1024) (e : Fin 512), y = ix2 r e :=
    ⟨⟨(y 0).val, (y 0).isLt⟩, ⟨(y 1).val, (y 1).isLt⟩, funext fun a => by fin_cases a <;> rfl⟩
  rw [emb_out]
  exact block_point m c t r e

/-- The result array of the run. -/
theorem array (c : Dev nD) : (dats m 0 c).arrAt 9 cfg0.N
    = result (argH m c) (argP m c) (argQ m c) (argS m c) (argW m c) (argG m c) (argU m c) := by
  refine (dats m 0 c).arrAt_eq_of_covers 9 _ (by decide +kernel) fun t _ y => ?_
  blk_simp
  rw [after0_9]
  exact block_laid m c t y

end Cert.MergeIdeal.Value

end
-- ==== Proof.OutRow.lean ====
/- A row of the output projection on top of the residual, and its norm, as functions of the coordinates of the arrays;
   and the two ways of taking a row's mean: halves summed apart and scaled, or one sum divided. -/
module

public import Idealize.ShloMosaic.Lib.Pointwise
public import Idealize.ShloMosaic.PureOps.Ideal.Laws

@[expose] public section

noncomputable section

namespace Cert.OutRow

open Idealize.ShloMosaic

/-- The stream of a row of the flat arrays, and its place in the stream. -/
def stream (i : Fin 1024) : Fin 32 := ⟨i.val / 32, by omega⟩
def place (i : Fin 1024) : Fin 32 := ⟨i.val % 32, by omega⟩

/-- The projection on top of the residual. -/
def onTop (x y : Fin 32 → Fin 32 → Fin 2048 → EReal) (w : Fin 2048 → Fin 2048 → EReal) (i : Fin 1024) (n : Fin 2048) :
    EReal :=
  x (stream i) (place i) n + ∑ k : Fin 2048, y (stream i) (place i) k * w k n

/-- A row over its root mean square, times the gain. -/
def normed (z : Fin 2048 → EReal) (g : Fin 2048 → EReal) (n : Fin 2048) : EReal :=
  z n * Ideal.rsqrt (Ideal.div (∑ k, z k * z k) (Ideal.ofBits .f32 0x45000000#32) + Ideal.ofBits .f32 0x358637BD#32) * g n

/-- The lane a half's lane is. -/
def left (e : Fin 1024) : Fin 2048 := ⟨e.val, by omega⟩
def right (e : Fin 1024) : Fin 2048 := ⟨1024 + e.val, by omega⟩

theorem sum_halves (f : Fin 2048 → EReal) : ∑ k, f k = (∑ e, f (left e)) + ∑ e, f (right e) :=
  Fin.sum_univ_add (a := 1024) (b := 1024) f

theorem left_or_right (n : Fin 2048) : (∃ e, n = left e) ∨ ∃ e, n = right e := by
  by_cases h : n.val < 1024
  · exact Or.inl ⟨⟨n.val, h⟩, rfl⟩
  · exact Or.inr ⟨⟨n.val - 1024, by omega⟩, Fin.ext (by show n.val = 1024 + (n.val - 1024); omega)⟩

theorem lanes : Ideal.ofBits .f32 0x45000000#32 = ((2048 : ℝ) : EReal) := by
  simp [Ideal.ofBits, Ideal.ieee]
  rw [← EReal.coe_mul]
  norm_num

theorem share : Ideal.ofBits .f32 0x3A000000#32 = ((1 / 2048 : ℝ) : EReal) := by
  simp [Ideal.ofBits, Ideal.ieee]
  rw [← EReal.coe_mul]
  norm_num

/-- Scaling by the share of a lane is dividing by the number of lanes. -/
theorem mean (s : EReal) :
    s * Ideal.ofBits .f32 0x3A000000#32 = Ideal.div s (Ideal.ofBits .f32 0x45000000#32) := by
  rw [lanes, share, Ideal.div_coe (by norm_num)]

/-- The scale made from the two halves of a row. -/
theorem scale (z : Fin 2048 → EReal) (g : Fin 2048 → EReal) (n : Fin 2048) :
    z n * Ideal.rsqrt (((∑ e, z (left e) * z (left e)) + ∑ e, z (right e) * z (right e)) * Ideal.ofBits .f32 0x3A000000#32
        + Ideal.ofBits .f32 0x358637BD#32) * g n = normed z g n := by
  rw [mean, ← sum_halves fun k => z k * z k, normed]

end Cert.OutRow

end
-- ==== Proof.OutBlock.lean ====
/- What the body of the output projection leaves in its blocks, element by element, from what it loads. -/
module

public import proofs.«01_k».proof.Proof.OutRow
public import proofs.«01_k».proof.Proof.Gen.OutIdeal.Value
public import Idealize.ShloMosaic.Lib.Pipeline.ValueKit
public import Idealize.ShloMosaic.Lib.WholeRead
public import Idealize.ShloMosaic.Lib.WritesUnit
public import Idealize.ShloMosaic.Lib.Pointwise

@[expose] public section

set_option maxRecDepth 16384

noncomputable section

namespace Cert.OutIdeal.Value

open Cert.OutIdeal Cert.OutIdeal.Gen Idealize.ShloMosaic Idealize.ShloMosaic.TcCoe Idealize.SL.Sem
open Cert.OutRow

/-! ## The arithmetic -/

theorem pay1_apply (x : Vec Ideal S1024x1024 .f32) (y : Vec Ideal S1024x2048 .bf16) (w : Vec Ideal S2048x1024 .bf16)
    (r e : Fin 1024) : (k0_pay1 (F := Ideal) x y w (ix2 r e) : EReal)
      = x (ix2 r e) + ∑ k : Fin 2048, (y (ix2 r k) : EReal) * w (ix2 k e) := by
  pointwise [k0_pay1]

theorem pay2_apply (x : Vec Ideal S1024x1024 .f32) (y : Vec Ideal S1024x2048 .bf16) (w : Vec Ideal S2048x1024 .bf16)
    (r e : Fin 1024) : (k0_pay2 (F := Ideal) x y w (ix3 0 r e) : EReal)
      = x (ix2 r e) + ∑ k : Fin 2048, (y (ix2 r k) : EReal) * w (ix2 k e) := by
  refine Eq.trans ?_ (pay1_apply x y w r e)
  unfold k0_pay2
  generalize k0_pay1 (F := Ideal) x y w = z
  pointwise []

theorem pay3_apply (a b : Vec Ideal S1x1024x1024 .f32) (r : Fin 1024) :
    (k0_pay3 (F := Ideal) a b (ix2 r 0) : EReal)
      = Ideal.rsqrt (((∑ e : Fin 1024, (a (ix3 0 r e) : EReal) * a (ix3 0 r e))
          + ∑ e : Fin 1024, (b (ix3 0 r e) : EReal) * b (ix3 0 r e)) * Ideal.ofBits .f32 0x3A000000#32
          + Ideal.ofBits .f32 0x358637BD#32) := by
  pointwise [k0_pay3]

theorem pay4_apply (a b v : Vec Ideal S1x1024x1024 .f32) (g : Vec Ideal S1x1024 .f32) (r e : Fin 1024) :
    (k0_pay4 (F := Ideal) a b v g (ix2 r e) : EReal)
      = v (ix3 0 r e) * k0_pay3 (F := Ideal) a b (ix2 r 0) * g (ix2 0 e) := by
  unfold k0_pay4
  generalize k0_pay3 (F := Ideal) a b = s
  pointwise []

theorem pay5_apply (a b v : Vec Ideal S1x1024x1024 .f32) (g : Vec Ideal S1x1024 .f32) (r e : Fin 1024) :
    (k0_pay5 (F := Ideal) a b v g (ix2 r e) : EReal)
      = v (ix3 0 r e) * k0_pay3 (F := Ideal) a b (ix2 r 0) * g (ix2 0 e) := by
  unfold k0_pay5
  generalize k0_pay3 (F := Ideal) a b = s
  pointwise []

/-! ## What the stores leave -/

section
variable {F : FTy → Type} [FloatOps F]

/-- A statement of two or three axes, axis by axis. -/
theorem axes2 {P : Fin 2 → Prop} (h0 : P 0) (h1 : P 1) : ∀ a, P a := by
  intro a
  fin_cases a
  exacts [h0, h1]
theorem axes3 {P : Fin 3 → Prop} (h0 : P 0) (h1 : P 1) (h2 : P 2) : ∀ a, P a := by
  intro a
  fin_cases a
  exacts [h0, h1, h2]

theorem whole_x {M : Memref sig .tc .vmem S1024x1024 .f32} (h : M.IsWhole) (x : Vec F S1024x1024 .f32) :
    View.readAt (Elt F) M.view (Rect.unit (s := S1024x1024) ![0, 0] S1024x1024.size inb_S1024x1024_S1024x1024_0_0).toLoadRect
      (h.unread x) = x :=
  (funext fun z => h.readAt_unread x _ z : _ = View.ld x (Rect.unit (s := S1024x1024) ![0, 0] S1024x1024.size inb_S1024x1024_S1024x1024_0_0)).trans
    (View.ld_unit_zero (by decide) _ _)
theorem whole_y {M : Memref sig .tc .vmem S1024x2048 .bf16} (h : M.IsWhole) (x : Vec F S1024x2048 .bf16) :
    View.readAt (Elt F) M.view (Rect.unit (s := S1024x2048) ![0, 0] S1024x2048.size inb_S1024x2048_S1024x2048_0_0).toLoadRect
      (h.unread x) = x :=
  (funext fun z => h.readAt_unread x _ z : _ = View.ld x (Rect.unit (s := S1024x2048) ![0, 0] S1024x2048.size inb_S1024x2048_S1024x2048_0_0)).trans
    (View.ld_unit_zero (by decide) _ _)
theorem whole_w {M : Memref sig .tc .vmem S2048x1024 .bf16} (h : M.IsWhole) (x : Vec F S2048x1024 .bf16) :
    View.readAt (Elt F) M.view (Rect.unit (s := S2048x1024) ![0, 0] S2048x1024.size inb_S2048x1024_S2048x1024_0_0).toLoadRect
      (h.unread x) = x :=
  (funext fun z => h.readAt_unread x _ z : _ = View.ld x (Rect.unit (s := S2048x1024) ![0, 0] S2048x1024.size inb_S2048x1024_S2048x1024_0_0)).trans
    (View.ld_unit_zero (by decide) _ _)

theorem pay2_congr {a x : Vec F S1024x1024 .f32} {b y : Vec F S1024x2048 .bf16} {c w : Vec F S2048x1024 .bf16}
    (ha : a = x) (hb : b = y) (hc : c = w) (z : S1x1024x1024.Idx) : k0_pay2 a b c z = k0_pay2 x y w z := by
  rw [ha, hb, hc]

theorem gain_left {M : Memref sig .tc .vmem S1x2048 .f32} (h : M.IsWhole) (x : Vec F S1x2048 .f32) :
    View.readAt (Elt F) M.view (Rect.unit (s := S1x2048) ![0, 0] S1x1024.size inb_S1x2048_S1x1024_0_0).toLoadRect (h.unread x)
      = View.ld x (Rect.unit (s := S1x2048) ![0, 0] S1x1024.size inb_S1x2048_S1x1024_0_0) :=
  funext fun z => h.readAt_unread x _ z
theorem gain_right {M : Memref sig .tc .vmem S1x2048 .f32} (h : M.IsWhole) (x : Vec F S1x2048 .f32) :
    View.readAt (Elt F) M.view (Rect.unit (s := S1x2048) ![0, 1024] S1x1024.size inb_S1x2048_S1x1024_0_1024).toLoadRect (h.unread x)
      = View.ld x (Rect.unit (s := S1x2048) ![0, 1024] S1x1024.size inb_S1x2048_S1x1024_0_1024) :=
  funext fun z => h.readAt_unread x _ z

/-- A store through the whole of a block is what the block holds. -/
theorem stored (v : View sig .tc .vmem S1024x1024 .f32) (f : v.ty.Contents (Elt F)) (z : FVec F S1024x1024 .f32) :
    v.read (Elt F) (v.writes (Elt F) f [⟨Rect.unit (s := S1024x1024) ![0, 0] S1024x1024.size inb_S1024x1024_S1024x1024_0_0, z⟩]) = z :=
  funext fun y => View.read_writes_cons_unit_of_mem (s := S1024x1024) v f _ z [] y y rfl
    (axes2 (Nat.zero_add _).symm (Nat.zero_add _).symm)

/-- A store to the first half of the rows' scratch. -/
theorem half_stored (v : View sig .tc .vmem S2x1024x1024 .f32) (f : v.ty.Contents (Elt F)) {off : Fin 3 → ℕ}
    (inb : ∀ a, off a + S1x1024x1024.size a ≤ S2x1024x1024.size a) (h : off = ![0, 0, 0]) (w : Vec F S1x1024x1024 .f32)
    (r e : Fin 1024) :
    v.read (Elt F) (v.writes (Elt F) f [⟨Rect.unit (s := S2x1024x1024) off S1x1024x1024.size inb, w⟩]) (ix3 0 r e)
      = w (ix3 0 r e) :=
  View.read_writes_cons_unit_of_mem (s := S2x1024x1024) v f inb w [] (ix3 0 r e) (ix3 0 r e) h
    (axes3 rfl (Nat.zero_add _).symm (Nat.zero_add _).symm)

/-- A load of what was just stored. -/
theorem read_back {s : Shape} (v : View sig .tc .vmem s .f32) {off off' size : Fin s.rank → ℕ}
    (inb : ∀ a, off a + size a ≤ s.size a) (inb' : ∀ a, off' a + size a ≤ s.size a) (h : off = off')
    (w : Shape.Idx ⟨s.rank, size⟩ → Elt F .f32) (L : List (View.Piece (Elt F) s .f32)) :
    v.readCov (⟨Rect.unit off size inb, w⟩ :: L) (Rect.unit off' size inb').toLoadRect = w := by
  subst h
  refine funext fun y => View.read_writes_cons_unit_of_mem v v.junk inb w L _ y rfl fun a => ?_
  show off a + 1 * (y a).val = _
  rw [Nat.one_mul]

variable (c : Dev nD) (i : grid0.Coords)
  (arg2 : Memref sig .tc .vmem S1024x2048 .bf16) (harg2 : arg2.IsWhole)
  (arg3 : Memref sig .tc .vmem S2048x1024 .bf16) (harg3 : arg3.IsWhole)
  (arg4 : Memref sig .tc .vmem S1024x1024 .f32) (harg4 : arg4.IsWhole)
  (arg5 : Memref sig .tc .vmem S1x2048 .f32) (harg5 : arg5.IsWhole)
  (arg6 : Memref sig .tc .vmem S1024x1024 .f32) (harg6 : arg6.IsWhole)
  (arg7 : Memref sig .tc .vmem S1024x2048 .bf16) (harg7 : arg7.IsWhole)
  (arg8 : Memref sig .tc .vmem S2x1024x1024 .f32) (harg8 : arg8.IsWhole)

variable (x0 : Vec F S1024x2048 .bf16) (x1 : Vec F S2048x1024 .bf16) (x2 : Vec F S1024x1024 .f32) (x3 : Vec F S1x2048 .f32)

/-- The first block of columns of the first result, and the second. -/
theorem first_A (hc0 : ¬cond0_0 i) : out0_A_4 c i arg2 harg2 arg3 harg3 arg4 harg4 arg5 harg5 arg6 harg6 arg7 harg7 arg8 harg8 hc0 x0 x1 x2 x3
    = k0_pay1 x2 x0 x1 := by
  unfold out0_A_4
  dsimp only [kernelRun0_A]
  refine (stored _ _ _).trans ?_
  exact congr (congr (congrArg k0_pay1 (whole_x harg4 x2)) (whole_y harg2 x0)) (whole_w harg3 x1)

theorem first_B (hc0 : cond0_0 i) (hl0 : k0_off1 i = ![1, 0, 0]) (p : Vec F S1x1024x1024 .f32) :
    out0_B_4 c i arg2 harg2 arg3 harg3 arg4 harg4 arg5 harg5 arg6 harg6 arg7 harg7 arg8 harg8 hc0 hl0 x0 x1 x2 x3 p
      = k0_pay1 x2 x0 x1 := by
  unfold out0_B_4
  dsimp only [kernelRun0_B]
  refine (stored _ _ _).trans ?_
  exact congr (congr (congrArg k0_pay1 (whole_x harg4 x2)) (whole_y harg2 x0)) (whole_w harg3 x1)

/-- The first half of the rows' scratch after the first point. -/
theorem kept_A (hc0 : ¬cond0_0 i) (hl : k0_off1 i = ![0, 0, 0]) (xs : Vec F S2x1024x1024 .f32) (r e : Fin 1024) :
    sout0_A_0 c i arg2 harg2 arg3 harg3 arg4 harg4 arg5 harg5 arg6 harg6 arg7 harg7 arg8 harg8 hc0 x0 x1 x2 x3 xs (ix3 0 r e)
      = k0_pay2 x2 x0 x1 (ix3 0 r e) := by
  unfold sout0_A_0
  dsimp only [kernelRun0_A]
  refine (half_stored _ _ _ hl _ r e).trans ?_
  exact pay2_congr (whole_x harg4 x2) (whole_y harg2 x0) (whole_w harg3 x1) _

/-- The second half of the rows' scratch, read after it is stored. -/
theorem read_B (hl0 : k0_off1 i = ![1, 0, 0]) :
    kernelRun0_B.sl.v21 c i arg2 harg2 arg3 harg3 arg4 harg4 arg8 x0 x1 x2 = k0_pay2 x2 x0 x1 := by
  unfold kernelRun0_B.sl.v21 kernelRun0_B.sl.HS0_1
  refine (read_back (s := S2x1024x1024) arg8.view _ inb_S2x1024x1024_S1x1024x1024_1_0_0 hl0 _ []).trans ?_
  exact funext fun y => pay2_congr (whole_x harg4 x2) (whole_y harg2 x0) (whole_w harg3 x1) y

/-- The second result: the left lanes and the right ones. -/
theorem second_left (hc0 : cond0_0 i) (hl0 : k0_off1 i = ![1, 0, 0]) (p : Vec F S1x1024x1024 .f32) (r e : Fin 1024) :
    out0_B_5 c i arg2 harg2 arg3 harg3 arg4 harg4 arg5 harg5 arg6 harg6 arg7 harg7 arg8 harg8 hc0 hl0 x0 x1 x2 x3 p (ix2 r (left e))
      = k0_pay4 p (k0_pay2 x2 x0 x1) p
          (View.ld x3 (Rect.unit (s := S1x2048) ![0, 0] S1x1024.size inb_S1x2048_S1x1024_0_0)) (ix2 r e) := by
  unfold out0_B_5
  dsimp only [kernelRun0_B]
  refine (View.read_writes_cons_unit_of_not_mem (s := S1024x2048) _ _ _ _ _ _ rfl (1 : Fin 2) (Or.inl e.isLt)).trans ?_
  refine (View.read_writes_cons_unit_of_mem (s := S1024x2048) _ _ _ _ _ _ (ix2 r e) rfl
    (axes2 (Nat.zero_add _).symm (Nat.zero_add _).symm)).trans ?_
  rw [read_B c i arg2 harg2 arg3 harg3 arg4 harg4 arg8 x0 x1 x2 hl0]
  exact congrFun (congrArg (k0_pay4 p (k0_pay2 x2 x0 x1) p) (gain_left harg5 x3)) (ix2 r e)

theorem second_right (hc0 : cond0_0 i) (hl0 : k0_off1 i = ![1, 0, 0]) (p : Vec F S1x1024x1024 .f32) (r e : Fin 1024) :
    out0_B_5 c i arg2 harg2 arg3 harg3 arg4 harg4 arg5 harg5 arg6 harg6 arg7 harg7 arg8 harg8 hc0 hl0 x0 x1 x2 x3 p (ix2 r (right e))
      = k0_pay5 p (k0_pay2 x2 x0 x1) (k0_pay2 x2 x0 x1)
          (View.ld x3 (Rect.unit (s := S1x2048) ![0, 1024] S1x1024.size inb_S1x2048_S1x1024_0_1024)) (ix2 r e) := by
  unfold out0_B_5
  dsimp only [kernelRun0_B]
  refine (View.read_writes_cons_unit_of_mem (s := S1024x2048) _ _ _ _ _ _ (ix2 r e) rfl
    (axes2 (Nat.zero_add _).symm rfl)).trans ?_
  unfold kernelRun0_B.sl.r
  rw [read_B c i arg2 harg2 arg3 harg3 arg4 harg4 arg8 x0 x1 x2 hl0]
  exact congrFun (congrArg (k0_pay5 p (k0_pay2 x2 x0 x1) (k0_pay2 x2 x0 x1)) (gain_right harg5 x3)) (ix2 r e)
end

end Cert.OutIdeal.Value

end
-- ==== Proof.OutArray.lean ====
/- The two results of the output projection after the run: the projection on top of the residual, and its norm, at every
   row and lane. -/
module

public import proofs.«01_k».proof.Proof.OutBlock
public import Idealize.ShloMosaic.Lib.StableHlo.RunRead
public import Idealize.ShloMosaic.Lib.KernelVsHost

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.StableHlo Cert.OutRow

variable (m : (ℓ : Loc nD τ sig) → Buf (Elt Ideal) ℓ)

/-- The block of each window at a grid point. -/
theorem idx : ∀ t : Fin cfg0.N, win0_0.index t = ![0, 0] ∧ win0_1.index t = ![0, t.val] ∧ win0_2.index t = ![0, t.val]
    ∧ win0_3.index t = ![0, 0] ∧ win0_4.index t = ![0, t.val] ∧ win0_5.index t = ![0, 0] :=
  (by decide +kernel : ∀ t : Fin grid0.N, _)

theorem lt2 (t : Fin cfg0.N) : t.val < 2 := t.isLt

/-- The lane of the array that a block's lane is. -/
def colOf (t : Fin cfg0.N) (e : Fin 1024) : Fin 2048 := ⟨t.val * 1024 + e.val, by have := lt2 t; omega⟩

/-- The argument arrays, by their coordinates. -/
def argX (c : Dev nD) (b r : Fin 32) (n : Fin 2048) : EReal := m (c, Proc.tc.devRef main_arg0) (ix3 b r n)
def argY (c : Dev nD) (b r : Fin 32) (k : Fin 2048) : EReal := m (c, Proc.tc.devRef main_arg1) (ix3 b r k)
def argW (c : Dev nD) (k n : Fin 2048) : EReal := m (c, Proc.tc.devRef main_arg2) (ix2 k n)
def argG (c : Dev nD) (n : Fin 2048) : EReal := m (c, Proc.tc.devRef main_arg3) (ix1 n)

/-! ## The arrays the host hands to the kernel -/

def flatX (x : FVec Ideal S32x32x2048 .f32) : FVec Ideal S1024x2048 .f32 :=
  shapeCast S1024x2048 x shapeCasts_S32x32x2048_S1024x2048
def flatY (y : FVec Ideal S32x32x2048 .f32) : FVec Ideal S1024x2048 .bf16 := truncf .bf16 (flatX y) bitsLt_bf16_f32
def castW (w : FVec Ideal S2048x2048 .f32) : FVec Ideal S2048x2048 .bf16 := truncf .bf16 w bitsLt_bf16_f32
def rowG (g : FVec Ideal S2048 .f32) : FVec Ideal S1x2048 .f32 := shapeCast S1x2048 g shapeCasts_S2048_S1x2048

theorem flatX_apply (x : FVec Ideal S32x32x2048 .f32) (i : Fin 1024) (n : Fin 2048) :
    (flatX x (ix2 i n) : EReal) = x (ix3 (stream i) (place i) n) := by
  pointwise [flatX]
  rfl

theorem rowG_apply (g : FVec Ideal S2048 .f32) (n : Fin 2048) : (rowG g (ix2 0 n) : EReal) = g (ix1 n) := by
  pointwise [rowG]

theorem v1_eq (c : Dev nD) : V m c main_v1 = flatY (m (c, Proc.tc.devRef main_arg1)) := by
  refine (after_last_write (i := 1) [main_v2, main_v3, main_v4] rfl rfl (by decide) _).trans ?_
  refine (unary_result main_v0 main_v1 _ _ _ _).trans ?_
  rw [upto_last_write (i := 0) [] rfl rfl (by decide)]
  rfl

theorem v2_eq (c : Dev nD) : V m c main_v2 = castW (m (c, Proc.tc.devRef main_arg2)) := by
  refine (after_last_write (i := 2) [main_v3, main_v4] rfl rfl (by decide) _).trans ?_
  refine (unary_result main_arg2 main_v2 _ _ _ _).trans ?_
  exact congrArg castW (upto_unwritten [main_v0, main_v1] rfl (by decide) _)

theorem v3_eq (c : Dev nD) : V m c main_v3 = flatX (m (c, Proc.tc.devRef main_arg0)) := by
  refine (after_last_write (i := 3) [main_v4] rfl rfl (by decide) _).trans ?_
  refine (reshape_result main_arg0 main_v3 rfl _ _ _ _).trans ?_
  exact congrArg flatX (upto_unwritten [main_v0, main_v1, main_v2] rfl (by decide) _)

theorem v4_eq (c : Dev nD) : V m c main_v4 = rowG (m (c, Proc.tc.devRef main_arg3)) := by
  refine (after_last_write (i := 4) [] rfl rfl (by decide) _).trans ?_
  refine (reshape_result main_arg3 main_v4 rfl _ _ _ _).trans ?_
  exact congrArg rowG (upto_unwritten [main_v0, main_v1, main_v2, main_v3] rfl (by decide) _)

/-! ## The blocks of the arrays at a grid point -/

theorem emb_y (t : Fin cfg0.N) (r : Fin 1024) (k : Fin 2048) :
    (win0_0.blk t).view.emb (ix2 r k) = (ix2 r k : S1024x2048.Idx) := by
  refine funext fun a => Fin.ext ?_
  fin_cases a
  · change win0_0.index t 0 * 1024 + 1 * r.val = r.val
    rw [(idx t).1]; simp
  · change win0_0.index t 1 * 2048 + 1 * k.val = k.val
    rw [(idx t).1]; simp

theorem emb_w (t : Fin cfg0.N) (k : Fin 2048) (e : Fin 1024) :
    (win0_1.blk t).view.emb (ix2 k e) = (ix2 k (colOf t e) : S2048x2048.Idx) := by
  refine funext fun a => Fin.ext ?_
  fin_cases a
  · change win0_1.index t 0 * 2048 + 1 * k.val = k.val
    rw [(idx t).2.1]; simp
  · change win0_1.index t 1 * 1024 + 1 * e.val = t.val * 1024 + e.val
    rw [(idx t).2.1]; simp

theorem emb_x (t : Fin cfg0.N) (r e : Fin 1024) :
    (win0_2.blk t).view.emb (ix2 r e) = (ix2 r (colOf t e) : S1024x2048.Idx) := by
  refine funext fun a => Fin.ext ?_
  fin_cases a
  · change win0_2.index t 0 * 1024 + 1 * r.val = r.val
    rw [(idx t).2.2.1]; simp
  · change win0_2.index t 1 * 1024 + 1 * e.val = t.val * 1024 + e.val
    rw [(idx t).2.2.1]; simp

theorem emb_g (t : Fin cfg0.N) (n : Fin 2048) :
    (win0_3.blk t).view.emb (ix2 0 n) = (ix2 0 n : S1x2048.Idx) := by
  refine funext fun a => Fin.ext ?_
  fin_cases a
  · change win0_3.index t 0 * 1 + 1 * 0 = 0
    rw [(idx t).2.2.2.1]; simp
  · change win0_3.index t 1 * 2048 + 1 * n.val = n.val
    rw [(idx t).2.2.2.1]; simp

theorem emb_first (t : Fin cfg0.N) (r e : Fin 1024) :
    (win0_4.blk t).view.emb (ix2 r e) = (ix2 r (colOf t e) : S1024x2048.Idx) := by
  refine funext fun a => Fin.ext ?_
  fin_cases a
  · change win0_4.index t 0 * 1024 + 1 * r.val = r.val
    rw [(idx t).2.2.2.2.1]; simp
  · change win0_4.index t 1 * 1024 + 1 * e.val = t.val * 1024 + e.val
    rw [(idx t).2.2.2.2.1]; simp

theorem emb_second (t : Fin cfg0.N) (r : Fin 1024) (n : Fin 2048) :
    (win0_5.blk t).view.emb (ix2 r n) = (ix2 r n : S1024x2048.Idx) := by
  refine funext fun a => Fin.ext ?_
  fin_cases a
  · change win0_5.index t 0 * 1024 + 1 * r.val = r.val
    rw [(idx t).2.2.2.2.2]; simp
  · change win0_5.index t 1 * 2048 + 1 * n.val = n.val
    rw [(idx t).2.2.2.2.2]; simp

theorem block_y (c : Dev nD) (t : Fin cfg0.N) (r : Fin 1024) (k : Fin 2048) :
    (iblk m c 0 t (ix2 r k) : EReal) = argY m c (stream r) (place r) k := by
  unfold iblk
  have h : V m c (Pipeline.arrRef spec0 0) = flatY (m (c, Proc.tc.devRef main_arg1)) := v1_eq m c
  rw [h]
  refine Eq.trans ?_ (flatX_apply (m (c, Proc.tc.devRef main_arg1)) r k)
  exact congrArg (flatY (m (c, Proc.tc.devRef main_arg1))) (emb_y t r k)

theorem block_w (c : Dev nD) (t : Fin cfg0.N) (k : Fin 2048) (e : Fin 1024) :
    (iblk m c 1 t (ix2 k e) : EReal) = argW m c k (colOf t e) := by
  unfold iblk argW
  have h : V m c (Pipeline.arrRef spec0 1) = castW (m (c, Proc.tc.devRef main_arg2)) := v2_eq m c
  rw [h, ← emb_w]
  rfl

theorem block_x (c : Dev nD) (t : Fin cfg0.N) (r e : Fin 1024) :
    (iblk m c 2 t (ix2 r e) : EReal) = argX m c (stream r) (place r) (colOf t e) := by
  unfold iblk
  have h : V m c (Pipeline.arrRef spec0 2) = flatX (m (c, Proc.tc.devRef main_arg0)) := v3_eq m c
  rw [h]
  refine Eq.trans ?_ (flatX_apply (m (c, Proc.tc.devRef main_arg0)) r (colOf t e))
  rw [← emb_x]
  rfl

theorem block_g (c : Dev nD) (t : Fin cfg0.N) (n : Fin 2048) :
    (iblk m c 3 t (ix2 0 n) : EReal) = argG m c n := by
  unfold iblk
  have h : V m c (Pipeline.arrRef spec0 3) = rowG (m (c, Proc.tc.devRef main_arg3)) := v4_eq m c
  rw [h]
  refine Eq.trans ?_ (rowG_apply (m (c, Proc.tc.devRef main_arg3)) n)
  exact congrArg (rowG (m (c, Proc.tc.devRef main_arg3))) (emb_g t n)

/-! ## The results -/

/-- A row of the first result. -/
def row (c : Dev nD) (r : Fin 1024) : Fin 2048 → EReal := onTop (argX m c) (argY m c) (argW m c) r

/-- The first result, and the second. -/
def first (c : Dev nD) : FVec Ideal S1024x2048 .f32 := fun i => row m c ⟨(i 0).val, (i 0).isLt⟩ ⟨(i 1).val, (i 1).isLt⟩
def second (c : Dev nD) : FVec Ideal S1024x2048 .bf16 := fun i =>
  normed (row m c ⟨(i 0).val, (i 0).isLt⟩) (argG m c) ⟨(i 1).val, (i 1).isLt⟩

/-- What a grid point adds up. -/
theorem sum_point (c : Dev nD) (t : Fin cfg0.N) (r e : Fin 1024) :
    (k0_pay1 (F := Ideal) (iblk m c 2 t) (iblk m c 0 t) (iblk m c 1 t) (ix2 r e) : EReal) = row m c r (colOf t e) := by
  rw [pay1_apply, block_x]
  refine congrArg₂ (· + ·) rfl (Finset.sum_congr rfl fun k _ => ?_)
  rw [block_y, block_w]

theorem keep_point (c : Dev nD) (t : Fin cfg0.N) (r e : Fin 1024) :
    (k0_pay2 (F := Ideal) (iblk m c 2 t) (iblk m c 0 t) (iblk m c 1 t) (ix3 0 r e) : EReal) = row m c r (colOf t e) :=
  ((pay2_apply _ _ _ r e).trans (pay1_apply _ _ _ r e).symm).trans (sum_point m c t r e)

theorem off_A : ∀ t : Fin cfg0.N, ¬t.val % 2 = 1 → k0_off1 (grid0.coords t) = ![0, 0, 0] := by decide +kernel

/-- The left half of the rows, as the last grid point finds it. -/
abbrev found (c : Dev nD) (t : Fin cfg0.N) : Vec Ideal S1x1024x1024 .f32 :=
  View.readAt (Elt Ideal) scM0_0.view (Rect.unit (s := S2x1024x1024) ![0, 0, 0] S1x1024x1024.size inb_S2x1024x1024_S1x1024x1024_0_0_0).toLoadRect
    ((Memref.isWhole_whole _).unread (prev0 m c t.val (Nat.le_of_lt t.isLt)).2.2)

/-- The first result's block at a grid point. -/
theorem first_point (c : Dev nD) (t : Fin cfg0.N) :
    (outsAt0 m c t.val t.isLt).1 = k0_pay1 (F := Ideal) (iblk m c 2 t) (iblk m c 0 t) (iblk m c 1 t) := by
  by_cases h0 : t.val % 2 = 1
  · rw [outsAt0_B m c t h0]
    dsimp only
    rw [first_B]
  · rw [outsAt0_A m c t h0]
    dsimp only
    rw [first_A]

theorem kept_point (c : Dev nD) (t : Fin cfg0.N) (h0 : ¬t.val % 2 = 1) (r e : Fin 1024) :
    ((outsAt0 m c t.val t.isLt).2.2 (ix3 0 r e) : EReal) = row m c r (colOf t e) := by
  rw [outsAt0_A m c t h0]
  dsimp only
  rw [kept_A (hl := off_A t h0)]
  exact keep_point m c t r e

theorem found_apply (c : Dev nD) (t : Fin cfg0.N) (h : t.val = 1) (r e : Fin 1024) :
    (found m c t (ix3 0 r e) : EReal) = row m c r (left e) := by
  obtain ⟨n, hn⟩ := t
  obtain rfl : n = 1 := h
  refine ((Memref.isWhole_whole _).readAt_unread _ _ _).trans ?_
  refine Eq.trans ?_ ((kept_point m c ⟨0, by decide⟩ (by decide) r e).trans (congrArg (row m c r) (Fin.ext ?_)))
  · refine congrArg (outsAt0 m c 0 (by decide)).2.2 (funext fun a => Fin.ext ?_)
    fin_cases a
    · rfl
    · exact (Nat.zero_add _).trans (Nat.one_mul _)
    · exact (Nat.zero_add _).trans (Nat.one_mul _)
  · exact (congrArg (· + e.val) (Nat.zero_mul 1024)).trans (Nat.zero_add _)

theorem gain_left_apply (c : Dev nD) (t : Fin cfg0.N) (e : Fin 1024) :
    (View.ld (iblk m c 3 t) (Rect.unit (s := S1x2048) ![0, 0] S1x1024.size inb_S1x2048_S1x1024_0_0) (ix2 0 e) : EReal)
      = argG m c (left e) := by
  refine Eq.trans (congrArg (iblk m c 3 t) (funext fun a => Fin.ext ?_)) (block_g m c t (left e))
  fin_cases a
  · rfl
  · exact (Nat.zero_add _).trans (Nat.one_mul _)

theorem gain_right_apply (c : Dev nD) (t : Fin cfg0.N) (e : Fin 1024) :
    (View.ld (iblk m c 3 t) (Rect.unit (s := S1x2048) ![0, 1024] S1x1024.size inb_S1x2048_S1x1024_0_1024) (ix2 0 e) : EReal)
      = argG m c (right e) := by
  refine Eq.trans (congrArg (iblk m c 3 t) (funext fun a => Fin.ext ?_)) (block_g m c t (right e))
  fin_cases a
  · rfl
  · exact congrArg (1024 + ·) (Nat.one_mul _)

theorem last_lane (t : Fin cfg0.N) (h : t.val = 1) (e : Fin 1024) : colOf t e = right e :=
  Fin.ext (by show t.val * 1024 + e.val = 1024 + e.val; rw [h])

section
variable (c : Dev nD) (t : Fin cfg0.N) (h : t.val = 1) (p : Vec Ideal S1x1024x1024 .f32)
  (hp : ∀ r e : Fin 1024, (p (ix3 0 r e) : EReal) = row m c r (left e))
include h hp

/-- The scale of a row at the last grid point, and the two halves of the second result. -/
theorem scale_point (r : Fin 1024) :
    (k0_pay3 (F := Ideal) p (k0_pay2 (iblk m c 2 t) (iblk m c 0 t) (iblk m c 1 t)) (ix2 r 0) : EReal)
      = Ideal.rsqrt (((∑ e, row m c r (left e) * row m c r (left e)) + ∑ e, row m c r (right e) * row m c r (right e))
          * Ideal.ofBits .f32 0x3A000000#32 + Ideal.ofBits .f32 0x358637BD#32) := by
  refine (pay3_apply _ _ r).trans ?_
  refine congrArg (fun s => Ideal.rsqrt (s * Ideal.ofBits .f32 0x3A000000#32 + Ideal.ofBits .f32 0x358637BD#32))
    (congrArg₂ (· + ·) (Finset.sum_congr rfl fun e _ => ?_) (Finset.sum_congr rfl fun e _ => ?_))
  · rw [hp]
  · rw [keep_point, last_lane t h]

theorem left_point (r e : Fin 1024) :
    (k0_pay4 (F := Ideal) p (k0_pay2 (iblk m c 2 t) (iblk m c 0 t) (iblk m c 1 t)) p
        (View.ld (iblk m c 3 t) (Rect.unit (s := S1x2048) ![0, 0] S1x1024.size inb_S1x2048_S1x1024_0_0)) (ix2 r e) : EReal)
      = normed (row m c r) (argG m c) (left e) := by
  rw [← scale]
  refine (pay4_apply _ _ _ _ r e).trans ?_
  exact congrArg₂ (· * ·) (congrArg₂ (· * ·) (hp r e) (scale_point m c t h p hp r)) (gain_left_apply m c t e)

theorem right_point (r e : Fin 1024) :
    (k0_pay5 (F := Ideal) p (k0_pay2 (iblk m c 2 t) (iblk m c 0 t) (iblk m c 1 t)) (k0_pay2 (iblk m c 2 t) (iblk m c 0 t) (iblk m c 1 t))
        (View.ld (iblk m c 3 t) (Rect.unit (s := S1x2048) ![0, 1024] S1x1024.size inb_S1x2048_S1x1024_0_1024)) (ix2 r e) : EReal)
      = normed (row m c r) (argG m c) (right e) := by
  rw [← scale]
  refine (pay5_apply _ _ _ _ r e).trans ?_
  refine congrArg₂ (· * ·) (congrArg₂ (· * ·) ((keep_point m c t r e).trans ?_) (scale_point m c t h p hp r))
    (gain_right_apply m c t e)
  rw [last_lane t h]
end

/-- The second result's block at the last grid point. -/
theorem second_point (c : Dev nD) (t : Fin cfg0.N) (h : t.val = 1) (r : Fin 1024) (n : Fin 2048) :
    ((outsAt0 m c t.val t.isLt).2.1 (ix2 r n) : EReal) = normed (row m c r) (argG m c) n := by
  have h0 : t.val % 2 = 1 := by rw [h]
  rw [outsAt0_B m c t h0]
  dsimp only
  rcases left_or_right n with ⟨e, rfl⟩ | ⟨e, rfl⟩
  · rw [second_left]
    exact left_point m c t h _ (found_apply m c t h) r e
  · rw [second_right]
    exact right_point m c t h _ (found_apply m c t h) r e

theorem flush_last : ∀ t : Fin cfg0.N, (cfg0.win 5).flush t = true → t.val = 1 := by decide +kernel

theorem first_laid (c : Dev nD) (t : Fin cfg0.N) (y : S1024x1024.Idx) :
    ((outsAt0 m c t.val t.isLt).1 y : EReal) = first m c ((win0_4.blk t).view.emb y) := by
  obtain ⟨r, e, rfl⟩ : ∃ (r e : Fin 1024), y = ix2 r e :=
    ⟨⟨(y 0).val, (y 0).isLt⟩, ⟨(y 1).val, (y 1).isLt⟩, funext fun a => by fin_cases a <;> rfl⟩
  rw [emb_first, first_point]
  exact sum_point m c t r e

theorem second_laid (c : Dev nD) (t : Fin cfg0.N) (h : t.val = 1) (y : S1024x2048.Idx) :
    ((outsAt0 m c t.val t.isLt).2.1 y : EReal) = second m c ((win0_5.blk t).view.emb y) := by
  obtain ⟨r, n, rfl⟩ : ∃ (r : Fin 1024) (n : Fin 2048), y = ix2 r n :=
    ⟨⟨(y 0).val, (y 0).isLt⟩, ⟨(y 1).val, (y 1).isLt⟩, funext fun a => by fin_cases a <;> rfl⟩
  rw [emb_second]
  exact second_point m c t h r n

/-- The result arrays of the run. -/
theorem first_array (c : Dev nD) : (dats m 0 c).arrAt 4 cfg0.N = first m c := by
  refine (dats m 0 c).arrAt_eq_of_covers 4 _ (by decide +kernel) fun t _ y => ?_
  blk_simp
  rw [after0_4]
  exact first_laid m c t y

theorem second_array (c : Dev nD) : (dats m 0 c).arrAt 5 cfg0.N = second m c := by
  refine (dats m 0 c).arrAt_eq_of_covers 5 _ (by decide +kernel) fun t hf y => ?_
  blk_simp
  rw [after0_5]
  exact second_laid m c t (flush_last t hf) y

end Cert.OutIdeal.Value

end
-- ==== Proof.OutReference.lean ====
/- What the reference of the output projection computes: the same functions of the coordinates of the arrays as the
   kernel. -/
module

public import proofs.«01_k».proof.Proof.OutRow
public import proofs.«01_k».proof.Proof.Gen.OutReferenceIdeal.Read
public import Idealize.ShloMosaic.Lib.Pipeline.ValueKit

@[expose] public section

set_option maxRecDepth 16384

noncomputable section

namespace Cert.OutReferenceIdeal.Read

open Cert.OutReferenceIdeal Cert.OutReferenceIdeal.Gen Idealize.ShloMosaic Cert.OutRow

variable (x0 x1 : (⟨S32x32x2048, .f32⟩ : BufTy).Contents (Elt Ideal)) (x2 : (⟨S2048x2048, .f32⟩ : BufTy).Contents (Elt Ideal))
  (x3 : (⟨S2048, .f32⟩ : BufTy).Contents (Elt Ideal))

/-- A row of the first result. -/
def rows (i : Fin 1024) : Fin 2048 → EReal :=
  onTop (fun b r n => x0 (ix3 b r n)) (fun b r k => x1 (ix3 b r k)) (fun k n => x2 (ix2 k n)) i

theorem row_apply (i : Fin 1024) (n : Fin 2048) (j : S32x32x2048.Idx) (hj : j = ix3 (stream i) (place i) n) :
    (val_main_v1 (F := Ideal) x0 x1 x2 j : EReal) = rows x0 x1 x2 i n := by
  subst hj
  rw [val_main_v1_apply, val_main_v0_apply]
  refine congrArg₂ (· + ·) rfl (Finset.sum_congr rfl fun k _ => congrArg₂ (· * ·) ?_ ?_)
  · exact congrArg x1 (funext fun a => by fin_cases a <;> rfl)
  · exact congrArg x2 (funext fun a => by fin_cases a <;> rfl)

theorem zero : Ideal.ofBits .f32 0x00000000#32 = (0 : EReal) := by simp [Ideal.ofBits, Ideal.ieee]

/-- A row's sum of squares. -/
theorem squares_apply (i : Fin 1024) (j : S32x32.Idx) (hj : j = ix2 (stream i) (place i)) :
    (val_main_v3 (F := Ideal) x0 x1 x2 j : EReal) = ∑ k, rows x0 x1 x2 i k * rows x0 x1 x2 i k := by
  subst hj
  rw [val_main_v3_apply]
  refine (congrArg₂ (· + ·) zero (Finset.sum_congr rfl fun k _ => ?_)).trans (zero_add _)
  rw [val_main_v2_apply, row_apply x0 x1 x2 i k _ (funext fun a => by fin_cases a <;> rfl)]
  rfl

/-- The scale of a row. -/
theorem scale_apply (i : Fin 1024) (j : S32x32x1.Idx) (hj : j = ix3 (stream i) (place i) 0) :
    (val_main_v9 (F := Ideal) x0 x1 x2 j : EReal)
      = Ideal.rsqrt (Ideal.div (∑ k, rows x0 x1 x2 i k * rows x0 x1 x2 i k) (Ideal.ofBits .f32 0x45000000#32)
          + Ideal.ofBits .f32 0x358637BD#32) := by
  subst hj
  rw [val_main_v9_apply, val_main_v8_apply, val_main_v6_apply, val_main_v4_apply, val_main_v5_apply, val_main_v7_apply,
    squares_apply x0 x1 x2 i _ (funext fun a => by fin_cases a <;> rfl)]
  rfl

/-- The second result before it is laid flat. -/
theorem normed_apply (i : Fin 1024) (n : Fin 2048) (j : S32x32x2048.Idx) (hj : j = ix3 (stream i) (place i) n) :
    (val_main_v16 (F := Ideal) x0 x1 x2 x3 j : EReal) = normed (rows x0 x1 x2 i) (fun n => x3 (ix1 n)) n := by
  subst hj
  rw [val_main_v16_apply, val_main_v14_apply, val_main_v11_apply, val_main_v10_apply, val_main_v13_apply,
    val_main_v12_apply, row_apply x0 x1 x2 i n _ rfl,
    scale_apply x0 x1 x2 i _ (funext fun a => by fin_cases a <;> rfl)]
  exact congrArg₂ (· * ·) rfl (congrArg x3 (funext fun a => by fin_cases a; rfl))

/-- The first result at a row and a lane, and the second. -/
theorem first_apply (i : Fin 1024) (n : Fin 2048) :
    (val_main_v15 (F := Ideal) x0 x1 x2 (ix2 i n) : EReal) = rows x0 x1 x2 i n := by
  rw [val_main_v15_apply]
  refine row_apply x0 x1 x2 i n _ (funext fun a => Fin.ext ?_)
  fin_cases a <;> simp [idx_main_v15, stream, place] <;> omega

theorem second_apply (i : Fin 1024) (n : Fin 2048) :
    (val_main_v17 (F := Ideal) x0 x1 x2 x3 (ix2 i n) : EReal)
      = normed (rows x0 x1 x2 i) (fun n => x3 (ix1 n)) n := by
  rw [val_main_v17_apply]
  refine normed_apply x0 x1 x2 x3 i n _ (funext fun a => Fin.ext ?_)
  fin_cases a <;> simp [idx_main_v17, stream, place] <;> omega

end Cert.OutReferenceIdeal.Read

end
-- ==== Proof.Reference.lean ====
/- What the reference computes: the same attention, as a softmax over the whole row, with the same weight of the second
   half and the same normalisation. -/
module

public import proofs.«01_k».proof.Proof.Rows
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.ReferenceIdeal.Attn

open Cert.ReferenceIdeal Cert.ReferenceIdeal.Gen Cert.ReferenceIdeal.Read Idealize.ShloMosaic
open Cert.Rows Cert.Softmax

/-- The queries, the keys and the values by their coordinates. -/
def byQ (x : (⟨S8x2048x8x2x64, .f32⟩ : BufTy).Contents (Elt Ideal)) (b : Fin 8) (r : Fin 2048) (h : Fin 8) (z : Fin 2)
    (d : Fin 64) : EReal := x (ix5 b r h z d)

def byK (x : (⟨S8x2048x8x128, .f32⟩ : BufTy).Contents (Elt Ideal)) (b : Fin 8) (r : Fin 2048) (h : Fin 8) (d : Fin 128) :
    EReal := x (ix4 b r h d)

/-- The block of `64` keys a key is in. -/
theorem key_block : ∀ i : Fin 2048, val_main_v10 (F := Ideal) (ix1 i) = BitVec.ofNat 32 (i.val / 64) := by
  decide +kernel

/-- The block of `64` queries a query is in. -/
theorem query_block : ∀ i : Fin 2048, val_main_v12 (F := Ideal) (ix1 i) = BitVec.ofNat 32 (i.val / 64) := by
  decide +kernel

theorem sle_blocks : ∀ i j : Fin 32, IntOp.cmpi .sle (BitVec.ofNat 32 i.val) (BitVec.ofNat 32 j.val)
    = if i.val ≤ j.val then 1#1 else 0#1 := by
  decide +kernel

/-- The mask. -/
theorem mask_apply (t κ : Fin 2048) :
    val_main_v16 (F := Ideal) (ix2 t κ) = if κ.val / 64 ≤ t.val / 64 then 1#1 else 0#1 := by
  rw [val_main_v16_apply, val_main_v14_apply, val_main_v15_apply, val_main_v11_apply, val_main_v13_apply]
  refine (congrArg₂ (IntOp.cmpi .sle) ((congrArg _ ?_).trans (key_block κ)) ((congrArg _ ?_).trans (query_block t))).trans
    (sle_blocks ⟨κ.val / 64, by omega⟩ ⟨t.val / 64, by omega⟩)
  · funext a; fin_cases a; rfl
  · funext a; fin_cases a; rfl

theorem minus_inf : Ideal.ofBits .f32 0xFF800000#32 = (⊥ : EReal) := by simp [Ideal.ofBits, Ideal.ieee]

theorem eighth : Ideal.ofBits .f32 0x3E000000#32 = (((1 / 8 : ℝ)) : EReal) := by
  simp [Ideal.ofBits, Ideal.ieee, -EReal.coe_mul]; norm_num

variable (x0 : (⟨S8x2048x8x2x64, .f32⟩ : BufTy).Contents (Elt Ideal))
  (x1 x2 : (⟨S8x2048x8x128, .f32⟩ : BufTy).Contents (Elt Ideal))
  (x3 x4 x5 x6 : (⟨S64, .f32⟩ : BufTy).Contents (Elt Ideal)) (x7 : (⟨S128, .f32⟩ : BufTy).Contents (Elt Ideal))

/-- The keys, split into halves of `64` lanes. -/
theorem keys_apply (b : Fin 8) (r : Fin 2048) (h : Fin 8) (z : Fin 2) (d : Fin 64) :
    (val_main_v8 (F := Ideal) x1 (ix5 b r h z d) : EReal) = byK x1 b r h ⟨64 * z.val + d.val, by omega⟩ := by
  rw [val_main_v8_apply]
  refine congrArg x1 (funext fun a => Fin.ext ?_)
  fin_cases a <;> simp [idx_main_v8] <;> omega

/-- The scores before the mask, of real queries and keys. -/
theorem score_apply (hq : ∀ b r h z d, byQ x0 b r h z d ≠ ⊥ ∧ byQ x0 b r h z d ≠ ⊤)
    (hk : ∀ b r h d, byK x1 b r h d ≠ ⊥ ∧ byK x1 b r h d ≠ ⊤) (b h : Fin 8) (z : Fin 2) (t κ : Fin 2048) :
    (val_main_v19 (F := Ideal) x0 x1 (ix5 b h z t κ) : EReal)
      = ((score (headQ (byQ x0) b h) (headK (byK x1) b h) z t κ : ℝ) : EReal) := by
  rw [val_main_v19_apply, val_main_v17_apply]
  refine (congrArg₂ (· * ·) (Finset.sum_congr rfl fun k _ => congrArg₂ (· * ·)
    (show _ = ((headQ (byQ x0) b h t ⟨64 * z.val + k.val, by omega⟩ : ℝ) : EReal) from ?_)
    (show _ = ((headK (byK x1) b h κ ⟨64 * z.val + k.val, by omega⟩ : ℝ) : EReal) from ?_)) eighth).trans ?_
  · refine Eq.trans (b := byQ x0 b t h z k) (congrArg x0 (funext fun a => by fin_cases a <;> rfl)) ?_
    refine (coe_of_finite (hq ..).1 (hq ..).2).trans ?_
    unfold headQ
    congr 3
    · exact Fin.ext (by show z.val = (64 * z.val + k.val) / 64; omega)
    · exact Fin.ext (by show k.val = (64 * z.val + k.val) % 64; omega)
  · refine Eq.trans (congrArg _ (funext fun a => by fin_cases a <;> rfl)) ((keys_apply x1 b κ h z k).trans ?_)
    exact coe_of_finite (hk ..).1 (hk ..).2
  · unfold score
    simp only [← EReal.coe_mul, coe_sum]

/-- The masked scores. -/
theorem masked_apply (hq : ∀ b r h z d, byQ x0 b r h z d ≠ ⊥ ∧ byQ x0 b r h z d ≠ ⊤)
    (hk : ∀ b r h d, byK x1 b r h d ≠ ⊥ ∧ byK x1 b r h d ≠ ⊤) (b h : Fin 8) (z : Fin 2) (t κ : Fin 2048) :
    (val_main_v20 (F := Ideal) x0 x1 (ix5 b h z t κ) : EReal)
      = masked (score (headQ (byQ x0) b h) (headK (byK x1) b h) z t) t κ := by
  rw [val_main_v20_apply]
  have hm : val_main_call2_v1 (F := Ideal) (ix5 b h z t κ) = if κ.val / 64 ≤ t.val / 64 then 1#1 else 0#1 := by
    rw [val_main_call2_v1_apply]
    exact (congrArg _ (funext fun a => by fin_cases a <;> rfl)).trans (mask_apply t κ)
  have hb : (val_main_call2_v2 (F := Ideal) (ix5 b h z t κ) : EReal) = ⊥ := by
    rw [val_main_call2_v2_apply]
    exact minus_inf
  rw [hm, hb]
  unfold masked
  by_cases hs : κ.val / 64 ≤ t.val / 64
  · rw [if_pos hs, if_pos hs]; exact score_apply x0 x1 hq hk b h z t κ
  · rw [if_neg hs, if_neg hs]; rfl

/-- The maximum over the last axis. -/
theorem rowmax (y : FVec Ideal S8x8x2x2048x2048 .f32) (c : FVec Ideal S_ .f32) (b h : Fin 8) (z : Fin 2) (t : Fin 2048) :
    (Host.reduce (FloatOps.maximumf (F := Ideal) (φ := .f32)) y c reducesTo_S8x8x2x2048x2048_S8x8x2x2048_d4 h_S_ (ix4 b h z t) : EReal)
      = Finset.univ.fold max (c (Shape.Idx.first h_S_)) fun κ : Fin 2048 => (y (ix5 b h z t κ) : EReal) := by
  rw [Host.reduce_eq_fold_single _ _ _ _ (by decide : S8x8x2x2048x2048.Reduces [4] S8x8x2x2048)]
  refine congrArg (Finset.univ.fold max _) (funext fun κ => congrArg y (funext fun a => Fin.ext ?_))
  fin_cases a <;> rfl

/-- The reference's row maximum, its exponentials and its quotients: the weights of the softmax. -/
theorem softmax_apply (hq : ∀ b r h z d, byQ x0 b r h z d ≠ ⊥ ∧ byQ x0 b r h z d ≠ ⊤)
    (hk : ∀ b r h d, byK x1 b r h d ≠ ⊥ ∧ byK x1 b r h d ≠ ⊤) (b h : Fin 8) (z : Fin 2) (t κ : Fin 2048) :
    (val_main_v31 (F := Ideal) x0 x1 (ix5 b h z t κ) : EReal)
      = ((weight (score (headQ (byQ x0) b h) (headK (byK x1) b h) z t) t κ
          / ∑ i, weight (score (headQ (byQ x0) b h) (headK (byK x1) b h) z t) t i : ℝ) : EReal) := by
  have hmax : ∀ j : S8x8x2x2048.Idx, j = ix4 b h z t → (val_main_v23 (F := Ideal) x0 x1 j : EReal)
      = max ⊥ (Finset.univ.fold max ⊥ (masked (score (headQ (byQ x0) b h) (headK (byK x1) b h) z t) t)) := by
    rintro j rfl
    rw [val_main_v23_apply]
    refine congrArg₂ max ?_ ?_
    · rw [val_main_v22_apply]; exact minus_inf
    · unfold val_main_v21
      rw [rowmax]
      refine congrArg₂ (Finset.univ.fold max) minus_inf (funext fun i => masked_apply x0 x1 hq hk b h z t i)
  have hexp : ∀ (i : Fin 2048) (j : S8x8x2x2048x2048.Idx), j = ix5 b h z t i →
      (val_main_v27 (F := Ideal) x0 x1 j : EReal)
      = Ideal.exp (masked (score (headQ (byQ x0) b h) (headK (byK x1) b h) z t) t i
        - max ⊥ (Finset.univ.fold max ⊥ (masked (score (headQ (byQ x0) b h) (headK (byK x1) b h) z t) t))) := by
    rintro i j rfl
    rw [val_main_v27_apply, val_main_v26_apply, val_main_v25_apply, val_main_v24_apply]
    refine congrArg Ideal.exp (congrArg₂ (· - ·) (masked_apply x0 x1 hq hk b h z t i) (hmax _ ?_))
    funext a; fin_cases a <;> rfl
  rw [val_main_v31_apply, val_main_v30_apply, val_main_v29_apply, val_main_v28_apply]
  refine Eq.trans (congrArg₂ Ideal.div (hexp κ _ rfl) (congrArg₂ (· + ·)
      (show _ = (0 : EReal) from ?_) (Finset.sum_congr rfl fun i _ => hexp i _ ?_)))
    ((Cert.Softmax.softmax _ (masked_ne_top _ _) t (masked_ne_bot _ _ _ le_rfl) κ).trans ?_)
  · simp [val_main_cst_7, constant, Ideal.ofBits, Ideal.ieee]
  · funext a; fin_cases a <;> rfl
  · simp only [ew_masked]

/-- The weight of the second half. -/
theorem lam_apply (j : S_.Idx) : (val_main_v7 (F := Ideal) x3 x4 x5 x6 j : EReal)
    = lam (fun d => x3 (ix1 d)) (fun d => x4 (ix1 d)) (fun d => x5 (ix1 d)) (fun d => x6 (ix1 d)) := by
  have hz : Ideal.ofBits .f32 0x00000000#32 = (0 : EReal) := by simp [Ideal.ofBits, Ideal.ieee]
  have hs : ∀ f : S64.Idx → EReal, ∑ j, f j = ∑ d : Fin 64, f (ix1 d) := fun f =>
    (Equiv.sum_comp (⟨fun d => ix1 d, fun j => ⟨(j 0).val, (j 0).isLt⟩, fun _ => rfl,
      fun j => funext fun a => by fin_cases a; rfl⟩ : Fin 64 ≃ S64.Idx) f).symm
  rw [val_main_v7_apply, val_main_v6_apply, val_main_v2_apply, val_main_v5_apply, val_main_v1_apply, val_main_v4_apply]
  unfold lam
  refine congrArg₂ (· + ·) (congrArg₂ (· - ·) (congrArg Ideal.exp ?_) (congrArg Ideal.exp ?_)) rfl
  · exact (congrArg₂ (· + ·) hz (hs _)).trans (zero_add _)
  · exact (congrArg₂ (· + ·) hz (hs _)).trans (zero_add _)

/-- The weight of the second half is real when the vectors it is made from are. -/
theorem lam_real (x y z w : Fin 64 → EReal) (hx : ∀ d, x d ≠ ⊥ ∧ x d ≠ ⊤) (hy : ∀ d, y d ≠ ⊥ ∧ y d ≠ ⊤)
    (hz : ∀ d, z d ≠ ⊥ ∧ z d ≠ ⊤) (hw : ∀ d, w d ≠ ⊥ ∧ w d ≠ ⊤) : ∃ l : ℝ, lam x y z w = (l : EReal) := by
  have hc : ∃ c : ℝ, Ideal.ofBits .f32 0x3E4CCCCD#32 = (c : EReal) := ⟨_, rfl⟩
  obtain ⟨c, hc⟩ := hc
  have hp : ∀ u v : Fin 64 → EReal, (∀ d, u d ≠ ⊥ ∧ u d ≠ ⊤) → (∀ d, v d ≠ ⊥ ∧ v d ≠ ⊤) →
      ∑ d, u d * v d = ((∑ d, (u d).toReal * (v d).toReal : ℝ) : EReal) := fun u v hu hv => by
    rw [← coe_sum]
    refine Finset.sum_congr rfl fun d _ => ?_
    rw [EReal.coe_mul, ← coe_of_finite (hu d).1 (hu d).2, ← coe_of_finite (hv d).1 (hv d).2]
  unfold lam
  rw [hp x y hx hy, hp z w hz hw, hc]
  exact ⟨Real.exp _ - Real.exp _ + c, by rw [EReal.coe_add, EReal.coe_sub]; rfl⟩

/-- A row's attention under the difference of the two softmaxes is the difference of the two attentions. -/
theorem diff_real (l : ℝ) (a b V : Fin 2048 → ℝ) (A B : ℝ) :
    ∑ κ, ((V κ : ℝ) : EReal) * (((a κ / A : ℝ) : EReal) - (l : EReal) * ((b κ / B : ℝ) : EReal))
      = (((∑ κ, a κ * V κ) / A : ℝ) : EReal) - (l : EReal) * (((∑ κ, b κ * V κ) / B : ℝ) : EReal) := by
  have h : ∀ κ, ((V κ : ℝ) : EReal) * (((a κ / A : ℝ) : EReal) - (l : EReal) * ((b κ / B : ℝ) : EReal))
      = ((a κ * V κ / A - l * (b κ * V κ / B) : ℝ) : EReal) := fun κ => by
    rw [← EReal.coe_mul, ← EReal.coe_sub, ← EReal.coe_mul]; congr 1; ring
  rw [Finset.sum_congr rfl fun κ _ => h κ, coe_sum, ← EReal.coe_mul, ← EReal.coe_sub]
  congr 1
  rw [Finset.sum_sub_distrib, ← Finset.mul_sum, Finset.sum_div, Finset.sum_div]

/-- The differential attention. -/
theorem diff_apply (hq : ∀ b r h z d, byQ x0 b r h z d ≠ ⊥ ∧ byQ x0 b r h z d ≠ ⊤)
    (hk : ∀ b r h d, byK x1 b r h d ≠ ⊥ ∧ byK x1 b r h d ≠ ⊤)
    (hv : ∀ b r h d, byK x2 b r h d ≠ ⊥ ∧ byK x2 b r h d ≠ ⊤)
    (l : ℝ) (hl : ∀ j, (val_main_v7 (F := Ideal) x3 x4 x5 x6 j : EReal) = (l : EReal))
    (b : Fin 8) (t : Fin 2048) (h : Fin 8) (e : Fin 128) (j : S8x2048x8x128.Idx) (hj : j = ix4 b t h e) :
    (val_main_v40 (F := Ideal) x0 x1 x2 x3 x4 x5 x6 j : EReal)
      = diff (l : EReal) (headQ (byQ x0) b h) (headK (byK x1) b h) (headK (byK x2) b h) t e := by
  subst hj
  rw [val_main_v40_apply, val_main_v39_apply]
  refine Eq.trans (Finset.sum_congr rfl fun κ _ => ?_) (diff_real l _ _ (fun κ => headK (byK x2) b h κ e) _ _)
  refine congrArg₂ (· * ·) ?_ ?_
  · refine Eq.trans (b := byK x2 b κ h e) (congrArg x2 (funext fun a => by fin_cases a <;> rfl)) ?_
    exact coe_of_finite (hv ..).1 (hv ..).2
  · rw [val_main_v38_apply, val_main_v37_apply, val_main_v36_apply, val_main_v33_apply, val_main_v32_apply,
      val_main_v35_apply, val_main_v34_apply]
    refine congrArg₂ (· - ·) (Eq.trans (congrArg _ ?_) (softmax_apply x0 x1 hq hk b h 0 t κ))
      (congrArg₂ (· * ·) (hl _) (Eq.trans (congrArg _ ?_) (softmax_apply x0 x1 hq hk b h 1 t κ)))
    · refine funext fun a => Fin.ext ?_
      fin_cases a <;> simp [lidx_main_v39, ridx_main_v39, idx_main_v32, idx_main_v33, idx_main_v34, idx_main_v35, idx_main_v40] <;> omega
    · refine funext fun a => Fin.ext ?_
      fin_cases a <;> simp [lidx_main_v39, ridx_main_v39, idx_main_v32, idx_main_v33, idx_main_v34, idx_main_v35, idx_main_v40] <;> omega

/-- The reference's result, by coordinates. -/
theorem ref_apply (hq : ∀ b r h z d, byQ x0 b r h z d ≠ ⊥ ∧ byQ x0 b r h z d ≠ ⊤)
    (hk : ∀ b r h d, byK x1 b r h d ≠ ⊥ ∧ byK x1 b r h d ≠ ⊤)
    (hv : ∀ b r h d, byK x2 b r h d ≠ ⊥ ∧ byK x2 b r h d ≠ ⊤)
    (l : ℝ) (hl : ∀ j, (val_main_v7 (F := Ideal) x3 x4 x5 x6 j : EReal) = (l : EReal))
    (b : Fin 8) (t : Fin 2048) (h : Fin 8) (e : Fin 128) :
    (val_main_v57 (F := Ideal) x0 x1 x2 x3 x4 x5 x6 x7 (ix3 b t ⟨h.val * 128 + e.val, by omega⟩) : EReal)
      = spec (byQ x0) (byK x1) (byK x2) (l : EReal) (fun d => x7 (ix1 d)) b t h e := by
  have hd := diff_apply x0 x1 x2 x3 x4 x5 x6 hq hk hv l hl b t h
  rw [val_main_v57_apply, val_main_v56_apply]
  refine Eq.trans (b := (val_main_v55 (F := Ideal) x0 x1 x2 x3 x4 x5 x6 x7 (ix4 b t h e) : EReal))
    (congrArg (val_main_v55 (F := Ideal) x0 x1 x2 x3 x4 x5 x6 x7) ?_) ?_
  · refine funext fun a => Fin.ext ?_
    fin_cases a <;> simp [idx_main_v56] <;> omega
  rw [val_main_v55_apply, val_main_v53_apply, val_main_v50_apply, val_main_v49_apply, val_main_v48_apply,
    val_main_v47_apply, val_main_v45_apply, val_main_v43_apply, val_main_v42_apply, val_main_v52_apply, val_main_v51_apply]
  unfold spec Cert.Rows.post
  refine congrArg₂ (· * ·) (congrArg₂ (· * ·) (congrArg₂ (· * ·) (hd e _ rfl) (congrArg Ideal.rsqrt
    (congrArg₂ (· + ·) (congrArg₂ Ideal.div ?_ ?_) ?_))) ?_) ?_
  · refine (congrArg₂ (· + ·) (show _ = (0 : EReal) from ?_) (Finset.sum_congr rfl fun x _ => ?_)).trans (zero_add _)
    · simp [val_main_cst_8, constant, Ideal.ofBits, Ideal.ieee]
    · rw [val_main_v41_apply]
      refine congrArg₂ (· * ·) (hd x _ ?_) (hd x _ ?_) <;> (funext a; fin_cases a <;> rfl)
  · rfl
  · rfl
  · exact congrArg x7 (funext fun a => by fin_cases a; rfl)
  · rfl

end Cert.ReferenceIdeal.Attn

end
-- ==== Proof.UpPieces.lean ====
module

public import proofs.«01_k».proof.Proof.Gen.UpIdeal.Frame
public import proofs.«01_k».proof.Proof.Gen.UpIdeal.Skeleton

/-!
# The blocks the body stores, as functions of what it loads
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

/-- The product of 256 rows and 256 columns. -/
def prod (h : Vec F S256x2048 .bf16) (w : Vec F S2048x256 .bf16) : FVec F S256x256 .f32 := k0_pay3 h w

/-- The gated product of 256 rows, the two rows before each taken round the 256. -/
def gate (a b : FVec F S256x256 .f32) (q : Vec F S3x256 .f32) (d : Vec F S1x256 .f32) : FVec F S256x256 .bf16 :=
  k0_pay22 a b q d

/-- A row of two, at each of eight rows. -/
def spread0 (p : FVec F S2x256 .f32) : FVec F S8x256 .f32 :=
  broadcastTo S8x256 (shapeCast S1x256 (extractStridedSlice S1x256 ![0, 0] p slices_S2x256_o0_0_S1x256) shapeCasts_S1x256_S1x256)
    broadcasts_S1x256_S8x256
def spread1 (p : FVec F S2x256 .f32) : FVec F S8x256 .f32 :=
  broadcastTo S8x256 (shapeCast S1x256 (extractStridedSlice S1x256 ![1, 0] p slices_S2x256_o1_0_S1x256) shapeCasts_S1x256_S1x256)
    broadcasts_S1x256_S8x256

/-- The gated product of the first 8 rows of 256, after the two rows `p`. -/
def top (a b : FVec F S256x256 .f32) (p : FVec F S2x256 .f32) (q : Vec F S3x256 .f32) (d : Vec F S1x256 .f32) :
    FVec F S8x256 .bf16 :=
  k0_pay27 (iota .tc S8x256 32 [0] iota_S8x256_d0_w32) b (k0_pay24 a) (spread0 p) (spread1 p) 0#32 q d

/-- The last two rows of 256. -/
def last (a : FVec F S256x256 .f32) : FVec F S2x256 .f32 := k0_pay28 a

/-- The stores to the block of gated products, the last first. -/
def gPieces (h0 h1 h2 h3 : Vec F S256x2048 .bf16) (u0 u1 w0 w1 : Vec F S2048x256 .bf16) (q0 q1 : Vec F S3x256 .f32)
    (d0 d1 : Vec F S1x256 .f32) (p0 p1 : FVec F S2x256 .f32) : List (View.Piece (Elt F) S1024x512 .bf16) :=
  [⟨Rect.unit ![768, 256] S8x256.size inb_S1024x512_S8x256_768_256, top (prod h3 u1) (prod h3 w1) (last (prod h2 u1)) q1 d1⟩,
   ⟨Rect.unit ![768, 256] S256x256.size inb_S1024x512_S256x256_768_256, gate (prod h3 u1) (prod h3 w1) q1 d1⟩,
   ⟨Rect.unit ![512, 256] S8x256.size inb_S1024x512_S8x256_512_256, top (prod h2 u1) (prod h2 w1) (last (prod h1 u1)) q1 d1⟩,
   ⟨Rect.unit ![512, 256] S256x256.size inb_S1024x512_S256x256_512_256, gate (prod h2 u1) (prod h2 w1) q1 d1⟩,
   ⟨Rect.unit ![256, 256] S8x256.size inb_S1024x512_S8x256_256_256, top (prod h1 u1) (prod h1 w1) (last (prod h0 u1)) q1 d1⟩,
   ⟨Rect.unit ![256, 256] S256x256.size inb_S1024x512_S256x256_256_256, gate (prod h1 u1) (prod h1 w1) q1 d1⟩,
   ⟨Rect.unit ![0, 256] S8x256.size inb_S1024x512_S8x256_0_256, top (prod h0 u1) (prod h0 w1) p1 q1 d1⟩,
   ⟨Rect.unit ![0, 256] S256x256.size inb_S1024x512_S256x256_0_256, gate (prod h0 u1) (prod h0 w1) q1 d1⟩,
   ⟨Rect.unit ![768, 0] S8x256.size inb_S1024x512_S8x256_768_0, top (prod h3 u0) (prod h3 w0) (last (prod h2 u0)) q0 d0⟩,
   ⟨Rect.unit ![768, 0] S256x256.size inb_S1024x512_S256x256_768_0, gate (prod h3 u0) (prod h3 w0) q0 d0⟩,
   ⟨Rect.unit ![512, 0] S8x256.size inb_S1024x512_S8x256_512_0, top (prod h2 u0) (prod h2 w0) (last (prod h1 u0)) q0 d0⟩,
   ⟨Rect.unit ![512, 0] S256x256.size inb_S1024x512_S256x256_512_0, gate (prod h2 u0) (prod h2 w0) q0 d0⟩,
   ⟨Rect.unit ![256, 0] S8x256.size inb_S1024x512_S8x256_256_0, top (prod h1 u0) (prod h1 w0) (last (prod h0 u0)) q0 d0⟩,
   ⟨Rect.unit ![256, 0] S256x256.size inb_S1024x512_S256x256_256_0, gate (prod h1 u0) (prod h1 w0) q0 d0⟩,
   ⟨Rect.unit ![0, 0] S8x256.size inb_S1024x512_S8x256_0_0, top (prod h0 u0) (prod h0 w0) p0 q0 d0⟩,
   ⟨Rect.unit ![0, 0] S256x256.size inb_S1024x512_S256x256_0_0, gate (prod h0 u0) (prod h0 w0) q0 d0⟩]

/-- The stores to the block of last rows, the last first. -/
def tPieces (h3 : Vec F S256x2048 .bf16) (u0 u1 : Vec F S2048x256 .bf16) : List (View.Piece (Elt F) S1x2x512 .f32) :=
  [⟨Rect.unit ![0, 0, 256] S1x2x256.size inb_S1x2x512_S1x2x256_0_0_256, k0_pay60 (prod h3 u1)⟩,
   ⟨Rect.unit ![0, 0, 0] S1x2x256.size inb_S1x2x512_S1x2x256_0_0_0, k0_pay60 (prod h3 u0)⟩]

/-- The stores to the carried rows, the last first. -/
def sPieces (i : grid0.Coords) (h3 : Vec F S256x2048 .bf16) (u0 u1 : Vec F S2048x256 .bf16) : List (View.Piece (Elt F) S11x2x512 .f32) :=
  [⟨Rect.unit (k0_off3 i) S1x2x256.size (k0_off3_inb i), k0_pay60 (prod h3 u1)⟩,
   ⟨Rect.unit (k0_off2 i) S1x2x256.size (k0_off2_inb i), k0_pay60 (prod h3 u0)⟩]

end Cert.UpIdeal.Run

end
-- ==== Proof.UpOdd.lean ====
module

public import proofs.«01_k».proof.Proof.Gen.UpIdeal.Frame
public import proofs.«01_k».proof.Proof.Gen.UpIdeal.Skeleton

/-!
# The second row block of a sequence
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

set_option maxHeartbeats 1000000 in
/-- One run of the body at the second row block of a sequence: the carried rows are read as the scratch buffer holds them. -/
def runOdd (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) :
    Σ' (L6 : List (View.Piece (Elt F) S1024x512 .bf16)), Σ' (L7 : List (View.Piece (Elt F) S1x2x512 .f32)), { LS : List (View.Piece (Elt F) S11x2x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10) K } := by
  refine ⟨?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact HS

end Cert.UpIdeal.Run

end
-- ==== Proof.UpOddPieces.lean ====
module

public import proofs.«01_k».proof.Proof.Gen.UpIdeal.Frame
public import proofs.«01_k».proof.Proof.Gen.UpIdeal.Skeleton
public import proofs.«01_k».proof.Proof.UpPieces
public import proofs.«01_k».proof.Proof.UpOdd
/-!
# The stores of one run: second row block
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

set_option maxHeartbeats 1000000 in
/-- The stores to the block of gated products. -/
theorem odd_g (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) :
    (runOdd c i arg2 harg2 arg3 harg3 arg4 harg4 arg5 harg5 arg6 harg6 arg7 harg7 arg8 harg8 arg9 harg9 arg10 harg10 x0 x1 x2 x3 x4 x5 xs hc).1 =
      gPieces (View.readAt (Elt F) arg2.view (Rect.unit (s := S1024x2048) ![0, 0] S256x2048.size inb_S1024x2048_S256x2048_0_0).toLoadRect (harg2.unread x0))
        (View.readAt (Elt F) arg2.view (Rect.unit (s := S1024x2048) ![256, 0] S256x2048.size inb_S1024x2048_S256x2048_256_0).toLoadRect (harg2.unread x0))
        (View.readAt (Elt F) arg2.view (Rect.unit (s := S1024x2048) ![512, 0] S256x2048.size inb_S1024x2048_S256x2048_512_0).toLoadRect (harg2.unread x0))
        (View.readAt (Elt F) arg2.view (Rect.unit (s := S1024x2048) ![768, 0] S256x2048.size inb_S1024x2048_S256x2048_768_0).toLoadRect (harg2.unread x0))
        (View.readAt (Elt F) arg3.view (Rect.unit (s := S2048x512) ![0, 0] S2048x256.size inb_S2048x512_S2048x256_0_0).toLoadRect (harg3.unread x1))
        (View.readAt (Elt F) arg3.view (Rect.unit (s := S2048x512) ![0, 256] S2048x256.size inb_S2048x512_S2048x256_0_256).toLoadRect (harg3.unread x1))
        (View.readAt (Elt F) arg4.view (Rect.unit (s := S2048x512) ![0, 0] S2048x256.size inb_S2048x512_S2048x256_0_0).toLoadRect (harg4.unread x2))
        (View.readAt (Elt F) arg4.view (Rect.unit (s := S2048x512) ![0, 256] S2048x256.size inb_S2048x512_S2048x256_0_256).toLoadRect (harg4.unread x2))
        (View.readAt (Elt F) arg5.view (Rect.unit (s := S3x512) ![0, 0] S3x256.size inb_S3x512_S3x256_0_0).toLoadRect (harg5.unread x3))
        (View.readAt (Elt F) arg5.view (Rect.unit (s := S3x512) ![0, 256] S3x256.size inb_S3x512_S3x256_0_256).toLoadRect (harg5.unread x3))
        (View.readAt (Elt F) arg6.view (Rect.unit (s := S1x512) ![0, 0] S1x256.size inb_S1x512_S1x256_0_0).toLoadRect (harg6.unread x4))
        (View.readAt (Elt F) arg6.view (Rect.unit (s := S1x512) ![0, 256] S1x256.size inb_S1x512_S1x256_0_256).toLoadRect (harg6.unread x4))
        (k0_pay23 (View.readAt (Elt F) arg10.view (Rect.unit (s := S11x2x512) (k0_off2 i) S1x2x256.size (k0_off2_inb i)).toLoadRect (harg10.unread xs)))
        (k0_pay23 (View.readAt (Elt F) arg10.view (Rect.unit (s := S11x2x512) (k0_off3 i) S1x2x256.size (k0_off3_inb i)).toLoadRect (harg10.unread xs))) := rfl

/-- The stores to the block of last rows. -/
theorem odd_t (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) :
    (runOdd c i arg2 harg2 arg3 harg3 arg4 harg4 arg5 harg5 arg6 harg6 arg7 harg7 arg8 harg8 arg9 harg9 arg10 harg10 x0 x1 x2 x3 x4 x5 xs hc).2.1 =
      tPieces (View.readAt (Elt F) arg2.view (Rect.unit (s := S1024x2048) ![768, 0] S256x2048.size inb_S1024x2048_S256x2048_768_0).toLoadRect (harg2.unread x0))
        (View.readAt (Elt F) arg3.view (Rect.unit (s := S2048x512) ![0, 0] S2048x256.size inb_S2048x512_S2048x256_0_0).toLoadRect (harg3.unread x1))
        (View.readAt (Elt F) arg3.view (Rect.unit (s := S2048x512) ![0, 256] S2048x256.size inb_S2048x512_S2048x256_0_256).toLoadRect (harg3.unread x1)) := rfl

/-- The stores to the carried rows. -/
theorem odd_s (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) :
    (runOdd c i arg2 harg2 arg3 harg3 arg4 harg4 arg5 harg5 arg6 harg6 arg7 harg7 arg8 harg8 arg9 harg9 arg10 harg10 x0 x1 x2 x3 x4 x5 xs hc).2.2.1 =
      sPieces i (View.readAt (Elt F) arg2.view (Rect.unit (s := S1024x2048) ![768, 0] S256x2048.size inb_S1024x2048_S256x2048_768_0).toLoadRect (harg2.unread x0))
        (View.readAt (Elt F) arg3.view (Rect.unit (s := S2048x512) ![0, 0] S2048x256.size inb_S2048x512_S2048x256_0_0).toLoadRect (harg3.unread x1))
        (View.readAt (Elt F) arg3.view (Rect.unit (s := S2048x512) ![0, 256] S2048x256.size inb_S2048x512_S2048x256_0_256).toLoadRect (harg3.unread x1)) := rfl

end Cert.UpIdeal.Run

end
-- ==== Proof.UpEven.lean ====
module

public import proofs.«01_k».proof.Proof.Gen.UpIdeal.Frame
public import proofs.«01_k».proof.Proof.Gen.UpIdeal.Skeleton

/-!
# The first row block of a sequence
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

set_option maxHeartbeats 1000000 in
/-- One run of the body at the first row block of a sequence: the state block is stored over the carried rows first. -/
def runEven (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1) :
    Σ' (L6 : List (View.Piece (Elt F) S1024x512 .bf16)), Σ' (L7 : List (View.Piece (Elt F) S1x2x512 .f32)), { LS : List (View.Piece (Elt F) S11x2x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10) K } := by
  refine ⟨?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact HS

end Cert.UpIdeal.Run

end
-- ==== Proof.UpEvenPieces.lean ====
module

public import proofs.«01_k».proof.Proof.Gen.UpIdeal.Frame
public import proofs.«01_k».proof.Proof.Gen.UpIdeal.Skeleton
public import proofs.«01_k».proof.Proof.UpPieces
public import proofs.«01_k».proof.Proof.UpEven
/-!
# The stores of one run: first row block
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

set_option maxHeartbeats 1000000 in
/-- The stores to the block of gated products. -/
theorem even_g (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1) :
    (runEven c i arg2 harg2 arg3 harg3 arg4 harg4 arg5 harg5 arg6 harg6 arg7 harg7 arg8 harg8 arg9 harg9 arg10 harg10 x0 x1 x2 x3 x4 x5 xs hc).1 =
      gPieces (View.readAt (Elt F) arg2.view (Rect.unit (s := S1024x2048) ![0, 0] S256x2048.size inb_S1024x2048_S256x2048_0_0).toLoadRect (harg2.unread x0))
        (View.readAt (Elt F) arg2.view (Rect.unit (s := S1024x2048) ![256, 0] S256x2048.size inb_S1024x2048_S256x2048_256_0).toLoadRect (harg2.unread x0))
        (View.readAt (Elt F) arg2.view (Rect.unit (s := S1024x2048) ![512, 0] S256x2048.size inb_S1024x2048_S256x2048_512_0).toLoadRect (harg2.unread x0))
        (View.readAt (Elt F) arg2.view (Rect.unit (s := S1024x2048) ![768, 0] S256x2048.size inb_S1024x2048_S256x2048_768_0).toLoadRect (harg2.unread x0))
        (View.readAt (Elt F) arg3.view (Rect.unit (s := S2048x512) ![0, 0] S2048x256.size inb_S2048x512_S2048x256_0_0).toLoadRect (harg3.unread x1))
        (View.readAt (Elt F) arg3.view (Rect.unit (s := S2048x512) ![0, 256] S2048x256.size inb_S2048x512_S2048x256_0_256).toLoadRect (harg3.unread x1))
        (View.readAt (Elt F) arg4.view (Rect.unit (s := S2048x512) ![0, 0] S2048x256.size inb_S2048x512_S2048x256_0_0).toLoadRect (harg4.unread x2))
        (View.readAt (Elt F) arg4.view (Rect.unit (s := S2048x512) ![0, 256] S2048x256.size inb_S2048x512_S2048x256_0_256).toLoadRect (harg4.unread x2))
        (View.readAt (Elt F) arg5.view (Rect.unit (s := S3x512) ![0, 0] S3x256.size inb_S3x512_S3x256_0_0).toLoadRect (harg5.unread x3))
        (View.readAt (Elt F) arg5.view (Rect.unit (s := S3x512) ![0, 256] S3x256.size inb_S3x512_S3x256_0_256).toLoadRect (harg5.unread x3))
        (View.readAt (Elt F) arg6.view (Rect.unit (s := S1x512) ![0, 0] S1x256.size inb_S1x512_S1x256_0_0).toLoadRect (harg6.unread x4))
        (View.readAt (Elt F) arg6.view (Rect.unit (s := S1x512) ![0, 256] S1x256.size inb_S1x512_S1x256_0_256).toLoadRect (harg6.unread x4))
        (k0_pay23 (arg10.view.readCov [(⟨Rect.unit (k0_off1 i) S1x2x512.size (k0_off1_inb i hc), k0_pay2 (View.readAt (Elt F) arg7.view (Rect.unit (s := S1x2x512) ![0, 0, 0] S1x2x512.size inb_S1x2x512_S1x2x512_0_0_0).toLoadRect (harg7.unread x5))⟩ : View.Piece (Elt F) S11x2x512 .f32)]
          (Rect.unit (s := S11x2x512) (k0_off2 i) S1x2x256.size (k0_off2_inb i)).toLoadRect))
        (k0_pay23 (arg10.view.readCov ((⟨Rect.unit (k0_off2 i) S1x2x256.size (k0_off2_inb i), k0_pay60 (prod (View.readAt (Elt F) arg2.view (Rect.unit (s := S1024x2048) ![768, 0] S256x2048.size inb_S1024x2048_S256x2048_768_0).toLoadRect (harg2.unread x0)) (View.readAt (Elt F) arg3.view (Rect.unit (s := S2048x512) ![0, 0] S2048x256.size inb_S2048x512_S2048x256_0_0).toLoadRect (harg3.unread x1)))⟩ : View.Piece (Elt F) S11x2x512 .f32) ::
            [(⟨Rect.unit (k0_off1 i) S1x2x512.size (k0_off1_inb i hc), k0_pay2 (View.readAt (Elt F) arg7.view (Rect.unit (s := S1x2x512) ![0, 0, 0] S1x2x512.size inb_S1x2x512_S1x2x512_0_0_0).toLoadRect (harg7.unread x5))⟩ : View.Piece (Elt F) S11x2x512 .f32)])
          (Rect.unit (s := S11x2x512) (k0_off3 i) S1x2x256.size (k0_off3_inb i)).toLoadRect)) := rfl

/-- The stores to the block of last rows. -/
theorem even_t (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1) :
    (runEven c i arg2 harg2 arg3 harg3 arg4 harg4 arg5 harg5 arg6 harg6 arg7 harg7 arg8 harg8 arg9 harg9 arg10 harg10 x0 x1 x2 x3 x4 x5 xs hc).2.1 =
      tPieces (View.readAt (Elt F) arg2.view (Rect.unit (s := S1024x2048) ![768, 0] S256x2048.size inb_S1024x2048_S256x2048_768_0).toLoadRect (harg2.unread x0))
        (View.readAt (Elt F) arg3.view (Rect.unit (s := S2048x512) ![0, 0] S2048x256.size inb_S2048x512_S2048x256_0_0).toLoadRect (harg3.unread x1))
        (View.readAt (Elt F) arg3.view (Rect.unit (s := S2048x512) ![0, 256] S2048x256.size inb_S2048x512_S2048x256_0_256).toLoadRect (harg3.unread x1)) := rfl

/-- The stores to the carried rows. -/
theorem even_s (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1) :
    (runEven c i arg2 harg2 arg3 harg3 arg4 harg4 arg5 harg5 arg6 harg6 arg7 harg7 arg8 harg8 arg9 harg9 arg10 harg10 x0 x1 x2 x3 x4 x5 xs hc).2.2.1 =
      sPieces i (View.readAt (Elt F) arg2.view (Rect.unit (s := S1024x2048) ![768, 0] S256x2048.size inb_S1024x2048_S256x2048_768_0).toLoadRect (harg2.unread x0))
        (View.readAt (Elt F) arg3.view (Rect.unit (s := S2048x512) ![0, 0] S2048x256.size inb_S2048x512_S2048x256_0_0).toLoadRect (harg3.unread x1))
        (View.readAt (Elt F) arg3.view (Rect.unit (s := S2048x512) ![0, 256] S2048x256.size inb_S2048x512_S2048x256_0_256).toLoadRect (harg3.unread x1)) ++
        [(⟨Rect.unit (k0_off1 i) S1x2x512.size (k0_off1_inb i hc), k0_pay2 (View.readAt (Elt F) arg7.view (Rect.unit (s := S1x2x512) ![0, 0, 0] S1x2x512.size inb_S1x2x512_S1x2x512_0_0_0).toLoadRect (harg7.unread x5))⟩ : View.Piece (Elt F) S11x2x512 .f32)] := rfl

end Cert.UpIdeal.Run

end
-- ==== Proof.UpStores.lean ====
module

public import proofs.«01_k».proof.Proof.Gen.UpIdeal.Frame
public import proofs.«01_k».proof.Proof.Gen.UpIdeal.Skeleton
public import proofs.«01_k».proof.Proof.UpOddPieces
public import proofs.«01_k».proof.Proof.UpEvenPieces
public import Idealize.ShloMosaic.Lib.Pipeline.ValueKit
public import Idealize.ShloMosaic.Lib.WholeRead
public import Idealize.ShloMosaic.Lib.WritesUnit
public import Idealize.ShloMosaic.Lib.Pointwise
/-!
# What one run leaves in each buffer
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

/-- The block of gated products, after the two rows `p`. -/
def gBlock (x0 : Vec F S1024x2048 .bf16) (x1 x2 : Vec F S2048x512 .bf16) (x3 : Vec F S3x512 .f32) (x4 : Vec F S1x512 .f32)
    (p : Vec F S1x2x512 .f32) : Vec F S1024x512 .bf16 :=
  View.canon (gPieces (View.ld x0 (Rect.unit (s := S1024x2048) ![0, 0] S256x2048.size inb_S1024x2048_S256x2048_0_0))
    (View.ld x0 (Rect.unit (s := S1024x2048) ![256, 0] S256x2048.size inb_S1024x2048_S256x2048_256_0))
    (View.ld x0 (Rect.unit (s := S1024x2048) ![512, 0] S256x2048.size inb_S1024x2048_S256x2048_512_0))
    (View.ld x0 (Rect.unit (s := S1024x2048) ![768, 0] S256x2048.size inb_S1024x2048_S256x2048_768_0))
    (View.ld x1 (Rect.unit (s := S2048x512) ![0, 0] S2048x256.size inb_S2048x512_S2048x256_0_0))
    (View.ld x1 (Rect.unit (s := S2048x512) ![0, 256] S2048x256.size inb_S2048x512_S2048x256_0_256))
    (View.ld x2 (Rect.unit (s := S2048x512) ![0, 0] S2048x256.size inb_S2048x512_S2048x256_0_0))
    (View.ld x2 (Rect.unit (s := S2048x512) ![0, 256] S2048x256.size inb_S2048x512_S2048x256_0_256))
    (View.ld x3 (Rect.unit (s := S3x512) ![0, 0] S3x256.size inb_S3x512_S3x256_0_0))
    (View.ld x3 (Rect.unit (s := S3x512) ![0, 256] S3x256.size inb_S3x512_S3x256_0_256))
    (View.ld x4 (Rect.unit (s := S1x512) ![0, 0] S1x256.size inb_S1x512_S1x256_0_0))
    (View.ld x4 (Rect.unit (s := S1x512) ![0, 256] S1x256.size inb_S1x512_S1x256_0_256))
    (k0_pay23 (View.ld p (Rect.unit (s := S1x2x512) ![0, 0, 0] S1x2x256.size inb_S1x2x512_S1x2x256_0_0_0)))
    (k0_pay23 (View.ld p (Rect.unit (s := S1x2x512) ![0, 0, 256] S1x2x256.size inb_S1x2x512_S1x2x256_0_0_256))))

/-- The block of last rows. -/
def tBlock (x0 : Vec F S1024x2048 .bf16) (x1 : Vec F S2048x512 .bf16) : Vec F S1x2x512 .f32 :=
  View.canon (tPieces (View.ld x0 (Rect.unit (s := S1024x2048) ![768, 0] S256x2048.size inb_S1024x2048_S256x2048_768_0))
    (View.ld x1 (Rect.unit (s := S2048x512) ![0, 0] S2048x256.size inb_S2048x512_S2048x256_0_0))
    (View.ld x1 (Rect.unit (s := S2048x512) ![0, 256] S2048x256.size inb_S2048x512_S2048x256_0_256)))

/-- The place in the carried rows of a place in one column block's. -/
def slot (i : grid0.Coords) (y : S1x2x512.Idx) : S11x2x512.Idx := ix3 (n0 := 11) (n1 := 2) (n2 := 512) (i 1) (y 1) (y 2)

theorem off1_eq : ∀ i : grid0.Coords, k0_off1 i = ![(i 1).val, 0, 0] := by decide +kernel
theorem off2_eq : ∀ i : grid0.Coords, k0_off2 i = ![(i 1).val, 0, 0] := by decide +kernel
theorem off3_eq : ∀ i : grid0.Coords, k0_off3 i = ![(i 1).val, 0, 256] := by decide +kernel

theorem g_cover (h0 h1 h2 h3 : Vec F S256x2048 .bf16) (u0 u1 w0 w1 : Vec F S2048x256 .bf16) (q0 q1 : Vec F S3x256 .f32)
    (d0 d1 : Vec F S1x256 .f32) (p0 p1 : FVec F S2x256 .f32) (y : S1024x512.Idx) :
    ∃ pc ∈ gPieces h0 h1 h2 h3 u0 u1 w0 w1 q0 q1 d0 d1 p0 p1, y ∈ pc.1.set :=
  View.cover_of_tiledL (s := S1024x512) _ ![256, 256] (by sl_kernel_rfl) y

theorem t_cover (h3 : Vec F S256x2048 .bf16) (u0 u1 : Vec F S2048x256 .bf16) (y : S1x2x512.Idx) :
    ∃ pc ∈ tPieces h3 u0 u1, y ∈ pc.1.set :=
  View.cover_of_tiledL (s := S1x2x512) _ ![1, 2, 256] (by sl_kernel_rfl) y

theorem readAt_unread {S : Shape} {e : EltTy} {M : Memref sig .tc .vmem S e} (h : M.IsWhole) (X : Vec F S e) (r : Rect S) :
    View.readAt (Elt F) M.view r.toLoadRect (h.unread X) = View.ld X r :=
  funext fun x => h.readAt_unread X r.toLoadRect x

/-- A place under the last store holds what it stored, and a place beside it what the stores before left. -/
theorem canon_hit {S : Shape} {e : EltTy} {off off' size : Fin S.rank → ℕ} (inb : ∀ a, off a + size a ≤ S.size a)
    (w : (Rect.unit off size inb).shape.Idx → Elt F e) (L : List (View.Piece (Elt F) S e)) (y : S.Idx)
    (x : (Rect.unit off size inb).shape.Idx) (heq : off = off') (hx : ∀ a, (y a).val = off' a + (x a).val) :
    View.canon ((⟨Rect.unit off size inb, w⟩ : View.Piece (Elt F) S e) :: L) y = w x := by
  subst heq
  obtain rfl : (Rect.unit off size inb).emb x = y := funext fun a => Fin.ext (by
    show off a + 1 * (x a).val = (y a).val
    rw [hx a, Nat.one_mul])
  exact View.canon_cons_emb _ w L x

theorem canon_miss {S : Shape} {e : EltTy} {off off' size : Fin S.rank → ℕ} (inb : ∀ a, off a + size a ≤ S.size a)
    (w : (Rect.unit off size inb).shape.Idx → Elt F e) (L : List (View.Piece (Elt F) S e)) (y : S.Idx)
    (heq : off = off') (a : Fin S.rank) (ha : (y a).val < off' a ∨ off' a + size a ≤ (y a).val) :
    View.canon ((⟨Rect.unit off size inb, w⟩ : View.Piece (Elt F) S e) :: L) y = View.canon L y := by
  subst heq
  refine View.canon_cons_of_not_mem _ _ ?_
  rw [Rect.mem_set_unit]
  intro h
  have := h a
  omega

/-- A statement of three axes, axis by axis. -/
theorem axes {P : Fin 3 → Prop} (h0 : P 0) (h1 : P 1) (h2 : P 2) : ∀ a, P a := by
  intro a
  fin_cases a
  exacts [h0, h1, h2]

section
variable (l r : Vec F S1x2x256 .f32)

/-- Two halves, side by side. -/
def halves : List (View.Piece (Elt F) S1x2x512 .f32) :=
  [⟨Rect.unit ![0, 0, 256] S1x2x256.size inb_S1x2x512_S1x2x256_0_0_256, r⟩,
   ⟨Rect.unit ![0, 0, 0] S1x2x256.size inb_S1x2x512_S1x2x256_0_0_0, l⟩]

theorem halves_left (b : Fin 2) (q : Fin 256) : View.canon (halves l r) (ix3 0 b ⟨q.val, by omega⟩) = l (ix3 0 b q) :=
  (canon_miss (S := S1x2x512) _ _ _ _ rfl (2 : Fin 3) (Or.inl q.isLt)).trans
    (canon_hit (S := S1x2x512) _ _ _ _ (ix3 0 b q) rfl (axes rfl (Nat.zero_add _).symm (Nat.zero_add _).symm))

theorem halves_right (b : Fin 2) (q : Fin 256) :
    View.canon (halves l r) (ix3 0 b ⟨256 + q.val, by omega⟩) = r (ix3 0 b q) :=
  canon_hit (S := S1x2x512) _ _ _ _ (ix3 0 b q) rfl (axes rfl (Nat.zero_add _).symm rfl)

variable {arg10 : Memref sig .tc .vmem S11x2x512 .f32} (f : arg10.view.ty.Contents (Elt F)) (i : grid0.Coords)
  (L : List (View.Piece (Elt F) S11x2x512 .f32))

/-- Two halves, side by side in one column block's carried rows. -/
def slotHalves : List (View.Piece (Elt F) S11x2x512 .f32) :=
  ⟨Rect.unit (k0_off3 i) S1x2x256.size (k0_off3_inb i), r⟩ :: ⟨Rect.unit (k0_off2 i) S1x2x256.size (k0_off2_inb i), l⟩ :: L

theorem slot_left (b : Fin 2) (q : Fin 256) :
    arg10.view.read (Elt F) (arg10.view.writes (Elt F) f (slotHalves l r i L)) (slot i (ix3 0 b ⟨q.val, by omega⟩))
      = l (ix3 0 b q) :=
  (View.read_writes_cons_unit_of_not_mem (s := S11x2x512) _ _ _ _ _ _ (off3_eq i) (2 : Fin 3) (Or.inl q.isLt)).trans
    (View.read_writes_cons_unit_of_mem (s := S11x2x512) _ _ _ _ _ _ (ix3 0 b q) (off2_eq i)
      (axes rfl (Nat.zero_add _).symm (Nat.zero_add _).symm))

theorem slot_right (b : Fin 2) (q : Fin 256) :
    arg10.view.read (Elt F) (arg10.view.writes (Elt F) f (slotHalves l r i L)) (slot i (ix3 0 b ⟨256 + q.val, by omega⟩))
      = r (ix3 0 b q) :=
  View.read_writes_cons_unit_of_mem (s := S11x2x512) _ _ _ _ _ _ (ix3 0 b q) (off3_eq i)
    (axes rfl (Nat.zero_add _).symm rfl)

theorem slot_other (z : S11x2x512.Idx) (hz : (z 0).val ≠ (i 1).val) :
    arg10.view.read (Elt F) (arg10.view.writes (Elt F) f (slotHalves l r i L)) z
      = arg10.view.read (Elt F) (arg10.view.writes (Elt F) f L) z := by
  have side : (z 0).val < (i 1).val ∨ (i 1).val + 1 ≤ (z 0).val := by omega
  exact (View.read_writes_cons_unit_of_not_mem (s := S11x2x512) _ _ _ _ _ _ (off3_eq i) (0 : Fin 3) side).trans
    (View.read_writes_cons_unit_of_not_mem (s := S11x2x512) _ _ _ _ _ _ (off2_eq i) (0 : Fin 3) side)

theorem ix3_of (y : S1x2x512.Idx) : (∃ b : Fin 2, ∃ q : Fin 256, y = ix3 0 b ⟨q.val, by omega⟩)
    ∨ ∃ b : Fin 2, ∃ q : Fin 256, y = ix3 0 b ⟨256 + q.val, by omega⟩ := by
  obtain ⟨a, b, q, rfl⟩ : ∃ (a : Fin 1) (b : Fin 2) (q : Fin 512), y = ix3 a b q :=
    ⟨y 0, y 1, y 2, by funext a; fin_cases a <;> rfl⟩
  obtain rfl : a = 0 := Subsingleton.elim _ _
  by_cases hq : q.val < 256
  · exact Or.inl ⟨b, ⟨q.val, hq⟩, rfl⟩
  · refine Or.inr ⟨b, ⟨q.val - 256, by omega⟩, congrArg (ix3 0 b) (Fin.ext ?_)⟩
    simp only
    omega

/-- After the stores a column block's carried rows are the two halves. -/
theorem slot_halves (y : S1x2x512.Idx) :
    arg10.view.read (Elt F) (arg10.view.writes (Elt F) f (slotHalves l r i L)) (slot i y) = View.canon (halves l r) y := by
  rcases ix3_of y with ⟨b, q, rfl⟩ | ⟨b, q, rfl⟩
  · exact (slot_left l r f i L b q).trans (halves_left l r b q).symm
  · exact (slot_right l r f i L b q).trans (halves_right l r b q).symm
end

end Cert.UpIdeal.Run

end
-- ==== Proof.UpTriple.lean ====
module

public import proofs.«01_k».proof.Proof.Gen.UpIdeal.Frame
public import proofs.«01_k».proof.Proof.Gen.UpIdeal.Skeleton
public import proofs.«01_k».proof.Proof.UpStores
/-!
# What one run of the body leaves
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

theorem idx_left (i : grid0.Coords) (x : S1x2x256.Idx) :
    (Rect.unit (s := S11x2x512) (k0_off2 i) S1x2x256.size (k0_off2_inb i)).idx x
      = slot i ((Rect.unit (s := S1x2x512) ![0, 0, 0] S1x2x256.size inb_S1x2x512_S1x2x256_0_0_0).idx x) := by
  refine funext fun a => Fin.ext ?_
  change k0_off2 i a + 1 * (x a).val = _
  rw [off2_eq]
  revert a
  have h0 : (x 0).val = 0 := by have : (x 0).val < 1 := (x 0).isLt; omega
  exact axes (by change (i 1).val + 1 * (x 0).val = (i 1).val; omega) rfl rfl

theorem idx_right (i : grid0.Coords) (x : S1x2x256.Idx) :
    (Rect.unit (s := S11x2x512) (k0_off3 i) S1x2x256.size (k0_off3_inb i)).idx x
      = slot i ((Rect.unit (s := S1x2x512) ![0, 0, 256] S1x2x256.size inb_S1x2x512_S1x2x256_0_0_256).idx x) := by
  refine funext fun a => Fin.ext ?_
  change k0_off3 i a + 1 * (x a).val = _
  rw [off3_eq]
  revert a
  have h0 : (x 0).val = 0 := by have : (x 0).val < 1 := (x 0).isLt; omega
  exact axes (by change (i 1).val + 1 * (x 0).val = (i 1).val; omega) rfl rfl

/-- The two halves of the carried rows a run reads, where they are `p`. -/
theorem carried_left (i : grid0.Coords) (xs : Vec F S11x2x512 .f32) (p : Vec F S1x2x512 .f32) (hp : ∀ y, xs (slot i y) = p y) :
    View.ld xs (Rect.unit (s := S11x2x512) (k0_off2 i) S1x2x256.size (k0_off2_inb i))
      = (View.ld p (Rect.unit (s := S1x2x512) ![0, 0, 0] S1x2x256.size inb_S1x2x512_S1x2x256_0_0_0)) :=
  funext fun x => (congrArg xs (idx_left i x)).trans (hp _)

theorem carried_right (i : grid0.Coords) (xs : Vec F S11x2x512 .f32) (p : Vec F S1x2x512 .f32) (hp : ∀ y, xs (slot i y) = p y) :
    View.ld xs (Rect.unit (s := S11x2x512) (k0_off3 i) S1x2x256.size (k0_off3_inb i))
      = (View.ld p (Rect.unit (s := S1x2x512) ![0, 0, 256] S1x2x256.size inb_S1x2x512_S1x2x256_0_0_256)) :=
  funext fun x => (congrArg xs (idx_right i x)).trans (hp _)

theorem state_eq (p : Vec F S1x2x512 .f32) :
    k0_pay2 (View.ld p (Rect.unit (s := S1x2x512) ![0, 0, 0] S1x2x512.size inb_S1x2x512_S1x2x512_0_0_0)) = p := by
  rw [View.ld_unit_zero (S := S1x2x512) (by funext a; fin_cases a <;> rfl)]
  exact shapeCast_shapeCast (s := S1x2x512) (t := S2x512) p shapeCasts_S1x2x512_S2x512 shapeCasts_S2x512_S1x2x512

theorem canon_state (i : grid0.Coords) (hc : k0_cond1 i = 1#1) (p : Vec F S1x2x512 .f32) (y : S1x2x512.Idx) :
    View.canon [(⟨Rect.unit (k0_off1 i) S1x2x512.size (k0_off1_inb i hc), p⟩ : View.Piece (Elt F) S11x2x512 .f32)] (slot i y)
      = p y := by
  refine canon_hit (S := S11x2x512) _ _ _ _ y (off1_eq i) ?_
  have h0 : (y 0).val = 0 := by have : (y 0).val < 1 := (y 0).isLt; omega
  exact axes (by change (i 1).val = (i 1).val + (y 0).val; omega) (Nat.zero_add _).symm (Nat.zero_add _).symm

theorem stored_left {arg10 : Memref sig .tc .vmem S11x2x512 .f32} (i : grid0.Coords) (hc : k0_cond1 i = 1#1) (p : Vec F S1x2x512 .f32) :
    arg10.view.readCov [(⟨Rect.unit (k0_off1 i) S1x2x512.size (k0_off1_inb i hc), p⟩ : View.Piece (Elt F) S11x2x512 .f32)]
        (Rect.unit (s := S11x2x512) (k0_off2 i) S1x2x256.size (k0_off2_inb i)).toLoadRect
      = (View.ld p (Rect.unit (s := S1x2x512) ![0, 0, 0] S1x2x256.size inb_S1x2x512_S1x2x256_0_0_0)) := by
  rw [View.readCov_eq_canon']
  exact funext fun x => (congrArg _ (idx_left i x)).trans (canon_state i hc p _)

theorem stored_right {arg10 : Memref sig .tc .vmem S11x2x512 .f32} (i : grid0.Coords) (hc : k0_cond1 i = 1#1) (p : Vec F S1x2x512 .f32)
    (l : Vec F S1x2x256 .f32) :
    arg10.view.readCov ((⟨Rect.unit (k0_off2 i) S1x2x256.size (k0_off2_inb i), l⟩ : View.Piece (Elt F) S11x2x512 .f32)
        :: [⟨Rect.unit (k0_off1 i) S1x2x512.size (k0_off1_inb i hc), p⟩])
        (Rect.unit (s := S11x2x512) (k0_off3 i) S1x2x256.size (k0_off3_inb i)).toLoadRect
      = (View.ld p (Rect.unit (s := S1x2x512) ![0, 0, 256] S1x2x256.size inb_S1x2x512_S1x2x256_0_0_256)) := by
  rw [View.readCov_eq_canon']
  refine funext fun x => (congrArg _ (idx_right i x)).trans ((canon_miss (S := S11x2x512) _ _ _ _ (off2_eq i) (2 : Fin 3) (Or.inr ?_)).trans
    (canon_state i hc p _))
  change 0 + 256 ≤ 256 + 1 * (x 2).val
  omega

/-- Carried rows: the column block's are its last rows, the others are as before. -/
def Carried (i : grid0.Coords) (x0 : Vec F S1024x2048 .bf16) (x1 : Vec F S2048x512 .bf16) (xs xs' : Vec F S11x2x512 .f32) : Prop :=
  (∀ y, xs' (slot i y) = tBlock x0 x1 y) ∧ ∀ z, (z 0).val ≠ (i 1).val → xs' z = xs z

theorem odd_gBlock (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) (p : Vec F S1x2x512 .f32) (hp : ∀ y, xs (slot i y) = p y) :
    (runOdd c i arg2 harg2 arg3 harg3 arg4 harg4 arg5 harg5 arg6 harg6 arg7 harg7 arg8 harg8 arg9 harg9 arg10 harg10 x0 x1 x2 x3 x4 x5 xs hc).1 = gPieces (View.ld x0 (Rect.unit (s := S1024x2048) ![0, 0] S256x2048.size inb_S1024x2048_S256x2048_0_0))
    (View.ld x0 (Rect.unit (s := S1024x2048) ![256, 0] S256x2048.size inb_S1024x2048_S256x2048_256_0))
    (View.ld x0 (Rect.unit (s := S1024x2048) ![512, 0] S256x2048.size inb_S1024x2048_S256x2048_512_0))
    (View.ld x0 (Rect.unit (s := S1024x2048) ![768, 0] S256x2048.size inb_S1024x2048_S256x2048_768_0))
    (View.ld x1 (Rect.unit (s := S2048x512) ![0, 0] S2048x256.size inb_S2048x512_S2048x256_0_0))
    (View.ld x1 (Rect.unit (s := S2048x512) ![0, 256] S2048x256.size inb_S2048x512_S2048x256_0_256))
    (View.ld x2 (Rect.unit (s := S2048x512) ![0, 0] S2048x256.size inb_S2048x512_S2048x256_0_0))
    (View.ld x2 (Rect.unit (s := S2048x512) ![0, 256] S2048x256.size inb_S2048x512_S2048x256_0_256))
    (View.ld x3 (Rect.unit (s := S3x512) ![0, 0] S3x256.size inb_S3x512_S3x256_0_0))
    (View.ld x3 (Rect.unit (s := S3x512) ![0, 256] S3x256.size inb_S3x512_S3x256_0_256))
    (View.ld x4 (Rect.unit (s := S1x512) ![0, 0] S1x256.size inb_S1x512_S1x256_0_0))
    (View.ld x4 (Rect.unit (s := S1x512) ![0, 256] S1x256.size inb_S1x512_S1x256_0_256))
    (k0_pay23 (View.ld p (Rect.unit (s := S1x2x512) ![0, 0, 0] S1x2x256.size inb_S1x2x512_S1x2x256_0_0_0)))
    (k0_pay23 (View.ld p (Rect.unit (s := S1x2x512) ![0, 0, 256] S1x2x256.size inb_S1x2x512_S1x2x256_0_0_256))) := by
  rw [odd_g]; simp only [readAt_unread harg2, readAt_unread harg3, readAt_unread harg4, readAt_unread harg5, readAt_unread harg6, readAt_unread harg10]; rw [carried_left i xs p hp, carried_right i xs p hp]

theorem odd_tBlock (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) :
    (runOdd c i arg2 harg2 arg3 harg3 arg4 harg4 arg5 harg5 arg6 harg6 arg7 harg7 arg8 harg8 arg9 harg9 arg10 harg10 x0 x1 x2 x3 x4 x5 xs hc).2.1 = tPieces (View.ld x0 (Rect.unit (s := S1024x2048) ![768, 0] S256x2048.size inb_S1024x2048_S256x2048_768_0))
    (View.ld x1 (Rect.unit (s := S2048x512) ![0, 0] S2048x256.size inb_S2048x512_S2048x256_0_0))
    (View.ld x1 (Rect.unit (s := S2048x512) ![0, 256] S2048x256.size inb_S2048x512_S2048x256_0_256)) := by
  rw [odd_t]; simp only [readAt_unread harg2, readAt_unread harg3]

theorem odd_carried (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) :
    Carried i x0 x1 xs (arg10.view.read (Elt F) (arg10.view.writes (Elt F) (harg10.unread xs) (runOdd c i arg2 harg2 arg3 harg3 arg4 harg4 arg5 harg5 arg6 harg6 arg7 harg7 arg8 harg8 arg9 harg9 arg10 harg10 x0 x1 x2 x3 x4 x5 xs hc).2.2.1)) := by
  rw [odd_s]; simp only [readAt_unread harg2, readAt_unread harg3]
  refine ⟨fun y => slot_halves _ _ _ i [] y, fun z hz => (slot_other _ _ _ i [] z hz).trans ?_⟩
  exact congrFun (harg10.read_unread xs) z

set_option maxHeartbeats 800000 in
/-- The body's triple at the second row block of a sequence. -/
theorem odd_triple (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : ¬ k0_cond1 i = 1#1) (p : Vec F S1x2x512 .f32) (hp : ∀ y, xs (slot i y) = p y) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (gBlock x0 x1 x2 x3 x4 p) ∗ owns (c : Thread nD τ) arg9 fullShare (tBlock x0 x1)
                ∗ (∃ xs', ⌜Carried i x0 x1 xs xs'⌝ ∗ owns (c : Thread nD τ) arg10 fullShare xs')) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  iintro ⟨H0, H1, H2, H3, H4, H5, H6, H7, HS, Hk⟩
  iapply ((runOdd c i arg2 harg2 arg3 harg3 arg4 harg4 arg5 harg5 arg6 harg6 arg7 harg7 arg8 harg8 arg9 harg9 arg10 harg10 x0 x1 x2 x3 x4 x5 xs hc).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, ⟨%f6, H6⟩, ⟨%f7, H7⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    rw [odd_gBlock c i arg2 harg2 arg3 harg3 arg4 harg4 arg5 harg5 arg6 harg6 arg7 harg7 arg8 harg8 arg9 harg9 arg10 harg10 x0 x1 x2 x3 x4 x5 xs hc p hp]
    exact View.read_writes_eq_canon _ _ _ (g_cover _ _ _ _ _ _ _ _ _ _ _ _ _ _)
  isplitl [H7]
  · unfold owns; iexists _; isplitr
    swap; · iexact H7
    ipureintro
    rw [odd_tBlock c i arg2 harg2 arg3 harg3 arg4 harg4 arg5 harg5 arg6 harg6 arg7 harg7 arg8 harg8 arg9 harg9 arg10 harg10 x0 x1 x2 x3 x4 x5 xs hc]
    exact View.read_writes_eq_canon _ _ _ (t_cover _ _ _)
  iexists _
  isplitr
  · ipureintro; exact odd_carried c i arg2 harg2 arg3 harg3 arg4 harg4 arg5 harg5 arg6 harg6 arg7 harg7 arg8 harg8 arg9 harg9 arg10 harg10 x0 x1 x2 x3 x4 x5 xs hc
  unfold owns; iexists _; isplitr
  swap; · iexact HS
  ipureintro; rfl

theorem even_gBlock (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1)  :
    (runEven c i arg2 harg2 arg3 harg3 arg4 harg4 arg5 harg5 arg6 harg6 arg7 harg7 arg8 harg8 arg9 harg9 arg10 harg10 x0 x1 x2 x3 x4 x5 xs hc).1 = gPieces (View.ld x0 (Rect.unit (s := S1024x2048) ![0, 0] S256x2048.size inb_S1024x2048_S256x2048_0_0))
    (View.ld x0 (Rect.unit (s := S1024x2048) ![256, 0] S256x2048.size inb_S1024x2048_S256x2048_256_0))
    (View.ld x0 (Rect.unit (s := S1024x2048) ![512, 0] S256x2048.size inb_S1024x2048_S256x2048_512_0))
    (View.ld x0 (Rect.unit (s := S1024x2048) ![768, 0] S256x2048.size inb_S1024x2048_S256x2048_768_0))
    (View.ld x1 (Rect.unit (s := S2048x512) ![0, 0] S2048x256.size inb_S2048x512_S2048x256_0_0))
    (View.ld x1 (Rect.unit (s := S2048x512) ![0, 256] S2048x256.size inb_S2048x512_S2048x256_0_256))
    (View.ld x2 (Rect.unit (s := S2048x512) ![0, 0] S2048x256.size inb_S2048x512_S2048x256_0_0))
    (View.ld x2 (Rect.unit (s := S2048x512) ![0, 256] S2048x256.size inb_S2048x512_S2048x256_0_256))
    (View.ld x3 (Rect.unit (s := S3x512) ![0, 0] S3x256.size inb_S3x512_S3x256_0_0))
    (View.ld x3 (Rect.unit (s := S3x512) ![0, 256] S3x256.size inb_S3x512_S3x256_0_256))
    (View.ld x4 (Rect.unit (s := S1x512) ![0, 0] S1x256.size inb_S1x512_S1x256_0_0))
    (View.ld x4 (Rect.unit (s := S1x512) ![0, 256] S1x256.size inb_S1x512_S1x256_0_256))
    (k0_pay23 (View.ld x5 (Rect.unit (s := S1x2x512) ![0, 0, 0] S1x2x256.size inb_S1x2x512_S1x2x256_0_0_0)))
    (k0_pay23 (View.ld x5 (Rect.unit (s := S1x2x512) ![0, 0, 256] S1x2x256.size inb_S1x2x512_S1x2x256_0_0_256))) := by
  rw [even_g]; simp only [readAt_unread harg2, readAt_unread harg3, readAt_unread harg4, readAt_unread harg5, readAt_unread harg6, readAt_unread harg7, state_eq]; rw [stored_left i hc, stored_right i hc]

theorem even_tBlock (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1) :
    (runEven c i arg2 harg2 arg3 harg3 arg4 harg4 arg5 harg5 arg6 harg6 arg7 harg7 arg8 harg8 arg9 harg9 arg10 harg10 x0 x1 x2 x3 x4 x5 xs hc).2.1 = tPieces (View.ld x0 (Rect.unit (s := S1024x2048) ![768, 0] S256x2048.size inb_S1024x2048_S256x2048_768_0))
    (View.ld x1 (Rect.unit (s := S2048x512) ![0, 0] S2048x256.size inb_S2048x512_S2048x256_0_0))
    (View.ld x1 (Rect.unit (s := S2048x512) ![0, 256] S2048x256.size inb_S2048x512_S2048x256_0_256)) := by
  rw [even_t]; simp only [readAt_unread harg2, readAt_unread harg3]

theorem even_carried (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1) :
    Carried i x0 x1 xs (arg10.view.read (Elt F) (arg10.view.writes (Elt F) (harg10.unread xs) (runEven c i arg2 harg2 arg3 harg3 arg4 harg4 arg5 harg5 arg6 harg6 arg7 harg7 arg8 harg8 arg9 harg9 arg10 harg10 x0 x1 x2 x3 x4 x5 xs hc).2.2.1)) := by
  rw [even_s]; simp only [readAt_unread harg2, readAt_unread harg3]
  refine ⟨fun y => slot_halves _ _ _ i _ y, fun z hz => (slot_other _ _ _ i _ z hz).trans ?_⟩
  refine (View.read_writes_cons_unit_of_not_mem (s := S11x2x512) _ _ _ _ _ _ (off1_eq i) (0 : Fin 3) ?_).trans
    (congrFun (harg10.read_unread xs) z)
  change (z 0).val < (i 1).val ∨ (i 1).val + 1 ≤ (z 0).val
  omega

set_option maxHeartbeats 800000 in
/-- The body's triple at the first row block of a sequence. -/
theorem even_triple (c : Dev nD) (i : grid0.Coords) (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S1x512 .f32) (harg6 : arg6.IsWhole)
    (arg7 : Memref sig .tc .vmem S1x2x512 .f32) (harg7 : arg7.IsWhole)
    (arg8 : Memref sig .tc .vmem S1024x512 .bf16) (harg8 : arg8.IsWhole)
    (arg9 : Memref sig .tc .vmem S1x2x512 .f32) (harg9 : arg9.IsWhole)
    (arg10 : Memref sig .tc .vmem S11x2x512 .f32) (harg10 : arg10.IsWhole)
    (x0 : Vec F S1024x2048 .bf16) (x1 : Vec F S2048x512 .bf16) (x2 : Vec F S2048x512 .bf16)
    (x3 : Vec F S3x512 .f32) (x4 : Vec F S1x512 .f32) (x5 : Vec F S1x2x512 .f32) (xs : Vec F S11x2x512 .f32)
    (hc : k0_cond1 i = 1#1)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (gBlock x0 x1 x2 x3 x4 x5) ∗ owns (c : Thread nD τ) arg9 fullShare (tBlock x0 x1)
                ∗ (∃ xs', ⌜Carried i x0 x1 xs xs'⌝ ∗ owns (c : Thread nD τ) arg10 fullShare xs')) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  iintro ⟨H0, H1, H2, H3, H4, H5, H6, H7, HS, Hk⟩
  iapply ((runEven c i arg2 harg2 arg3 harg3 arg4 harg4 arg5 harg5 arg6 harg6 arg7 harg7 arg8 harg8 arg9 harg9 arg10 harg10 x0 x1 x2 x3 x4 x5 xs hc).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, ⟨%f6, H6⟩, ⟨%f7, H7⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    rw [even_gBlock c i arg2 harg2 arg3 harg3 arg4 harg4 arg5 harg5 arg6 harg6 arg7 harg7 arg8 harg8 arg9 harg9 arg10 harg10 x0 x1 x2 x3 x4 x5 xs hc ]
    exact View.read_writes_eq_canon _ _ _ (g_cover _ _ _ _ _ _ _ _ _ _ _ _ _ _)
  isplitl [H7]
  · unfold owns; iexists _; isplitr
    swap; · iexact H7
    ipureintro
    rw [even_tBlock c i arg2 harg2 arg3 harg3 arg4 harg4 arg5 harg5 arg6 harg6 arg7 harg7 arg8 harg8 arg9 harg9 arg10 harg10 x0 x1 x2 x3 x4 x5 xs hc]
    exact View.read_writes_eq_canon _ _ _ (t_cover _ _ _)
  iexists _
  isplitr
  · ipureintro; exact even_carried c i arg2 harg2 arg3 harg3 arg4 harg4 arg5 harg5 arg6 harg6 arg7 harg7 arg8 harg8 arg9 harg9 arg10 harg10 x0 x1 x2 x3 x4 x5 xs hc
  unfold owns; iexists _; isplitr
  swap; · iexact HS
  ipureintro; rfl

end Cert.UpIdeal.Run

end
-- ==== Proof.UpFrame.lean ====
module

public import proofs.«01_k».proof.Proof.Gen.UpIdeal.Frame
public import proofs.«01_k».proof.Proof.Gen.UpIdeal.Skeleton
public import proofs.«01_k».proof.Proof.UpTriple
/-!
# The run of the whole kernel, and its frame

The scratch buffer is carried from grid point to grid point: at a point the rows of the last eleven points, one column block
each, are those points' last rows.
-/

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x512 .f32 := win0_7.stage (cfg0.slots t 7)
abbrev hs0_7 (t : Fin cfg0.N) : (ms0_7 t).IsWhole := hstage0_7 ((cfg0.slots t 7).cast nbuf0_7)
abbrev scM0_0 : Memref sig .tc .vmem S11x2x512 .f32 := Memref.whole cc0_scratch0

/-- What the region hands the body: the scratch buffer at some contents, and the generator register. -/
theorem PhiA0_eq (c : Dev nD) :
    (Pipeline.ΦA spec0 c : sProp 𝕄) = iprop(iprop(∃ d, owns (c : Thread nD τ) scM0_0 fullShare d) ∗ (∃ r, prngReg c r)) := by
  unfold Pipeline.ΦA; rw [scopedRest0_eq]; simp only [scM0_0, owns_whole]; try rfl

/-! ## The grid: eleven column blocks within each row block, two row blocks in a sequence -/

theorem coord_val : ∀ t : Fin cfg0.N, (grid0.coords t 1).val = t.val % 11 ∧ (grid0.coords t 0).val = t.val / 11 :=
  (by decide +kernel : ∀ t : Fin grid0.N, _)
theorem cond_even : ∀ t : Fin cfg0.N, t.val / 11 % 2 = 0 → k0_cond1 (grid0.coords t) = 1#1 :=
  (by decide +kernel : ∀ t : Fin grid0.N, _)
theorem cond_odd : ∀ t : Fin cfg0.N, ¬ t.val / 11 % 2 = 0 → ¬ k0_cond1 (grid0.coords t) = 1#1 :=
  (by decide +kernel : ∀ t : Fin grid0.N, _)

/-- The point of the row block before, at the same columns. -/
def above (t : Fin cfg0.N) : Fin cfg0.N := ⟨t.val - 11, by have := t.isLt; omega⟩

/-- The last rows of a point's product. -/
def lastRows (c : Dev nD) (t : Fin cfg0.N) : Vec F S1x2x512 .f32 := tBlock (iblk m c 0 t) (iblk m c 1 t)

/-- The two rows before a point's: the state at the first row block of a sequence, then the last rows of the block before. -/
def prevRows (c : Dev nD) (t : Fin cfg0.N) : Vec F S1x2x512 .f32 :=
  if t.val / 11 % 2 = 0 then iblk m c 5 t else lastRows m c (above t)

/-- The gated products of a point. -/
def products (c : Dev nD) (t : Fin cfg0.N) : Vec F S1024x512 .bf16 :=
  gBlock (iblk m c 0 t) (iblk m c 1 t) (iblk m c 2 t) (iblk m c 3 t) (iblk m c 4 t) (prevRows m c t)

/-- What the scratch buffer holds before point `n`. -/
def Held (c : Dev nD) (n : ℕ) (xs : Vec F S11x2x512 .f32) : Prop :=
  ∀ s : Fin cfg0.N, s.val < n → n ≤ s.val + 11 → ∀ y, xs (slot (grid0.coords s) y) = lastRows m c s y

theorem held_zero (c : Dev nD) (xs : Vec F S11x2x512 .f32) : Held m c 0 xs := fun s h => absurd h (by omega)

theorem held_next (c : Dev nD) (t : Fin cfg0.N) (xs xs' : Vec F S11x2x512 .f32) (h : Held m c t.val xs)
    (h' : Carried (grid0.coords t) (iblk m c 0 t) (iblk m c 1 t) xs xs') : Held m c (t.val + 1) xs' := by
  intro s hs hn y
  by_cases e : s = t
  · subst e; exact h'.1 y
  · have hlt : s.val < t.val := by
      have : s.val ≠ t.val := fun q => e (Fin.ext q)
      omega
    refine (h'.2 _ ?_).trans (h s hlt (by omega) y)
    change (grid0.coords s 1).val ≠ (grid0.coords t 1).val
    rw [(coord_val s).1, (coord_val t).1]
    omega

theorem slot_eq {i i' : grid0.Coords} (h : (i 1).val = (i' 1).val) (y : S1x2x512.Idx) : slot i y = slot i' y := by
  unfold slot
  rw [show i 1 = i' 1 from Fin.ext h]

theorem held_prev (c : Dev nD) (t : Fin cfg0.N) (xs : Vec F S11x2x512 .f32) (h : Held m c t.val xs)
    (ht : ¬ t.val / 11 % 2 = 0) (y : S1x2x512.Idx) : xs (slot (grid0.coords t) y) = prevRows m c t y := by
  have h11 : 11 ≤ t.val := by
    by_contra q
    exact ht (by rw [Nat.div_eq_of_lt (by omega)])
  have ha : (above t).val = t.val - 11 := rfl
  rw [prevRows, if_neg ht, ← h (above t) (by omega) (by omega) y]
  refine congrArg xs (slot_eq ?_ y)
  rw [(coord_val t).1, (coord_val (above t)).1, ha]
  omega

/-! ## The pipeline's proof data -/

/-- The data of the one pipeline: the arrays as the region finds them; after a point each input's buffer at its block, the two
    outputs' at the products and the last rows; the scratch buffer as `Held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => products m c t
    | ⟨7, _⟩ => lastRows m c t
  Φ n := iprop(∃ xs, ⌜Held m c n.val xs⌝ ∗ owns (c : Thread nD τ) scM0_0 fullShare xs ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = products m c t := by dsimp only [dats]
theorem after0_7 (c : Dev nD) (t : Fin cfg0.N) : (dats m 0 c).after 7 t = lastRows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem Phi_eq (c : Dev nD) (n : Fin (cfg0.N + 1)) : (dats m 0 c).Φ n
    = iprop(∃ xs, ⌜Held m c n.val xs⌝ ∗ owns (c : Thread nD τ) scM0_0 fullShare xs ∗ (∃ r, prngReg c r)) := by dsimp only [dats]

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, Phi_eq, Phi_eq]
  iintro ⟨⟨%xs, %hx, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases ht : t.val / 11 % 2 = 0
  · skip
    have hp : prevRows m c t = iblk m c 5 t := if_pos ht
    unfold products; rw [hp]
    iapply (even_triple c (grid0.coords t) _ _ _ _ _ _ _ _ _ _ _ _ _ _ _ _ _ _ (iblk m c 0 t) (iblk m c 1 t) (iblk m c 2 t) (iblk m c 3 t) (iblk m c 4 t) (iblk m c 5 t) xs (cond_even t ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, ⟨%xs', %hx', HS⟩⟩
    isplitl [HS Hg]
    · iexists xs'
      isplitr
      · ipureintro; exact held_next m c t xs xs' hx hx'
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · skip
    unfold products
    iapply (odd_triple c (grid0.coords t) _ _ _ _ _ _ _ _ _ _ _ _ _ _ _ _ _ _ (iblk m c 0 t) (iblk m c 1 t) (iblk m c 2 t) (iblk m c 3 t) (iblk m c 4 t) (iblk m c 5 t) xs (cond_odd t ht) (prevRows m c t) (held_prev m c t xs hx ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, ⟨%xs', %hx', HS⟩⟩
    isplitl [HS Hg]
    · iexists xs'
      isplitr
      · ipureintro; exact held_next m c t xs xs' hx hx'
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats m 0 c).Φ 0 := by
  rw [PhiA0_eq, Phi_eq]
  iintro ⟨⟨%xs, HS⟩, Hg⟩
  iexists xs
  isplitr
  · ipureintro; exact held_zero m c xs
  isplitl [HS]; · iexact HS
  iexact Hg

theorem phi_out (c : Dev nD) : (dats m 0 c).Φ (Fin.last cfg0.N) ⊢ (Pipeline.ΦA spec0 c : sProp 𝕄) := by
  rw [PhiA0_eq, Phi_eq]
  iintro ⟨%xs, -, HS, Hg⟩
  isplitl [HS]; · iexists xs; iexact HS
  iexact Hg

/-! ## The run and the frame -/

set_option backward.isDefEq.respectTransparency.types false in
/-- The run ends with every array at what the data says, and every semaphore at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end as they were, and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.UpIdeal.Run

end
-- ==== Proof.UpRow.lean ====
/- The gated product at a row and a lane: a convolution over a row and the two before it, its Gaussian error linear
   unit, and the product with the other half. -/
module

public import proofs.«01_k».proof.Proof.UpPieces
public import Idealize.ShloMosaic.Lib.Pipeline.ValueKit
public import Idealize.ShloMosaic.Lib.Pointwise

@[expose] public section

set_option maxRecDepth 16384

noncomputable section

/-! ## By coordinates -/

namespace Cert.Gated

open Idealize.ShloMosaic

/-- A sequence of rows after two rows. -/
def after (p : Fin 2 → EReal) (a : ℕ → EReal) (n : ℕ) : EReal := if h : n < 2 then p ⟨n, h⟩ else a (n - 2)

theorem after_first (p : Fin 2 → EReal) (a : ℕ → EReal) (i : Fin 2) : after p a i.val = p i := dif_pos i.isLt

theorem after_later (p : Fin 2 → EReal) (a : ℕ → EReal) (n : ℕ) : after p a (n + 2) = a n :=
  (dif_neg (by omega)).trans (by rw [Nat.add_sub_cancel])

/-- Three rows, each weighted, added to a bias. -/
def conv (d : EReal) (w : Fin 3 → EReal) (f : ℕ → EReal) (n : ℕ) : EReal :=
  d + f n * w 0 + f (n + 1) * w 1 + f (n + 2) * w 2

/-- The Gaussian error linear unit of `c`, times `b`. -/
def glu (c b : EReal) : EReal :=
  Ideal.ofBits .f32 0x3F000000#32 * c
    * (Ideal.ofBits .f32 0x3F800000#32 + Ideal.erf (c * Ideal.ofBits .f32 0x3F3504F3#32)) * b

theorem conv_congr (d : EReal) (w : Fin 3 → EReal) (f g : ℕ → EReal) (n k : ℕ) (h0 : f n = g k)
    (h1 : f (n + 1) = g (k + 1)) (h2 : f (n + 2) = g (k + 2)) : conv d w f n = conv d w g k := by
  unfold conv; rw [h0, h1, h2]

end Cert.Gated

/-! ## By blocks -/

namespace Cert.UpIdeal.Run

open Cert.UpIdeal Cert.UpIdeal.Gen Idealize.ShloMosaic Cert.Gated

theorem prod_apply (h : Vec Ideal S256x2048 .bf16) (w : Vec Ideal S2048x256 .bf16) (r q : Fin 256) :
    (prod (F := Ideal) h w (ix2 r q) : EReal) = ∑ k : Fin 2048, (h (ix2 r k) : EReal) * w (ix2 k q) := by
  pointwise [prod, k0_pay3]

theorem last_apply (a : FVec Ideal S256x256 .f32) (i : Fin 2) (q : Fin 256) :
    (last (F := Ideal) a (ix2 i q) : EReal) = a (ix2 ⟨254 + i.val, by omega⟩ q) := by
  pointwise [last, k0_pay28]

theorem carry_apply (a : FVec Ideal S256x256 .f32) (i : Fin 2) (q : Fin 256) :
    (k0_pay60 (F := Ideal) a (ix3 0 i q) : EReal) = a (ix2 ⟨254 + i.val, by omega⟩ q) := by
  pointwise [k0_pay60]

theorem flat_apply (p : Vec Ideal S1x2x256 .f32) (i : Fin 2) (q : Fin 256) :
    (k0_pay23 (F := Ideal) p (ix2 i q) : EReal) = p (ix3 0 i q) := by
  pointwise [k0_pay23]

theorem gate_raw (a b : FVec Ideal S256x256 .f32) (w : Vec Ideal S3x256 .f32) (d : Vec Ideal S1x256 .f32) (r q : Fin 256) :
    (gate (F := Ideal) a b w d (ix2 r q) : EReal)
      = glu (d (ix2 0 q) + a (ix2 ⟨(r.val + 256 - 2) % 256, Nat.mod_lt _ (by decide)⟩ q) * w (ix2 0 q)
          + a (ix2 ⟨(r.val + 256 - 1) % 256, Nat.mod_lt _ (by decide)⟩ q) * w (ix2 1 q) + a (ix2 r q) * w (ix2 2 q))
        (b (ix2 r q)) := by
  unfold glu
  pointwise [gate, k0_pay22]
  rfl

theorem spread0_apply (p : FVec Ideal S2x256 .f32) (r : Fin 8) (q : Fin 256) :
    (spread0 (F := Ideal) p (ix2 r q) : EReal) = p (ix2 0 q) := by
  pointwise [spread0]

theorem spread1_apply (p : FVec Ideal S2x256 .f32) (r : Fin 8) (q : Fin 256) :
    (spread1 (F := Ideal) p (ix2 r q) : EReal) = p (ix2 1 q) := by
  pointwise [spread1]

/-- The column `q` of 256 rows, the rows counted. -/
def column (a : FVec Ideal S256x256 .f32) (q : Fin 256) (n : ℕ) : EReal := a (ix2 ⟨n % 256, Nat.mod_lt _ (by decide)⟩ q)

/-- The gated product of a row of 256 and a lane, after the two rows `p`. -/
def row (a b : FVec Ideal S256x256 .f32) (p : FVec Ideal S2x256 .f32) (w : Vec Ideal S3x256 .f32)
    (d : Vec Ideal S1x256 .f32) (r q : Fin 256) : EReal :=
  glu (conv (d (ix2 0 q)) (fun i => w (ix2 i q)) (after (fun i => p (ix2 i q)) (column a q)) r.val) (b (ix2 r q))

theorem gate_apply (a b : FVec Ideal S256x256 .f32) (p : FVec Ideal S2x256 .f32) (w : Vec Ideal S3x256 .f32)
    (d : Vec Ideal S1x256 .f32) (r q : Fin 256) (hr : 8 ≤ r.val) :
    (gate (F := Ideal) a b w d (ix2 r q) : EReal) = row a b p w d r q := by
  have far (i : Fin 3) : after (fun i => (p (ix2 i q) : EReal)) (column a q) (r.val + i.val)
      = a (ix2 ⟨(r.val + 256 - (2 - i.val)) % 256, Nat.mod_lt _ (by decide)⟩ q) := by
    rw [show r.val + i.val = (r.val + i.val - 2) + 2 by omega, after_later]
    refine congrArg (fun n : Fin 256 => (a (ix2 n q) : EReal)) (Fin.ext ?_)
    show (r.val + i.val - 2) % 256 = (r.val + 256 - (2 - i.val)) % 256
    omega
  have here : (⟨(r.val + 256 - (2 - 2)) % 256, Nat.mod_lt _ (by decide)⟩ : Fin 256) = r := Fin.ext (by
    show (r.val + 256 - (2 - 2)) % 256 = r.val
    omega)
  rw [gate_raw]
  unfold row conv
  have h0 : (a (ix2 ⟨(r.val + 256 - 2) % 256, Nat.mod_lt _ (by decide)⟩ q) : EReal)
      = after (fun i => p (ix2 i q)) (column a q) r.val := (far 0).symm
  have h1 : (a (ix2 ⟨(r.val + 256 - 1) % 256, Nat.mod_lt _ (by decide)⟩ q) : EReal)
      = after (fun i => p (ix2 i q)) (column a q) (r.val + 1) := (far 1).symm
  have h2 : (a (ix2 r q) : EReal) = after (fun i => p (ix2 i q)) (column a q) (r.val + 2) :=
    ((far 2).trans (congrArg (fun n => (a (ix2 n q) : EReal)) here)).symm
  rw [h0, h1, h2]

theorem two_before (a : FVec Ideal S256x256 .f32) (p : FVec Ideal S2x256 .f32) (r : Fin 8) (q : Fin 256) :
    Scalar.select (IntOp.cmpi .eq (BitVec.ofNat 32 r.val) 0#32) (p (ix2 0 q) : EReal)
        (Scalar.select (IntOp.cmpi .eq (BitVec.ofNat 32 r.val) 1#32) (p (ix2 1 q))
          (a (ix2 ⟨(r.val + 8 - 2) % 8, by omega⟩ q)))
      = after (fun i => p (ix2 i q)) (column a q) r.val := by
  fin_cases r <;> rfl

theorem one_before (a : FVec Ideal S256x256 .f32) (p : FVec Ideal S2x256 .f32) (r : Fin 8) (q : Fin 256) :
    Scalar.select (IntOp.cmpi .eq (BitVec.ofNat 32 r.val) 0#32) (p (ix2 1 q) : EReal)
        (a (ix2 ⟨(r.val + 8 - 1) % 8, by omega⟩ q))
      = after (fun i => p (ix2 i q)) (column a q) (r.val + 1) := by
  fin_cases r <;> rfl

theorem none_before (a : FVec Ideal S256x256 .f32) (p : FVec Ideal S2x256 .f32) (r : Fin 8) (q : Fin 256) :
    (a (ix2 ⟨r.val, by omega⟩ q) : EReal) = after (fun i => p (ix2 i q)) (column a q) (r.val + 2) := by
  fin_cases r <;> rfl

theorem top_apply (a b : FVec Ideal S256x256 .f32) (p : FVec Ideal S2x256 .f32) (w : Vec Ideal S3x256 .f32)
    (d : Vec Ideal S1x256 .f32) (r : Fin 8) (q : Fin 256) :
    (top (F := Ideal) a b p w d (ix2 r q) : EReal) = row a b p w d ⟨r.val, by omega⟩ q := by
  unfold row conv glu
  pointwise [top, k0_pay27, k0_pay24]
  simp only [spread0_apply, spread1_apply]
  rw [two_before, one_before, none_before a p r q]
  rfl

end Cert.UpIdeal.Run

end
-- ==== Proof.UpBlock.lean ====
/- The block of gated products and the block of last rows that one grid point leaves, at a row and a lane. -/
module

public import proofs.«01_k».proof.Proof.UpRow
public import proofs.«01_k».proof.Proof.UpStores

@[expose] public section

set_option maxRecDepth 16384

noncomputable section

namespace Cert.UpIdeal.Run

open Cert.UpIdeal Cert.UpIdeal.Gen Idealize.ShloMosaic Cert.Gated

/-- A statement of two axes, axis by axis. -/
theorem axes2 {P : Fin 2 → Prop} (h0 : P 0) (h1 : P 1) : ∀ a, P a := by
  intro a
  fin_cases a
  exacts [h0, h1]

section
variable (T : Fin 2 → Fin 4 → Vec Ideal S8x256 .bf16) (G : Fin 2 → Fin 4 → Vec Ideal S256x256 .bf16)

/-- Eight squares of a block, each with its first 8 rows stored again, the last store first. -/
def tiles : List (View.Piece (Elt Ideal) S1024x512 .bf16) :=
  [⟨Rect.unit ![768, 256] S8x256.size inb_S1024x512_S8x256_768_256, T 1 3⟩,
   ⟨Rect.unit ![768, 256] S256x256.size inb_S1024x512_S256x256_768_256, G 1 3⟩,
   ⟨Rect.unit ![512, 256] S8x256.size inb_S1024x512_S8x256_512_256, T 1 2⟩,
   ⟨Rect.unit ![512, 256] S256x256.size inb_S1024x512_S256x256_512_256, G 1 2⟩,
   ⟨Rect.unit ![256, 256] S8x256.size inb_S1024x512_S8x256_256_256, T 1 1⟩,
   ⟨Rect.unit ![256, 256] S256x256.size inb_S1024x512_S256x256_256_256, G 1 1⟩,
   ⟨Rect.unit ![0, 256] S8x256.size inb_S1024x512_S8x256_0_256, T 1 0⟩,
   ⟨Rect.unit ![0, 256] S256x256.size inb_S1024x512_S256x256_0_256, G 1 0⟩,
   ⟨Rect.unit ![768, 0] S8x256.size inb_S1024x512_S8x256_768_0, T 0 3⟩,
   ⟨Rect.unit ![768, 0] S256x256.size inb_S1024x512_S256x256_768_0, G 0 3⟩,
   ⟨Rect.unit ![512, 0] S8x256.size inb_S1024x512_S8x256_512_0, T 0 2⟩,
   ⟨Rect.unit ![512, 0] S256x256.size inb_S1024x512_S256x256_512_0, G 0 2⟩,
   ⟨Rect.unit ![256, 0] S8x256.size inb_S1024x512_S8x256_256_0, T 0 1⟩,
   ⟨Rect.unit ![256, 0] S256x256.size inb_S1024x512_S256x256_256_0, G 0 1⟩,
   ⟨Rect.unit ![0, 0] S8x256.size inb_S1024x512_S8x256_0_0, T 0 0⟩,
   ⟨Rect.unit ![0, 0] S256x256.size inb_S1024x512_S256x256_0_0, G 0 0⟩]

theorem top_0_0 (r : Fin 8) (q : Fin 256) :
    View.canon (tiles T G) (ix2 ⟨0 + r.val, by omega⟩ ⟨0 + q.val, by omega⟩) = T 0 0 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 256 by omega))).trans ?_
  refine (canon_miss (S := S1024x512) _ _ _ _ rfl (0 : Fin 2) (Or.inl (show 0 + r.val < 256 by omega))).trans ?_
  exact canon_hit (S := S1024x512) _ _ _ _ (ix2 r q) rfl (axes2 rfl rfl)

theorem top_0_1 (r : Fin 8) (q : Fin 256) :
    View.canon (tiles T G) (ix2 ⟨256 + r.val, by omega⟩ ⟨0 + q.val, by omega⟩) = T 0 1 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 512 by omega))).trans ?_
  refine (canon_miss (S := S1024x512) _ _ _ _ rfl (0 : Fin 2) (Or.inl (show 256 + r.val < 512 by omega))).trans ?_
  exact canon_hit (S := S1024x512) _ _ _ _ (ix2 r q) rfl (axes2 rfl rfl)

theorem top_0_2 (r : Fin 8) (q : Fin 256) :
    View.canon (tiles T G) (ix2 ⟨512 + r.val, by omega⟩ ⟨0 + q.val, by omega⟩) = T 0 2 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (0 : Fin 2) (Or.inl (show 512 + r.val < 768 by omega))).trans ?_
  refine (canon_miss (S := S1024x512) _ _ _ _ rfl (0 : Fin 2) (Or.inl (show 512 + r.val < 768 by omega))).trans ?_
  exact canon_hit (S := S1024x512) _ _ _ _ (ix2 r q) rfl (axes2 rfl rfl)

theorem top_0_3 (r : Fin 8) (q : Fin 256) :
    View.canon (tiles T G) (ix2 ⟨768 + r.val, by omega⟩ ⟨0 + q.val, by omega⟩) = T 0 3 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  exact canon_hit (S := S1024x512) _ _ _ _ (ix2 r q) rfl (axes2 rfl rfl)

theorem top_1_0 (r : Fin 8) (q : Fin 256) :
    View.canon (tiles T G) (ix2 ⟨0 + r.val, by omega⟩ ⟨256 + q.val, by omega⟩) = T 1 0 (ix2 r q) := by
  unfold tiles
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 256 by omega))).trans ?_
  refine (canon_miss (S := S1024x512) _ _ _ _ rfl (0 : Fin 2) (Or.inl (show 0 + r.val < 256 by omega))).trans ?_
  exact canon_hit (S := S1024x512) _ _ _ _ (ix2 r q) rfl (axes2 rfl rfl)

theorem top_1_1 (r : Fin 8) (q : Fin 256) :
    View.canon (tiles T G) (ix2 ⟨256 + r.val, by omega⟩ ⟨256 + q.val, by omega⟩) = T 1 1 (ix2 r q) := by
  unfold tiles
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 512 by omega))).trans ?_
  refine (canon_miss (S := S1024x512) _ _ _ _ rfl (0 : Fin 2) (Or.inl (show 256 + r.val < 512 by omega))).trans ?_
  exact canon_hit (S := S1024x512) _ _ _ _ (ix2 r q) rfl (axes2 rfl rfl)

theorem top_1_2 (r : Fin 8) (q : Fin 256) :
    View.canon (tiles T G) (ix2 ⟨512 + r.val, by omega⟩ ⟨256 + q.val, by omega⟩) = T 1 2 (ix2 r q) := by
  unfold tiles
  refine (canon_miss (S := S1024x512) _ _ _ _ rfl (0 : Fin 2) (Or.inl (show 512 + r.val < 768 by omega))).trans ?_
  refine (canon_miss (S := S1024x512) _ _ _ _ rfl (0 : Fin 2) (Or.inl (show 512 + r.val < 768 by omega))).trans ?_
  exact canon_hit (S := S1024x512) _ _ _ _ (ix2 r q) rfl (axes2 rfl rfl)

theorem top_1_3 (r : Fin 8) (q : Fin 256) :
    View.canon (tiles T G) (ix2 ⟨768 + r.val, by omega⟩ ⟨256 + q.val, by omega⟩) = T 1 3 (ix2 r q) := by
  unfold tiles
  exact canon_hit (S := S1024x512) _ _ _ _ (ix2 r q) rfl (axes2 rfl rfl)

theorem rest_0_0 (r : Fin 256) (q : Fin 256) (hr : 8 ≤ r.val) :
    View.canon (tiles T G) (ix2 ⟨0 + r.val, by omega⟩ ⟨0 + q.val, by omega⟩) = G 0 0 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 256 by omega))).trans ?_
  refine (canon_miss (S := S1024x512) _ _ _ _ rfl (0 : Fin 2) (Or.inl (show 0 + r.val < 256 by omega))).trans ?_
  refine (canon_miss (S := S1024x512) _ _ _ _ rfl (0 : Fin 2) (Or.inr (show 0 + 8 ≤ 0 + r.val by omega))).trans ?_
  exact canon_hit (S := S1024x512) _ _ _ _ (ix2 r q) rfl (axes2 rfl rfl)

theorem rest_0_1 (r : Fin 256) (q : Fin 256) (hr : 8 ≤ r.val) :
    View.canon (tiles T G) (ix2 ⟨256 + r.val, by omega⟩ ⟨0 + q.val, by omega⟩) = G 0 1 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 512 by omega))).trans ?_
  refine (canon_miss (S := S1024x512) _ _ _ _ rfl (0 : Fin 2) (Or.inl (show 256 + r.val < 512 by omega))).trans ?_
  refine (canon_miss (S := S1024x512) _ _ _ _ rfl (0 : Fin 2) (Or.inr (show 256 + 8 ≤ 256 + r.val by omega))).trans ?_
  exact canon_hit (S := S1024x512) _ _ _ _ (ix2 r q) rfl (axes2 rfl rfl)

theorem rest_0_2 (r : Fin 256) (q : Fin 256) (hr : 8 ≤ r.val) :
    View.canon (tiles T G) (ix2 ⟨512 + r.val, by omega⟩ ⟨0 + q.val, by omega⟩) = G 0 2 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (0 : Fin 2) (Or.inl (show 512 + r.val < 768 by omega))).trans ?_
  refine (canon_miss (S := S1024x512) _ _ _ _ rfl (0 : Fin 2) (Or.inl (show 512 + r.val < 768 by omega))).trans ?_
  refine (canon_miss (S := S1024x512) _ _ _ _ rfl (0 : Fin 2) (Or.inr (show 512 + 8 ≤ 512 + r.val by omega))).trans ?_
  exact canon_hit (S := S1024x512) _ _ _ _ (ix2 r q) rfl (axes2 rfl rfl)

theorem rest_0_3 (r : Fin 256) (q : Fin 256) (hr : 8 ≤ r.val) :
    View.canon (tiles T G) (ix2 ⟨768 + r.val, by omega⟩ ⟨0 + q.val, by omega⟩) = G 0 3 (ix2 r q) := by
  unfold tiles
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (1 : Fin 2) (Or.inl (show 0 + q.val < 256 by omega))).trans ?_
  refine (canon_miss (S := S1024x512) _ _ _ _ rfl (0 : Fin 2) (Or.inr (show 768 + 8 ≤ 768 + r.val by omega))).trans ?_
  exact canon_hit (S := S1024x512) _ _ _ _ (ix2 r q) rfl (axes2 rfl rfl)

theorem rest_1_0 (r : Fin 256) (q : Fin 256) (hr : 8 ≤ r.val) :
    View.canon (tiles T G) (ix2 ⟨0 + r.val, by omega⟩ ⟨256 + q.val, by omega⟩) = G 1 0 (ix2 r q) := by
  unfold tiles
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 768 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 512 by omega))).trans ?_
  refine (canon_miss (S := S1024x512) _ _ _ _ rfl (0 : Fin 2) (Or.inl (show 0 + r.val < 256 by omega))).trans ?_
  refine (canon_miss (S := S1024x512) _ _ _ _ rfl (0 : Fin 2) (Or.inl (show 0 + r.val < 256 by omega))).trans ?_
  refine (canon_miss (S := S1024x512) _ _ _ _ rfl (0 : Fin 2) (Or.inr (show 0 + 8 ≤ 0 + r.val by omega))).trans ?_
  exact canon_hit (S := S1024x512) _ _ _ _ (ix2 r q) rfl (axes2 rfl rfl)

theorem rest_1_1 (r : Fin 256) (q : Fin 256) (hr : 8 ≤ r.val) :
    View.canon (tiles T G) (ix2 ⟨256 + r.val, by omega⟩ ⟨256 + q.val, by omega⟩) = G 1 1 (ix2 r q) := by
  unfold tiles
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 768 by omega))).trans ?_
  refine (canon_miss (S := S1024x512) _ _ _ _ rfl (0 : Fin 2) (Or.inl (show 256 + r.val < 512 by omega))).trans ?_
  refine (canon_miss (S := S1024x512) _ _ _ _ rfl (0 : Fin 2) (Or.inl (show 256 + r.val < 512 by omega))).trans ?_
  refine (canon_miss (S := S1024x512) _ _ _ _ rfl (0 : Fin 2) (Or.inr (show 256 + 8 ≤ 256 + r.val by omega))).trans ?_
  exact canon_hit (S := S1024x512) _ _ _ _ (ix2 r q) rfl (axes2 rfl rfl)

theorem rest_1_2 (r : Fin 256) (q : Fin 256) (hr : 8 ≤ r.val) :
    View.canon (tiles T G) (ix2 ⟨512 + r.val, by omega⟩ ⟨256 + q.val, by omega⟩) = G 1 2 (ix2 r q) := by
  unfold tiles
  refine (canon_miss (S := S1024x512) _ _ _ _ rfl (0 : Fin 2) (Or.inl (show 512 + r.val < 768 by omega))).trans ?_
  refine (canon_miss (S := S1024x512) _ _ _ _ rfl (0 : Fin 2) (Or.inl (show 512 + r.val < 768 by omega))).trans ?_
  refine (canon_miss (S := S1024x512) _ _ _ _ rfl (0 : Fin 2) (Or.inr (show 512 + 8 ≤ 512 + r.val by omega))).trans ?_
  exact canon_hit (S := S1024x512) _ _ _ _ (ix2 r q) rfl (axes2 rfl rfl)

theorem rest_1_3 (r : Fin 256) (q : Fin 256) (hr : 8 ≤ r.val) :
    View.canon (tiles T G) (ix2 ⟨768 + r.val, by omega⟩ ⟨256 + q.val, by omega⟩) = G 1 3 (ix2 r q) := by
  unfold tiles
  refine (canon_miss (S := S1024x512) _ _ _ _ rfl (0 : Fin 2) (Or.inr (show 768 + 8 ≤ 768 + r.val by omega))).trans ?_
  exact canon_hit (S := S1024x512) _ _ _ _ (ix2 r q) rfl (axes2 rfl rfl)

/-- The eight squares of a block, where the first 8 rows of each hold `V` and so do the others. -/
theorem tiles_apply (V : Fin 2 → Fin 4 → Fin 256 → Fin 256 → EReal)
    (hT : ∀ s k (r : Fin 8) q, (T s k (ix2 r q) : EReal) = V s k ⟨r.val, by omega⟩ q)
    (hG : ∀ s k (r q : Fin 256), 8 ≤ r.val → (G s k (ix2 r q) : EReal) = V s k r q) (s : Fin 2) (k : Fin 4) (r q : Fin 256) :
    (View.canon (tiles T G) (ix2 ⟨256 * k.val + r.val, by omega⟩ ⟨256 * s.val + q.val, by omega⟩) : EReal) = V s k r q := by
  by_cases hr : r.val < 8
  · have h := hT s k ⟨r.val, hr⟩ q
    match s, k with
    | 0, 0 => exact (top_0_0 T G ⟨r.val, hr⟩ q).trans h
    | 0, 1 => exact (top_0_1 T G ⟨r.val, hr⟩ q).trans h
    | 0, 2 => exact (top_0_2 T G ⟨r.val, hr⟩ q).trans h
    | 0, 3 => exact (top_0_3 T G ⟨r.val, hr⟩ q).trans h
    | 1, 0 => exact (top_1_0 T G ⟨r.val, hr⟩ q).trans h
    | 1, 1 => exact (top_1_1 T G ⟨r.val, hr⟩ q).trans h
    | 1, 2 => exact (top_1_2 T G ⟨r.val, hr⟩ q).trans h
    | 1, 3 => exact (top_1_3 T G ⟨r.val, hr⟩ q).trans h
  · have hr' : 8 ≤ r.val := by omega
    have h := hG s k r q hr'
    match s, k with
    | 0, 0 => exact (rest_0_0 T G r q hr').trans h
    | 0, 1 => exact (rest_0_1 T G r q hr').trans h
    | 0, 2 => exact (rest_0_2 T G r q hr').trans h
    | 0, 3 => exact (rest_0_3 T G r q hr').trans h
    | 1, 0 => exact (rest_1_0 T G r q hr').trans h
    | 1, 1 => exact (rest_1_1 T G r q hr').trans h
    | 1, 2 => exact (rest_1_2 T G r q hr').trans h
    | 1, 3 => exact (rest_1_3 T G r q hr').trans h
end

/-! ## The squares of a grid point -/

theorem ld_at {S : Shape} {e : EltTy} (x : Vec Ideal S e) {off size : Fin S.rank → ℕ} (inb : ∀ a, off a + size a ≤ S.size a)
    (y : (Rect.unit off size inb).shape.Idx) (z : S.Idx) (h : ∀ a, (z a).val = off a + (y a).val) :
    View.ld x (Rect.unit off size inb) y = x z :=
  congrArg x (funext fun a => Fin.ext (by
    show off a + 1 * (y a).val = (z a).val
    rw [h a, Nat.one_mul]))

section
variable (x0 : Vec Ideal S1024x2048 .bf16) (x1 x2 : Vec Ideal S2048x512 .bf16) (x3 : Vec Ideal S3x512 .f32)
  (x4 : Vec Ideal S1x512 .f32) (p : Vec Ideal S1x2x512 .f32)

/-- The parts of a block: 256 rows of the left operand, 256 lanes of the others. -/
def rowsOf : Fin 4 → Vec Ideal S256x2048 .bf16
  | 0 => View.ld x0 (Rect.unit (s := S1024x2048) ![0, 0] S256x2048.size inb_S1024x2048_S256x2048_0_0)
  | 1 => View.ld x0 (Rect.unit (s := S1024x2048) ![256, 0] S256x2048.size inb_S1024x2048_S256x2048_256_0)
  | 2 => View.ld x0 (Rect.unit (s := S1024x2048) ![512, 0] S256x2048.size inb_S1024x2048_S256x2048_512_0)
  | 3 => View.ld x0 (Rect.unit (s := S1024x2048) ![768, 0] S256x2048.size inb_S1024x2048_S256x2048_768_0)
def lanesOf : Fin 2 → Vec Ideal S2048x256 .bf16
  | 0 => View.ld x1 (Rect.unit (s := S2048x512) ![0, 0] S2048x256.size inb_S2048x512_S2048x256_0_0)
  | 1 => View.ld x1 (Rect.unit (s := S2048x512) ![0, 256] S2048x256.size inb_S2048x512_S2048x256_0_256)
def weightsOf : Fin 2 → Vec Ideal S3x256 .f32
  | 0 => View.ld x3 (Rect.unit (s := S3x512) ![0, 0] S3x256.size inb_S3x512_S3x256_0_0)
  | 1 => View.ld x3 (Rect.unit (s := S3x512) ![0, 256] S3x256.size inb_S3x512_S3x256_0_256)
def biasOf : Fin 2 → Vec Ideal S1x256 .f32
  | 0 => View.ld x4 (Rect.unit (s := S1x512) ![0, 0] S1x256.size inb_S1x512_S1x256_0_0)
  | 1 => View.ld x4 (Rect.unit (s := S1x512) ![0, 256] S1x256.size inb_S1x512_S1x256_0_256)
def stateOf : Fin 2 → Vec Ideal S1x2x256 .f32
  | 0 => View.ld p (Rect.unit (s := S1x2x512) ![0, 0, 0] S1x2x256.size inb_S1x2x512_S1x2x256_0_0_0)
  | 1 => View.ld p (Rect.unit (s := S1x2x512) ![0, 0, 256] S1x2x256.size inb_S1x2x512_S1x2x256_0_0_256)

theorem rowsOf_apply (k : Fin 4) (r : Fin 256) (j : Fin 2048) :
    (rowsOf x0 k (ix2 r j) : EReal) = x0 (ix2 ⟨256 * k.val + r.val, by omega⟩ j) := by
  match k with
  | 0 => exact ld_at (S := S1024x2048) x0 _ _ _ (axes2 rfl (Nat.zero_add _).symm)
  | 1 => exact ld_at (S := S1024x2048) x0 _ _ _ (axes2 rfl (Nat.zero_add _).symm)
  | 2 => exact ld_at (S := S1024x2048) x0 _ _ _ (axes2 rfl (Nat.zero_add _).symm)
  | 3 => exact ld_at (S := S1024x2048) x0 _ _ _ (axes2 rfl (Nat.zero_add _).symm)

theorem lanesOf_apply (s : Fin 2) (j : Fin 2048) (q : Fin 256) :
    (lanesOf x1 s (ix2 j q) : EReal) = x1 (ix2 j ⟨256 * s.val + q.val, by omega⟩) := by
  match s with
  | 0 => exact ld_at (S := S2048x512) x1 _ _ _ (axes2 (Nat.zero_add _).symm rfl)
  | 1 => exact ld_at (S := S2048x512) x1 _ _ _ (axes2 (Nat.zero_add _).symm rfl)

theorem weightsOf_apply (s : Fin 2) (j : Fin 3) (q : Fin 256) :
    (weightsOf x3 s (ix2 j q) : EReal) = x3 (ix2 j ⟨256 * s.val + q.val, by omega⟩) := by
  match s with
  | 0 => exact ld_at (S := S3x512) x3 _ _ _ (axes2 (Nat.zero_add _).symm rfl)
  | 1 => exact ld_at (S := S3x512) x3 _ _ _ (axes2 (Nat.zero_add _).symm rfl)

theorem biasOf_apply (s : Fin 2) (j : Fin 1) (q : Fin 256) :
    (biasOf x4 s (ix2 j q) : EReal) = x4 (ix2 j ⟨256 * s.val + q.val, by omega⟩) := by
  match s with
  | 0 => exact ld_at (S := S1x512) x4 _ _ _ (axes2 (Nat.zero_add _).symm rfl)
  | 1 => exact ld_at (S := S1x512) x4 _ _ _ (axes2 (Nat.zero_add _).symm rfl)

theorem stateOf_apply (s : Fin 2) (i : Fin 2) (q : Fin 256) :
    (stateOf p s (ix3 0 i q) : EReal) = p (ix3 0 i ⟨256 * s.val + q.val, by omega⟩) := by
  match s with
  | 0 => exact ld_at (S := S1x2x512) p _ _ _ (axes rfl (Nat.zero_add _).symm rfl)
  | 1 => exact ld_at (S := S1x2x512) p _ _ _ (axes rfl (Nat.zero_add _).symm rfl)

/-- The two rows before 256. -/
def before (s : Fin 2) : Fin 4 → FVec Ideal S2x256 .f32
  | 0 => k0_pay23 (stateOf p s)
  | 1 => last (prod (rowsOf x0 0) (lanesOf x1 s))
  | 2 => last (prod (rowsOf x0 1) (lanesOf x1 s))
  | 3 => last (prod (rowsOf x0 2) (lanesOf x1 s))

/-- A grid point's block of gated products is eight squares. -/
theorem gBlock_eq : gBlock (F := Ideal) x0 x1 x2 x3 x4 p
    = View.canon (tiles (fun s k => top (prod (rowsOf x0 k) (lanesOf x1 s)) (prod (rowsOf x0 k) (lanesOf x2 s))
        (before x0 x1 p s k) (weightsOf x3 s) (biasOf x4 s))
      (fun s k => gate (prod (rowsOf x0 k) (lanesOf x1 s)) (prod (rowsOf x0 k) (lanesOf x2 s)) (weightsOf x3 s)
        (biasOf x4 s))) := rfl

/-- A column of the first half of the product, the block's rows counted. -/
def blockColumn (e : Fin 512) (n : ℕ) : EReal :=
  ∑ j : Fin 2048, (x0 (ix2 ⟨n % 1024, Nat.mod_lt _ (by decide)⟩ j) : EReal) * x1 (ix2 j e)

/-- The gated product of a row of the block and a lane. -/
def blockRow (n : Fin 1024) (e : Fin 512) : EReal :=
  glu (conv (x4 (ix2 0 e)) (fun i => x3 (ix2 i e)) (after (fun i => p (ix3 0 i e)) (blockColumn x0 x1 e)) n.val)
    (blockColumn x0 x2 e n.val)

theorem square_apply (x : Vec Ideal S2048x512 .bf16) (s : Fin 2) (k : Fin 4) (r q : Fin 256) :
    (prod (F := Ideal) (rowsOf x0 k) (lanesOf x s) (ix2 r q) : EReal)
      = blockColumn x0 x ⟨256 * s.val + q.val, by omega⟩ (256 * k.val + r.val) := by
  rw [prod_apply]
  refine Finset.sum_congr rfl fun j _ => ?_
  rw [rowsOf_apply, lanesOf_apply]
  refine congrArg (fun n : Fin 1024 => (x0 (ix2 n j) : EReal) * x (ix2 j ⟨256 * s.val + q.val, by omega⟩)) (Fin.ext ?_)
  show 256 * k.val + r.val = (256 * k.val + r.val) % 1024
  omega

/-- The two rows before 256, in the block. -/
theorem before_apply (s : Fin 2) (k : Fin 4) (i : Fin 2) (q : Fin 256) :
    (before x0 x1 p s k (ix2 i q) : EReal)
      = after (fun i => p (ix3 0 i ⟨256 * s.val + q.val, by omega⟩)) (blockColumn x0 x1 ⟨256 * s.val + q.val, by omega⟩)
          (256 * k.val + i.val) := by
  have later (k : ℕ) : 256 * (k + 1) + i.val = (256 * k + (254 + i.val)) + 2 := by omega
  match k with
  | 0 =>
    refine ((flat_apply _ i q).trans (stateOf_apply p s i q)).trans ?_
    rw [show 256 * (0 : Fin 4).val + i.val = i.val from Nat.zero_add _]
    exact (after_first (fun i => p (ix3 0 i ⟨256 * s.val + q.val, by omega⟩)) _ i).symm
  | 1 =>
    exact ((last_apply _ i q).trans (square_apply x0 x1 s 0 ⟨254 + i.val, by omega⟩ q)).trans
      ((after_later _ _ _).symm.trans (congrArg _ (later 0).symm))
  | 2 =>
    exact ((last_apply _ i q).trans (square_apply x0 x1 s 1 ⟨254 + i.val, by omega⟩ q)).trans
      ((after_later _ _ _).symm.trans (congrArg _ (later 1).symm))
  | 3 =>
    exact ((last_apply _ i q).trans (square_apply x0 x1 s 2 ⟨254 + i.val, by omega⟩ q)).trans
      ((after_later _ _ _).symm.trans (congrArg _ (later 2).symm))

/-- The rows of a square, after the two before it, are the block's. -/
theorem after_apply (s : Fin 2) (k : Fin 4) (q : Fin 256) (n : ℕ) (hn : n < 258) :
    after (fun i => (before x0 x1 p s k (ix2 i q) : EReal)) (column (prod (rowsOf x0 k) (lanesOf x1 s)) q) n
      = after (fun i => p (ix3 0 i ⟨256 * s.val + q.val, by omega⟩)) (blockColumn x0 x1 ⟨256 * s.val + q.val, by omega⟩)
          (256 * k.val + n) := by
  by_cases h : n < 2
  · exact (after_first _ _ ⟨n, h⟩).trans (before_apply x0 x1 p s k ⟨n, h⟩ q)
  · obtain ⟨j, rfl⟩ : ∃ j, n = j + 2 := ⟨n - 2, by omega⟩
    have hj : (⟨j % 256, Nat.mod_lt _ (by decide)⟩ : Fin 256) = ⟨j, by omega⟩ := Fin.ext (Nat.mod_eq_of_lt (by omega))
    refine (after_later _ _ j).trans (Eq.trans ?_ (after_later _ _ (256 * k.val + j)).symm)
    unfold column
    rw [hj]
    exact square_apply x0 x1 s k ⟨j, by omega⟩ q

theorem row_apply (s : Fin 2) (k : Fin 4) (r q : Fin 256) :
    row (prod (rowsOf x0 k) (lanesOf x1 s)) (prod (rowsOf x0 k) (lanesOf x2 s)) (before x0 x1 p s k) (weightsOf x3 s)
        (biasOf x4 s) r q
      = blockRow x0 x1 x2 x3 x4 p ⟨256 * k.val + r.val, by omega⟩ ⟨256 * s.val + q.val, by omega⟩ := by
  unfold row blockRow
  refine congrArg₂ glu ?_ (square_apply x0 x2 s k r q)
  unfold conv
  rw [after_apply x0 x1 p s k q r.val (by omega), after_apply x0 x1 p s k q (r.val + 1) (by omega),
    after_apply x0 x1 p s k q (r.val + 2) (by omega), biasOf_apply]
  simp only [weightsOf_apply]
  rfl

/-- The block of gated products at a row and a lane. -/
theorem gBlock_apply (n : Fin 1024) (e : Fin 512) :
    (gBlock (F := Ideal) x0 x1 x2 x3 x4 p (ix2 n e) : EReal) = blockRow x0 x1 x2 x3 x4 p n e := by
  obtain ⟨k, r, rfl⟩ : ∃ (k : Fin 4) (r : Fin 256), n = ⟨256 * k.val + r.val, by omega⟩ :=
    ⟨⟨n.val / 256, by omega⟩, ⟨n.val % 256, by omega⟩, Fin.ext (by simp only; omega)⟩
  obtain ⟨s, q, rfl⟩ : ∃ (s : Fin 2) (q : Fin 256), e = ⟨256 * s.val + q.val, by omega⟩ :=
    ⟨⟨e.val / 256, by omega⟩, ⟨e.val % 256, by omega⟩, Fin.ext (by simp only; omega)⟩
  rw [gBlock_eq]
  refine (tiles_apply _ _ (fun s k r q => row (prod (rowsOf x0 k) (lanesOf x1 s)) (prod (rowsOf x0 k) (lanesOf x2 s))
    (before x0 x1 p s k) (weightsOf x3 s) (biasOf x4 s) r q) (fun s k r q => top_apply _ _ _ _ _ r q)
    (fun s k r q hr => gate_apply _ _ _ _ _ r q hr) s k r q).trans ?_
  exact row_apply x0 x1 x2 x3 x4 p s k r q

/-- The block of last rows at a row and a lane. -/
theorem tBlock_apply (i : Fin 2) (e : Fin 512) :
    (tBlock (F := Ideal) x0 x1 (ix3 0 i e) : EReal) = blockColumn x0 x1 e (1022 + i.val) := by
  have hb : tBlock (F := Ideal) x0 x1 = View.canon (halves (k0_pay60 (prod (rowsOf x0 3) (lanesOf x1 0)))
    (k0_pay60 (prod (rowsOf x0 3) (lanesOf x1 1)))) := rfl
  rw [hb]
  by_cases he : e.val < 256
  · refine (halves_left _ _ i ⟨e.val, he⟩).trans ((carry_apply _ i _).trans
      ((square_apply x0 x1 0 3 ⟨254 + i.val, by omega⟩ ⟨e.val, he⟩).trans ?_))
    refine congrArg₂ (blockColumn x0 x1) (Fin.ext ?_) ?_
    · show 256 * 0 + e.val = e.val
      omega
    · show 256 * 3 + (254 + i.val) = 1022 + i.val
      omega
  · have hq : e = ⟨256 + (e.val - 256), by omega⟩ := Fin.ext (by simp only; omega)
    refine (congrArg (fun e => View.canon (halves _ _) (ix3 0 i e)) hq).trans ((halves_right _ _ i ⟨e.val - 256, by omega⟩).trans
      ((carry_apply _ i _).trans ((square_apply x0 x1 1 3 ⟨254 + i.val, by omega⟩ ⟨e.val - 256, by omega⟩).trans ?_)))
    refine congrArg₂ (blockColumn x0 x1) (Fin.ext ?_) ?_
    · show 256 * 1 + (e.val - 256) = e.val
      omega
    · show 256 * 3 + (254 + i.val) = 1022 + i.val
      omega

end

end Cert.UpIdeal.Run

end
-- ==== Proof.UpArray.lean ====
/- The two result arrays after the run, from the arrays the host hands to the kernel: the gated products at every row
   and lane, and the last two rows of the first half of the product in each block of 1024. -/
module

public import proofs.«01_k».proof.Proof.UpFrame
public import proofs.«01_k».proof.Proof.UpBlock

@[expose] public section

set_option maxRecDepth 16384

noncomputable section

namespace Cert.UpIdeal.Run

open Cert.UpIdeal Cert.UpIdeal.Gen Idealize.ShloMosaic Idealize.ShloMosaic.TcCoe Idealize.SL.Sem Cert.Gated

/-! ## By coordinates -/

section
variable (X : FVec Ideal S16384x2048 .bf16) (A B : FVec Ideal S2048x5632 .bf16) (W : FVec Ideal S3x5632 .f32)
  (D : FVec Ideal S1x5632 .f32) (P : FVec Ideal S8x2x5632 .f32)

/-- A column of a product, a stream's rows counted. -/
def streamColumn (b : Fin 8) (n : Fin 5632) (r : ℕ) : EReal :=
  ∑ j : Fin 2048, (X (ix2 ⟨2048 * b.val + r % 2048, by omega⟩ j) : EReal) * A (ix2 j n)

/-- A column of the first half of the product, after the two rows carried into the stream. -/
def carried (b : Fin 8) (n : Fin 5632) : ℕ → EReal := after (fun i => P (ix3 b i n)) (streamColumn X A b n)

/-- The gated products. -/
def gatedAll : FVec Ideal S16384x5632 .bf16 := fun i =>
  let b : Fin 8 := ⟨(i 0).val / 2048, by have h : (i 0).val < 16384 := (i 0).isLt; omega⟩
  let n : Fin 5632 := ⟨(i 1).val, (i 1).isLt⟩
  glu (conv (D (ix2 0 n)) (fun j => W (ix2 j n)) (carried X A P b n) ((i 0).val % 2048))
    (streamColumn X B b n ((i 0).val % 2048))

/-- The last two rows of the first half of the product in each block of 1024. -/
def tailAll : FVec Ideal S16x2x5632 .f32 := fun i =>
  streamColumn X A ⟨(i 0).val / 2, by have h : (i 0).val < 16 := (i 0).isLt; omega⟩ ⟨(i 2).val, (i 2).isLt⟩
    ((i 0).val % 2 * 1024 + (1022 + (i 1).val))
end

/-! ## The blocks of the arrays at a grid point -/

variable (m : (ℓ : Loc nD τ sig) → Buf (Elt Ideal) ℓ)

/-- The block of each window at a grid point. -/
theorem idx : ∀ t : Fin cfg0.N, win0_0.index t = ![t.val / 11, 0] ∧ win0_1.index t = ![0, t.val % 11]
    ∧ win0_2.index t = ![0, t.val % 11] ∧ win0_3.index t = ![0, t.val % 11] ∧ win0_4.index t = ![0, t.val % 11]
    ∧ win0_5.index t = ![t.val / 11 / 2, 0, t.val % 11] ∧ win0_6.index t = ![t.val / 11, t.val % 11]
    ∧ win0_7.index t = ![t.val / 11, 0, t.val % 11] :=
  (by decide +kernel : ∀ t : Fin grid0.N, _)

theorem lt176 (t : Fin cfg0.N) : t.val < 176 := t.isLt

/-- The row, the lane, the stream and the block of 1024 rows of the arrays, of a block's row and lane. -/
def rowOf (t : Fin cfg0.N) (r : Fin 1024) : Fin 16384 := ⟨t.val / 11 * 1024 + r.val, by have := lt176 t; omega⟩
def colOf (t : Fin cfg0.N) (e : Fin 512) : Fin 5632 := ⟨t.val % 11 * 512 + e.val, by omega⟩
def streamOf (t : Fin cfg0.N) : Fin 8 := ⟨t.val / 11 / 2, by have := lt176 t; omega⟩
def partOf (t : Fin cfg0.N) : Fin 16 := ⟨t.val / 11, by have := lt176 t; omega⟩

/-- The arrays the host hands to the kernel. -/
def arrX (c : Dev nD) : FVec Ideal S16384x2048 .bf16 := V m c main_v2
def arrA (c : Dev nD) : FVec Ideal S2048x5632 .bf16 := V m c main_v4
def arrB (c : Dev nD) : FVec Ideal S2048x5632 .bf16 := V m c main_v6
def arrW (c : Dev nD) : FVec Ideal S3x5632 .f32 := V m c main_v7
def arrD (c : Dev nD) : FVec Ideal S1x5632 .f32 := V m c main_v9
def arrP (c : Dev nD) : FVec Ideal S8x2x5632 .f32 := V m c main_v10

theorem emb0 (t : Fin cfg0.N) (r : Fin 1024) (k : Fin 2048) :
    (win0_0.blk t).view.emb (ix2 r k) = (ix2 (rowOf t r) k : S16384x2048.Idx) := by
  refine funext fun a => Fin.ext ?_
  fin_cases a
  · change win0_0.index t 0 * 1024 + 1 * r.val = t.val / 11 * 1024 + r.val
    rw [(idx t).1]; simp
  · change win0_0.index t 1 * 2048 + 1 * k.val = k.val
    rw [(idx t).1]; simp

theorem emb1 (t : Fin cfg0.N) (k : Fin 2048) (e : Fin 512) :
    (win0_1.blk t).view.emb (ix2 k e) = (ix2 k (colOf t e) : S2048x5632.Idx) := by
  refine funext fun a => Fin.ext ?_
  fin_cases a
  · change win0_1.index t 0 * 2048 + 1 * k.val = k.val
    rw [(idx t).2.1]; simp
  · change win0_1.index t 1 * 512 + 1 * e.val = t.val % 11 * 512 + e.val
    rw [(idx t).2.1]; simp

theorem emb2 (t : Fin cfg0.N) (k : Fin 2048) (e : Fin 512) :
    (win0_2.blk t).view.emb (ix2 k e) = (ix2 k (colOf t e) : S2048x5632.Idx) := by
  refine funext fun a => Fin.ext ?_
  fin_cases a
  · change win0_2.index t 0 * 2048 + 1 * k.val = k.val
    rw [(idx t).2.2.1]; simp
  · change win0_2.index t 1 * 512 + 1 * e.val = t.val % 11 * 512 + e.val
    rw [(idx t).2.2.1]; simp

theorem emb3 (t : Fin cfg0.N) (k : Fin 3) (e : Fin 512) :
    (win0_3.blk t).view.emb (ix2 k e) = (ix2 k (colOf t e) : S3x5632.Idx) := by
  refine funext fun a => Fin.ext ?_
  fin_cases a
  · change win0_3.index t 0 * 3 + 1 * k.val = k.val
    rw [(idx t).2.2.2.1]; simp
  · change win0_3.index t 1 * 512 + 1 * e.val = t.val % 11 * 512 + e.val
    rw [(idx t).2.2.2.1]; simp

theorem emb4 (t : Fin cfg0.N) (e : Fin 512) :
    (win0_4.blk t).view.emb (ix2 0 e) = (ix2 0 (colOf t e) : S1x5632.Idx) := by
  refine funext fun a => Fin.ext ?_
  fin_cases a
  · change win0_4.index t 0 * 1 + 1 * 0 = 0
    rw [(idx t).2.2.2.2.1]; simp
  · change win0_4.index t 1 * 512 + 1 * e.val = t.val % 11 * 512 + e.val
    rw [(idx t).2.2.2.2.1]; simp

theorem emb5 (t : Fin cfg0.N) (i : Fin 2) (e : Fin 512) :
    (win0_5.blk t).view.emb (ix3 0 i e) = (ix3 (streamOf t) i (colOf t e) : S8x2x5632.Idx) := by
  refine funext fun a => Fin.ext ?_
  fin_cases a
  · change win0_5.index t 0 * 1 + 1 * 0 = t.val / 11 / 2
    rw [(idx t).2.2.2.2.2.1]; simp
  · change win0_5.index t 1 * 2 + 1 * i.val = i.val
    rw [(idx t).2.2.2.2.2.1]; simp
  · change win0_5.index t 2 * 512 + 1 * e.val = t.val % 11 * 512 + e.val
    rw [(idx t).2.2.2.2.2.1]; simp

theorem emb6 (t : Fin cfg0.N) (r : Fin 1024) (e : Fin 512) :
    (win0_6.blk t).view.emb (ix2 r e) = (ix2 (rowOf t r) (colOf t e) : S16384x5632.Idx) := by
  refine funext fun a => Fin.ext ?_
  fin_cases a
  · change win0_6.index t 0 * 1024 + 1 * r.val = t.val / 11 * 1024 + r.val
    rw [(idx t).2.2.2.2.2.2.1]; simp
  · change win0_6.index t 1 * 512 + 1 * e.val = t.val % 11 * 512 + e.val
    rw [(idx t).2.2.2.2.2.2.1]; simp

theorem emb7 (t : Fin cfg0.N) (i : Fin 2) (e : Fin 512) :
    (win0_7.blk t).view.emb (ix3 0 i e) = (ix3 (partOf t) i (colOf t e) : S16x2x5632.Idx) := by
  refine funext fun a => Fin.ext ?_
  fin_cases a
  · change win0_7.index t 0 * 1 + 1 * 0 = t.val / 11
    rw [(idx t).2.2.2.2.2.2.2]; simp
  · change win0_7.index t 1 * 2 + 1 * i.val = i.val
    rw [(idx t).2.2.2.2.2.2.2]; simp
  · change win0_7.index t 2 * 512 + 1 * e.val = t.val % 11 * 512 + e.val
    rw [(idx t).2.2.2.2.2.2.2]; simp

theorem block0 (c : Dev nD) (t : Fin cfg0.N) (r : Fin 1024) (k : Fin 2048) :
    (iblk m c 0 t (ix2 r k) : EReal) = arrX m c (ix2 (rowOf t r) k) := by
  rw [← emb0]; rfl
theorem block1 (c : Dev nD) (t : Fin cfg0.N) (k : Fin 2048) (e : Fin 512) :
    (iblk m c 1 t (ix2 k e) : EReal) = arrA m c (ix2 k (colOf t e)) := by
  rw [← emb1]; rfl
theorem block2 (c : Dev nD) (t : Fin cfg0.N) (k : Fin 2048) (e : Fin 512) :
    (iblk m c 2 t (ix2 k e) : EReal) = arrB m c (ix2 k (colOf t e)) := by
  rw [← emb2]; rfl
theorem block3 (c : Dev nD) (t : Fin cfg0.N) (k : Fin 3) (e : Fin 512) :
    (iblk m c 3 t (ix2 k e) : EReal) = arrW m c (ix2 k (colOf t e)) := by
  rw [← emb3]; rfl
theorem block4 (c : Dev nD) (t : Fin cfg0.N) (e : Fin 512) :
    (iblk m c 4 t (ix2 0 e) : EReal) = arrD m c (ix2 0 (colOf t e)) := by
  rw [← emb4]; rfl
theorem block5 (c : Dev nD) (t : Fin cfg0.N) (i : Fin 2) (e : Fin 512) :
    (iblk m c 5 t (ix3 0 i e) : EReal) = arrP m c (ix3 (streamOf t) i (colOf t e)) := by
  rw [← emb5]; rfl

/-! ## The block's rows are the stream's -/

theorem row_stream (t : Fin cfg0.N) (n : ℕ) (hn : n < 1024) :
    rowOf t ⟨n % 1024, Nat.mod_lt _ (by decide)⟩
      = ⟨2048 * (streamOf t).val + (t.val / 11 % 2 * 1024 + n) % 2048, by have := lt176 t; unfold streamOf; simp only; omega⟩ :=
  Fin.ext (by
    show t.val / 11 * 1024 + n % 1024 = 2048 * (t.val / 11 / 2) + (t.val / 11 % 2 * 1024 + n) % 2048
    omega)

theorem column_first (c : Dev nD) (t : Fin cfg0.N) (e : Fin 512) (n : ℕ) (hn : n < 1024) :
    blockColumn (iblk m c 0 t) (iblk m c 1 t) e n
      = streamColumn (arrX m c) (arrA m c) (streamOf t) (colOf t e) (t.val / 11 % 2 * 1024 + n) := by
  refine Finset.sum_congr rfl fun j _ => congrArg₂ (· * ·) ?_ (block1 m c t j e)
  exact (block0 m c t _ j).trans (congrArg (fun r => (arrX m c (ix2 r j) : EReal)) (row_stream t n hn))

theorem column_second (c : Dev nD) (t : Fin cfg0.N) (e : Fin 512) (n : ℕ) (hn : n < 1024) :
    blockColumn (iblk m c 0 t) (iblk m c 2 t) e n
      = streamColumn (arrX m c) (arrB m c) (streamOf t) (colOf t e) (t.val / 11 % 2 * 1024 + n) := by
  refine Finset.sum_congr rfl fun j _ => congrArg₂ (· * ·) ?_ (block2 m c t j e)
  exact (block0 m c t _ j).trans (congrArg (fun r => (arrX m c (ix2 r j) : EReal)) (row_stream t n hn))

/-- The two rows before a block, in the stream. -/
theorem prev_apply (c : Dev nD) (t : Fin cfg0.N) (e : Fin 512) (i : Fin 2) :
    (prevRows m c t (ix3 0 i e) : EReal)
      = carried (arrX m c) (arrA m c) (arrP m c) (streamOf t) (colOf t e) (t.val / 11 % 2 * 1024 + i.val) := by
  unfold carried
  by_cases ht : t.val / 11 % 2 = 0
  · rw [show prevRows m c t = iblk m c 5 t from if_pos ht, ht, show 0 * 1024 + i.val = i.val by omega]
    exact (block5 m c t i e).trans (after_first (fun i => arrP m c (ix3 (streamOf t) i (colOf t e))) _ i).symm
  · have h1 : t.val / 11 % 2 = 1 := by omega
    have hv : (above t).val = t.val - 11 := rfl
    have hs : streamOf (above t) = streamOf t := Fin.ext (by
      show (above t).val / 11 / 2 = t.val / 11 / 2
      omega)
    have hc : colOf (above t) e = colOf t e := Fin.ext (by
      show (above t).val % 11 * 512 + e.val = t.val % 11 * 512 + e.val
      omega)
    have hz : (above t).val / 11 % 2 = 0 := by omega
    rw [show prevRows m c t = lastRows m c (above t) from if_neg ht, h1]
    unfold lastRows
    refine (tBlock_apply _ _ i e).trans ((column_first m c (above t) e (1022 + i.val) (by omega)).trans ?_)
    rw [hs, hc, hz, show 1 * 1024 + i.val = (0 * 1024 + (1022 + i.val)) + 2 by omega, after_later]

/-- A block's rows, after the two before it, in the stream. -/
theorem after_stream (c : Dev nD) (t : Fin cfg0.N) (e : Fin 512) (n : ℕ) (hn : n < 1026) :
    after (fun i => (prevRows m c t (ix3 0 i e) : EReal)) (blockColumn (iblk m c 0 t) (iblk m c 1 t) e) n
      = carried (arrX m c) (arrA m c) (arrP m c) (streamOf t) (colOf t e) (t.val / 11 % 2 * 1024 + n) := by
  by_cases h : n < 2
  · exact (after_first _ _ ⟨n, h⟩).trans (prev_apply m c t e ⟨n, h⟩)
  · obtain ⟨j, rfl⟩ : ∃ j, n = j + 2 := ⟨n - 2, by omega⟩
    exact (after_later _ _ j).trans ((column_first m c t e j (by omega)).trans
      (after_later _ _ (t.val / 11 % 2 * 1024 + j)).symm)

/-! ## The result arrays -/

theorem gated_point (c : Dev nD) (t : Fin cfg0.N) (r : Fin 1024) (e : Fin 512) :
    blockRow (iblk m c 0 t) (iblk m c 1 t) (iblk m c 2 t) (iblk m c 3 t) (iblk m c 4 t) (prevRows m c t) r e
      = gatedAll (arrX m c) (arrA m c) (arrB m c) (arrW m c) (arrD m c) (arrP m c) (ix2 (rowOf t r) (colOf t e)) := by
  have hb : (⟨(rowOf t r).val / 2048, by omega⟩ : Fin 8) = streamOf t := Fin.ext (by
    show (t.val / 11 * 1024 + r.val) / 2048 = t.val / 11 / 2
    omega)
  have hr : (rowOf t r).val % 2048 = t.val / 11 % 2 * 1024 + r.val := by
    show (t.val / 11 * 1024 + r.val) % 2048 = t.val / 11 % 2 * 1024 + r.val
    omega
  have hg : gatedAll (arrX m c) (arrA m c) (arrB m c) (arrW m c) (arrD m c) (arrP m c) (ix2 (rowOf t r) (colOf t e))
      = glu (conv (arrD m c (ix2 0 (colOf t e))) (fun j => arrW m c (ix2 j (colOf t e)))
          (carried (arrX m c) (arrA m c) (arrP m c) ⟨(rowOf t r).val / 2048, by omega⟩ (colOf t e)) ((rowOf t r).val % 2048))
        (streamColumn (arrX m c) (arrB m c) ⟨(rowOf t r).val / 2048, by omega⟩ (colOf t e) ((rowOf t r).val % 2048)) := rfl
  rw [hg, hb, hr]
  unfold blockRow
  refine congrArg₂ glu ?_ (column_second m c t e r.val r.isLt)
  unfold conv
  rw [after_stream m c t e r.val (by omega), after_stream m c t e (r.val + 1) (by omega),
    after_stream m c t e (r.val + 2) (by omega)]
  exact congrArg₂ (· + ·) (congrArg₂ (· + ·) (congrArg₂ (· + ·) (block4 m c t e) (congrArg₂ (· * ·) rfl (block3 m c t 0 e)))
    (congrArg₂ (· * ·) rfl (block3 m c t 1 e))) (congrArg₂ (· * ·) rfl (block3 m c t 2 e))

theorem gated_laid (c : Dev nD) (t : Fin cfg0.N) (y : S1024x512.Idx) :
    (products m c t y : EReal) = gatedAll (arrX m c) (arrA m c) (arrB m c) (arrW m c) (arrD m c) (arrP m c)
      ((win0_6.blk t).view.emb y) := by
  obtain ⟨r, e, rfl⟩ : ∃ (r : Fin 1024) (e : Fin 512), y = ix2 r e :=
    ⟨⟨(y 0).val, (y 0).isLt⟩, ⟨(y 1).val, (y 1).isLt⟩, funext fun a => by fin_cases a <;> rfl⟩
  rw [emb6]
  unfold products
  exact (gBlock_apply _ _ _ _ _ _ r e).trans (gated_point m c t r e)

theorem tail_laid (c : Dev nD) (t : Fin cfg0.N) (y : S1x2x512.Idx) :
    (lastRows m c t y : EReal) = tailAll (arrX m c) (arrA m c) ((win0_7.blk t).view.emb y) := by
  obtain ⟨z, i, e, rfl⟩ : ∃ (z : Fin 1) (i : Fin 2) (e : Fin 512), y = ix3 z i e :=
    ⟨y 0, y 1, y 2, by funext a; fin_cases a <;> rfl⟩
  obtain rfl : z = 0 := Subsingleton.elim _ _
  rw [emb7]
  unfold lastRows
  exact (tBlock_apply _ _ i e).trans (column_first m c t e (1022 + i.val) (by omega))

/-- The array of gated products after the run. -/
theorem gated_array (c : Dev nD) : (dats m 0 c).arrAt 6 cfg0.N
    = gatedAll (arrX m c) (arrA m c) (arrB m c) (arrW m c) (arrD m c) (arrP m c) := by
  refine (dats m 0 c).arrAt_eq_of_covers 6 _ (by decide +kernel) fun t _ y => ?_
  blk_simp
  rw [after0_6]
  exact gated_laid m c t y

/-- The array of last rows after the run. -/
theorem tail_array (c : Dev nD) : (dats m 0 c).arrAt 7 cfg0.N = tailAll (arrX m c) (arrA m c) := by
  refine (dats m 0 c).arrAt_eq_of_covers 7 _ (by decide +kernel) fun t _ y => ?_
  blk_simp
  rw [after0_7]
  exact tail_laid m c t y

end Cert.UpIdeal.Run

end
-- ==== Proof.UpHost.lean ====
/- The two results of the program, from the argument arrays by their coordinates. The host pads the lanes with zeros and
   cuts the padding off again, so no padded lane is read. -/
module

public import proofs.«01_k».proof.Proof.UpArray
public import Idealize.ShloMosaic.Lib.StableHlo.RunRead
public import Idealize.ShloMosaic.Lib.KernelVsHost

@[expose] public section

set_option maxRecDepth 16384

noncomputable section

/-! ## The results by coordinates -/

namespace Cert.Gated

open Idealize.ShloMosaic

/-- A column of a product, a stream's rows counted. -/
def columnOf (h : Fin 8 → Fin 2048 → Fin 2048 → EReal) (w : Fin 2048 → Fin 11008 → EReal) (b : Fin 8) (n : Fin 11008)
    (r : ℕ) : EReal := ∑ j : Fin 2048, h b ⟨r % 2048, Nat.mod_lt _ (by decide)⟩ j * w j n

/-- The lanes of the two halves of the weights. -/
def firstHalf (n : Fin 5504) : Fin 11008 := ⟨n.val, by omega⟩
def secondHalf (n : Fin 5504) : Fin 11008 := ⟨5504 + n.val, by omega⟩

/-- The gated product of a stream's row and a lane. -/
def gatedAt (h : Fin 8 → Fin 2048 → Fin 2048 → EReal) (p : Fin 8 → Fin 2 → Fin 5504 → EReal)
    (w : Fin 2048 → Fin 11008 → EReal) (cw : Fin 3 → Fin 5504 → EReal) (cb : Fin 5504 → EReal) (b : Fin 8) (r : ℕ)
    (n : Fin 5504) : EReal :=
  glu (conv (cb n) (fun i => cw i n) (after (fun i => p b i n) (columnOf h w b (firstHalf n))) r)
    (columnOf h w b (secondHalf n) r)

/-- The last two rows of a stream. -/
def tailAt (h : Fin 8 → Fin 2048 → Fin 2048 → EReal) (w : Fin 2048 → Fin 11008 → EReal) (b : Fin 8) (i : Fin 2)
    (n : Fin 5504) : EReal := columnOf h w b (firstHalf n) (2046 + i.val)

end Cert.Gated

namespace Cert.UpIdeal.Run

open Cert.UpIdeal Cert.UpIdeal.Gen Idealize.ShloMosaic Idealize.ShloMosaic.TcCoe Idealize.SL.Sem Cert.Gated
open Idealize.ShloMosaic.StableHlo

variable (m : (ℓ : Loc nD τ sig) → Buf (Elt Ideal) ℓ)

/-- The argument arrays, by their coordinates. -/
def argH (c : Dev nD) (b : Fin 8) (r j : Fin 2048) : EReal := m (c, Proc.tc.devRef main_arg0) (ix3 b r j)
def argP (c : Dev nD) (b : Fin 8) (i : Fin 2) (n : Fin 5504) : EReal := m (c, Proc.tc.devRef main_arg1) (ix3 b i n)
def argW (c : Dev nD) (j : Fin 2048) (n : Fin 11008) : EReal := m (c, Proc.tc.devRef main_arg2) (ix2 j n)
def argC (c : Dev nD) (i : Fin 3) (n : Fin 5504) : EReal := m (c, Proc.tc.devRef main_arg3) (ix2 i n)
def argB (c : Dev nD) (n : Fin 5504) : EReal := m (c, Proc.tc.devRef main_arg4) (ix1 n)

/-- A lane among the padded ones. -/
def lane (n : Fin 5504) : Fin 5632 := ⟨n.val, by omega⟩

/-! ## The arrays the host hands to the kernel -/

def flatH (x : FVec Ideal S8x2048x2048 .f32) : FVec Ideal S16384x2048 .bf16 :=
  truncf .bf16 (shapeCast S16384x2048 x shapeCasts_S8x2048x2048_S16384x2048) bitsLt_bf16_f32
def padFirst (w : FVec Ideal S2048x11008 .f32) : FVec Ideal S2048x5632 .bf16 :=
  pad S2048x5632 ![0, 0] ![0, 128] ![0, 0]
    (extractStridedSlice S2048x5504 ![0, 0] (truncf (F := Ideal) .bf16 w bitsLt_bf16_f32) slices_S2048x11008_S2048x5504_0_0)
    (constant (F := Ideal) S_ .bf16 0x0000#16) pads_S2048x5504_S2048x5632_000_01280 h_S_
def padSecond (w : FVec Ideal S2048x11008 .f32) : FVec Ideal S2048x5632 .bf16 :=
  pad S2048x5632 ![0, 0] ![0, 128] ![0, 0]
    (extractStridedSlice S2048x5504 ![0, 5504] (truncf (F := Ideal) .bf16 w bitsLt_bf16_f32)
      slices_S2048x11008_S2048x5504_0_5504)
    (constant (F := Ideal) S_ .bf16 0x0000#16) pads_S2048x5504_S2048x5632_000_01280 h_S_
def padTaps (x : FVec Ideal S3x5504 .f32) : FVec Ideal S3x5632 .f32 :=
  pad S3x5632 ![0, 0] ![0, 128] ![0, 0] x (constant (F := Ideal) S_ .f32 0x00000000#32)
    pads_S3x5504_S3x5632_000_01280 h_S_
def padBias (x : FVec Ideal S5504 .f32) : FVec Ideal S1x5632 .f32 :=
  pad S1x5632 ![0, 0] ![0, 128] ![0, 0] (shapeCast S1x5504 x shapeCasts_S5504_S1x5504)
    (constant (F := Ideal) S_ .f32 0x00000000#32) pads_S1x5504_S1x5632_000_01280 h_S_
def padState (x : FVec Ideal S8x2x5504 .f32) : FVec Ideal S8x2x5632 .f32 :=
  pad S8x2x5632 ![0, 0, 0] ![0, 0, 128] ![0, 0, 0] x (constant (F := Ideal) S_ .f32 0x00000000#32)
    pads_S8x2x5504_S8x2x5632_000_000_01280 h_S_

theorem flatH_apply (x : FVec Ideal S8x2048x2048 .f32) (b : Fin 8) (r j : Fin 2048) :
    (flatH x (ix2 ⟨2048 * b.val + r.val, by omega⟩ j) : EReal) = x (ix3 b r j) := by
  pointwise [flatH]

theorem padFirst_apply (w : FVec Ideal S2048x11008 .f32) (j : Fin 2048) (n : Fin 5504) :
    (padFirst w (ix2 j (lane n)) : EReal) = w (ix2 j (firstHalf n)) :=
  (pad_apply_of_inside _ _ _ _ _ _ _ _ (ix2 j n) (fun a => by fin_cases a <;> simp [lane])).trans
    (extractStridedSlice_apply ![0, 0] (truncf (F := Ideal) .bf16 w bitsLt_bf16_f32) slices_S2048x11008_S2048x5504_0_0
      (ix2 j n) (ix2 j (firstHalf n)) (fun a => by fin_cases a <;> simp [firstHalf]))

theorem padSecond_apply (w : FVec Ideal S2048x11008 .f32) (j : Fin 2048) (n : Fin 5504) :
    (padSecond w (ix2 j (lane n)) : EReal) = w (ix2 j (secondHalf n)) :=
  (pad_apply_of_inside _ _ _ _ _ _ _ _ (ix2 j n) (fun a => by fin_cases a <;> simp [lane])).trans
    (extractStridedSlice_apply ![0, 5504] (truncf (F := Ideal) .bf16 w bitsLt_bf16_f32)
      slices_S2048x11008_S2048x5504_0_5504 (ix2 j n) (ix2 j (secondHalf n))
      (fun a => by fin_cases a <;> simp [secondHalf]))

theorem padTaps_apply (x : FVec Ideal S3x5504 .f32) (i : Fin 3) (n : Fin 5504) :
    (padTaps x (ix2 i (lane n)) : EReal) = x (ix2 i n) :=
  pad_apply_of_inside _ _ _ _ _ _ _ _ (ix2 i n) (fun a => by fin_cases a <;> simp [lane])

theorem padBias_apply (x : FVec Ideal S5504 .f32) (n : Fin 5504) :
    (padBias x (ix2 0 (lane n)) : EReal) = x (ix1 n) :=
  (pad_apply_of_inside _ _ _ _ _ _ _ _ (ix2 0 n) (fun a => by fin_cases a <;> simp [lane])).trans (by pointwise)

theorem padState_apply (x : FVec Ideal S8x2x5504 .f32) (b : Fin 8) (i : Fin 2) (n : Fin 5504) :
    (padState x (ix3 b i (lane n)) : EReal) = x (ix3 b i n) :=
  pad_apply_of_inside _ _ _ _ _ _ _ _ (ix3 b i n) (fun a => by fin_cases a <;> simp [lane])

theorem arrX_eq (c : Dev nD) : arrX m c = flatH (m (c, Proc.tc.devRef main_arg0)) := by
  refine (after_last_write (i := 2) [main_v3, main_cst, main_v4, main_v5, main_cst_0, main_v6, main_cst_1, main_v7, main_v8,
    main_cst_2, main_v9, main_cst_3, main_v10] rfl rfl (by decide) _).trans ?_
  refine (unary_result main_v1 main_v2 _ _ _ _).trans ?_
  rw [upto_last_write (i := 1) [] rfl rfl (by decide)]
  refine congrArg (truncf (F := Ideal) .bf16 · bitsLt_bf16_f32) ((reshape_result main_arg0 main_v1 rfl _ _ _ _).trans ?_)
  exact congrArg (shapeCast S16384x2048 · shapeCasts_S8x2048x2048_S16384x2048)
    (upto_unwritten [main_v0] rfl (by decide) _)

theorem arrA_eq (c : Dev nD) : arrA m c = padFirst (m (c, Proc.tc.devRef main_arg2)) := by
  refine (after_last_write (i := 5) [main_v5, main_cst_0, main_v6, main_cst_1, main_v7, main_v8,
    main_cst_2, main_v9, main_cst_3, main_v10] rfl rfl (by decide) _).trans ?_
  refine (binary_result main_v3 main_cst main_v4 _ _ _ _ _).trans ?_
  rw [upto_last_write (i := 3) [main_cst] rfl rfl (by decide), upto_last_write (i := 4) [] rfl rfl (by decide)]
  refine congrArg₂ (fun x v => pad S2048x5632 ![0, 0] ![0, 128] ![0, 0] x v pads_S2048x5504_S2048x5632_000_01280 h_S_)
    ((unary_result main_v0 main_v3 _ _ _ _).trans ?_) rfl
  rw [upto_last_write (i := 0) [main_v1, main_v2] rfl rfl (by decide)]
  rfl

theorem arrB_eq (c : Dev nD) : arrB m c = padSecond (m (c, Proc.tc.devRef main_arg2)) := by
  refine (after_last_write (i := 8) [main_cst_1, main_v7, main_v8,
    main_cst_2, main_v9, main_cst_3, main_v10] rfl rfl (by decide) _).trans ?_
  refine (binary_result main_v5 main_cst_0 main_v6 _ _ _ _ _).trans ?_
  rw [upto_last_write (i := 6) [main_cst_0] rfl rfl (by decide), upto_last_write (i := 7) [] rfl rfl (by decide)]
  refine congrArg₂ (fun x v => pad S2048x5632 ![0, 0] ![0, 128] ![0, 0] x v pads_S2048x5504_S2048x5632_000_01280 h_S_)
    ((unary_result main_v0 main_v5 _ _ _ _).trans ?_) rfl
  rw [upto_last_write (i := 0) [main_v1, main_v2, main_v3, main_cst, main_v4] rfl rfl (by decide)]
  rfl

theorem arrW_eq (c : Dev nD) : arrW m c = padTaps (m (c, Proc.tc.devRef main_arg3)) := by
  refine (after_last_write (i := 10) [main_v8, main_cst_2, main_v9, main_cst_3, main_v10] rfl rfl (by decide) _).trans ?_
  refine (binary_result main_arg3 main_cst_1 main_v7 _ _ _ _ _).trans ?_
  rw [upto_unwritten [main_v0, main_v1, main_v2, main_v3, main_cst, main_v4, main_v5, main_cst_0, main_v6, main_cst_1]
    rfl (by decide), upto_last_write (i := 9) [] rfl rfl (by decide)]
  rfl

theorem arrD_eq (c : Dev nD) : arrD m c = padBias (m (c, Proc.tc.devRef main_arg4)) := by
  refine (after_last_write (i := 13) [main_cst_3, main_v10] rfl rfl (by decide) _).trans ?_
  refine (binary_result main_v8 main_cst_2 main_v9 _ _ _ _ _).trans ?_
  rw [upto_last_write (i := 11) [main_cst_2] rfl rfl (by decide), upto_last_write (i := 12) [] rfl rfl (by decide)]
  refine congrArg₂ (fun x v => pad S1x5632 ![0, 0] ![0, 128] ![0, 0] x v pads_S1x5504_S1x5632_000_01280 h_S_)
    ((reshape_result main_arg4 main_v8 rfl _ _ _ _).trans ?_) rfl
  exact congrArg (shapeCast S1x5504 · shapeCasts_S5504_S1x5504) (upto_unwritten [main_v0, main_v1, main_v2, main_v3,
    main_cst, main_v4, main_v5, main_cst_0, main_v6, main_cst_1, main_v7] rfl (by decide) _)

theorem arrP_eq (c : Dev nD) : arrP m c = padState (m (c, Proc.tc.devRef main_arg1)) := by
  refine (after_last_write (i := 15) [] rfl rfl (by decide) _).trans ?_
  refine (binary_result main_arg1 main_cst_3 main_v10 _ _ _ _ _).trans ?_
  rw [upto_unwritten [main_v0, main_v1, main_v2, main_v3, main_cst, main_v4, main_v5, main_cst_0, main_v6, main_cst_1,
    main_v7, main_v8, main_cst_2, main_v9, main_cst_3] rfl (by decide), upto_last_write (i := 14) [] rfl rfl (by decide)]
  rfl

/-! ## The results -/

theorem stream_first (c : Dev nD) (b : Fin 8) (n : Fin 5504) (r : ℕ) :
    streamColumn (arrX m c) (arrA m c) b (lane n) r = columnOf (argH m c) (argW m c) b (firstHalf n) r := by
  refine Finset.sum_congr rfl fun j _ => congrArg₂ (· * ·) ?_ ?_
  · rw [arrX_eq]
    exact flatH_apply _ b ⟨r % 2048, Nat.mod_lt _ (by decide)⟩ j
  · rw [arrA_eq]
    exact padFirst_apply _ j n

theorem stream_second (c : Dev nD) (b : Fin 8) (n : Fin 5504) (r : ℕ) :
    streamColumn (arrX m c) (arrB m c) b (lane n) r = columnOf (argH m c) (argW m c) b (secondHalf n) r := by
  refine Finset.sum_congr rfl fun j _ => congrArg₂ (· * ·) ?_ ?_
  · rw [arrX_eq]
    exact flatH_apply _ b ⟨r % 2048, Nat.mod_lt _ (by decide)⟩ j
  · rw [arrB_eq]
    exact padSecond_apply _ j n

theorem carried_apply (c : Dev nD) (b : Fin 8) (n : Fin 5504) :
    carried (arrX m c) (arrA m c) (arrP m c) b (lane n)
      = Gated.after (fun i => argP m c b i n) (columnOf (argH m c) (argW m c) b (firstHalf n)) := by
  refine congrArg₂ Gated.after (funext fun i => ?_) (funext fun r => stream_first m c b n r)
  rw [arrP_eq]
  exact padState_apply _ b i n

/-- The stream and the place of a row. -/
def streamRow (i : Fin 16384) : Fin 8 := ⟨i.val / 2048, by omega⟩

theorem gatedAll_apply (c : Dev nD) (i : Fin 16384) (n : Fin 5504) :
    (gatedAll (arrX m c) (arrA m c) (arrB m c) (arrW m c) (arrD m c) (arrP m c) (ix2 i (lane n)) : EReal)
      = gatedAt (argH m c) (argP m c) (argW m c) (argC m c) (argB m c) (streamRow i) (i.val % 2048) n := by
  refine (show _ = glu (conv (arrD m c (ix2 0 (lane n))) (fun j => arrW m c (ix2 j (lane n)))
    (carried (arrX m c) (arrA m c) (arrP m c) (streamRow i) (lane n)) (i.val % 2048))
    (streamColumn (arrX m c) (arrB m c) (streamRow i) (lane n) (i.val % 2048)) from rfl).trans ?_
  unfold gatedAt
  rw [carried_apply, stream_second, arrD_eq, arrW_eq]
  refine congrArg₂ glu ?_ rfl
  refine congrArg₂ (fun d w => conv d w _ _) (padBias_apply _ n) (funext fun j => padTaps_apply _ j n)

/-- What the host cuts out of the two arrays. -/
def cutGated (x : FVec Ideal S16384x5632 .bf16) : FVec Ideal S16384x5504 .bf16 :=
  extractStridedSlice S16384x5504 ![0, 0] x slices_S16384x5632_S16384x5504_0_0
def cutTail (x : FVec Ideal S16x2x5632 .f32) : FVec Ideal S8x2x5504 .f32 :=
  shapeCast S8x2x5504 (extractStridedSlice S8x1x2x5504 ![0, 1, 0, 0]
    (shapeCast S8x2x2x5632 x shapeCasts_S16x2x5632_S8x2x2x5632) slices_S8x2x2x5632_S8x1x2x5504_0_1_0_0)
    shapeCasts_S8x1x2x5504_S8x2x5504

theorem cutGated_apply (x : FVec Ideal S16384x5632 .bf16) (i : Fin 16384) (n : Fin 5504) :
    (cutGated x (ix2 i n) : EReal) = x (ix2 i (lane n)) := by
  pointwise [cutGated]
  rfl

theorem cutTail_apply (x : FVec Ideal S16x2x5632 .f32) (b : Fin 8) (i : Fin 2) (n : Fin 5504) :
    (cutTail x (ix3 b i n) : EReal) = x (ix3 ⟨2 * b.val + 1, by omega⟩ i (lane n)) := by
  pointwise [cutTail]
  exact congrArg (fun k => x (ix3 k i (lane n))) (Fin.ext (by simp only; omega))

theorem gated_result (c : Dev nD) (i : Fin 16384) (n : Fin 5504) :
    (cutGated ((dats m 0 c).arrAt 6 cfg0.N) (ix2 i n) : EReal)
      = gatedAt (argH m c) (argP m c) (argW m c) (argC m c) (argB m c) (streamRow i) (i.val % 2048) n := by
  rw [gated_array]
  exact (cutGated_apply _ i n).trans (gatedAll_apply m c i n)

theorem tail_result (c : Dev nD) (b : Fin 8) (i : Fin 2) (n : Fin 5504) :
    (cutTail ((dats m 0 c).arrAt 7 cfg0.N) (ix3 b i n) : EReal) = tailAt (argH m c) (argW m c) b i n := by
  rw [tail_array]
  refine (cutTail_apply _ b i n).trans ?_
  have hb : (⟨(2 * b.val + 1) / 2, by omega⟩ : Fin 8) = b := Fin.ext (by simp only; omega)
  have hr : (2 * b.val + 1) % 2 * 1024 + (1022 + i.val) = 2046 + i.val := by omega
  refine (show _ = streamColumn (arrX m c) (arrA m c) ⟨(2 * b.val + 1) / 2, by omega⟩ (lane n)
    ((2 * b.val + 1) % 2 * 1024 + (1022 + i.val)) from rfl).trans ?_
  rw [hb, hr]
  exact stream_first m c b n (2046 + i.val)

/-! ## The run -/

/-- The contents after the kernel's call. -/
def afterCall (c : Dev nD) : Valuation τ sig (Elt Ideal) :=
  Pipeline.withArrays cfg0.spec c (V0 m c) fun w => (dats m 0 c).arrAt w cfg0.N

theorem call_gated (c : Dev nD) : afterCall m c (Proc.devRef .tc main_v11_0) = (dats m 0 c).arrAt 6 cfg0.N :=
  Pipeline.withArrays_arr spec0 (by decide) c (V0 m c) (fun w => (dats m 0 c).arrAt w cfg0.N) 6
theorem call_tail (c : Dev nD) : afterCall m c (Proc.devRef .tc main_v11_1) = (dats m 0 c).arrAt 7 cfg0.N :=
  Pipeline.withArrays_arr spec0 (by decide) c (V0 m c) (fun w => (dats m 0 c).arrAt w cfg0.N) 7

theorem end_gated (c : Dev nD) : Pipeline.afterTail₀ cfgs (dats m) 0 (V0 m) [hostOps1] c main_v12
    = cutGated ((dats m 0 c).arrAt 6 cfg0.N) := by
  refine (show _ = StableHlo.after (hostOps1 (F := Ideal)) (afterCall m c) (Proc.devRef .tc main_v12) from rfl).trans ?_
  refine (after_last_write (i := 0) [main_v13, main_v14, main_v15] rfl rfl (by decide) _).trans ?_
  refine (unary_result main_v11_0 main_v12 _ _ _ _).trans ?_
  exact congrArg cutGated (call_gated m c)

theorem end_tail (c : Dev nD) : Pipeline.afterTail₀ cfgs (dats m) 0 (V0 m) [hostOps1] c main_v15
    = cutTail ((dats m 0 c).arrAt 7 cfg0.N) := by
  refine (show _ = StableHlo.after (hostOps1 (F := Ideal)) (afterCall m c) (Proc.devRef .tc main_v15) from rfl).trans ?_
  refine (after_last_write (i := 3) [] rfl rfl (by decide) _).trans ?_
  refine (reshape_result main_v14 main_v15 rfl _ _ _ _).trans ?_
  rw [upto_last_write (i := 2) [] rfl rfl (by decide)]
  refine congrArg (shapeCast S8x2x5504 · shapeCasts_S8x1x2x5504_S8x2x5504) ((unary_result main_v13 main_v14 _ _ _ _).trans ?_)
  rw [upto_last_write (i := 1) [] rfl rfl (by decide)]
  refine congrArg (extractStridedSlice S8x1x2x5504 ![0, 1, 0, 0] · slices_S8x2x2x5632_S8x1x2x5504_0_1_0_0)
    ((reshape_result main_v11_1 main_v13 rfl _ _ _ _).trans ?_)
  refine congrArg (shapeCast S8x2x2x5632 · shapeCasts_S16x2x5632_S8x2x2x5632) ?_
  exact (upto_unwritten [main_v12] rfl (by decide) _).trans (call_tail m c)

/-- The run: the two results, and the arguments as they were. -/
theorem run_results (ρ : Dev nD → PrngReg) :
    θ_run defs (onTc (τ := τ) (main (F := Ideal))) ⟨m, fun _ => 0, ρ⟩ (fun r => ∀ c : Dev nD,
      r.2.mem ((c.tc : Thread nD τ).loc main_v12) = cutGated ((dats m 0 c).arrAt 6 cfg0.N)
      ∧ r.2.mem ((c.tc : Thread nD τ).loc main_v15) = cutTail ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v12 (Pipeline.mem_restRefs_of main_v12 (by decide) (by decide))).trans (end_gated m c),
      ((h.1 c).2 main_v15 (Pipeline.mem_restRefs_of main_v15 (by decide) (by decide))).trans (end_tail m c),
      h.2 c⟩)
    (θ_run_and (run_main m ρ) (frame_of m ρ (dats m) (A_eq m) (run_main m ρ)))

end Cert.UpIdeal.Run

end
-- ==== Proof.UpReference.lean ====
/- What the reference of the gated product computes: the same functions of the coordinates of the arrays as the
   kernel. -/
module

public import proofs.«01_k».proof.Proof.UpHost
public import proofs.«01_k».proof.Proof.Gen.UpReferenceIdeal.Read
public import Idealize.ShloMosaic.Lib.Pipeline.ValueKit

@[expose] public section

set_option maxRecDepth 16384

noncomputable section

namespace Cert.UpReferenceIdeal.Read

open Cert.UpReferenceIdeal Cert.UpReferenceIdeal.Gen Idealize.ShloMosaic Cert.Gated

theorem zero : Ideal.ofBits .f32 0x00000000#32 = (0 : EReal) := by simp [Ideal.ofBits, Ideal.ieee]

variable (x0 : (⟨S8x2048x2048, .f32⟩ : BufTy).Contents (Elt Ideal))
  (x1 : (⟨S8x2x5504, .f32⟩ : BufTy).Contents (Elt Ideal)) (x2 : (⟨S2048x11008, .f32⟩ : BufTy).Contents (Elt Ideal))
  (x3 : (⟨S3x5504, .f32⟩ : BufTy).Contents (Elt Ideal)) (x4 : (⟨S5504, .f32⟩ : BufTy).Contents (Elt Ideal))

/-- A column of the product. -/
theorem product_apply (b : Fin 8) (t : Fin 2048) (n : Fin 11008) :
    (val_main_v0 (F := Ideal) x0 x2 (ix3 b t n) : EReal)
      = columnOf (fun b r k => x0 (ix3 b r k)) (fun k n => x2 (ix2 k n)) b n t.val := by
  rw [val_main_v0_apply]
  refine Finset.sum_congr rfl fun k _ => congrArg₂ (· * ·) ?_ ?_
  · refine congrArg x0 (funext fun a => Fin.ext ?_)
    fin_cases a <;> simp [lidx_main_v0] <;> omega
  · exact congrArg x2 (funext fun a => by fin_cases a <;> rfl)

/-- The first half of the columns. -/
theorem first_apply (b : Fin 8) (t : Fin 2048) (n : Fin 5504) :
    (val_main_v1 (F := Ideal) x0 x2 (ix3 b t n) : EReal)
      = columnOf (fun b r k => x0 (ix3 b r k)) (fun k n => x2 (ix2 k n)) b (firstHalf n) t.val := by
  rw [val_main_v1_apply]
  refine Eq.trans (congrArg _ ?_) (product_apply x0 x2 b t (firstHalf n))
  exact funext fun a => by fin_cases a <;> rfl

/-- The second half of the columns. -/
theorem second_apply (b : Fin 8) (t : Fin 2048) (n : Fin 5504) :
    (val_main_v2 (F := Ideal) x0 x2 (ix3 b t n) : EReal)
      = columnOf (fun b r k => x0 (ix3 b r k)) (fun k n => x2 (ix2 k n)) b (secondHalf n) t.val := by
  rw [val_main_v2_apply]
  refine Eq.trans (congrArg _ ?_) (product_apply x0 x2 b t (secondHalf n))
  exact funext fun a => by fin_cases a <;> rfl

/-- The rows of a stream after the two rows before it. -/
theorem rows_apply (b : Fin 8) (t : Fin 2050) (n : Fin 5504) :
    (val_main_v3 (F := Ideal) x0 x1 x2 (ix3 b t n) : EReal)
      = after (fun i => x1 (ix3 b i n))
          (columnOf (fun b r k => x0 (ix3 b r k)) (fun k n => x2 (ix2 k n)) b (firstHalf n)) t.val := by
  unfold val_main_v3
  by_cases h : t.val < 2
  · rw [after, dif_pos h]
    refine concatenate_pair_apply_left (t := S8x2050x5504) (s₁ := S8x2x5504) (s₂ := S8x2048x5504) 1 _ _ _ _ rfl (ix3 b ⟨t.val, h⟩ n) (fun a => ?_)
    fin_cases a <;> rfl
  · rw [after, dif_neg h]
    refine (concatenate_pair_apply_right (t := S8x2050x5504) (s₁ := S8x2x5504) (s₂ := S8x2048x5504) 1 _ _ _ _ rfl
      rfl (ix3 b ⟨t.val - 2, by omega⟩ n) (fun a ha => ?_) ?_).trans
      (first_apply x0 x2 b ⟨t.val - 2, by omega⟩ n)
    · fin_cases a
      · rfl
      · exact absurd rfl ha
      · rfl
    · show t.val - 2 + 2 = t.val
      omega

/-- The rows at the places the convolution reads. -/
theorem row0_apply (b : Fin 8) (t : Fin 2048) (n : Fin 5504) :
    (val_main_v4 (F := Ideal) x0 x1 x2 (ix3 b t n) : EReal)
      = after (fun i => x1 (ix3 b i n))
          (columnOf (fun b r k => x0 (ix3 b r k)) (fun k n => x2 (ix2 k n)) b (firstHalf n)) t.val := by
  rw [val_main_v4_apply]
  refine Eq.trans (congrArg _ ?_) (rows_apply x0 x1 x2 b ⟨t.val, by omega⟩ n)
  exact funext fun a => by fin_cases a <;> rfl

theorem row1_apply (b : Fin 8) (t : Fin 2048) (n : Fin 5504) :
    (val_main_v12 (F := Ideal) x0 x1 x2 (ix3 b t n) : EReal)
      = after (fun i => x1 (ix3 b i n))
          (columnOf (fun b r k => x0 (ix3 b r k)) (fun k n => x2 (ix2 k n)) b (firstHalf n)) (t.val + 1) := by
  rw [val_main_v12_apply]
  refine Eq.trans (congrArg _ ?_) (rows_apply x0 x1 x2 b ⟨t.val + 1, by omega⟩ n)
  refine funext fun a => Fin.ext ?_
  fin_cases a <;> simp <;> omega

theorem row2_apply (b : Fin 8) (t : Fin 2048) (n : Fin 5504) :
    (val_main_v19 (F := Ideal) x0 x1 x2 (ix3 b t n) : EReal)
      = after (fun i => x1 (ix3 b i n))
          (columnOf (fun b r k => x0 (ix3 b r k)) (fun k n => x2 (ix2 k n)) b (firstHalf n)) (t.val + 2) := by
  rw [val_main_v19_apply]
  refine Eq.trans (congrArg _ ?_) (rows_apply x0 x1 x2 b ⟨t.val + 2, by omega⟩ n)
  refine funext fun a => Fin.ext ?_
  fin_cases a <;> simp <;> omega

/-- The weights of the three rows, and the bias. -/
theorem tap0_apply (b : Fin 8) (t : Fin 2048) (n : Fin 5504) :
    (val_main_v8 (F := Ideal) x3 (ix3 b t n) : EReal) = x3 (ix2 0 n) := by
  rw [val_main_v8_apply, val_main_v7_apply, val_main_v6_apply, val_main_v5_apply]
  refine congrArg x3 (funext fun a => Fin.ext ?_)
  fin_cases a <;> simp

theorem tap1_apply (b : Fin 8) (t : Fin 2048) (n : Fin 5504) :
    (val_main_v16 (F := Ideal) x3 (ix3 b t n) : EReal) = x3 (ix2 1 n) := by
  rw [val_main_v16_apply, val_main_v15_apply, val_main_v14_apply, val_main_v13_apply]
  refine congrArg x3 (funext fun a => Fin.ext ?_)
  fin_cases a <;> simp

theorem tap2_apply (b : Fin 8) (t : Fin 2048) (n : Fin 5504) :
    (val_main_v23 (F := Ideal) x3 (ix3 b t n) : EReal) = x3 (ix2 2 n) := by
  rw [val_main_v23_apply, val_main_v22_apply, val_main_v21_apply, val_main_v20_apply]
  refine congrArg x3 (funext fun a => Fin.ext ?_)
  fin_cases a <;> simp

theorem bias_apply (b : Fin 8) (t : Fin 2048) (n : Fin 5504) :
    (val_main_v27 (F := Ideal) x4 (ix3 b t n) : EReal) = x4 (ix1 n) := by
  rw [val_main_v27_apply, val_main_v26_apply]
  exact congrArg x4 (funext fun a => by fin_cases a <;> rfl)

/-- The convolution: the same sum, added in another order. -/
theorem conv_apply (b : Fin 8) (t : Fin 2048) (n : Fin 5504) :
    (val_main_v28 (F := Ideal) x0 x1 x2 x3 x4 (ix3 b t n) : EReal)
      = conv (x4 (ix1 n)) (fun i => x3 (ix2 i n)) (after (fun i => x1 (ix3 b i n))
          (columnOf (fun b r k => x0 (ix3 b r k)) (fun k n => x2 (ix2 k n)) b (firstHalf n))) t.val := by
  rw [val_main_v28_apply, bias_apply, val_main_v25_apply, val_main_v18_apply, val_main_v11_apply, val_main_v9_apply,
    val_main_v17_apply, val_main_v24_apply, row0_apply, row1_apply, row2_apply, tap0_apply, tap1_apply, tap2_apply,
    val_main_v10_apply, val_main_cst_apply]
  have reorder : ∀ z d a b c : EReal, z = 0 → d + (z + a + b + c) = d + a + b + c := fun z d a b c hz => by
    rw [hz, zero_add, add_assoc, add_assoc, add_assoc]
  exact reorder _ _ _ _ _ zero

/-- The reference's first result at a row and a lane. -/
theorem gated_apply (i : Fin 16384) (n : Fin 5504) :
    (val_main_v39 (F := Ideal) x0 x1 x2 x3 x4 (ix2 i n) : EReal)
      = gatedAt (fun b r k => x0 (ix3 b r k)) (fun b i n => x1 (ix3 b i n)) (fun k n => x2 (ix2 k n))
          (fun i n => x3 (ix2 i n)) (fun n => x4 (ix1 n)) (Cert.UpIdeal.Run.streamRow i) (i.val % 2048) n := by
  have hi : idx_main_v39 (ix2 i n)
      = ix3 (Cert.UpIdeal.Run.streamRow i) ⟨i.val % 2048, Nat.mod_lt _ (by decide)⟩ n := by
    refine funext fun a => Fin.ext ?_
    fin_cases a <;> simp [Cert.UpIdeal.Run.streamRow] <;> omega
  rw [val_main_v39_apply, hi, val_main_v38_apply, val_main_v37_apply, second_apply, val_main_v36_apply,
    val_main_v30_apply, val_main_v35_apply, val_main_v33_apply, val_main_v32_apply, conv_apply, val_main_v29_apply,
    val_main_v31_apply, val_main_v34_apply, val_main_cst_0_apply, val_main_cst_1_apply, val_main_cst_2_apply]
  rfl

/-- The reference's second result. -/
theorem tail_apply (b : Fin 8) (i : Fin 2) (n : Fin 5504) :
    (val_main_v40 (F := Ideal) x0 x1 x2 (ix3 b i n) : EReal)
      = tailAt (fun b r k => x0 (ix3 b r k)) (fun k n => x2 (ix2 k n)) b i n := by
  have hi : idx_main_v40 (ix3 b i n) = ix3 b ⟨2046 + i.val + 2, by omega⟩ n := by
    refine funext fun a => Fin.ext ?_
    fin_cases a <;> simp <;> omega
  rw [val_main_v40_apply, hi, rows_apply]
  exact after_later _ _ _

end Cert.UpReferenceIdeal.Read

end
-- ==== Proof.UpSampleRow.lean ====
/- The gated product of the sample at a row and a lane: the kernel takes the rows of all the streams at once, rolls them,
   and at the first two rows of each stream takes the rows before it instead. -/
module

public import proofs.«01_k».proof.Proof.Dense
public import proofs.«01_k».proof.Proof.UpRow
public import proofs.«01_k».proof.Proof.Gen.UpSampleIdeal.Frame
public import Idealize.ShloMosaic.Lib.Pipeline.ValueKit
public import Idealize.ShloMosaic.Lib.Pointwise

@[expose] public section

set_option maxRecDepth 16384

noncomputable section

namespace Cert.UpSampleIdeal.Value

open Cert.UpSampleIdeal Cert.UpSampleIdeal.Gen Idealize.ShloMosaic Cert.Gated Cert.Dense

/-! ## The pieces of a block -/

theorem prod_apply (h : Vec Ideal S1024x2048 .bf16) (w : Vec Ideal S2048x256 .bf16) (r : Fin 1024) (q : Fin 256) :
    (k0_pay3 (F := Ideal) h w (ix2 r q) : EReal) = ∑ k : Fin 2048, (h (ix2 r k) : EReal) * w (ix2 k q) := by
  pointwise [k0_pay3, k0_pay2]

/-- The two rows before a stream, at every row of it. -/
theorem before0_apply (p : Vec Ideal S32x2x256 .f32) (r : Fin 1024) (q : Fin 256) :
    (k0_pay8 (F := Ideal) p (ix2 r q) : EReal) = p (ix3 (sampleStream r) 0 q) := by
  pointwise [k0_pay8, k0_pay7]
  rfl

theorem before1_apply (p : Vec Ideal S32x2x256 .f32) (r : Fin 1024) (q : Fin 256) :
    (k0_pay9 (F := Ideal) p (ix2 r q) : EReal) = p (ix3 (sampleStream r) 1 q) := by
  pointwise [k0_pay9, k0_pay7]
  rfl

/-- The last two rows of each stream. -/
theorem last_apply (a : FVec Ideal S1024x256 .f32) (b : Fin 32) (i : Fin 2) (q : Fin 256) :
    (k0_pay18 (F := Ideal) (k0_pay17 a) (ix3 b i q) : EReal) = a (ix2 ⟨32 * b.val + (30 + i.val), by omega⟩ q) := by
  pointwise [k0_pay18, k0_pay17]
  exact congrArg (fun n : Fin 1024 => a (ix2 n q)) (Fin.ext (by simp only; omega))

/-- The place of each row in its stream. -/
theorem place_apply (r : Fin 1024) (q : Fin 256) : k0_pay1 (ix2 r q) = BitVec.ofNat 32 (r.val % 32) := by
  pointwise [k0_pay1]

theorem gate_raw (v : IVec S1024x256 32) (a b s t : FVec Ideal S1024x256 .f32) (w : Vec Ideal S3x256 .f32)
    (d : Vec Ideal S1x256 .f32) (r : Fin 1024) (q : Fin 256) :
    (k0_pay19 (F := Ideal) v a b s t w d (ix2 r q) : EReal)
      = glu (d (ix2 0 q)
          + Scalar.select (IntOp.cmpi .eq (v (ix2 r q)) 0#32) (s (ix2 r q) : EReal)
              (Scalar.select (IntOp.cmpi .eq (v (ix2 r q)) 1#32) (t (ix2 r q) : EReal)
                (a (ix2 ⟨(r.val + 1024 - 2) % 1024, Nat.mod_lt _ (by decide)⟩ q))) * w (ix2 0 q)
          + Scalar.select (IntOp.cmpi .eq (v (ix2 r q)) 0#32) (t (ix2 r q) : EReal)
              (a (ix2 ⟨(r.val + 1024 - 1) % 1024, Nat.mod_lt _ (by decide)⟩ q)) * w (ix2 1 q)
          + a (ix2 r q) * w (ix2 2 q))
        (b (ix2 r q)) := by
  unfold glu
  pointwise [k0_pay19]
  rfl

/-! ## The rows in their streams -/

theorem is_first : ∀ k : Fin 32, IntOp.cmpi .eq (BitVec.ofNat 32 k.val) 0#32 = if k.val = 0 then 1#1 else 0#1 := by decide
theorem is_second : ∀ k : Fin 32, IntOp.cmpi .eq (BitVec.ofNat 32 k.val) 1#32 = if k.val = 1 then 1#1 else 0#1 := by decide

/-- The column `q` of a stream's rows, the rows counted. -/
def column (a : FVec Ideal S1024x256 .f32) (b : Fin 32) (q : Fin 256) (n : ℕ) : EReal :=
  a (ix2 ⟨32 * b.val + n % 32, by omega⟩ q)

theorem column_back (a : FVec Ideal S1024x256 .f32) (r : Fin 1024) (q : Fin 256) (j : ℕ) (h : j ≤ r.val % 32) :
    (a (ix2 ⟨(r.val + 1024 - j) % 1024, Nat.mod_lt _ (by decide)⟩ q) : EReal)
      = column a (sampleStream r) q (r.val % 32 - j) :=
  congrArg (fun n : Fin 1024 => (a (ix2 n q) : EReal)) (Fin.ext (by
    show (r.val + 1024 - j) % 1024 = 32 * (r.val / 32) + (r.val % 32 - j) % 32
    omega))

section
variable (a : FVec Ideal S1024x256 .f32) (p : Fin 2 → EReal) (r : Fin 1024) (q : Fin 256)

theorem two_before :
    Scalar.select (IntOp.cmpi .eq (BitVec.ofNat 32 (r.val % 32)) 0#32) (p 0)
        (Scalar.select (IntOp.cmpi .eq (BitVec.ofNat 32 (r.val % 32)) 1#32) (p 1)
          (a (ix2 ⟨(r.val + 1024 - 2) % 1024, Nat.mod_lt _ (by decide)⟩ q) : EReal))
      = after p (column a (sampleStream r) q) (r.val % 32) := by
  rw [is_first ⟨r.val % 32, Nat.mod_lt _ (by decide)⟩, is_second ⟨r.val % 32, Nat.mod_lt _ (by decide)⟩]
  dsimp only
  by_cases h0 : r.val % 32 = 0
  · rw [if_pos h0]
    refine Eq.trans (congrArg p (Fin.ext h0.symm) : p 0 = p ⟨r.val % 32, by omega⟩) ?_
    rw [after, dif_pos (by omega)]
  by_cases h1 : r.val % 32 = 1
  · rw [if_neg h0, if_pos h1]
    refine Eq.trans (congrArg p (Fin.ext h1.symm) : p 1 = p ⟨r.val % 32, by omega⟩) ?_
    rw [after, dif_pos (by omega)]
  rw [if_neg h0, if_neg h1]
  refine Eq.trans (column_back a r q 2 (by omega)) ?_
  rw [after, dif_neg (by omega)]

theorem one_before :
    Scalar.select (IntOp.cmpi .eq (BitVec.ofNat 32 (r.val % 32)) 0#32) (p 1)
        (a (ix2 ⟨(r.val + 1024 - 1) % 1024, Nat.mod_lt _ (by decide)⟩ q) : EReal)
      = after p (column a (sampleStream r) q) (r.val % 32 + 1) := by
  rw [is_first ⟨r.val % 32, Nat.mod_lt _ (by decide)⟩]
  dsimp only
  by_cases h0 : r.val % 32 = 0
  · rw [if_pos h0]
    refine Eq.trans (congrArg p (Fin.ext (congrArg (· + 1) h0.symm)) : p 1 = p ⟨r.val % 32 + 1, by omega⟩) ?_
    rw [after, dif_pos (by omega)]
  rw [if_neg h0]
  refine Eq.trans (column_back a r q 1 (by omega)) ?_
  rw [after, dif_neg (by omega)]
  rfl

theorem none_before : (a (ix2 r q) : EReal) = after p (column a (sampleStream r) q) (r.val % 32 + 2) := by
  rw [after_later]
  exact congrArg (fun n : Fin 1024 => (a (ix2 n q) : EReal)) (Fin.ext (by
    show r.val = 32 * (r.val / 32) + r.val % 32 % 32
    omega))
end

/-- The gated product of a row and a lane. -/
theorem gate_apply (a b : FVec Ideal S1024x256 .f32) (p : Vec Ideal S32x2x256 .f32) (w : Vec Ideal S3x256 .f32)
    (d : Vec Ideal S1x256 .f32) (r : Fin 1024) (q : Fin 256) :
    (k0_pay19 (F := Ideal) k0_pay1 a b (k0_pay8 p) (k0_pay9 p) w d (ix2 r q) : EReal)
      = glu (conv (d (ix2 0 q)) (fun i => w (ix2 i q))
          (after (fun i => p (ix3 (sampleStream r) i q)) (column a (sampleStream r) q)) (r.val % 32)) (b (ix2 r q)) := by
  rw [gate_raw, place_apply, before0_apply, before1_apply,
    two_before a (fun i => p (ix3 (sampleStream r) i q)) r q, one_before a (fun i => p (ix3 (sampleStream r) i q)) r q,
    none_before a (fun i => p (ix3 (sampleStream r) i q)) r q]
  rfl

end Cert.UpSampleIdeal.Value

end
-- ==== Proof.UpSampleBlock.lean ====
/- What the body of the sample's gated product leaves in its two blocks, by the halves of their lanes. -/
module

public import proofs.«01_k».proof.Proof.UpSampleRow
public import Idealize.ShloMosaic.Lib.WholeRead
public import Idealize.ShloMosaic.Lib.WritesUnit

@[expose] public section

set_option maxRecDepth 16384

noncomputable section

namespace Cert.UpSampleIdeal.Value

open Cert.UpSampleIdeal Cert.UpSampleIdeal.Gen Idealize.ShloMosaic Idealize.ShloMosaic.TcCoe Idealize.SL.Sem

/-- The halves of a block's lanes. -/
def left (e : Fin 256) : Fin 512 := ⟨e.val, by omega⟩
def right (e : Fin 256) : Fin 512 := ⟨256 + e.val, by omega⟩

theorem left_or_right (n : Fin 512) : (∃ e, n = left e) ∨ ∃ e, n = right e := by
  by_cases h : n.val < 256
  · exact Or.inl ⟨⟨n.val, h⟩, rfl⟩
  · exact Or.inr ⟨⟨n.val - 256, by omega⟩, Fin.ext (by show n.val = 256 + (n.val - 256); omega)⟩

section
variable {F : FTy → Type} [FloatOps F]

/-- A statement of two or three axes, axis by axis. -/
theorem axes2 {P : Fin 2 → Prop} (h0 : P 0) (h1 : P 1) : ∀ a, P a := by
  intro a
  fin_cases a
  exacts [h0, h1]
theorem axes3 {P : Fin 3 → Prop} (h0 : P 0) (h1 : P 1) (h2 : P 2) : ∀ a, P a := by
  intro a
  fin_cases a
  exacts [h0, h1, h2]

/-- What a load of a whole buffer reads. -/
theorem loaded {s : Shape} {d : EltTy} {M : Memref sig .tc .vmem s d} (h : M.IsWhole) (x : Vec F s d) (R : Rect s) :
    View.readAt (Elt F) M.view R.toLoadRect (h.unread x) = View.ld x R := funext fun z => h.readAt_unread x _ z

/-- The rows a body loads; the left and the right half of each of its other blocks. -/
def rows (x : Vec F S1024x2048 .bf16) : Vec F S1024x2048 .bf16 :=
  View.ld x (Rect.unit (s := S1024x2048) ![0, 0] S1024x2048.size inb_S1024x2048_S1024x2048_0_0)
def leftW (x : Vec F S2048x512 .bf16) : Vec F S2048x256 .bf16 :=
  View.ld x (Rect.unit (s := S2048x512) ![0, 0] S2048x256.size inb_S2048x512_S2048x256_0_0)
def rightW (x : Vec F S2048x512 .bf16) : Vec F S2048x256 .bf16 :=
  View.ld x (Rect.unit (s := S2048x512) ![0, 256] S2048x256.size inb_S2048x512_S2048x256_0_256)
def leftC (x : Vec F S3x512 .f32) : Vec F S3x256 .f32 :=
  View.ld x (Rect.unit (s := S3x512) ![0, 0] S3x256.size inb_S3x512_S3x256_0_0)
def rightC (x : Vec F S3x512 .f32) : Vec F S3x256 .f32 :=
  View.ld x (Rect.unit (s := S3x512) ![0, 256] S3x256.size inb_S3x512_S3x256_0_256)
def leftB (x : Vec F S1x512 .f32) : Vec F S1x256 .f32 :=
  View.ld x (Rect.unit (s := S1x512) ![0, 0] S1x256.size inb_S1x512_S1x256_0_0)
def rightB (x : Vec F S1x512 .f32) : Vec F S1x256 .f32 :=
  View.ld x (Rect.unit (s := S1x512) ![0, 256] S1x256.size inb_S1x512_S1x256_0_256)
def leftP (x : Vec F S32x2x512 .f32) : Vec F S32x2x256 .f32 :=
  View.ld x (Rect.unit (s := S32x2x512) ![0, 0, 0] S32x2x256.size inb_S32x2x512_S32x2x256_0_0_0)
def rightP (x : Vec F S32x2x512 .f32) : Vec F S32x2x256 .f32 :=
  View.ld x (Rect.unit (s := S32x2x512) ![0, 0, 256] S32x2x256.size inb_S32x2x512_S32x2x256_0_0_256)

/-- The gated products of half the lanes, and the last rows. -/
def gate (h : Vec F S1024x2048 .bf16) (a b : Vec F S2048x256 .bf16) (w : Vec F S3x256 .f32) (d : Vec F S1x256 .f32)
    (p : Vec F S32x2x256 .f32) : FVec F S1024x256 .bf16 :=
  k0_pay19 k0_pay1 (k0_pay3 h a) (k0_pay3 h b) (k0_pay8 p) (k0_pay9 p) w d
def last (h : Vec F S1024x2048 .bf16) (a : Vec F S2048x256 .bf16) : FVec F S32x2x256 .f32 :=
  k0_pay18 (k0_pay17 (k0_pay3 h a))

/-- The body's own order of the same operations, at the left lanes and at the right. -/
theorem gate_left (h : Vec F S1024x2048 .bf16) (a b : Vec F S2048x256 .bf16) (w : Vec F S3x256 .f32) (d : Vec F S1x256 .f32)
    (p : Vec F S32x2x256 .f32) :
    k0_pay13 k0_pay1 (k0_pay3 h a) (k0_pay4 h b) (k0_pay8 p) (k0_pay9 p) (k0_pay11 h a p) k0_pay12 w d
      = gate h a b w d p := rfl
theorem gate_right (h : Vec F S1024x2048 .bf16) (a b : Vec F S2048x256 .bf16) (w : Vec F S3x256 .f32) (d : Vec F S1x256 .f32)
    (p : Vec F S32x2x256 .f32) :
    k0_pay19 k0_pay1 (k0_pay5 h a) (k0_pay6 h b) (k0_pay15 p) (k0_pay16 p) w d = gate h a b w d p := rfl
theorem last_left (h : Vec F S1024x2048 .bf16) (a : Vec F S2048x256 .bf16) : k0_pay10 h a = last h a := rfl
theorem last_right (h : Vec F S1024x2048 .bf16) (a : Vec F S2048x256 .bf16) :
    k0_pay18 (k0_pay17 (k0_pay5 h a)) = last h a := rfl

theorem gate_left_of {a b s t u : FVec F S1024x256 .f32} {w' : Vec F S3x256 .f32} {d' : Vec F S1x256 .f32}
    {h : Vec F S1024x2048 .bf16} {x y : Vec F S2048x256 .bf16} {w : Vec F S3x256 .f32} {d : Vec F S1x256 .f32}
    {p : Vec F S32x2x256 .f32} (ha : a = k0_pay3 h x) (hb : b = k0_pay4 h y) (hs : s = k0_pay8 p) (ht : t = k0_pay9 p)
    (hu : u = k0_pay11 h x p) (hw : w' = w) (hd : d' = d) (z : S1024x256.Idx) :
    k0_pay13 k0_pay1 a b s t u k0_pay12 w' d' z = gate h x y w d p z := by
  rw [ha, hb, hs, ht, hu, hw, hd, gate_left]
theorem gate_right_of {a b s t : FVec F S1024x256 .f32} {w' : Vec F S3x256 .f32} {d' : Vec F S1x256 .f32}
    {h : Vec F S1024x2048 .bf16} {x y : Vec F S2048x256 .bf16} {w : Vec F S3x256 .f32} {d : Vec F S1x256 .f32}
    {p : Vec F S32x2x256 .f32} (ha : a = k0_pay5 h x) (hb : b = k0_pay6 h y) (hs : s = k0_pay15 p) (ht : t = k0_pay16 p)
    (hw : w' = w) (hd : d' = d) (z : S1024x256.Idx) :
    k0_pay19 k0_pay1 a b s t w' d' z = gate h x y w d p z := by
  rw [ha, hb, hs, ht, hw, hd, gate_right]
theorem last_left_of {h' h : Vec F S1024x2048 .bf16} {x' x : Vec F S2048x256 .bf16} (hh : h' = h) (hx : x' = x)
    (z : S32x2x256.Idx) : k0_pay10 h' x' z = last h x z := by
  rw [hh, hx, last_left]
theorem last_right_of {a : FVec F S32x32x256 .f32} {h : Vec F S1024x2048 .bf16} {x : Vec F S2048x256 .bf16}
    (ha : a = k0_pay17 (k0_pay5 h x)) (z : S32x2x256.Idx) : k0_pay18 a z = last h x z := by
  rw [ha, last_right]

variable (c : Dev nD) (i : grid0.Coords)
  (arg2 : Memref sig .tc .vmem S1024x2048 .bf16) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S3x512 .f32) (harg5 : arg5.IsWhole)
  (arg6 : Memref sig .tc .vmem S1x512 .f32) (harg6 : arg6.IsWhole)
  (arg7 : Memref sig .tc .vmem S32x2x512 .f32) (harg7 : arg7.IsWhole)
  (arg8 : Memref sig .tc .vmem S1024x512 .bf16) (harg8 : arg8.IsWhole)
  (arg9 : Memref sig .tc .vmem S32x2x512 .f32) (harg9 : arg9.IsWhole)
  (arg10 : Memref sig .tc .vmem S11x2x512 .f32) (harg10 : arg10.IsWhole)
  (x0 : Vec F S1024x2048 .bf16) (x1 x2 : Vec F S2048x512 .bf16) (x3 : Vec F S3x512 .f32) (x4 : Vec F S1x512 .f32)
  (x5 : Vec F S32x2x512 .f32)

/-- The values of the run that the stores read. -/
theorem run_a : kernelRun0_A.sl.r c arg2 harg2 arg3 harg3 x0 x1 = k0_pay3 (rows x0) (leftW x1) :=
  congrArg₂ k0_pay3 (loaded harg2 x0 _) (loaded harg3 x1 _)
theorem run_b : kernelRun0_A.sl.r_1 c arg2 harg2 arg4 harg4 x0 x2 = k0_pay4 (rows x0) (leftW x2) :=
  congrArg₂ k0_pay4 (loaded harg2 x0 _) (loaded harg4 x2 _)
theorem run_a' : kernelRun0_A.sl.r_2 c arg2 harg2 arg3 harg3 x0 x1 = k0_pay5 (rows x0) (rightW x1) :=
  congrArg₂ k0_pay5 (loaded harg2 x0 _) (loaded harg3 x1 _)
theorem run_b' : kernelRun0_A.sl.r_3 c arg2 harg2 arg4 harg4 x0 x2 = k0_pay6 (rows x0) (rightW x2) :=
  congrArg₂ k0_pay6 (loaded harg2 x0 _) (loaded harg4 x2 _)
theorem run_s : kernelRun0_A.sl.r_4 c arg7 harg7 x5 = k0_pay8 (leftP x5) := congrArg k0_pay8 (loaded harg7 x5 _)
theorem run_t : kernelRun0_A.sl.r_5 c arg7 harg7 x5 = k0_pay9 (leftP x5) := congrArg k0_pay9 (loaded harg7 x5 _)
theorem run_u : kernelRun0_A.sl.r_6 c arg2 harg2 arg3 harg3 arg7 harg7 x0 x1 x5
    = k0_pay11 (rows x0) (leftW x1) (leftP x5) :=
  congr (congrArg₂ k0_pay11 (loaded harg2 x0 _) (loaded harg3 x1 _)) (loaded harg7 x5 _)
theorem run_s' : kernelRun0_A.sl.r_7 c arg7 harg7 x5 = k0_pay15 (rightP x5) := congrArg k0_pay15 (loaded harg7 x5 _)
theorem run_t' : kernelRun0_A.sl.r_8 c arg7 harg7 x5 = k0_pay16 (rightP x5) := congrArg k0_pay16 (loaded harg7 x5 _)
theorem run_l : kernelRun0_A.sl.r_9 c arg2 harg2 arg3 harg3 x0 x1 = k0_pay17 (k0_pay5 (rows x0) (rightW x1)) :=
  congrArg k0_pay17 (run_a' c arg2 harg2 arg3 harg3 x0 x1)

theorem gated_left (r : Fin 1024) (e : Fin 256) :
    out0_A_6 c i arg2 harg2 arg3 harg3 arg4 harg4 arg5 harg5 arg6 harg6 arg7 harg7 arg8 harg8 arg9 harg9 arg10 harg10
        x0 x1 x2 x3 x4 x5 (ix2 r (left e))
      = gate (rows x0) (leftW x1) (leftW x2) (leftC x3) (leftB x4) (leftP x5) (ix2 r e) := by
  unfold out0_A_6
  dsimp only [kernelRun0_A]
  refine (View.read_writes_cons_unit_of_not_mem (s := S1024x512) _ _ _ _ _ _ rfl (1 : Fin 2) (Or.inl e.isLt)).trans ?_
  refine (View.read_writes_cons_unit_of_mem (s := S1024x512) _ _ _ _ _ _ (ix2 r e) rfl
    (axes2 (Nat.zero_add _).symm (Nat.zero_add _).symm)).trans ?_
  exact gate_left_of (run_a c arg2 harg2 arg3 harg3 x0 x1) (run_b c arg2 harg2 arg4 harg4 x0 x2) (run_s c arg7 harg7 x5)
    (run_t c arg7 harg7 x5) (run_u c arg2 harg2 arg3 harg3 arg7 harg7 x0 x1 x5) (loaded harg5 x3 _) (loaded harg6 x4 _)
    (ix2 r e)

theorem gated_right (r : Fin 1024) (e : Fin 256) :
    out0_A_6 c i arg2 harg2 arg3 harg3 arg4 harg4 arg5 harg5 arg6 harg6 arg7 harg7 arg8 harg8 arg9 harg9 arg10 harg10
        x0 x1 x2 x3 x4 x5 (ix2 r (right e))
      = gate (rows x0) (rightW x1) (rightW x2) (rightC x3) (rightB x4) (rightP x5) (ix2 r e) := by
  unfold out0_A_6
  dsimp only [kernelRun0_A]
  refine (View.read_writes_cons_unit_of_mem (s := S1024x512) _ _ _ _ _ _ (ix2 r e) rfl
    (axes2 (Nat.zero_add _).symm rfl)).trans ?_
  exact gate_right_of (run_a' c arg2 harg2 arg3 harg3 x0 x1) (run_b' c arg2 harg2 arg4 harg4 x0 x2)
    (run_s' c arg7 harg7 x5) (run_t' c arg7 harg7 x5) (loaded harg5 x3 _) (loaded harg6 x4 _) (ix2 r e)

theorem tail_left (b : Fin 32) (j : Fin 2) (e : Fin 256) :
    out0_A_7 c i arg2 harg2 arg3 harg3 arg4 harg4 arg5 harg5 arg6 harg6 arg7 harg7 arg8 harg8 arg9 harg9 arg10 harg10
        x0 x1 x2 x3 x4 x5 (ix3 b j (left e))
      = last (rows x0) (leftW x1) (ix3 b j e) := by
  unfold out0_A_7
  dsimp only [kernelRun0_A]
  refine (View.read_writes_cons_unit_of_not_mem (s := S32x2x512) _ _ _ _ _ _ rfl (2 : Fin 3) (Or.inl e.isLt)).trans ?_
  refine (View.read_writes_cons_unit_of_mem (s := S32x2x512) _ _ _ _ _ _ (ix3 b j e) rfl
    (axes3 (Nat.zero_add _).symm (Nat.zero_add _).symm (Nat.zero_add _).symm)).trans ?_
  exact last_left_of (loaded harg2 x0 _) (loaded harg3 x1 _) (ix3 b j e)

theorem tail_right (b : Fin 32) (j : Fin 2) (e : Fin 256) :
    out0_A_7 c i arg2 harg2 arg3 harg3 arg4 harg4 arg5 harg5 arg6 harg6 arg7 harg7 arg8 harg8 arg9 harg9 arg10 harg10
        x0 x1 x2 x3 x4 x5 (ix3 b j (right e))
      = last (rows x0) (rightW x1) (ix3 b j e) := by
  unfold out0_A_7
  dsimp only [kernelRun0_A]
  refine (View.read_writes_cons_unit_of_mem (s := S32x2x512) _ _ _ _ _ _ (ix3 b j e) rfl
    (axes3 (Nat.zero_add _).symm (Nat.zero_add _).symm rfl)).trans ?_
  exact last_right_of (run_l c arg2 harg2 arg3 harg3 x0 x1) (ix3 b j e)
end

end Cert.UpSampleIdeal.Value

end
-- ==== Proof.UpSampleArray.lean ====
/- The two result arrays of the sample's gated product after the run, from the arrays the host hands to the kernel: the
   gated products at every row and lane, and the last two rows of each stream. -/
module

public import proofs.«01_k».proof.Proof.UpSampleBlock

@[expose] public section

set_option maxRecDepth 16384

noncomputable section

namespace Cert.Gated

open Idealize.ShloMosaic Cert.Dense

/-- A column of a product of the sample's flat rows, the rows of stream `b` counted. -/
def flatColumn (x : Fin 1024 → Fin 2048 → EReal) (a : Fin 2048 → EReal) (b : Fin 32) (n : ℕ) : EReal :=
  ∑ j : Fin 2048, x ⟨32 * b.val + n % 32, by omega⟩ j * a j

/-- The gated product of a flat row, one lane. -/
def flatGated (x : Fin 1024 → Fin 2048 → EReal) (a b : Fin 2048 → EReal) (w : Fin 3 → EReal) (d : EReal)
    (p : Fin 32 → Fin 2 → EReal) (r : Fin 1024) : EReal :=
  glu (conv d w (after (p (sampleStream r)) (flatColumn x a (sampleStream r))) (r.val % 32))
    (flatColumn x b (sampleStream r) (r.val % 32))

theorem flatGated_congr {x x' : Fin 1024 → Fin 2048 → EReal} {a a' b b' : Fin 2048 → EReal} {w w' : Fin 3 → EReal}
    {d d' : EReal} {p p' : Fin 32 → Fin 2 → EReal} (r : Fin 1024) (hx : x = x') (ha : a = a') (hb : b = b') (hw : w = w')
    (hd : d = d') (hp : p = p') : flatGated x a b w d p r = flatGated x' a' b' w' d' p' r := by
  rw [hx, ha, hb, hw, hd, hp]

end Cert.Gated

namespace Cert.UpSampleIdeal.Value

open Cert.UpSampleIdeal Cert.UpSampleIdeal.Gen Idealize.ShloMosaic Idealize.ShloMosaic.TcCoe Idealize.SL.Sem
open Cert.Gated Cert.Dense

/-! ## A block by coordinates -/

theorem rows_apply (x : Vec Ideal S1024x2048 .bf16) (r : Fin 1024) (k : Fin 2048) :
    (rows (F := Ideal) x (ix2 r k) : EReal) = x (ix2 r k) :=
  congrFun (View.ld_unit_zero (by decide) _ x) (ix2 r k)
theorem leftW_apply (x : Vec Ideal S2048x512 .bf16) (k : Fin 2048) (e : Fin 256) :
    (leftW (F := Ideal) x (ix2 k e) : EReal) = x (ix2 k (left e)) := by
  refine congrArg x (funext fun a => Fin.ext ?_)
  fin_cases a
  · exact (Nat.zero_add _).trans (Nat.one_mul _)
  · exact (Nat.zero_add _).trans (Nat.one_mul _)
theorem rightW_apply (x : Vec Ideal S2048x512 .bf16) (k : Fin 2048) (e : Fin 256) :
    (rightW (F := Ideal) x (ix2 k e) : EReal) = x (ix2 k (right e)) := by
  refine congrArg x (funext fun a => Fin.ext ?_)
  fin_cases a
  · exact (Nat.zero_add _).trans (Nat.one_mul _)
  · exact congrArg (256 + ·) (Nat.one_mul _)
theorem leftC_apply (x : Vec Ideal S3x512 .f32) (k : Fin 3) (e : Fin 256) :
    (leftC (F := Ideal) x (ix2 k e) : EReal) = x (ix2 k (left e)) := by
  refine congrArg x (funext fun a => Fin.ext ?_)
  fin_cases a
  · exact (Nat.zero_add _).trans (Nat.one_mul _)
  · exact (Nat.zero_add _).trans (Nat.one_mul _)
theorem rightC_apply (x : Vec Ideal S3x512 .f32) (k : Fin 3) (e : Fin 256) :
    (rightC (F := Ideal) x (ix2 k e) : EReal) = x (ix2 k (right e)) := by
  refine congrArg x (funext fun a => Fin.ext ?_)
  fin_cases a
  · exact (Nat.zero_add _).trans (Nat.one_mul _)
  · exact congrArg (256 + ·) (Nat.one_mul _)
theorem leftB_apply (x : Vec Ideal S1x512 .f32) (e : Fin 256) :
    (leftB (F := Ideal) x (ix2 0 e) : EReal) = x (ix2 0 (left e)) := by
  refine congrArg x (funext fun a => Fin.ext ?_)
  fin_cases a
  · exact (Nat.zero_add _).trans (Nat.one_mul _)
  · exact (Nat.zero_add _).trans (Nat.one_mul _)
theorem rightB_apply (x : Vec Ideal S1x512 .f32) (e : Fin 256) :
    (rightB (F := Ideal) x (ix2 0 e) : EReal) = x (ix2 0 (right e)) := by
  refine congrArg x (funext fun a => Fin.ext ?_)
  fin_cases a
  · exact (Nat.zero_add _).trans (Nat.one_mul _)
  · exact congrArg (256 + ·) (Nat.one_mul _)
theorem leftP_apply (x : Vec Ideal S32x2x512 .f32) (b : Fin 32) (i : Fin 2) (e : Fin 256) :
    (leftP (F := Ideal) x (ix3 b i e) : EReal) = x (ix3 b i (left e)) := by
  refine congrArg x (funext fun a => Fin.ext ?_)
  fin_cases a
  · exact (Nat.zero_add _).trans (Nat.one_mul _)
  · exact (Nat.zero_add _).trans (Nat.one_mul _)
  · exact (Nat.zero_add _).trans (Nat.one_mul _)
theorem rightP_apply (x : Vec Ideal S32x2x512 .f32) (b : Fin 32) (i : Fin 2) (e : Fin 256) :
    (rightP (F := Ideal) x (ix3 b i e) : EReal) = x (ix3 b i (right e)) := by
  refine congrArg x (funext fun a => Fin.ext ?_)
  fin_cases a
  · exact (Nat.zero_add _).trans (Nat.one_mul _)
  · exact (Nat.zero_add _).trans (Nat.one_mul _)
  · exact congrArg (256 + ·) (Nat.one_mul _)

theorem column_apply (h : Vec Ideal S1024x2048 .bf16) (w : Vec Ideal S2048x256 .bf16) (b : Fin 32) (q : Fin 256) :
    column (k0_pay3 (F := Ideal) h w) b q = flatColumn (fun r k => h (ix2 r k)) (fun k => w (ix2 k q)) b :=
  funext fun _ => prod_apply h w _ q

theorem row_column (a : FVec Ideal S1024x256 .f32) (r : Fin 1024) (q : Fin 256) :
    (a (ix2 r q) : EReal) = column a (sampleStream r) q (r.val % 32) :=
  congrArg (fun n : Fin 1024 => (a (ix2 n q) : EReal)) (Fin.ext (by
    show r.val = 32 * (r.val / 32) + r.val % 32 % 32
    omega))

theorem gate_flat (h : Vec Ideal S1024x2048 .bf16) (a b : Vec Ideal S2048x256 .bf16) (w : Vec Ideal S3x256 .f32)
    (d : Vec Ideal S1x256 .f32) (p : Vec Ideal S32x2x256 .f32) (r : Fin 1024) (q : Fin 256) :
    (gate (F := Ideal) h a b w d p (ix2 r q) : EReal)
      = flatGated (fun r k => h (ix2 r k)) (fun k => a (ix2 k q)) (fun k => b (ix2 k q)) (fun i => w (ix2 i q))
          (d (ix2 0 q)) (fun s i => p (ix3 s i q)) r := by
  unfold gate flatGated
  rw [gate_apply, row_column (k0_pay3 (F := Ideal) h b) r q, column_apply, column_apply]

theorem last_flat (h : Vec Ideal S1024x2048 .bf16) (a : Vec Ideal S2048x256 .bf16) (b : Fin 32) (i : Fin 2)
    (q : Fin 256) : (last (F := Ideal) h a (ix3 b i q) : EReal)
      = flatColumn (fun r k => h (ix2 r k)) (fun k => a (ix2 k q)) b (30 + i.val) := by
  unfold last
  rw [last_apply, ← column_apply]
  exact congrArg (fun n : Fin 1024 => (k0_pay3 (F := Ideal) h a (ix2 n q) : EReal)) (Fin.ext (by
    show 32 * b.val + (30 + i.val) = 32 * b.val + (30 + i.val) % 32
    omega))

/-! ## By coordinates -/

section
variable (X : FVec Ideal S1024x2048 .bf16) (A B : FVec Ideal S2048x5632 .bf16) (W : FVec Ideal S3x5632 .f32)
  (D : FVec Ideal S1x5632 .f32) (P : FVec Ideal S32x2x5632 .f32)

/-- The gated product of a row and a lane of the arrays, and of the last two rows of each stream the first half. -/
def gatedAt (r : Fin 1024) (n : Fin 5632) : EReal :=
  flatGated (fun r k => X (ix2 r k)) (fun k => A (ix2 k n)) (fun k => B (ix2 k n)) (fun i => W (ix2 i n)) (D (ix2 0 n))
    (fun s i => P (ix3 s i n)) r
def tailAt (b : Fin 32) (i : Fin 2) (n : Fin 5632) : EReal :=
  flatColumn (fun r k => X (ix2 r k)) (fun k => A (ix2 k n)) b (30 + i.val)

def gatedAll : FVec Ideal S1024x5632 .bf16 := fun i =>
  gatedAt X A B W D P ⟨(i 0).val, (i 0).isLt⟩ ⟨(i 1).val, (i 1).isLt⟩
def tailAll : FVec Ideal S32x2x5632 .f32 := fun i =>
  tailAt X A ⟨(i 0).val, (i 0).isLt⟩ ⟨(i 1).val, (i 1).isLt⟩ ⟨(i 2).val, (i 2).isLt⟩
end

/-! ## The blocks of the arrays at a grid point -/

variable (m : (ℓ : Loc nD τ sig) → Buf (Elt Ideal) ℓ)

/-- The block of each window at a grid point. -/
theorem idx : ∀ t : Fin cfg0.N, win0_0.index t = ![0, 0] ∧ win0_1.index t = ![0, t.val]
    ∧ win0_2.index t = ![0, t.val] ∧ win0_3.index t = ![0, t.val] ∧ win0_4.index t = ![0, t.val]
    ∧ win0_5.index t = ![0, 0, t.val] ∧ win0_6.index t = ![0, t.val] ∧ win0_7.index t = ![0, 0, t.val] :=
  (by decide +kernel : ∀ t : Fin grid0.N, _)

theorem lt11 (t : Fin cfg0.N) : t.val < 11 := t.isLt

/-- The lane of the arrays that a block's lane is. -/
def colOf (t : Fin cfg0.N) (e : Fin 512) : Fin 5632 := ⟨t.val * 512 + e.val, by have := lt11 t; omega⟩

/-- The arrays the host hands to the kernel. -/
def arrX (c : Dev nD) : FVec Ideal S1024x2048 .bf16 := V m c main_v2
def arrA (c : Dev nD) : FVec Ideal S2048x5632 .bf16 := V m c main_v4
def arrB (c : Dev nD) : FVec Ideal S2048x5632 .bf16 := V m c main_v6
def arrW (c : Dev nD) : FVec Ideal S3x5632 .f32 := V m c main_v7
def arrD (c : Dev nD) : FVec Ideal S1x5632 .f32 := V m c main_v9
def arrP (c : Dev nD) : FVec Ideal S32x2x5632 .f32 := V m c main_v10

theorem emb0 (t : Fin cfg0.N) (r : Fin 1024) (k : Fin 2048) :
    (win0_0.blk t).view.emb (ix2 r k) = (ix2 r k : S1024x2048.Idx) := by
  refine funext fun a => Fin.ext ?_
  fin_cases a
  · change win0_0.index t 0 * 1024 + 1 * r.val = r.val
    rw [(idx t).1]; simp
  · change win0_0.index t 1 * 2048 + 1 * k.val = k.val
    rw [(idx t).1]; simp

theorem emb1 (t : Fin cfg0.N) (k : Fin 2048) (e : Fin 512) :
    (win0_1.blk t).view.emb (ix2 k e) = (ix2 k (colOf t e) : S2048x5632.Idx) := by
  refine funext fun a => Fin.ext ?_
  fin_cases a
  · change win0_1.index t 0 * 2048 + 1 * k.val = k.val
    rw [(idx t).2.1]; simp
  · change win0_1.index t 1 * 512 + 1 * e.val = t.val * 512 + e.val
    rw [(idx t).2.1]; simp

theorem emb2 (t : Fin cfg0.N) (k : Fin 2048) (e : Fin 512) :
    (win0_2.blk t).view.emb (ix2 k e) = (ix2 k (colOf t e) : S2048x5632.Idx) := by
  refine funext fun a => Fin.ext ?_
  fin_cases a
  · change win0_2.index t 0 * 2048 + 1 * k.val = k.val
    rw [(idx t).2.2.1]; simp
  · change win0_2.index t 1 * 512 + 1 * e.val = t.val * 512 + e.val
    rw [(idx t).2.2.1]; simp

theorem emb3 (t : Fin cfg0.N) (k : Fin 3) (e : Fin 512) :
    (win0_3.blk t).view.emb (ix2 k e) = (ix2 k (colOf t e) : S3x5632.Idx) := by
  refine funext fun a => Fin.ext ?_
  fin_cases a
  · change win0_3.index t 0 * 3 + 1 * k.val = k.val
    rw [(idx t).2.2.2.1]; simp
  · change win0_3.index t 1 * 512 + 1 * e.val = t.val * 512 + e.val
    rw [(idx t).2.2.2.1]; simp

theorem emb4 (t : Fin cfg0.N) (e : Fin 512) :
    (win0_4.blk t).view.emb (ix2 0 e) = (ix2 0 (colOf t e) : S1x5632.Idx) := by
  refine funext fun a => Fin.ext ?_
  fin_cases a
  · change win0_4.index t 0 * 1 + 1 * 0 = 0
    rw [(idx t).2.2.2.2.1]; simp
  · change win0_4.index t 1 * 512 + 1 * e.val = t.val * 512 + e.val
    rw [(idx t).2.2.2.2.1]; simp

theorem emb5 (t : Fin cfg0.N) (b : Fin 32) (i : Fin 2) (e : Fin 512) :
    (win0_5.blk t).view.emb (ix3 b i e) = (ix3 b i (colOf t e) : S32x2x5632.Idx) := by
  refine funext fun a => Fin.ext ?_
  fin_cases a
  · change win0_5.index t 0 * 32 + 1 * b.val = b.val
    rw [(idx t).2.2.2.2.2.1]; simp
  · change win0_5.index t 1 * 2 + 1 * i.val = i.val
    rw [(idx t).2.2.2.2.2.1]; simp
  · change win0_5.index t 2 * 512 + 1 * e.val = t.val * 512 + e.val
    rw [(idx t).2.2.2.2.2.1]; simp

theorem emb6 (t : Fin cfg0.N) (r : Fin 1024) (e : Fin 512) :
    (win0_6.blk t).view.emb (ix2 r e) = (ix2 r (colOf t e) : S1024x5632.Idx) := by
  refine funext fun a => Fin.ext ?_
  fin_cases a
  · change win0_6.index t 0 * 1024 + 1 * r.val = r.val
    rw [(idx t).2.2.2.2.2.2.1]; simp
  · change win0_6.index t 1 * 512 + 1 * e.val = t.val * 512 + e.val
    rw [(idx t).2.2.2.2.2.2.1]; simp

theorem emb7 (t : Fin cfg0.N) (b : Fin 32) (i : Fin 2) (e : Fin 512) :
    (win0_7.blk t).view.emb (ix3 b i e) = (ix3 b i (colOf t e) : S32x2x5632.Idx) := by
  refine funext fun a => Fin.ext ?_
  fin_cases a
  · change win0_7.index t 0 * 32 + 1 * b.val = b.val
    rw [(idx t).2.2.2.2.2.2.2]; simp
  · change win0_7.index t 1 * 2 + 1 * i.val = i.val
    rw [(idx t).2.2.2.2.2.2.2]; simp
  · change win0_7.index t 2 * 512 + 1 * e.val = t.val * 512 + e.val
    rw [(idx t).2.2.2.2.2.2.2]; simp

theorem block0 (c : Dev nD) (t : Fin cfg0.N) (r : Fin 1024) (k : Fin 2048) :
    (iblk m c 0 t (ix2 r k) : EReal) = arrX m c (ix2 r k) := by
  exact congrArg (arrX m c) (emb0 t r k)
theorem block1 (c : Dev nD) (t : Fin cfg0.N) (k : Fin 2048) (e : Fin 512) :
    (iblk m c 1 t (ix2 k e) : EReal) = arrA m c (ix2 k (colOf t e)) := by
  rw [← emb1]; rfl
theorem block2 (c : Dev nD) (t : Fin cfg0.N) (k : Fin 2048) (e : Fin 512) :
    (iblk m c 2 t (ix2 k e) : EReal) = arrB m c (ix2 k (colOf t e)) := by
  rw [← emb2]; rfl
theorem block3 (c : Dev nD) (t : Fin cfg0.N) (k : Fin 3) (e : Fin 512) :
    (iblk m c 3 t (ix2 k e) : EReal) = arrW m c (ix2 k (colOf t e)) := by
  rw [← emb3]; rfl
theorem block4 (c : Dev nD) (t : Fin cfg0.N) (e : Fin 512) :
    (iblk m c 4 t (ix2 0 e) : EReal) = arrD m c (ix2 0 (colOf t e)) := by
  rw [← emb4]; rfl
theorem block5 (c : Dev nD) (t : Fin cfg0.N) (b : Fin 32) (i : Fin 2) (e : Fin 512) :
    (iblk m c 5 t (ix3 b i e) : EReal) = arrP m c (ix3 b i (colOf t e)) := by
  rw [← emb5]; rfl

/-! ## The result arrays -/

section
variable (c : Dev nD) (t : Fin cfg0.N)

theorem gated_side (h : Fin 256 → Fin 512) (a b : Vec Ideal S2048x256 .bf16) (w : Vec Ideal S3x256 .f32)
    (d : Vec Ideal S1x256 .f32) (p : Vec Ideal S32x2x256 .f32)
    (ha : ∀ k e, (a (ix2 k e) : EReal) = iblk m c 1 t (ix2 k (h e)))
    (hb : ∀ k e, (b (ix2 k e) : EReal) = iblk m c 2 t (ix2 k (h e)))
    (hw : ∀ k e, (w (ix2 k e) : EReal) = iblk m c 3 t (ix2 k (h e)))
    (hd : ∀ e, (d (ix2 0 e) : EReal) = iblk m c 4 t (ix2 0 (h e)))
    (hp : ∀ s i e, (p (ix3 s i e) : EReal) = iblk m c 5 t (ix3 s i (h e))) (r : Fin 1024) (e : Fin 256) :
    (gate (F := Ideal) (rows (iblk m c 0 t)) a b w d p (ix2 r e) : EReal)
      = gatedAt (arrX m c) (arrA m c) (arrB m c) (arrW m c) (arrD m c) (arrP m c) r (colOf t (h e)) := by
  refine (gate_flat _ _ _ _ _ _ r e).trans ?_
  unfold gatedAt
  exact flatGated_congr r (funext fun r => funext fun k => (rows_apply _ r k).trans (block0 m c t r k))
    (funext fun k => (ha k e).trans (block1 m c t k (h e))) (funext fun k => (hb k e).trans (block2 m c t k (h e)))
    (funext fun k => (hw k e).trans (block3 m c t k (h e))) ((hd e).trans (block4 m c t (h e)))
    (funext fun s => funext fun i => (hp s i e).trans (block5 m c t s i (h e)))

theorem tail_side (h : Fin 256 → Fin 512) (a : Vec Ideal S2048x256 .bf16)
    (ha : ∀ k e, (a (ix2 k e) : EReal) = iblk m c 1 t (ix2 k (h e))) (b : Fin 32) (i : Fin 2) (e : Fin 256) :
    (last (F := Ideal) (rows (iblk m c 0 t)) a (ix3 b i e) : EReal)
      = tailAt (arrX m c) (arrA m c) b i (colOf t (h e)) := by
  refine (last_flat _ _ b i e).trans ?_
  unfold tailAt
  exact congrArg₂ (fun x a => flatColumn x a b (30 + i.val))
    (funext fun r => funext fun k => (rows_apply _ r k).trans (block0 m c t r k))
    (funext fun k => (ha k e).trans (block1 m c t k (h e)))

theorem gated_point (r : Fin 1024) (n : Fin 512) : ((outsAt0 m c t).1 (ix2 r n) : EReal)
    = gatedAt (arrX m c) (arrA m c) (arrB m c) (arrW m c) (arrD m c) (arrP m c) r (colOf t n) := by
  unfold outsAt0
  dsimp only
  rcases left_or_right n with ⟨e, rfl⟩ | ⟨e, rfl⟩
  · rw [gated_left]
    exact gated_side m c t left _ _ _ _ _ (leftW_apply _) (leftW_apply _) (leftC_apply _) (leftB_apply _) (leftP_apply _) r e
  · rw [gated_right]
    exact gated_side m c t right _ _ _ _ _ (rightW_apply _) (rightW_apply _) (rightC_apply _) (rightB_apply _)
      (rightP_apply _) r e

theorem tail_point (b : Fin 32) (i : Fin 2) (n : Fin 512) : ((outsAt0 m c t).2 (ix3 b i n) : EReal)
    = tailAt (arrX m c) (arrA m c) b i (colOf t n) := by
  unfold outsAt0
  dsimp only
  rcases left_or_right n with ⟨e, rfl⟩ | ⟨e, rfl⟩
  · rw [tail_left]
    exact tail_side m c t left _ (leftW_apply _) b i e
  · rw [tail_right]
    exact tail_side m c t right _ (rightW_apply _) b i e

theorem gated_laid (y : S1024x512.Idx) : ((outsAt0 m c t).1 y : EReal)
    = gatedAll (arrX m c) (arrA m c) (arrB m c) (arrW m c) (arrD m c) (arrP m c) ((win0_6.blk t).view.emb y) := by
  obtain ⟨r, e, rfl⟩ : ∃ (r : Fin 1024) (e : Fin 512), y = ix2 r e :=
    ⟨⟨(y 0).val, (y 0).isLt⟩, ⟨(y 1).val, (y 1).isLt⟩, funext fun a => by fin_cases a <;> rfl⟩
  rw [emb6]
  exact gated_point m c t r e

theorem tail_laid (y : S32x2x512.Idx) : ((outsAt0 m c t).2 y : EReal)
    = tailAll (arrX m c) (arrA m c) ((win0_7.blk t).view.emb y) := by
  obtain ⟨b, i, e, rfl⟩ : ∃ (b : Fin 32) (i : Fin 2) (e : Fin 512), y = ix3 b i e :=
    ⟨y 0, y 1, y 2, by funext a; fin_cases a <;> rfl⟩
  rw [emb7]
  exact tail_point m c t b i e
end

/-- The array of gated products after the run. -/
theorem gated_array (c : Dev nD) : (dats m 0 c).arrAt 6 cfg0.N
    = gatedAll (arrX m c) (arrA m c) (arrB m c) (arrW m c) (arrD m c) (arrP m c) := by
  refine (dats m 0 c).arrAt_eq_of_covers 6 _ (by decide +kernel) fun t _ y => ?_
  blk_simp
  rw [after0_6]
  exact gated_laid m c t y

/-- The array of last rows after the run. -/
theorem tail_array (c : Dev nD) : (dats m 0 c).arrAt 7 cfg0.N = tailAll (arrX m c) (arrA m c) := by
  refine (dats m 0 c).arrAt_eq_of_covers 7 _ (by decide +kernel) fun t _ y => ?_
  blk_simp
  rw [after0_7]
  exact tail_laid m c t y

end Cert.UpSampleIdeal.Value

end
-- ==== Proof.UpSampleHost.lean ====
/- The two results of the sample's gated product, from the argument arrays by their coordinates. The host pads the lanes with zeros and
   cuts the padding off again, so no padded lane is read. -/
module

public import proofs.«01_k».proof.Proof.UpSampleArray
public import proofs.«01_k».proof.Proof.UpHost
public import Idealize.ShloMosaic.Lib.StableHlo.RunRead
public import Idealize.ShloMosaic.Lib.KernelVsHost

@[expose] public section

set_option maxRecDepth 16384

noncomputable section

/-! ## The results by coordinates -/

namespace Cert.Gated

open Idealize.ShloMosaic

/-- A column of a product, a stream's rows counted. -/
def sampleColumn (h : Fin 32 → Fin 32 → Fin 2048 → EReal) (w : Fin 2048 → Fin 11008 → EReal) (b : Fin 32) (n : Fin 11008)
    (r : ℕ) : EReal := ∑ j : Fin 2048, h b ⟨r % 32, Nat.mod_lt _ (by decide)⟩ j * w j n

/-- The gated product of a stream's row and a lane. -/
def sampleGated (h : Fin 32 → Fin 32 → Fin 2048 → EReal) (p : Fin 32 → Fin 2 → Fin 5504 → EReal)
    (w : Fin 2048 → Fin 11008 → EReal) (cw : Fin 3 → Fin 5504 → EReal) (cb : Fin 5504 → EReal) (b : Fin 32) (r : ℕ)
    (n : Fin 5504) : EReal :=
  glu (conv (cb n) (fun i => cw i n) (after (fun i => p b i n) (sampleColumn h w b (firstHalf n))) r)
    (sampleColumn h w b (secondHalf n) r)

/-- The last two rows of a stream. -/
def sampleTail (h : Fin 32 → Fin 32 → Fin 2048 → EReal) (w : Fin 2048 → Fin 11008 → EReal) (b : Fin 32) (i : Fin 2)
    (n : Fin 5504) : EReal := sampleColumn h w b (firstHalf n) (30 + i.val)

end Cert.Gated

namespace Cert.UpSampleIdeal.Value

open Cert.UpSampleIdeal Cert.UpSampleIdeal.Gen Idealize.ShloMosaic Idealize.ShloMosaic.TcCoe Idealize.SL.Sem Cert.Gated Cert.Dense
open Idealize.ShloMosaic.StableHlo

variable (m : (ℓ : Loc nD τ sig) → Buf (Elt Ideal) ℓ)

/-- The argument arrays, by their coordinates. -/
def argH (c : Dev nD) (b r : Fin 32) (j : Fin 2048) : EReal := m (c, Proc.tc.devRef main_arg0) (ix3 b r j)
def argP (c : Dev nD) (b : Fin 32) (i : Fin 2) (n : Fin 5504) : EReal := m (c, Proc.tc.devRef main_arg1) (ix3 b i n)
def argW (c : Dev nD) (j : Fin 2048) (n : Fin 11008) : EReal := m (c, Proc.tc.devRef main_arg2) (ix2 j n)
def argC (c : Dev nD) (i : Fin 3) (n : Fin 5504) : EReal := m (c, Proc.tc.devRef main_arg3) (ix2 i n)
def argB (c : Dev nD) (n : Fin 5504) : EReal := m (c, Proc.tc.devRef main_arg4) (ix1 n)

/-- A lane among the padded ones. -/
def lane (n : Fin 5504) : Fin 5632 := ⟨n.val, by omega⟩

/-! ## The arrays the host hands to the kernel -/

def flatH (x : FVec Ideal S32x32x2048 .f32) : FVec Ideal S1024x2048 .bf16 :=
  truncf .bf16 (shapeCast S1024x2048 x shapeCasts_S32x32x2048_S1024x2048) bitsLt_bf16_f32
def padFirst (w : FVec Ideal S2048x11008 .f32) : FVec Ideal S2048x5632 .bf16 :=
  pad S2048x5632 ![0, 0] ![0, 128] ![0, 0]
    (extractStridedSlice S2048x5504 ![0, 0] (truncf (F := Ideal) .bf16 w bitsLt_bf16_f32) slices_S2048x11008_S2048x5504_0_0)
    (constant (F := Ideal) S_ .bf16 0x0000#16) pads_S2048x5504_S2048x5632_000_01280 h_S_
def padSecond (w : FVec Ideal S2048x11008 .f32) : FVec Ideal S2048x5632 .bf16 :=
  pad S2048x5632 ![0, 0] ![0, 128] ![0, 0]
    (extractStridedSlice S2048x5504 ![0, 5504] (truncf (F := Ideal) .bf16 w bitsLt_bf16_f32)
      slices_S2048x11008_S2048x5504_0_5504)
    (constant (F := Ideal) S_ .bf16 0x0000#16) pads_S2048x5504_S2048x5632_000_01280 h_S_
def padTaps (x : FVec Ideal S3x5504 .f32) : FVec Ideal S3x5632 .f32 :=
  pad S3x5632 ![0, 0] ![0, 128] ![0, 0] x (constant (F := Ideal) S_ .f32 0x00000000#32)
    pads_S3x5504_S3x5632_000_01280 h_S_
def padBias (x : FVec Ideal S5504 .f32) : FVec Ideal S1x5632 .f32 :=
  pad S1x5632 ![0, 0] ![0, 128] ![0, 0] (shapeCast S1x5504 x shapeCasts_S5504_S1x5504)
    (constant (F := Ideal) S_ .f32 0x00000000#32) pads_S1x5504_S1x5632_000_01280 h_S_
def padState (x : FVec Ideal S32x2x5504 .f32) : FVec Ideal S32x2x5632 .f32 :=
  pad S32x2x5632 ![0, 0, 0] ![0, 0, 128] ![0, 0, 0] x (constant (F := Ideal) S_ .f32 0x00000000#32)
    pads_S32x2x5504_S32x2x5632_000_000_01280 h_S_

theorem flatH_apply (x : FVec Ideal S32x32x2048 .f32) (b r : Fin 32) (j : Fin 2048) :
    (flatH x (ix2 ⟨32 * b.val + r.val, by omega⟩ j) : EReal) = x (ix3 b r j) := by
  pointwise [flatH]

theorem padFirst_apply (w : FVec Ideal S2048x11008 .f32) (j : Fin 2048) (n : Fin 5504) :
    (padFirst w (ix2 j (lane n)) : EReal) = w (ix2 j (firstHalf n)) :=
  (pad_apply_of_inside _ _ _ _ _ _ _ _ (ix2 j n) (fun a => by fin_cases a <;> simp [lane])).trans
    (extractStridedSlice_apply ![0, 0] (truncf (F := Ideal) .bf16 w bitsLt_bf16_f32) slices_S2048x11008_S2048x5504_0_0
      (ix2 j n) (ix2 j (firstHalf n)) (fun a => by fin_cases a <;> simp [firstHalf]))

theorem padSecond_apply (w : FVec Ideal S2048x11008 .f32) (j : Fin 2048) (n : Fin 5504) :
    (padSecond w (ix2 j (lane n)) : EReal) = w (ix2 j (secondHalf n)) :=
  (pad_apply_of_inside _ _ _ _ _ _ _ _ (ix2 j n) (fun a => by fin_cases a <;> simp [lane])).trans
    (extractStridedSlice_apply ![0, 5504] (truncf (F := Ideal) .bf16 w bitsLt_bf16_f32)
      slices_S2048x11008_S2048x5504_0_5504 (ix2 j n) (ix2 j (secondHalf n))
      (fun a => by fin_cases a <;> simp [secondHalf]))

theorem padTaps_apply (x : FVec Ideal S3x5504 .f32) (i : Fin 3) (n : Fin 5504) :
    (padTaps x (ix2 i (lane n)) : EReal) = x (ix2 i n) :=
  pad_apply_of_inside _ _ _ _ _ _ _ _ (ix2 i n) (fun a => by fin_cases a <;> simp [lane])

theorem padBias_apply (x : FVec Ideal S5504 .f32) (n : Fin 5504) :
    (padBias x (ix2 0 (lane n)) : EReal) = x (ix1 n) :=
  (pad_apply_of_inside _ _ _ _ _ _ _ _ (ix2 0 n) (fun a => by fin_cases a <;> simp [lane])).trans (by pointwise)

theorem padState_apply (x : FVec Ideal S32x2x5504 .f32) (b : Fin 32) (i : Fin 2) (n : Fin 5504) :
    (padState x (ix3 b i (lane n)) : EReal) = x (ix3 b i n) :=
  pad_apply_of_inside _ _ _ _ _ _ _ _ (ix3 b i n) (fun a => by fin_cases a <;> simp [lane])

theorem arrX_eq (c : Dev nD) : arrX m c = flatH (m (c, Proc.tc.devRef main_arg0)) := by
  refine (after_last_write (i := 2) [main_v3, main_cst, main_v4, main_v5, main_cst_0, main_v6, main_cst_1, main_v7, main_v8,
    main_cst_2, main_v9, main_cst_3, main_v10] rfl rfl (by decide) _).trans ?_
  refine (unary_result main_v1 main_v2 _ _ _ _).trans ?_
  rw [upto_last_write (i := 1) [] rfl rfl (by decide)]
  refine congrArg (truncf (F := Ideal) .bf16 · bitsLt_bf16_f32) ((reshape_result main_arg0 main_v1 rfl _ _ _ _).trans ?_)
  exact congrArg (shapeCast S1024x2048 · shapeCasts_S32x32x2048_S1024x2048)
    (upto_unwritten [main_v0] rfl (by decide) _)

theorem arrA_eq (c : Dev nD) : arrA m c = padFirst (m (c, Proc.tc.devRef main_arg2)) := by
  refine (after_last_write (i := 5) [main_v5, main_cst_0, main_v6, main_cst_1, main_v7, main_v8,
    main_cst_2, main_v9, main_cst_3, main_v10] rfl rfl (by decide) _).trans ?_
  refine (binary_result main_v3 main_cst main_v4 _ _ _ _ _).trans ?_
  rw [upto_last_write (i := 3) [main_cst] rfl rfl (by decide), upto_last_write (i := 4) [] rfl rfl (by decide)]
  refine congrArg₂ (fun x v => pad S2048x5632 ![0, 0] ![0, 128] ![0, 0] x v pads_S2048x5504_S2048x5632_000_01280 h_S_)
    ((unary_result main_v0 main_v3 _ _ _ _).trans ?_) rfl
  rw [upto_last_write (i := 0) [main_v1, main_v2] rfl rfl (by decide)]
  rfl

theorem arrB_eq (c : Dev nD) : arrB m c = padSecond (m (c, Proc.tc.devRef main_arg2)) := by
  refine (after_last_write (i := 8) [main_cst_1, main_v7, main_v8,
    main_cst_2, main_v9, main_cst_3, main_v10] rfl rfl (by decide) _).trans ?_
  refine (binary_result main_v5 main_cst_0 main_v6 _ _ _ _ _).trans ?_
  rw [upto_last_write (i := 6) [main_cst_0] rfl rfl (by decide), upto_last_write (i := 7) [] rfl rfl (by decide)]
  refine congrArg₂ (fun x v => pad S2048x5632 ![0, 0] ![0, 128] ![0, 0] x v pads_S2048x5504_S2048x5632_000_01280 h_S_)
    ((unary_result main_v0 main_v5 _ _ _ _).trans ?_) rfl
  rw [upto_last_write (i := 0) [main_v1, main_v2, main_v3, main_cst, main_v4] rfl rfl (by decide)]
  rfl

theorem arrW_eq (c : Dev nD) : arrW m c = padTaps (m (c, Proc.tc.devRef main_arg3)) := by
  refine (after_last_write (i := 10) [main_v8, main_cst_2, main_v9, main_cst_3, main_v10] rfl rfl (by decide) _).trans ?_
  refine (binary_result main_arg3 main_cst_1 main_v7 _ _ _ _ _).trans ?_
  rw [upto_unwritten [main_v0, main_v1, main_v2, main_v3, main_cst, main_v4, main_v5, main_cst_0, main_v6, main_cst_1]
    rfl (by decide), upto_last_write (i := 9) [] rfl rfl (by decide)]
  rfl

theorem arrD_eq (c : Dev nD) : arrD m c = padBias (m (c, Proc.tc.devRef main_arg4)) := by
  refine (after_last_write (i := 13) [main_cst_3, main_v10] rfl rfl (by decide) _).trans ?_
  refine (binary_result main_v8 main_cst_2 main_v9 _ _ _ _ _).trans ?_
  rw [upto_last_write (i := 11) [main_cst_2] rfl rfl (by decide), upto_last_write (i := 12) [] rfl rfl (by decide)]
  refine congrArg₂ (fun x v => pad S1x5632 ![0, 0] ![0, 128] ![0, 0] x v pads_S1x5504_S1x5632_000_01280 h_S_)
    ((reshape_result main_arg4 main_v8 rfl _ _ _ _).trans ?_) rfl
  exact congrArg (shapeCast S1x5504 · shapeCasts_S5504_S1x5504) (upto_unwritten [main_v0, main_v1, main_v2, main_v3,
    main_cst, main_v4, main_v5, main_cst_0, main_v6, main_cst_1, main_v7] rfl (by decide) _)

theorem arrP_eq (c : Dev nD) : arrP m c = padState (m (c, Proc.tc.devRef main_arg1)) := by
  refine (after_last_write (i := 15) [] rfl rfl (by decide) _).trans ?_
  refine (binary_result main_arg1 main_cst_3 main_v10 _ _ _ _ _).trans ?_
  rw [upto_unwritten [main_v0, main_v1, main_v2, main_v3, main_cst, main_v4, main_v5, main_cst_0, main_v6, main_cst_1,
    main_v7, main_v8, main_cst_2, main_v9, main_cst_3] rfl (by decide), upto_last_write (i := 14) [] rfl rfl (by decide)]
  rfl

/-! ## The results -/

theorem first_apply (c : Dev nD) (b : Fin 32) (n : Fin 5504) :
    flatColumn (fun r k => arrX m c (ix2 r k)) (fun k => arrA m c (ix2 k (lane n))) b
      = sampleColumn (argH m c) (argW m c) b (firstHalf n) := by
  refine funext fun r => Finset.sum_congr rfl fun j _ => congrArg₂ (fun x y : EReal => x * y) ?_ ?_
  · rw [arrX_eq]
    exact flatH_apply _ b ⟨r % 32, Nat.mod_lt _ (by decide)⟩ j
  · rw [arrA_eq]
    exact padFirst_apply _ j n

theorem second_apply (c : Dev nD) (b : Fin 32) (n : Fin 5504) :
    flatColumn (fun r k => arrX m c (ix2 r k)) (fun k => arrB m c (ix2 k (lane n))) b
      = sampleColumn (argH m c) (argW m c) b (secondHalf n) := by
  refine funext fun r => Finset.sum_congr rfl fun j _ => congrArg₂ (fun x y : EReal => x * y) ?_ ?_
  · rw [arrX_eq]
    exact flatH_apply _ b ⟨r % 32, Nat.mod_lt _ (by decide)⟩ j
  · rw [arrB_eq]
    exact padSecond_apply _ j n

theorem gatedAt_apply (c : Dev nD) (r : Fin 1024) (n : Fin 5504) :
    gatedAt (arrX m c) (arrA m c) (arrB m c) (arrW m c) (arrD m c) (arrP m c) r (lane n)
      = sampleGated (argH m c) (argP m c) (argW m c) (argC m c) (argB m c) (sampleStream r) (r.val % 32) n := by
  have hw : (fun i : Fin 3 => (arrW m c (ix2 i (lane n)) : EReal)) = fun i => argC m c i n := funext fun i => by
    rw [arrW_eq]; exact padTaps_apply _ i n
  have hd : (arrD m c (ix2 0 (lane n)) : EReal) = argB m c n := by
    rw [arrD_eq]; exact padBias_apply _ n
  have hp : (fun i : Fin 2 => (arrP m c (ix3 (sampleStream r) i (lane n)) : EReal))
      = fun i => argP m c (sampleStream r) i n := funext fun i => by
    rw [arrP_eq]; exact padState_apply _ (sampleStream r) i n
  unfold gatedAt flatGated sampleGated
  rw [first_apply, second_apply, hw, hd]
  exact congrArg (fun p => glu (conv (argB m c n) (fun i => argC m c i n)
    (Gated.after p (sampleColumn (argH m c) (argW m c) (sampleStream r) (firstHalf n))) (r.val % 32)) _) hp

/-- What the host cuts out of the two arrays. -/
def cutGated (x : FVec Ideal S1024x5632 .bf16) : FVec Ideal S1024x5504 .bf16 :=
  extractStridedSlice S1024x5504 ![0, 0] x slices_S1024x5632_S1024x5504_0_0
def cutTail (x : FVec Ideal S32x2x5632 .f32) : FVec Ideal S32x2x5504 .f32 :=
  extractStridedSlice S32x2x5504 ![0, 0, 0] x slices_S32x2x5632_S32x2x5504_0_0_0

theorem cutGated_apply (x : FVec Ideal S1024x5632 .bf16) (i : Fin 1024) (n : Fin 5504) :
    (cutGated x (ix2 i n) : EReal) = x (ix2 i (lane n)) := by
  pointwise [cutGated]
  rfl

theorem cutTail_apply (x : FVec Ideal S32x2x5632 .f32) (b : Fin 32) (i : Fin 2) (n : Fin 5504) :
    (cutTail x (ix3 b i n) : EReal) = x (ix3 b i (lane n)) := by
  pointwise [cutTail]
  rfl

theorem gated_result (c : Dev nD) (i : Fin 1024) (n : Fin 5504) :
    (cutGated ((dats m 0 c).arrAt 6 cfg0.N) (ix2 i n) : EReal)
      = sampleGated (argH m c) (argP m c) (argW m c) (argC m c) (argB m c) (sampleStream i) (i.val % 32) n := by
  rw [gated_array]
  exact (cutGated_apply _ i n).trans (gatedAt_apply m c i n)

theorem tail_result (c : Dev nD) (b : Fin 32) (i : Fin 2) (n : Fin 5504) :
    (cutTail ((dats m 0 c).arrAt 7 cfg0.N) (ix3 b i n) : EReal) = sampleTail (argH m c) (argW m c) b i n := by
  rw [tail_array]
  exact (cutTail_apply _ b i n).trans (congrFun (first_apply m c b n) (30 + i.val))

/-! ## The run -/

/-- The contents after the kernel's call. -/
def afterCall (c : Dev nD) : Valuation τ sig (Elt Ideal) :=
  Pipeline.withArrays cfg0.spec c (V0 m c) fun w => (dats m 0 c).arrAt w cfg0.N

theorem call_gated (c : Dev nD) : afterCall m c (Proc.devRef .tc main_v11_0) = (dats m 0 c).arrAt 6 cfg0.N :=
  Pipeline.withArrays_arr spec0 (by decide) c (V0 m c) (fun w => (dats m 0 c).arrAt w cfg0.N) 6
theorem call_tail (c : Dev nD) : afterCall m c (Proc.devRef .tc main_v11_1) = (dats m 0 c).arrAt 7 cfg0.N :=
  Pipeline.withArrays_arr spec0 (by decide) c (V0 m c) (fun w => (dats m 0 c).arrAt w cfg0.N) 7

theorem end_gated (c : Dev nD) : Pipeline.afterTail₀ cfgs (dats m) 0 (V0 m) [hostOps1] c main_v12
    = cutGated ((dats m 0 c).arrAt 6 cfg0.N) := by
  refine (show _ = StableHlo.after (hostOps1 (F := Ideal)) (afterCall m c) (Proc.devRef .tc main_v12) from rfl).trans ?_
  refine (after_last_write (i := 0) [main_v13] rfl rfl (by decide) _).trans ?_
  refine (unary_result main_v11_0 main_v12 _ _ _ _).trans ?_
  exact congrArg cutGated (call_gated m c)

theorem end_tail (c : Dev nD) : Pipeline.afterTail₀ cfgs (dats m) 0 (V0 m) [hostOps1] c main_v13
    = cutTail ((dats m 0 c).arrAt 7 cfg0.N) := by
  refine (show _ = StableHlo.after (hostOps1 (F := Ideal)) (afterCall m c) (Proc.devRef .tc main_v13) from rfl).trans ?_
  refine (after_last_write (i := 1) [] rfl rfl (by decide) _).trans ?_
  refine (unary_result main_v11_1 main_v13 _ _ _ _).trans ?_
  exact congrArg cutTail ((upto_unwritten [main_v12] rfl (by decide) _).trans (call_tail m c))

/-- The run: the two results, and the arguments as they were. -/
theorem run_results (ρ : Dev nD → PrngReg) :
    θ_run defs (onTc (τ := τ) (main (F := Ideal))) ⟨m, fun _ => 0, ρ⟩ (fun r => ∀ c : Dev nD,
      r.2.mem ((c.tc : Thread nD τ).loc main_v12) = cutGated ((dats m 0 c).arrAt 6 cfg0.N)
      ∧ r.2.mem ((c.tc : Thread nD τ).loc main_v13) = cutTail ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v12 (Pipeline.mem_restRefs_of main_v12 (by decide) (by decide))).trans (end_gated m c),
      ((h.1 c).2 main_v13 (Pipeline.mem_restRefs_of main_v13 (by decide) (by decide))).trans (end_tail m c),
      h.2 c⟩)
    (θ_run_and (run_main m ρ) (frame_of m ρ (dats m) (A_eq m) (run_main m ρ)))

end Cert.UpSampleIdeal.Value

end
-- ==== Proof.UpSampleReference.lean ====
/- What the reference of the sample's gated product computes: the same functions of the coordinates of the arrays as the
   kernel. -/
module

public import proofs.«01_k».proof.Proof.UpSampleHost
public import proofs.«01_k».proof.Proof.Gen.UpSampleReferenceIdeal.Read
public import Idealize.ShloMosaic.Lib.Pipeline.ValueKit

@[expose] public section

set_option maxRecDepth 16384

noncomputable section

namespace Cert.UpSampleReferenceIdeal.Read

open Cert.UpSampleReferenceIdeal Cert.UpSampleReferenceIdeal.Gen Idealize.ShloMosaic Cert.Gated Cert.Dense

theorem zero : Ideal.ofBits .f32 0x00000000#32 = (0 : EReal) := by simp [Ideal.ofBits, Ideal.ieee]

variable (x0 : (⟨S32x32x2048, .f32⟩ : BufTy).Contents (Elt Ideal))
  (x1 : (⟨S32x2x5504, .f32⟩ : BufTy).Contents (Elt Ideal)) (x2 : (⟨S2048x11008, .f32⟩ : BufTy).Contents (Elt Ideal))
  (x3 : (⟨S3x5504, .f32⟩ : BufTy).Contents (Elt Ideal)) (x4 : (⟨S5504, .f32⟩ : BufTy).Contents (Elt Ideal))

/-- A column of the product. -/
theorem product_apply (b : Fin 32) (t : Fin 32) (n : Fin 11008) :
    (val_main_v0 (F := Ideal) x0 x2 (ix3 b t n) : EReal)
      = sampleColumn (fun b r k => x0 (ix3 b r k)) (fun k n => x2 (ix2 k n)) b n t.val := by
  rw [val_main_v0_apply]
  refine Finset.sum_congr rfl fun k _ => congrArg₂ (· * ·) ?_ ?_
  · refine congrArg x0 (funext fun a => Fin.ext ?_)
    fin_cases a <;> simp [lidx_main_v0] <;> omega
  · exact congrArg x2 (funext fun a => by fin_cases a <;> rfl)

/-- The first half of the columns. -/
theorem first_apply (b : Fin 32) (t : Fin 32) (n : Fin 5504) :
    (val_main_v1 (F := Ideal) x0 x2 (ix3 b t n) : EReal)
      = sampleColumn (fun b r k => x0 (ix3 b r k)) (fun k n => x2 (ix2 k n)) b (firstHalf n) t.val := by
  rw [val_main_v1_apply]
  refine Eq.trans (congrArg _ ?_) (product_apply x0 x2 b t (firstHalf n))
  exact funext fun a => by fin_cases a <;> rfl

/-- The second half of the columns. -/
theorem second_apply (b : Fin 32) (t : Fin 32) (n : Fin 5504) :
    (val_main_v2 (F := Ideal) x0 x2 (ix3 b t n) : EReal)
      = sampleColumn (fun b r k => x0 (ix3 b r k)) (fun k n => x2 (ix2 k n)) b (secondHalf n) t.val := by
  rw [val_main_v2_apply]
  refine Eq.trans (congrArg _ ?_) (product_apply x0 x2 b t (secondHalf n))
  exact funext fun a => by fin_cases a <;> rfl

/-- The rows of a stream after the two rows before it. -/
theorem rows_apply (b : Fin 32) (t : Fin 34) (n : Fin 5504) :
    (val_main_v3 (F := Ideal) x0 x1 x2 (ix3 b t n) : EReal)
      = after (fun i => x1 (ix3 b i n))
          (sampleColumn (fun b r k => x0 (ix3 b r k)) (fun k n => x2 (ix2 k n)) b (firstHalf n)) t.val := by
  unfold val_main_v3
  by_cases h : t.val < 2
  · rw [after, dif_pos h]
    refine concatenate_pair_apply_left (t := S32x34x5504) (s₁ := S32x2x5504) (s₂ := S32x32x5504) 1 _ _ _ _ rfl (ix3 b ⟨t.val, h⟩ n) (fun a => ?_)
    fin_cases a <;> rfl
  · rw [after, dif_neg h]
    refine (concatenate_pair_apply_right (t := S32x34x5504) (s₁ := S32x2x5504) (s₂ := S32x32x5504) 1 _ _ _ _ rfl
      rfl (ix3 b ⟨t.val - 2, by omega⟩ n) (fun a ha => ?_) ?_).trans
      (first_apply x0 x2 b ⟨t.val - 2, by omega⟩ n)
    · fin_cases a
      · rfl
      · exact absurd rfl ha
      · rfl
    · show t.val - 2 + 2 = t.val
      omega

/-- The rows at the places the convolution reads. -/
theorem row0_apply (b : Fin 32) (t : Fin 32) (n : Fin 5504) :
    (val_main_v4 (F := Ideal) x0 x1 x2 (ix3 b t n) : EReal)
      = after (fun i => x1 (ix3 b i n))
          (sampleColumn (fun b r k => x0 (ix3 b r k)) (fun k n => x2 (ix2 k n)) b (firstHalf n)) t.val := by
  rw [val_main_v4_apply]
  refine Eq.trans (congrArg _ ?_) (rows_apply x0 x1 x2 b ⟨t.val, by omega⟩ n)
  exact funext fun a => by fin_cases a <;> rfl

theorem row1_apply (b : Fin 32) (t : Fin 32) (n : Fin 5504) :
    (val_main_v12 (F := Ideal) x0 x1 x2 (ix3 b t n) : EReal)
      = after (fun i => x1 (ix3 b i n))
          (sampleColumn (fun b r k => x0 (ix3 b r k)) (fun k n => x2 (ix2 k n)) b (firstHalf n)) (t.val + 1) := by
  rw [val_main_v12_apply]
  refine Eq.trans (congrArg _ ?_) (rows_apply x0 x1 x2 b ⟨t.val + 1, by omega⟩ n)
  refine funext fun a => Fin.ext ?_
  fin_cases a <;> simp <;> omega

theorem row2_apply (b : Fin 32) (t : Fin 32) (n : Fin 5504) :
    (val_main_v19 (F := Ideal) x0 x1 x2 (ix3 b t n) : EReal)
      = after (fun i => x1 (ix3 b i n))
          (sampleColumn (fun b r k => x0 (ix3 b r k)) (fun k n => x2 (ix2 k n)) b (firstHalf n)) (t.val + 2) := by
  rw [val_main_v19_apply]
  refine Eq.trans (congrArg _ ?_) (rows_apply x0 x1 x2 b ⟨t.val + 2, by omega⟩ n)
  refine funext fun a => Fin.ext ?_
  fin_cases a <;> simp <;> omega

/-- The weights of the three rows, and the bias. -/
theorem tap0_apply (b : Fin 32) (t : Fin 32) (n : Fin 5504) :
    (val_main_v8 (F := Ideal) x3 (ix3 b t n) : EReal) = x3 (ix2 0 n) := by
  rw [val_main_v8_apply, val_main_v7_apply, val_main_v6_apply, val_main_v5_apply]
  refine congrArg x3 (funext fun a => Fin.ext ?_)
  fin_cases a <;> simp

theorem tap1_apply (b : Fin 32) (t : Fin 32) (n : Fin 5504) :
    (val_main_v16 (F := Ideal) x3 (ix3 b t n) : EReal) = x3 (ix2 1 n) := by
  rw [val_main_v16_apply, val_main_v15_apply, val_main_v14_apply, val_main_v13_apply]
  refine congrArg x3 (funext fun a => Fin.ext ?_)
  fin_cases a <;> simp

theorem tap2_apply (b : Fin 32) (t : Fin 32) (n : Fin 5504) :
    (val_main_v23 (F := Ideal) x3 (ix3 b t n) : EReal) = x3 (ix2 2 n) := by
  rw [val_main_v23_apply, val_main_v22_apply, val_main_v21_apply, val_main_v20_apply]
  refine congrArg x3 (funext fun a => Fin.ext ?_)
  fin_cases a <;> simp

theorem bias_apply (b : Fin 32) (t : Fin 32) (n : Fin 5504) :
    (val_main_v27 (F := Ideal) x4 (ix3 b t n) : EReal) = x4 (ix1 n) := by
  rw [val_main_v27_apply, val_main_v26_apply]
  exact congrArg x4 (funext fun a => by fin_cases a <;> rfl)

/-- The convolution: the same sum, added in another order. -/
theorem conv_apply (b : Fin 32) (t : Fin 32) (n : Fin 5504) :
    (val_main_v28 (F := Ideal) x0 x1 x2 x3 x4 (ix3 b t n) : EReal)
      = conv (x4 (ix1 n)) (fun i => x3 (ix2 i n)) (after (fun i => x1 (ix3 b i n))
          (sampleColumn (fun b r k => x0 (ix3 b r k)) (fun k n => x2 (ix2 k n)) b (firstHalf n))) t.val := by
  rw [val_main_v28_apply, bias_apply, val_main_v25_apply, val_main_v18_apply, val_main_v11_apply, val_main_v9_apply,
    val_main_v17_apply, val_main_v24_apply, row0_apply, row1_apply, row2_apply, tap0_apply, tap1_apply, tap2_apply,
    val_main_v10_apply, val_main_cst_apply]
  have reorder : ∀ z d a b c : EReal, z = 0 → d + (z + a + b + c) = d + a + b + c := fun z d a b c hz => by
    rw [hz, zero_add, add_assoc, add_assoc, add_assoc]
  exact reorder _ _ _ _ _ zero

/-- The reference's first result at a row and a lane. -/
theorem gated_apply (i : Fin 1024) (n : Fin 5504) :
    (val_main_v39 (F := Ideal) x0 x1 x2 x3 x4 (ix2 i n) : EReal)
      = sampleGated (fun b r k => x0 (ix3 b r k)) (fun b i n => x1 (ix3 b i n)) (fun k n => x2 (ix2 k n))
          (fun i n => x3 (ix2 i n)) (fun n => x4 (ix1 n)) (sampleStream i) (i.val % 32) n := by
  have hi : idx_main_v39 (ix2 i n)
      = ix3 (sampleStream i) ⟨i.val % 32, Nat.mod_lt _ (by decide)⟩ n := by
    refine funext fun a => Fin.ext ?_
    fin_cases a <;> simp [sampleStream] <;> omega
  rw [val_main_v39_apply, hi, val_main_v38_apply, val_main_v37_apply, second_apply, val_main_v36_apply,
    val_main_v30_apply, val_main_v35_apply, val_main_v33_apply, val_main_v32_apply, conv_apply, val_main_v29_apply,
    val_main_v31_apply, val_main_v34_apply, val_main_cst_0_apply, val_main_cst_1_apply, val_main_cst_2_apply]
  rfl

/-- The reference's second result. -/
theorem tail_apply (b : Fin 32) (i : Fin 2) (n : Fin 5504) :
    (val_main_v40 (F := Ideal) x0 x1 x2 (ix3 b i n) : EReal)
      = sampleTail (fun b r k => x0 (ix3 b r k)) (fun k n => x2 (ix2 k n)) b i n := by
  have hi : idx_main_v40 (ix3 b i n) = ix3 b ⟨30 + i.val + 2, by omega⟩ n := by
    refine funext fun a => Fin.ext ?_
    fin_cases a <;> simp <;> omega
  rw [val_main_v40_apply, hi, rows_apply]
  exact after_later _ _ _

end Cert.UpSampleReferenceIdeal.Read

end
-- ==== Proof.ValuesArray.lean ====
/- The memory's values after the run: the product of its rows with the second half of the weights' columns. -/
module

public import proofs.«01_k».proof.Proof.Memory
public import proofs.«01_k».proof.Proof.Gen.ValuesIdeal.Value
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.ValuesIdeal.Value

open Cert.ValuesIdeal Cert.ValuesIdeal.Gen Idealize.ShloMosaic Idealize.ShloMosaic.TcCoe Idealize.SL.Sem
open Idealize.ShloMosaic.StableHlo Cert.Memory

variable (m : (ℓ : Loc nD τ sig) → Buf (Elt Ideal) ℓ)

/-- The block of each window at a grid point. -/
theorem idx : ∀ t : Fin cfg0.N, win0_0.index t = ![t.val / 2, 0] ∧ win0_1.index t = ![0, t.val % 2 + 2]
    ∧ win0_2.index t = ![t.val / 2, t.val % 2] :=
  (by decide +kernel : ∀ t : Fin grid0.N, _)

theorem lt4 (t : Fin cfg0.N) : t.val < 4 := t.isLt

/-- The row of the array that a block's row is, and the lane. -/
def rowOf (t : Fin cfg0.N) (r : Fin 1024) : Fin 2048 := ⟨t.val / 2 * 1024 + r.val, by have := lt4 t; omega⟩
def colOf (t : Fin cfg0.N) (e : Fin 512) : Fin 1024 := ⟨t.val % 2 * 512 + e.val, by omega⟩

/-- The argument arrays, by their coordinates. -/
def argH (c : Dev nD) (b : Fin 8) (r : Fin 256) (k : Fin 2048) : EReal := m (c, Proc.tc.devRef main_arg0) (ix3 b r k)
def argW (c : Dev nD) (k n : Fin 2048) : EReal := m (c, Proc.tc.devRef main_arg1) (ix2 k n)

/-! ## The arrays the host hands to the kernel -/

def flatH (h : FVec Ideal S8x256x2048 .f32) : FVec Ideal S2048x2048 .bf16 :=
  truncf .bf16 (shapeCast S2048x2048 h shapeCasts_S8x256x2048_S2048x2048) bitsLt_bf16_f32
def castW (w : FVec Ideal S2048x2048 .f32) : FVec Ideal S2048x2048 .bf16 := truncf .bf16 w bitsLt_bf16_f32

theorem flatH_apply (h : FVec Ideal S8x256x2048 .f32) (i k : Fin 2048) :
    (flatH h (ix2 i k) : EReal) = h (ix3 (stream i) (place i) k) := by
  pointwise [flatH]
  rfl

theorem v1_eq (c : Dev nD) : V m c main_v1 = flatH (m (c, Proc.tc.devRef main_arg0)) := by
  refine (after_last_write (i := 1) [main_v2] rfl rfl (by decide) _).trans ?_
  refine (unary_result main_v0 main_v1 _ _ _ _).trans ?_
  rw [upto_last_write (i := 0) [] rfl rfl (by decide)]
  rfl

theorem v2_eq (c : Dev nD) : V m c main_v2 = castW (m (c, Proc.tc.devRef main_arg1)) := by
  refine (after_last_write (i := 2) [] rfl rfl (by decide) _).trans ?_
  refine (unary_result main_arg1 main_v2 _ _ _ _).trans ?_
  exact congrArg castW (upto_unwritten [main_v0, main_v1] rfl (by decide) _)

/-! ## The blocks of the arrays at a grid point -/

theorem emb_h (t : Fin cfg0.N) (r : Fin 1024) (k : Fin 2048) :
    (win0_0.blk t).view.emb (ix2 r k) = (ix2 (rowOf t r) k : S2048x2048.Idx) := by
  refine funext fun a => Fin.ext ?_
  fin_cases a
  · change win0_0.index t 0 * 1024 + 1 * r.val = t.val / 2 * 1024 + r.val
    rw [(idx t).1]; simp
  · change win0_0.index t 1 * 2048 + 1 * k.val = k.val
    rw [(idx t).1]; simp

theorem emb_w (t : Fin cfg0.N) (k : Fin 2048) (e : Fin 512) :
    (win0_1.blk t).view.emb (ix2 k e) = (ix2 k (valueCol (colOf t e)) : S2048x2048.Idx) := by
  refine funext fun a => Fin.ext ?_
  fin_cases a
  · change win0_1.index t 0 * 2048 + 1 * k.val = k.val
    rw [(idx t).2.1]; simp
  · change win0_1.index t 1 * 512 + 1 * e.val = 1024 + (t.val % 2 * 512 + e.val)
    rw [(idx t).2.1]
    show (t.val % 2 + 2) * 512 + 1 * e.val = _
    omega

theorem emb_out (t : Fin cfg0.N) (r : Fin 1024) (e : Fin 512) :
    (win0_2.blk t).view.emb (ix2 r e) = (ix2 (rowOf t r) (colOf t e) : S2048x1024.Idx) := by
  refine funext fun a => Fin.ext ?_
  fin_cases a
  · change win0_2.index t 0 * 1024 + 1 * r.val = t.val / 2 * 1024 + r.val
    rw [(idx t).2.2]; simp
  · change win0_2.index t 1 * 512 + 1 * e.val = t.val % 2 * 512 + e.val
    rw [(idx t).2.2]; simp

theorem block_h (c : Dev nD) (t : Fin cfg0.N) (r : Fin 1024) (k : Fin 2048) :
    (iblk m c 0 t (ix2 r k) : EReal) = argH m c (stream (rowOf t r)) (place (rowOf t r)) k := by
  unfold iblk
  have h : V m c (Pipeline.arrRef spec0 0) = flatH (m (c, Proc.tc.devRef main_arg0)) := v1_eq m c
  rw [h]
  exact (congrArg (flatH (m (c, Proc.tc.devRef main_arg0))) (emb_h t r k)).trans (flatH_apply _ _ _)

theorem block_w (c : Dev nD) (t : Fin cfg0.N) (k : Fin 2048) (e : Fin 512) :
    (iblk m c 1 t (ix2 k e) : EReal) = argW m c k (valueCol (colOf t e)) := by
  unfold iblk
  have h : V m c (Pipeline.arrRef spec0 1) = castW (m (c, Proc.tc.devRef main_arg1)) := v2_eq m c
  rw [h]
  exact congrArg (castW (m (c, Proc.tc.devRef main_arg1))) (emb_w t k e)

/-! ## The result -/

/-- One grid point's product. -/
theorem pay_apply (h : Vec Ideal S1024x2048 .bf16) (w : Vec Ideal S2048x512 .bf16) (r : Fin 1024) (e : Fin 512) :
    (k0_pay1 (F := Ideal) h w (ix2 r e) : EReal) = ∑ k : Fin 2048, (h (ix2 r k) : EReal) * w (ix2 k e) := by
  pointwise [k0_pay1]

/-- What a grid point leaves in its block. -/
theorem out_apply (h : Vec Ideal S1024x2048 .bf16) (w : Vec Ideal S2048x512 .bf16) (j : S1024x512.Idx) :
    out0_2 (F := Ideal) h w j = k0_pay1 (F := Ideal) h w j := by
  unfold out0_2
  rw [View.canon_unit_zero (by decide), View.ld_unit_zero (by decide), View.ld_unit_zero (by decide)]

/-- The result array. -/
def result (c : Dev nD) : FVec Ideal S2048x1024 .f32 := fun i =>
  product (argH m c) (argW m c) ⟨(i 0).val, (i 0).isLt⟩ (valueCol ⟨(i 1).val, (i 1).isLt⟩)

theorem block_laid (c : Dev nD) (t : Fin cfg0.N) (y : S1024x512.Idx) :
    (out0_2 (F := Ideal) (iblk m c 0 t) (iblk m c 1 t) y : EReal) = result m c ((win0_2.blk t).view.emb y) := by
  obtain ⟨r, e, rfl⟩ : ∃ (r : Fin 1024) (e : Fin 512), y = ix2 r e :=
    ⟨⟨(y 0).val, (y 0).isLt⟩, ⟨(y 1).val, (y 1).isLt⟩, funext fun a => by fin_cases a <;> rfl⟩
  rw [emb_out, out_apply, pay_apply]
  exact Finset.sum_congr rfl fun k _ => congrArg₂ (fun x y : EReal => x * y) (block_h m c t r k) (block_w m c t k e)

/-- The result array of the run. -/
theorem array (c : Dev nD) : (dats m 0 c).arrAt 2 cfg0.N = result m c := by
  refine (dats m 0 c).arrAt_eq_of_covers 2 _ (by decide +kernel) fun t _ y => ?_
  blk_simp
  rw [after0_2]
  exact block_laid m c t y

end Cert.ValuesIdeal.Value

end
-- ==== Proof.lean ====
module

public import proofs.«01_k».proof.Defs
public import proofs.«01_k».proof.Proof.Gen.Kernel.Frame
public import proofs.«01_k».proof.Proof.Gen.KernelIdeal.Value
public import proofs.«01_k».proof.Proof.Gen.Merge.Frame
public import proofs.«01_k».proof.Proof.Gen.Down.Frame
public import proofs.«01_k».proof.Proof.Gen.Up
public import proofs.«01_k».proof.Proof.Gen.Out.Frame
public import proofs.«01_k».proof.Proof.Gen.Cross.Frame
public import proofs.«01_k».proof.Proof.Gen.DownSample.Frame
public import proofs.«01_k».proof.Proof.Gen.Keys.Frame
public import proofs.«01_k».proof.Proof.Gen.UpSample.Frame
public import proofs.«01_k».proof.Proof.Gen.Values.Frame
public import proofs.«01_k».proof.Proof.Array
public import proofs.«01_k».proof.Proof.CrossArray
public import proofs.«01_k».proof.Proof.CrossReference
public import proofs.«01_k».proof.Proof.DenseReference
public import proofs.«01_k».proof.Proof.DownArray
public import proofs.«01_k».proof.Proof.DownSampleArray
public import proofs.«01_k».proof.Proof.Finite
public import proofs.«01_k».proof.Proof.FiniteScores
public import proofs.«01_k».proof.Proof.KeysArray
public import proofs.«01_k».proof.Proof.MemoryReference
public import proofs.«01_k».proof.Proof.MergeArray
public import proofs.«01_k».proof.Proof.OutArray
public import proofs.«01_k».proof.Proof.OutReference
public import proofs.«01_k».proof.Proof.Reference
public import proofs.«01_k».proof.Proof.UpReference
public import proofs.«01_k».proof.Proof.UpSampleReference
public import proofs.«01_k».proof.Proof.ValuesArray

@[expose] public section

noncomputable section

namespace Cert.Proof

open Idealize.ShloMosaic Idealize.SL.Sem Cert.Rows
open Cert.KernelIdeal.Attn Cert.ReferenceIdeal.Attn

/-- The reference runs, leaves its arguments as they were and every semaphore at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants of the idealised kernel. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- An index of the result by stream, row, head and lane. -/
theorem split_result (i : Cert.KernelIdeal.S8x2048x1024.Idx) : ∃ (b : Fin 8) (t : Fin 2048) (h : Fin 8) (e : Fin 128),
    i = ix3 b t ⟨h.val * 128 + e.val, by omega⟩ := by
  have h2 : (i 2).val < 1024 := (i 2).isLt
  refine ⟨⟨(i 0).val, (i 0).isLt⟩, ⟨(i 1).val, (i 1).isLt⟩, ⟨(i 2).val / 128, by omega⟩, ⟨(i 2).val % 128, by omega⟩, ?_⟩
  refine funext fun a => Fin.ext ?_
  fin_cases a
  · rfl
  · rfl
  · show (i 2).val = (i 2).val / 128 * 128 + (i 2).val % 128
    omega

/-- The reference's result array, laid out as the kernel's. -/
theorem reference_array (x0 : (⟨Cert.ReferenceIdeal.S8x2048x8x2x64, .f32⟩ : BufTy).Contents (Elt Ideal))
    (x1 x2 : (⟨Cert.ReferenceIdeal.S8x2048x8x128, .f32⟩ : BufTy).Contents (Elt Ideal))
    (x3 x4 x5 x6 : (⟨Cert.ReferenceIdeal.S64, .f32⟩ : BufTy).Contents (Elt Ideal))
    (x7 : (⟨Cert.ReferenceIdeal.S128, .f32⟩ : BufTy).Contents (Elt Ideal))
    (h0 : ∀ i, (x0 i : EReal) ≠ ⊥ ∧ (x0 i : EReal) ≠ ⊤) (h1 : ∀ i, (x1 i : EReal) ≠ ⊥ ∧ (x1 i : EReal) ≠ ⊤)
    (h2 : ∀ i, (x2 i : EReal) ≠ ⊥ ∧ (x2 i : EReal) ≠ ⊤) (h3 : ∀ i, (x3 i : EReal) ≠ ⊥ ∧ (x3 i : EReal) ≠ ⊤)
    (h4 : ∀ i, (x4 i : EReal) ≠ ⊥ ∧ (x4 i : EReal) ≠ ⊤) (h5 : ∀ i, (x5 i : EReal) ≠ ⊥ ∧ (x5 i : EReal) ≠ ⊤)
    (h6 : ∀ i, (x6 i : EReal) ≠ ⊥ ∧ (x6 i : EReal) ≠ ⊤) :
    Cert.ReferenceIdeal.Read.val_main_v57 (F := Ideal) x0 x1 x2 x3 x4 x5 x6 x7
      = laidOut (byQ x0) (byK x1) (byK x2) (lam (fun d => x3 (ix1 d)) (fun d => x4 (ix1 d)) (fun d => x5 (ix1 d))
          (fun d => x6 (ix1 d))) (fun d => x7 (ix1 d)) := by
  obtain ⟨l, hl⟩ := lam_real (fun d => x3 (ix1 d)) (fun d => x4 (ix1 d)) (fun d => x5 (ix1 d)) (fun d => x6 (ix1 d))
    (fun d => h3 _) (fun d => h4 _) (fun d => h5 _) (fun d => h6 _)
  refine funext fun (i : Cert.KernelIdeal.S8x2048x1024.Idx) => ?_
  obtain ⟨b, t, h, e, rfl⟩ := split_result i
  rw [hl, laidOut_apply]
  exact ref_apply x0 x1 x2 x3 x4 x5 x6 x7 (fun _ _ _ _ _ => h0 _) (fun _ _ _ _ => h1 _) (fun _ _ _ _ => h2 _) l
    (fun j => (lam_apply x3 x4 x5 x6 j).trans hl) b t h e

/-- Kernel and reference end with the same array, the queries, the keys, the values and the four vectors being real. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  have hfin := fun c => Cert.Finite.of_pre (self := Cert.Finite.facts) _ _ _ _ _ _ _ _ (fun a => a.elim0) (congrFun (hpre c) _)
  have hA := fun c => array m c (fun _ _ _ _ _ => (hfin c).1 _) (fun _ _ _ _ => (hfin c).2.1 _)
    (fun _ _ _ _ => (hfin c).2.2.1 _)
  refine ⟨fun c => (Cert.KernelIdeal.Gen.dats m 0 c).arrAt 5 Cert.KernelIdeal.cfg0.N,
    Cert.KernelIdeal.Value.run_blocks m g, (θ_run _ _ _).mono (fun r h c => ?_) (Cert.ReferenceIdeal.Value.run m' g')⟩
  refine ⟨(h c).1.trans ?_, (h c).2⟩
  obtain ⟨e0, e1, e2, e3, e4, e5, e6, e7⟩ := hargs c
  obtain ⟨f0, f1, f2, f3, f4, f5, f6⟩ := hfin c
  rw [Cert.ReferenceIdeal.Read.val_main_v57_eq, e0, e1, e2, e3, e4, e5, e6, e7]
  exact (reference_array _ _ _ _ _ _ _ _ f0 f1 f2 f3 f4 f5 f6).trans (hA c).symm

/-! ## The merged branches and the down projection -/

/-- An index of a flat result by row and lane. -/
theorem split_flat (i : Cert.MergeIdeal.S16384x2048.Idx) : ∃ (r : Fin 16384) (n : Fin 2048), i = ix2 r n :=
  ⟨⟨(i 0).val, (i 0).isLt⟩, ⟨(i 1).val, (i 1).isLt⟩, funext fun a => by fin_cases a <;> rfl⟩

/-- The reference of the merged branches runs, leaves its arguments as they were and every semaphore at zero. -/
theorem frame_merge_reference :
    Cert.quiescent_MergeReferenceIdeal (hMergeReferenceIdeal := Cert.MergeReferenceIdeal.Gen.facts) := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

/-- The reference of the down projection runs, leaves its arguments as they were and every semaphore at zero. -/
theorem frame_down_reference :
    Cert.quiescent_DownReferenceIdeal (hDownReferenceIdeal := Cert.DownReferenceIdeal.Gen.facts) := fun m ρ _ =>
  (θ_run Cert.DownReferenceIdeal.defs _ _).mono
    (fun r h => ⟨fun c => (h c).2, sem_eq_zero_of_no_sems (by decide) r.2⟩)
    (Cert.DownReferenceIdeal.Value.run (F := Ideal) m ρ)

/-- Kernel and reference of the merged branches end with the same array. -/
theorem algebraic_merge : Cert.algebraic_MergeIdeal_MergeReferenceIdeal (hMergeIdeal := Cert.MergeIdeal.Gen.facts)
    (hMergeReferenceIdeal := Cert.MergeReferenceIdeal.Gen.facts) := by
  intro m g m' g' _ hargs
  refine ⟨fun c => (Cert.MergeIdeal.Gen.dats m 0 c).arrAt 9 Cert.MergeIdeal.cfg0.N,
    Cert.MergeIdeal.Value.run_blocks m g, (θ_run _ _ _).mono (fun r h c => ?_) (Cert.MergeReferenceIdeal.Value.run m' g')⟩
  refine ⟨(h c).1.trans ?_, (h c).2⟩
  obtain ⟨e0, e1, e2, e3, e4, e5, e6⟩ := hargs c
  rw [Cert.MergeReferenceIdeal.Read.val_main_v35_eq, e0, e1, e2, e3, e4, e5, e6]
  refine Eq.trans ?_ (Cert.MergeIdeal.Value.array m c).symm
  refine funext fun (i : Cert.MergeIdeal.S16384x2048.Idx) => ?_
  obtain ⟨r, n, rfl⟩ := split_flat i
  exact Cert.MergeReferenceIdeal.Read.ref_apply _ _ _ _ _ _ _ r n

/-- Kernel and reference of the down projection end with the same array. -/
theorem algebraic_down : Cert.algebraic_DownIdeal_DownReferenceIdeal (hDownIdeal := Cert.DownIdeal.Gen.facts)
    (hDownReferenceIdeal := Cert.DownReferenceIdeal.Gen.facts) := by
  intro m g m' g' _ hargs
  refine ⟨fun c => (Cert.DownIdeal.Gen.dats m 0 c).arrAt 3 Cert.DownIdeal.cfg0.N,
    Cert.DownIdeal.Value.run_blocks m g, (θ_run _ _ _).mono (fun r h c => ?_) (Cert.DownReferenceIdeal.Value.run m' g')⟩
  refine ⟨(h c).1.trans ?_, (h c).2⟩
  obtain ⟨e0, e1, e2⟩ := hargs c
  rw [Cert.DownReferenceIdeal.Read.val_main_v2_eq, e0, e1, e2]
  refine Eq.trans ?_ (Cert.DownIdeal.Value.array m c).symm
  refine funext fun (i : Cert.MergeIdeal.S16384x2048.Idx) => ?_
  obtain ⟨r, n, rfl⟩ := split_flat i
  exact Cert.DownReferenceIdeal.Read.ref_apply _ _ _ r n

/-! ## The gated product -/

/-- An index of the gated product's first result by row and lane. -/
theorem split_gated (i : Cert.UpIdeal.S16384x5504.Idx) : ∃ (r : Fin 16384) (n : Fin 5504), i = ix2 r n :=
  ⟨⟨(i 0).val, (i 0).isLt⟩, ⟨(i 1).val, (i 1).isLt⟩, funext fun a => by fin_cases a <;> rfl⟩

/-- An index of its second result by stream, row and lane. -/
theorem split_tail (i : Cert.UpIdeal.S8x2x5504.Idx) : ∃ (b : Fin 8) (r : Fin 2) (n : Fin 5504), i = ix3 b r n :=
  ⟨⟨(i 0).val, (i 0).isLt⟩, ⟨(i 1).val, (i 1).isLt⟩, ⟨(i 2).val, (i 2).isLt⟩, funext fun a => by fin_cases a <;> rfl⟩

/-- The gated product's two programs have the same bodies. -/
theorem up_body : @Cert.Up.cc0_ffn_up Bits _ _ = @Cert.UpIdeal.cc0_ffn_up Bits _ _ := rfl

theorem up_bodies : Cert.Up.defs₀ (F := Bits) = Cert.UpIdeal.defs₀ (F := Bits) := by
  unfold Cert.Up.defs₀ Cert.UpIdeal.defs₀
  refine congrArg Defs.onTc (funext fun l => funext fun a => ?_)
  match l, a with
  | 0, (t, s) => rfl

theorem up_defs : Cert.Up.defs (F := Bits) = Cert.UpIdeal.defs (F := Bits) := by
  unfold Cert.Up.defs Cert.UpIdeal.defs
  exact congrArg (Pipeline.defs (Cert.Up.pcfgs (F := Bits))) up_bodies

/-- The gated product's kernel runs, leaves its arguments as they were and every semaphore at zero: the run of its
    idealised program, which has the same text, taken at the machine's floats. -/
theorem frame_up : Cert.quiescent_Up (hUp := Cert.Up.Gen.facts) := by
  intro m ρ _
  rw [up_defs]
  exact (θ_run Cert.UpIdeal.defs _ _).mono (fun _ h => h) (Cert.UpIdeal.Run.frame (F := Bits) m ρ)

/-- The same of the idealised program. -/
theorem frame_up_ideal : Cert.quiescent_UpIdeal (hUpIdeal := Cert.UpIdeal.Gen.facts) := fun m ρ _ =>
  Cert.UpIdeal.Run.frame (F := Ideal) m ρ

/-- The reference of the gated product runs, leaves its arguments as they were and every semaphore at zero. -/
theorem frame_up_reference : Cert.quiescent_UpReferenceIdeal (hUpReferenceIdeal := Cert.UpReferenceIdeal.Gen.facts) :=
  fun m ρ _ => (θ_run Cert.UpReferenceIdeal.defs _ _).mono
    (fun r h => ⟨fun c => (h c).2.2, sem_eq_zero_of_no_sems (by decide) r.2⟩)
    (Cert.UpReferenceIdeal.Value.run (F := Ideal) m ρ)

/-- Kernel and reference of the gated product end with the same two arrays. -/
theorem algebraic_up : Cert.algebraic_UpIdeal_UpReferenceIdeal (hUpIdeal := Cert.UpIdeal.Gen.facts)
    (hUpReferenceIdeal := Cert.UpReferenceIdeal.Gen.facts) := by
  intro m g m' g' _ hargs
  refine ⟨fun c => Cert.UpIdeal.Run.cutGated ((Cert.UpIdeal.Run.dats m 0 c).arrAt 6 Cert.UpIdeal.cfg0.N),
    fun c => Cert.UpIdeal.Run.cutTail ((Cert.UpIdeal.Run.dats m 0 c).arrAt 7 Cert.UpIdeal.cfg0.N),
    Cert.UpIdeal.Run.run_results m g, (θ_run _ _ _).mono (fun r h c => ?_) (Cert.UpReferenceIdeal.Value.run m' g')⟩
  obtain ⟨e0, e1, e2, e3, e4⟩ := hargs c
  refine ⟨(h c).1.trans ?_, (h c).2.1.trans ?_, (h c).2.2⟩
  · rw [Cert.UpReferenceIdeal.Read.val_main_v39_eq, e0, e1, e2, e3, e4]
    refine funext fun (i : Cert.UpIdeal.S16384x5504.Idx) => ?_
    obtain ⟨r, n, rfl⟩ := split_gated i
    exact (Cert.UpReferenceIdeal.Read.gated_apply _ _ _ _ _ r n).trans (Cert.UpIdeal.Run.gated_result m c r n).symm
  · refine (Cert.UpReferenceIdeal.Read.val_main_v40_eq _ _ _).trans ?_
    rw [e0, e1, e2]
    refine funext fun (i : Cert.UpIdeal.S8x2x5504.Idx) => ?_
    obtain ⟨b, r, n, rfl⟩ := split_tail i
    exact (Cert.UpReferenceIdeal.Read.tail_apply _ _ _ b r n).trans (Cert.UpIdeal.Run.tail_result m c b r n).symm

/-! ## The output projection and its norm -/

/-- The reference of the output projection runs, leaves its arguments as they were and every semaphore at zero. -/
theorem frame_out_reference : Cert.quiescent_OutReferenceIdeal (hOutReferenceIdeal := Cert.OutReferenceIdeal.Gen.facts) :=
  fun m ρ _ => (θ_run Cert.OutReferenceIdeal.defs _ _).mono
    (fun r h => ⟨fun c => (h c).2.2, sem_eq_zero_of_no_sems (by decide) r.2⟩)
    (Cert.OutReferenceIdeal.Value.run (F := Ideal) m ρ)

theorem split_rows (i : Cert.OutIdeal.S1024x2048.Idx) : ∃ (r : Fin 1024) (n : Fin 2048), i = ix2 r n :=
  ⟨⟨(i 0).val, (i 0).isLt⟩, ⟨(i 1).val, (i 1).isLt⟩, funext fun a => by fin_cases a <;> rfl⟩

/-- Kernel and reference of the output projection end with the same two arrays. -/
theorem algebraic_out : Cert.algebraic_OutIdeal_OutReferenceIdeal (hOutIdeal := Cert.OutIdeal.Gen.facts)
    (hOutReferenceIdeal := Cert.OutReferenceIdeal.Gen.facts) := by
  intro m g m' g' _ hargs
  refine ⟨fun c => (Cert.OutIdeal.Gen.dats m 0 c).arrAt 4 Cert.OutIdeal.cfg0.N,
    fun c => (Cert.OutIdeal.Gen.dats m 0 c).arrAt 5 Cert.OutIdeal.cfg0.N,
    Cert.OutIdeal.Value.run_blocks m g, (θ_run _ _ _).mono (fun r h c => ?_) (Cert.OutReferenceIdeal.Value.run m' g')⟩
  obtain ⟨e0, e1, e2, e3⟩ := hargs c
  refine ⟨(h c).1.trans ?_, (h c).2.1.trans ?_, (h c).2.2⟩
  · rw [Cert.OutReferenceIdeal.Read.val_main_v15_eq, e0, e1, e2]
    refine Eq.trans ?_ (Cert.OutIdeal.Value.first_array m c).symm
    refine funext fun (i : Cert.OutIdeal.S1024x2048.Idx) => ?_
    obtain ⟨r, n, rfl⟩ := split_rows i
    exact Cert.OutReferenceIdeal.Read.first_apply _ _ _ r n
  · rw [Cert.OutReferenceIdeal.Read.val_main_v17_eq, e0, e1, e2, e3]
    refine Eq.trans ?_ (Cert.OutIdeal.Value.second_array m c).symm
    refine funext fun (i : Cert.OutIdeal.S1024x2048.Idx) => ?_
    obtain ⟨r, n, rfl⟩ := split_rows i
    exact Cert.OutReferenceIdeal.Read.second_apply _ _ _ _ r n

/-! ## The memory's keys and values -/

/-- An index of the memory's keys, or of its values, by row and lane. -/
theorem split_memory (i : Cert.KeysIdeal.S2048x1024.Idx) : ∃ (r : Fin 2048) (n : Fin 1024), i = ix2 r n :=
  ⟨⟨(i 0).val, (i 0).isLt⟩, ⟨(i 1).val, (i 1).isLt⟩, funext fun a => by fin_cases a <;> rfl⟩

/-- The reference of the memory's keys runs, leaves its arguments as they were and every semaphore at zero. -/
theorem frame_keys_reference :
    Cert.quiescent_KeysReferenceIdeal (hKeysReferenceIdeal := Cert.KeysReferenceIdeal.Gen.facts) := fun m ρ _ =>
  (θ_run Cert.KeysReferenceIdeal.defs _ _).mono
    (fun r h => ⟨fun c => (h c).2, sem_eq_zero_of_no_sems (by decide) r.2⟩)
    (Cert.KeysReferenceIdeal.Value.run (F := Ideal) m ρ)

/-- The reference of the memory's values runs, leaves its arguments as they were and every semaphore at zero. -/
theorem frame_values_reference :
    Cert.quiescent_ValuesReferenceIdeal (hValuesReferenceIdeal := Cert.ValuesReferenceIdeal.Gen.facts) := fun m ρ _ =>
  (θ_run Cert.ValuesReferenceIdeal.defs _ _).mono
    (fun r h => ⟨fun c => (h c).2, sem_eq_zero_of_no_sems (by decide) r.2⟩)
    (Cert.ValuesReferenceIdeal.Value.run (F := Ideal) m ρ)

/-- Kernel and reference of the memory's keys end with the same array. -/
theorem algebraic_keys : Cert.algebraic_KeysIdeal_KeysReferenceIdeal (hKeysIdeal := Cert.KeysIdeal.Gen.facts)
    (hKeysReferenceIdeal := Cert.KeysReferenceIdeal.Gen.facts) := by
  intro m g m' g' _ hargs
  refine ⟨fun c => (Cert.KeysIdeal.Gen.dats m 0 c).arrAt 3 Cert.KeysIdeal.cfg0.N,
    Cert.KeysIdeal.Value.run_blocks m g, (θ_run _ _ _).mono (fun r h c => ?_) (Cert.KeysReferenceIdeal.Value.run m' g')⟩
  refine ⟨(h c).1.trans ?_, (h c).2⟩
  obtain ⟨e0, e1, e2⟩ := hargs c
  rw [Cert.KeysReferenceIdeal.Read.val_main_v17_eq, e0, e1, e2]
  refine Eq.trans ?_ (Cert.KeysIdeal.Value.array m c).symm
  refine funext fun (i : Cert.KeysIdeal.S2048x1024.Idx) => ?_
  obtain ⟨r, n, rfl⟩ := split_memory i
  exact Cert.KeysReferenceIdeal.Read.ref_apply _ _ _ r n

/-- Kernel and reference of the memory's values end with the same array. -/
theorem algebraic_values : Cert.algebraic_ValuesIdeal_ValuesReferenceIdeal
    (hValuesIdeal := Cert.ValuesIdeal.Gen.facts) (hValuesReferenceIdeal := Cert.ValuesReferenceIdeal.Gen.facts) := by
  intro m g m' g' _ hargs
  refine ⟨fun c => (Cert.ValuesIdeal.Gen.dats m 0 c).arrAt 2 Cert.ValuesIdeal.cfg0.N,
    Cert.ValuesIdeal.Value.run_blocks m g,
    (θ_run _ _ _).mono (fun r h c => ?_) (Cert.ValuesReferenceIdeal.Value.run m' g')⟩
  refine ⟨(h c).1.trans ?_, (h c).2⟩
  obtain ⟨e0, e1⟩ := hargs c
  rw [Cert.ValuesReferenceIdeal.Read.val_main_v3_eq, e0, e1]
  refine Eq.trans ?_ (Cert.ValuesIdeal.Value.array m c).symm
  refine funext fun (i : Cert.KeysIdeal.S2048x1024.Idx) => ?_
  obtain ⟨r, n, rfl⟩ := split_memory i
  exact Cert.ValuesReferenceIdeal.Read.ref_apply _ _ r n

/-! ## The cross-attention into the memory -/

/-- An index of its result by stream, row and lane. -/
theorem split_cross (i : Cert.CrossIdeal.S8x2048x1024.Idx) : ∃ (b : Fin 8) (t : Fin 2048) (n : Fin 1024), i = ix3 b t n :=
  ⟨⟨(i 0).val, (i 0).isLt⟩, ⟨(i 1).val, (i 1).isLt⟩, ⟨(i 2).val, (i 2).isLt⟩, funext fun a => by fin_cases a <;> rfl⟩

/-- The reference of the cross-attention runs, leaves its arguments as they were and every semaphore at zero. -/
theorem frame_cross_reference :
    Cert.quiescent_CrossReferenceIdeal (hCrossReferenceIdeal := Cert.CrossReferenceIdeal.Gen.facts) := fun m ρ _ =>
  (θ_run Cert.CrossReferenceIdeal.defs _ _).mono
    (fun r h => ⟨fun c => (h c).2, sem_eq_zero_of_no_sems (by decide) r.2⟩)
    (Cert.CrossReferenceIdeal.Value.run (F := Ideal) m ρ)

/-- Kernel and reference of the cross-attention end with the same array, its queries and keys being finite. -/
theorem algebraic_cross : Cert.algebraic_CrossIdeal_CrossReferenceIdeal_pre_finite_scores
    (hCrossIdeal := Cert.CrossIdeal.Gen.facts) (hCrossReferenceIdeal := Cert.CrossReferenceIdeal.Gen.facts)
    (hPre_finite_scores := Cert.FiniteScores.facts) := by
  intro m g m' g' hpre hargs
  have hfin := fun c => Cert.FiniteScores.of_pre (self := Cert.FiniteScores.facts) _ _ _ (fun a => a.elim0)
    (congrFun (hpre c) _)
  refine ⟨fun c => (Cert.CrossIdeal.Gen.dats m 0 c).arrAt 3 Cert.CrossIdeal.cfg0.N,
    Cert.CrossIdeal.Value.run_blocks m g,
    (θ_run _ _ _).mono (fun r h c => ?_) (Cert.CrossReferenceIdeal.Value.run m' g')⟩
  refine ⟨(h c).1.trans ?_, (h c).2⟩
  obtain ⟨e0, e1, e2⟩ := hargs c
  obtain ⟨f0, f1⟩ := hfin c
  rw [Cert.CrossReferenceIdeal.Read.val_main_v17_eq, e0, e1, e2]
  refine Eq.trans ?_ (Cert.CrossIdeal.Value.array m c).symm
  refine funext fun (i : Cert.CrossIdeal.S8x2048x1024.Idx) => ?_
  obtain ⟨b, t, n, rfl⟩ := split_cross i
  exact (Cert.CrossReferenceIdeal.Read.ref_apply _ _ _ f0 f1 b t n).trans
    (Cert.CrossIdeal.Value.result_apply m c b t n).symm

/-! ## The sample's down projection -/

/-- The reference of the sample's down projection runs, leaves its arguments as they were and every semaphore at zero. -/
theorem frame_down_sample_reference :
    Cert.quiescent_DownSampleReferenceIdeal (hDownSampleReferenceIdeal := Cert.DownSampleReferenceIdeal.Gen.facts) := fun m ρ _ =>
  (θ_run Cert.DownSampleReferenceIdeal.defs _ _).mono
    (fun r h => ⟨fun c => (h c).2, sem_eq_zero_of_no_sems (by decide) r.2⟩)
    (Cert.DownSampleReferenceIdeal.Value.run (F := Ideal) m ρ)

/-- Kernel and reference of the sample's down projection end with the same array. -/
theorem algebraic_down_sample : Cert.algebraic_DownSampleIdeal_DownSampleReferenceIdeal (hDownSampleIdeal := Cert.DownSampleIdeal.Gen.facts)
    (hDownSampleReferenceIdeal := Cert.DownSampleReferenceIdeal.Gen.facts) := by
  intro m g m' g' _ hargs
  refine ⟨fun c => (Cert.DownSampleIdeal.Gen.dats m 0 c).arrAt 3 Cert.DownSampleIdeal.cfg0.N,
    Cert.DownSampleIdeal.Value.run_blocks m g, (θ_run _ _ _).mono (fun r h c => ?_) (Cert.DownSampleReferenceIdeal.Value.run m' g')⟩
  refine ⟨(h c).1.trans ?_, (h c).2⟩
  obtain ⟨e0, e1, e2⟩ := hargs c
  rw [Cert.DownSampleReferenceIdeal.Read.val_main_v2_eq, e0, e1, e2]
  refine Eq.trans ?_ (Cert.DownSampleIdeal.Value.array m c).symm
  refine funext fun (i : Cert.OutIdeal.S1024x2048.Idx) => ?_
  obtain ⟨r, n, rfl⟩ := split_rows i
  exact Cert.DownSampleReferenceIdeal.Read.ref_apply _ _ _ r n

/-! ## The sample's gated product -/

/-- An index of its first result by row and lane, and of its second by stream, row and lane. -/
theorem split_sample_gated (i : Cert.UpSampleIdeal.S1024x5504.Idx) : ∃ (r : Fin 1024) (n : Fin 5504), i = ix2 r n :=
  ⟨⟨(i 0).val, (i 0).isLt⟩, ⟨(i 1).val, (i 1).isLt⟩, funext fun a => by fin_cases a <;> rfl⟩
theorem split_sample_tail (i : Cert.UpSampleIdeal.S32x2x5504.Idx) :
    ∃ (b : Fin 32) (r : Fin 2) (n : Fin 5504), i = ix3 b r n :=
  ⟨⟨(i 0).val, (i 0).isLt⟩, ⟨(i 1).val, (i 1).isLt⟩, ⟨(i 2).val, (i 2).isLt⟩, funext fun a => by fin_cases a <;> rfl⟩

/-- The reference of the sample's gated product runs, leaves its arguments as they were and every semaphore at zero. -/
theorem frame_up_sample_reference : Cert.quiescent_UpSampleReferenceIdeal
    (hUpSampleReferenceIdeal := Cert.UpSampleReferenceIdeal.Gen.facts) :=
  fun m ρ _ => (θ_run Cert.UpSampleReferenceIdeal.defs _ _).mono
    (fun r h => ⟨fun c => (h c).2.2, sem_eq_zero_of_no_sems (by decide) r.2⟩)
    (Cert.UpSampleReferenceIdeal.Value.run (F := Ideal) m ρ)

/-- Kernel and reference of the sample's gated product end with the same two arrays. -/
theorem algebraic_up_sample : Cert.algebraic_UpSampleIdeal_UpSampleReferenceIdeal (hUpSampleIdeal := Cert.UpSampleIdeal.Gen.facts)
    (hUpSampleReferenceIdeal := Cert.UpSampleReferenceIdeal.Gen.facts) := by
  intro m g m' g' _ hargs
  refine ⟨fun c => Cert.UpSampleIdeal.Value.cutGated ((Cert.UpSampleIdeal.Gen.dats m 0 c).arrAt 6 Cert.UpSampleIdeal.cfg0.N),
    fun c => Cert.UpSampleIdeal.Value.cutTail ((Cert.UpSampleIdeal.Gen.dats m 0 c).arrAt 7 Cert.UpSampleIdeal.cfg0.N),
    Cert.UpSampleIdeal.Value.run_results m g, (θ_run _ _ _).mono (fun r h c => ?_) (Cert.UpSampleReferenceIdeal.Value.run m' g')⟩
  obtain ⟨e0, e1, e2, e3, e4⟩ := hargs c
  refine ⟨(h c).1.trans ?_, (h c).2.1.trans ?_, (h c).2.2⟩
  · rw [Cert.UpSampleReferenceIdeal.Read.val_main_v39_eq, e0, e1, e2, e3, e4]
    refine funext fun (i : Cert.UpSampleIdeal.S1024x5504.Idx) => ?_
    obtain ⟨r, n, rfl⟩ := split_sample_gated i
    exact (Cert.UpSampleReferenceIdeal.Read.gated_apply _ _ _ _ _ r n).trans (Cert.UpSampleIdeal.Value.gated_result m c r n).symm
  · refine (Cert.UpSampleReferenceIdeal.Read.val_main_v40_eq _ _ _).trans ?_
    rw [e0, e1, e2]
    refine funext fun (i : Cert.UpSampleIdeal.S32x2x5504.Idx) => ?_
    obtain ⟨b, r, n, rfl⟩ := split_sample_tail i
    exact (Cert.UpSampleReferenceIdeal.Read.tail_apply _ _ _ b r n).trans (Cert.UpSampleIdeal.Value.tail_result m c b r n).symm

/-- The certificate's claim. -/
theorem claim : Cert.Claim :=
  ⟨Cert.Kernel.Gen.facts, Cert.KernelIdeal.Gen.facts, Cert.ReferenceIdeal.Gen.facts, Cert.Merge.Gen.facts,
    Cert.MergeIdeal.Gen.facts, Cert.MergeReferenceIdeal.Gen.facts, Cert.Down.Gen.facts, Cert.DownIdeal.Gen.facts,
    Cert.DownReferenceIdeal.Gen.facts, Cert.Up.Gen.facts, Cert.UpIdeal.Gen.facts, Cert.UpReferenceIdeal.Gen.facts,
    Cert.Out.Gen.facts, Cert.OutIdeal.Gen.facts, Cert.OutReferenceIdeal.Gen.facts, Cert.Keys.Gen.facts,
    Cert.KeysIdeal.Gen.facts, Cert.KeysReferenceIdeal.Gen.facts, Cert.Values.Gen.facts, Cert.ValuesIdeal.Gen.facts,
    Cert.ValuesReferenceIdeal.Gen.facts, Cert.Cross.Gen.facts, Cert.CrossIdeal.Gen.facts,
    Cert.CrossReferenceIdeal.Gen.facts, Cert.DownSample.Gen.facts, Cert.DownSampleIdeal.Gen.facts,
    Cert.DownSampleReferenceIdeal.Gen.facts, Cert.UpSample.Gen.facts, Cert.UpSampleIdeal.Gen.facts,
    Cert.UpSampleReferenceIdeal.Gen.facts, Cert.Finite.facts, Cert.FiniteScores.facts,
    fun m ρ _ => Cert.Kernel.Gen.frame m ρ,
    fun m ρ _ => Cert.KernelIdeal.Gen.frame m ρ,
    fun m ρ _ => Cert.KernelIdeal.Gen.frame m ρ,
    frame_reference, fun m ρ _ => frame_reference m ρ trivial,
    fun m ρ _ => Cert.Merge.Gen.frame m ρ,
    fun m ρ _ => Cert.MergeIdeal.Gen.frame m ρ,
    frame_merge_reference,
    fun m ρ _ => Cert.Down.Gen.frame m ρ,
    fun m ρ _ => Cert.DownIdeal.Gen.frame m ρ,
    frame_down_reference,
    frame_up, frame_up_ideal, frame_up_reference,
    fun m ρ _ => Cert.Out.Gen.frame m ρ,
    fun m ρ _ => Cert.OutIdeal.Gen.frame m ρ,
    frame_out_reference,
    fun m ρ _ => Cert.Keys.Gen.frame m ρ,
    fun m ρ _ => Cert.KeysIdeal.Gen.frame m ρ,
    frame_keys_reference,
    fun m ρ _ => Cert.Values.Gen.frame m ρ,
    fun m ρ _ => Cert.ValuesIdeal.Gen.frame m ρ,
    frame_values_reference,
    fun m ρ _ => Cert.Cross.Gen.frame m ρ,
    fun m ρ _ => Cert.CrossIdeal.Gen.frame m ρ,
    fun m ρ _ => Cert.CrossIdeal.Gen.frame m ρ,
    frame_cross_reference, fun m ρ _ => frame_cross_reference m ρ trivial,
    fun m ρ _ => Cert.DownSample.Gen.frame m ρ,
    fun m ρ _ => Cert.DownSampleIdeal.Gen.frame m ρ,
    frame_down_sample_reference,
    fun m ρ _ => Cert.UpSample.Gen.frame m ρ,
    fun m ρ _ => Cert.UpSampleIdeal.Gen.frame m ρ,
    frame_up_sample_reference,
    preserves, algebraic, trivial, algebraic_merge, trivial, algebraic_down, trivial, algebraic_up,
    trivial, algebraic_out, trivial, algebraic_keys, trivial, algebraic_values,
    trivial, algebraic_cross, trivial, algebraic_down_sample, trivial, algebraic_up_sample⟩

end Cert.Proof

end
